-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_decays_below_inf [hPre_decays_below_inf : Cert.Pre_decays_below_inf.Facts] (m : (ℓ : Loc Cert.KernelIdeal.nD Cert.KernelIdeal.τ Cert.KernelIdeal.sig) → Buf (Elt Ideal) ℓ) : Prop :=
  ∀ c : Dev Cert.KernelIdeal.nD,
    (Cert.Pre_decays_below_inf.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_decays_below_inf [hPre_decays_below_inf : Cert.Pre_decays_below_inf.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_decays_below_inf.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_weights [hPre_finite_weights : Cert.Pre_finite_weights.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_weights.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_weights [hPre_finite_weights : Cert.Pre_finite_weights.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_weights.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_decays_below_inf [hKernelIdeal : Cert.KernelIdeal.Facts] [hPre_decays_below_inf : Cert.Pre_decays_below_inf.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_decays_below_inf m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_decays_below_inf [hReferenceIdeal : Cert.ReferenceIdeal.Facts] [hPre_decays_below_inf : Cert.Pre_decays_below_inf.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_decays_below_inf m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Kernel6Ideal_pre_finite_weights [hKernel6Ideal : Cert.Kernel6Ideal.Facts] [hPre_finite_weights : Cert.Pre_finite_weights.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_weights m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Reference6Ideal_pre_finite_weights [hReference6Ideal : Cert.Reference6Ideal.Facts] [hPre_finite_weights : Cert.Pre_finite_weights.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_weights m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def preserves_Kernel_KernelIdeal : Prop :=
  True

def algebraic_KernelIdeal_ReferenceIdeal_pre_decays_below_inf [hKernelIdeal : Cert.KernelIdeal.Facts] [hReferenceIdeal : Cert.ReferenceIdeal.Facts] [hPre_decays_below_inf : Cert.Pre_decays_below_inf.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_decays_below_inf m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_v28_6) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v30_0)) (v1 : (c : Dev Cert.Kernel2Ideal.nD) → Buf (Elt Ideal) ((c.tc : Thread Cert.Kernel2Ideal.nD Cert.Kernel2Ideal.τ).loc Cert.Kernel2Ideal.main_v30_1)) (v2 : (c : Dev Cert.Kernel2Ideal.nD) → Buf (Elt Ideal) ((c.tc : Thread Cert.Kernel2Ideal.nD Cert.Kernel2Ideal.τ).loc Cert.Kernel2Ideal.main_v30_2)) (v3 : (c : Dev Cert.Kernel2Ideal.nD) → Buf (Elt Ideal) ((c.tc : Thread Cert.Kernel2Ideal.nD Cert.Kernel2Ideal.τ).loc Cert.Kernel2Ideal.main_v30_3)) (v4 : (c : Dev Cert.Kernel2Ideal.nD) → Buf (Elt Ideal) ((c.tc : Thread Cert.Kernel2Ideal.nD Cert.Kernel2Ideal.τ).loc Cert.Kernel2Ideal.main_v30_4)) (v5 : (c : Dev Cert.Kernel2Ideal.nD) → Buf (Elt Ideal) ((c.tc : Thread Cert.Kernel2Ideal.nD Cert.Kernel2Ideal.τ).loc Cert.Kernel2Ideal.main_v30_5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v30_0) = v0 c
          ∧ r.2.mem ((c.tc : Thread Cert.Kernel2Ideal.nD Cert.Kernel2Ideal.τ).loc Cert.Kernel2Ideal.main_v30_1) = v1 c
          ∧ r.2.mem ((c.tc : Thread Cert.Kernel2Ideal.nD Cert.Kernel2Ideal.τ).loc Cert.Kernel2Ideal.main_v30_2) = v2 c
          ∧ r.2.mem ((c.tc : Thread Cert.Kernel2Ideal.nD Cert.Kernel2Ideal.τ).loc Cert.Kernel2Ideal.main_v30_3) = v3 c
          ∧ r.2.mem ((c.tc : Thread Cert.Kernel2Ideal.nD Cert.Kernel2Ideal.τ).loc Cert.Kernel2Ideal.main_v30_4) = v4 c
          ∧ r.2.mem ((c.tc : Thread Cert.Kernel2Ideal.nD Cert.Kernel2Ideal.τ).loc Cert.Kernel2Ideal.main_v30_5) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v98) = v0 c
          ∧ r.2.mem ((c.tc : Thread Cert.Reference2Ideal.nD Cert.Reference2Ideal.τ).loc Cert.Reference2Ideal.main_v93) = v1 c
          ∧ r.2.mem ((c.tc : Thread Cert.Reference2Ideal.nD Cert.Reference2Ideal.τ).loc Cert.Reference2Ideal.main_v99) = v2 c
          ∧ r.2.mem ((c.tc : Thread Cert.Reference2Ideal.nD Cert.Reference2Ideal.τ).loc Cert.Reference2Ideal.main_v94) = v3 c
          ∧ r.2.mem ((c.tc : Thread Cert.Reference2Ideal.nD Cert.Reference2Ideal.τ).loc Cert.Reference2Ideal.main_v102) = v4 c
          ∧ r.2.mem ((c.tc : Thread Cert.Reference2Ideal.nD Cert.Reference2Ideal.τ).loc Cert.Reference2Ideal.main_v103) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v30_0)) (v1 : (c : Dev Cert.Kernel3Ideal.nD) → Buf (Elt Ideal) ((c.tc : Thread Cert.Kernel3Ideal.nD Cert.Kernel3Ideal.τ).loc Cert.Kernel3Ideal.main_v30_1)) (v2 : (c : Dev Cert.Kernel3Ideal.nD) → Buf (Elt Ideal) ((c.tc : Thread Cert.Kernel3Ideal.nD Cert.Kernel3Ideal.τ).loc Cert.Kernel3Ideal.main_v30_2)) (v3 : (c : Dev Cert.Kernel3Ideal.nD) → Buf (Elt Ideal) ((c.tc : Thread Cert.Kernel3Ideal.nD Cert.Kernel3Ideal.τ).loc Cert.Kernel3Ideal.main_v30_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v30_0) = v0 c
          ∧ r.2.mem ((c.tc : Thread Cert.Kernel3Ideal.nD Cert.Kernel3Ideal.τ).loc Cert.Kernel3Ideal.main_v30_1) = v1 c
          ∧ r.2.mem ((c.tc : Thread Cert.Kernel3Ideal.nD Cert.Kernel3Ideal.τ).loc Cert.Kernel3Ideal.main_v30_2) = v2 c
          ∧ r.2.mem ((c.tc : Thread Cert.Kernel3Ideal.nD Cert.Kernel3Ideal.τ).loc Cert.Kernel3Ideal.main_v30_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v96) = v0 c
          ∧ r.2.mem ((c.tc : Thread Cert.Reference3Ideal.nD Cert.Reference3Ideal.τ).loc Cert.Reference3Ideal.main_v93) = v1 c
          ∧ r.2.mem ((c.tc : Thread Cert.Reference3Ideal.nD Cert.Reference3Ideal.τ).loc Cert.Reference3Ideal.main_v94) = v2 c
          ∧ r.2.mem ((c.tc : Thread Cert.Reference3Ideal.nD Cert.Reference3Ideal.τ).loc Cert.Reference3Ideal.main_v97) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)) →
    ∃ (v0 : (c : Dev Cert.Kernel4Ideal.nD) → Buf (Elt Ideal) ((c.tc : Thread Cert.Kernel4Ideal.nD Cert.Kernel4Ideal.τ).loc Cert.Kernel4Ideal.main_v6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v47) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v4_0)) (v1 : (c : Dev Cert.Kernel5Ideal.nD) → Buf (Elt Ideal) ((c.tc : Thread Cert.Kernel5Ideal.nD Cert.Kernel5Ideal.τ).loc Cert.Kernel5Ideal.main_v4_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4_0) = v0 c
          ∧ r.2.mem ((c.tc : Thread Cert.Kernel5Ideal.nD Cert.Kernel5Ideal.τ).loc Cert.Kernel5Ideal.main_v4_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v15) = v0 c
          ∧ r.2.mem ((c.tc : Thread Cert.Reference5Ideal.nD Cert.Reference5Ideal.τ).loc Cert.Reference5Ideal.main_v13) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal_pre_finite_weights [hKernel6Ideal : Cert.Kernel6Ideal.Facts] [hReference6Ideal : Cert.Reference6Ideal.Facts] [hPre_finite_weights : Cert.Pre_finite_weights.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_weights m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v49_0)) (v1 : (c : Dev Cert.Kernel6Ideal.nD) → Buf (Elt Ideal) ((c.tc : Thread Cert.Kernel6Ideal.nD Cert.Kernel6Ideal.τ).loc Cert.Kernel6Ideal.main_v49_1)) (v2 : (c : Dev Cert.Kernel6Ideal.nD) → Buf (Elt Ideal) ((c.tc : Thread Cert.Kernel6Ideal.nD Cert.Kernel6Ideal.τ).loc Cert.Kernel6Ideal.main_v49_2)) (v3 : (c : Dev Cert.Kernel6Ideal.nD) → Buf (Elt Ideal) ((c.tc : Thread Cert.Kernel6Ideal.nD Cert.Kernel6Ideal.τ).loc Cert.Kernel6Ideal.main_v49_3)) (v4 : (c : Dev Cert.Kernel6Ideal.nD) → Buf (Elt Ideal) ((c.tc : Thread Cert.Kernel6Ideal.nD Cert.Kernel6Ideal.τ).loc Cert.Kernel6Ideal.main_v49_4)) (v5 : (c : Dev Cert.Kernel6Ideal.nD) → Buf (Elt Ideal) ((c.tc : Thread Cert.Kernel6Ideal.nD Cert.Kernel6Ideal.τ).loc Cert.Kernel6Ideal.main_v49_5)) (v6 : (c : Dev Cert.Kernel6Ideal.nD) → Buf (Elt Ideal) ((c.tc : Thread Cert.Kernel6Ideal.nD Cert.Kernel6Ideal.τ).loc Cert.Kernel6Ideal.main_v49_6)) (v7 : (c : Dev Cert.Kernel6Ideal.nD) → Buf (Elt Ideal) ((c.tc : Thread Cert.Kernel6Ideal.nD Cert.Kernel6Ideal.τ).loc Cert.Kernel6Ideal.main_v49_9)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v49_0) = v0 c
          ∧ r.2.mem ((c.tc : Thread Cert.Kernel6Ideal.nD Cert.Kernel6Ideal.τ).loc Cert.Kernel6Ideal.main_v49_1) = v1 c
          ∧ r.2.mem ((c.tc : Thread Cert.Kernel6Ideal.nD Cert.Kernel6Ideal.τ).loc Cert.Kernel6Ideal.main_v49_2) = v2 c
          ∧ r.2.mem ((c.tc : Thread Cert.Kernel6Ideal.nD Cert.Kernel6Ideal.τ).loc Cert.Kernel6Ideal.main_v49_3) = v3 c
          ∧ r.2.mem ((c.tc : Thread Cert.Kernel6Ideal.nD Cert.Kernel6Ideal.τ).loc Cert.Kernel6Ideal.main_v49_4) = v4 c
          ∧ r.2.mem ((c.tc : Thread Cert.Kernel6Ideal.nD Cert.Kernel6Ideal.τ).loc Cert.Kernel6Ideal.main_v49_5) = v5 c
          ∧ r.2.mem ((c.tc : Thread Cert.Kernel6Ideal.nD Cert.Kernel6Ideal.τ).loc Cert.Kernel6Ideal.main_v49_6) = v6 c
          ∧ r.2.mem ((c.tc : Thread Cert.Kernel6Ideal.nD Cert.Kernel6Ideal.τ).loc Cert.Kernel6Ideal.main_v49_9) = v7 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v125) = v0 c
          ∧ r.2.mem ((c.tc : Thread Cert.Reference6Ideal.nD Cert.Reference6Ideal.τ).loc Cert.Reference6Ideal.main_v126) = v1 c
          ∧ r.2.mem ((c.tc : Thread Cert.Reference6Ideal.nD Cert.Reference6Ideal.τ).loc Cert.Reference6Ideal.main_v127) = v2 c
          ∧ r.2.mem ((c.tc : Thread Cert.Reference6Ideal.nD Cert.Reference6Ideal.τ).loc Cert.Reference6Ideal.main_v128) = v3 c
          ∧ r.2.mem ((c.tc : Thread Cert.Reference6Ideal.nD Cert.Reference6Ideal.τ).loc Cert.Reference6Ideal.main_v131) = v4 c
          ∧ r.2.mem ((c.tc : Thread Cert.Reference6Ideal.nD Cert.Reference6Ideal.τ).loc Cert.Reference6Ideal.main_v139) = v5 c
          ∧ r.2.mem ((c.tc : Thread Cert.Reference6Ideal.nD Cert.Reference6Ideal.τ).loc Cert.Reference6Ideal.main_v147) = v6 c
          ∧ r.2.mem ((c.tc : Thread Cert.Reference6Ideal.nD Cert.Reference6Ideal.τ).loc Cert.Reference6Ideal.main_v149) = v7 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_decays_below_inf : Cert.Pre_decays_below_inf.Facts) (hPre_finite_weights : Cert.Pre_finite_weights.Facts),
    quiescent_Kernel (hKernel := hKernel)
    ∧ quiescent_KernelIdeal (hKernelIdeal := hKernelIdeal)
    ∧ quiescent_KernelIdeal_pre_decays_below_inf (hKernelIdeal := hKernelIdeal) (hPre_decays_below_inf := hPre_decays_below_inf)
    ∧ quiescent_ReferenceIdeal (hReferenceIdeal := hReferenceIdeal)
    ∧ quiescent_ReferenceIdeal_pre_decays_below_inf (hReferenceIdeal := hReferenceIdeal) (hPre_decays_below_inf := hPre_decays_below_inf)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite_weights (hKernel6Ideal := hKernel6Ideal) (hPre_finite_weights := hPre_finite_weights)
    ∧ quiescent_Reference6Ideal (hReference6Ideal := hReference6Ideal)
    ∧ quiescent_Reference6Ideal_pre_finite_weights (hReference6Ideal := hReference6Ideal) (hPre_finite_weights := hPre_finite_weights)
    ∧ preserves_Kernel_KernelIdeal
    ∧ algebraic_KernelIdeal_ReferenceIdeal_pre_decays_below_inf (hKernelIdeal := hKernelIdeal) (hReferenceIdeal := hReferenceIdeal) (hPre_decays_below_inf := hPre_decays_below_inf)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite_weights (hKernel6Ideal := hKernel6Ideal) (hReference6Ideal := hReference6Ideal) (hPre_finite_weights := hPre_finite_weights)
-- ==== Pre_decays_below_inf.lean ====
abbrev S16384x512 : Shape := ⟨2, ![16384, 512]⟩
abbrev S16384x1024 : Shape := ⟨2, ![16384, 1024]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel

variable [Facts]

def fn {F : FTy → Type} [FloatOps F] (main_arg0 : FVec F S16384x512 .f32) (main_arg1 : FVec F S16384x512 .f32) (main_arg2 : FVec F S16384x1024 .f32) (main_arg3 : FVec F S16384x512 .f32) : IVec S_ 1 :=
  let main_cst : FVec F S_ .f32 := constant S_ .f32 0x7F800000#32
  let main_v0 : FVec F S16384x512 .f32 := broadcastInDim S16384x512 ![] bcast_S_S16384x512 main_cst
  let main_v1 : IVec S16384x512 1 := cmpf .olt main_arg3 main_v0
  let main_c : IVec S_ 1 := constantI S_ 1 1#1
  let main_v2 : IVec S_ 1 := (fun x v => Host.reduce IntOp.andi x v reducesTo_S16384x512_S_d0_1 h_S_) main_v1 main_c
  main_v2
-- ==== Pre_finite_weights.lean ====
abbrev S4x4096x1024 : Shape := ⟨3, ![4, 4096, 1024]⟩
abbrev S1x1024 : Shape := ⟨2, ![1, 1024]⟩
abbrev S1x1024x9556 : Shape := ⟨3, ![1, 1024, 9556]⟩
abbrev S1x64 : Shape := ⟨2, ![1, 64]⟩
abbrev S1x16x512 : Shape := ⟨3, ![1, 16, 512]⟩
abbrev S1x512 : Shape := ⟨2, ![1, 512]⟩
abbrev S_ : Shape := ⟨0, ![]⟩

class Facts : Prop where
  bcast_S_S1x1024 : S_.BroadcastsInDim S1x1024 (![] : Fin 0 → Fin S1x1024.rank)
  reducesTo_S1x1024_S_d0_1 : S1x1024.ReducesTo [0, 1] S_
  h_S_ : 0 < S_.numel
  bcast_S_S1x1024x9556 : S_.BroadcastsInDim S1x1024x9556 (![] : Fin 0 → Fin S1x1024x9556.rank)
  reducesTo_S1x1024x9556_S_d0_1_2 : S1x1024x9556.ReducesTo [0, 1, 2] S_

variable [Facts]

def fn {F : FTy → Type} [FloatOps F] (main_arg0 : FVec F S4x4096x1024 .f32) (main_arg1 : FVec F S1x1024 .f32) (main_arg2 : FVec F S1x1024x9556 .f32) (main_arg3 : FVec F S1x64 .f32) (main_arg4 : FVec F S1x16x512 .f32) (main_arg5 : FVec F S1x512 .f32) : IVec S_ 1 :=
  let main_v0 : FVec F S1x1024 .f32 := Host.absf main_arg1
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_c : IVec S_ 1 := constantI S_ 1 1#1
  let main_v3 : IVec S_ 1 := (fun x v => Host.reduce IntOp.andi x v reducesTo_S1x1024_S_d0_1 h_S_) main_v2 main_c
  let main_v4 : FVec F S1x1024x9556 .f32 := Host.absf main_arg2
  let main_cst_0 : FVec F S_ .f32 := constant S_ .f32 0x7F800000#32
  let main_v5 : FVec F S1x1024x9556 .f32 := broadcastInDim S1x1024x9556 ![] bcast_S_S1x1024x9556 main_cst_0
  let main_v6 : IVec S1x1024x9556 1 := cmpf .olt main_v4 main_v5
  let main_c_1 : IVec S_ 1 := constantI S_ 1 1#1
  let main_v7 : IVec S_ 1 := (fun x v => Host.reduce IntOp.andi x v reducesTo_S1x1024x9556_S_d0_1_2 h_S_) main_v6 main_c_1
  let main_v8 : IVec S_ 1 := andi main_v3 main_v7
  main_v8
-- ==== Kernel.lean ====
abbrev S16384x512 : Shape := ⟨2, ![16384, 512]⟩
abbrev S16384x1024 : Shape := ⟨2, ![16384, 1024]⟩
abbrev S4x4x128x256 : Shape := ⟨4, ![4, 4, 128, 256]⟩
abbrev S512x128 : Shape := ⟨2, ![512, 128]⟩
abbrev S512x256 : Shape := ⟨2, ![512, 256]⟩
abbrev S1x1x128x256 : Shape := ⟨4, ![1, 1, 128, 256]⟩
abbrev S128x256 : Shape := ⟨2, ![128, 256]⟩
abbrev S512x512 : Shape := ⟨2, ![512, 512]⟩
abbrev S64x64 : Shape := ⟨2, ![64, 64]⟩
abbrev S64x128 : Shape := ⟨2, ![64, 128]⟩
abbrev S1x128 : Shape := ⟨2, ![1, 128]⟩
abbrev S64x256 : Shape := ⟨2, ![64, 256]⟩
abbrev S128x128 : Shape := ⟨2, ![128, 128]⟩
abbrev S128 : Shape := ⟨1, ![128]⟩
abbrev S128x1 : Shape := ⟨2, ![128, 1]⟩

abbrev nBuf : Space → Nat
  | .hbm => 6
  | .vmem => 13
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x1024, .f32⟩
  | .hbm, ⟨3, _⟩ => ⟨S16384x512, .f32⟩
  | .hbm, ⟨4, _⟩ => ⟨S16384x1024, .f32⟩
  | .hbm, ⟨5, _⟩ => ⟨S4x4x128x256, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x256, .f32⟩
  | .local _ .vmem, ⟨5, _⟩ => ⟨S512x256, .f32⟩
  | .local _ .vmem, ⟨6, _⟩ => ⟨S512x128, .f32⟩
  | .local _ .vmem, ⟨7, _⟩ => ⟨S512x128, .f32⟩
  | .local _ .vmem, ⟨8, _⟩ => ⟨S512x256, .f32⟩
  | .local _ .vmem, ⟨9, _⟩ => ⟨S512x256, .f32⟩
  | .local _ .vmem, ⟨10, _⟩ => ⟨S1x1x128x256, .f32⟩
  | .local _ .vmem, ⟨11, _⟩ => ⟨S1x1x128x256, .f32⟩
  | .local _ .vmem, ⟨12, _⟩ => ⟨S128x256, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 4, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== ReferenceIdeal.lean ====
abbrev S16384x512 : Shape := ⟨2, ![16384, 512]⟩
abbrev S16384x1024 : Shape := ⟨2, ![16384, 1024]⟩
abbrev S4x64x64x4x128 : Shape := ⟨5, ![4, 64, 64, 4, 128]⟩
abbrev S64x4x4x64x128 : Shape := ⟨5, ![64, 4, 4, 64, 128]⟩
abbrev S4x64x64x4x256 : Shape := ⟨5, ![4, 64, 64, 4, 256]⟩
abbrev S64x4x4x64x256 : Shape := ⟨5, ![64, 4, 4, 64, 256]⟩
abbrev S_ : Shape := ⟨0, ![]⟩
abbrev S64x4x4x1x128 : Shape := ⟨5, ![64, 4, 4, 1, 128]⟩
abbrev S64x64 : Shape := ⟨2, ![64, 64]⟩
abbrev S64x4x4x64x64 : Shape := ⟨5, ![64, 4, 4, 64, 64]⟩
abbrev S64x4x4x128 : Shape := ⟨4, ![64, 4, 4, 128]⟩
abbrev S4x4x128x256 : Shape := ⟨4, ![4, 4, 128, 256]⟩
abbrev S1x4x4x64x128 : Shape := ⟨5, ![1, 4, 4, 64, 128]⟩
abbrev S4x4x64x128 : Shape := ⟨4, ![4, 4, 64, 128]⟩
abbrev S1x4x4x64x256 : Shape := ⟨5, ![1, 4, 4, 64, 256]⟩
abbrev S4x4x64x256 : Shape := ⟨4, ![4, 4, 64, 256]⟩
abbrev S1x4x4x128 : Shape := ⟨4, ![1, 4, 4, 128]⟩
abbrev S4x4x128 : Shape := ⟨3, ![4, 4, 128]⟩
abbrev S4x4x128x1 : Shape := ⟨4, ![4, 4, 128, 1]⟩

abbrev nBuf : Space → Nat
  | .hbm => 105
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x1024, .f32⟩
  | .hbm, ⟨3, _⟩ => ⟨S16384x512, .f32⟩
  | .hbm, ⟨4, _⟩ => ⟨S4x64x64x4x128, .f32⟩
  | .hbm, ⟨5, _⟩ => ⟨S64x4x4x64x128, .f32⟩
  | .hbm, ⟨6, _⟩ => ⟨S4x64x64x4x128, .f32⟩
  | .hbm, ⟨7, _⟩ => ⟨S64x4x4x64x128, .f32⟩
  | .hbm, ⟨8, _⟩ => ⟨S4x64x64x4x256, .f32⟩
  | .hbm, ⟨9, _⟩ => ⟨S64x4x4x64x256, .f32⟩
  | .hbm, ⟨10, _⟩ => ⟨S4x64x64x4x128, .f32⟩
  | .hbm, ⟨11, _⟩ => ⟨S64x4x4x64x128, .f32⟩
  | .hbm, ⟨12, _⟩ => ⟨S_, .f32⟩
  | .hbm, ⟨13, _⟩ => ⟨S_, .f32⟩
  | .hbm, ⟨14, _⟩ => ⟨S64x4x4x64x128, .f32⟩
  | .hbm, ⟨15, _⟩ => ⟨S64x4x4x1x128, .f32⟩
  | .hbm, ⟨16, _⟩ => ⟨S64x4x4x64x128, .f32⟩
  | .hbm, ⟨17, _⟩ => ⟨S64x4x4x64x128, .f32⟩
  | .hbm, ⟨18, _⟩ => ⟨S64x4x4x64x128, .f32⟩
  | .hbm, ⟨19, _⟩ => ⟨S64x4x4x64x128, .f32⟩
  | .hbm, ⟨20, _⟩ => ⟨S64x4x4x64x128, .f32⟩
  | .hbm, ⟨21, _⟩ => ⟨S_, .i1⟩
  | .hbm, ⟨22, _⟩ => ⟨S64x64, .i1⟩
  | .hbm, ⟨23, _⟩ => ⟨S64x64, .i32⟩
  | .hbm, ⟨24, _⟩ => ⟨S_, .i32⟩
  | .hbm, ⟨25, _⟩ => ⟨S64x64, .i32⟩
  | .hbm, ⟨26, _⟩ => ⟨S64x64, .i32⟩
  | .hbm, ⟨27, _⟩ => ⟨S64x64, .i32⟩
  | .hbm, ⟨28, _⟩ => ⟨S64x64, .i1⟩
  | .hbm, ⟨29, _⟩ => ⟨S_, .i1⟩
  | .hbm, ⟨30, _⟩ => ⟨S64x64, .i1⟩
  | .hbm, ⟨31, _⟩ => ⟨S64x64, .i1⟩
  | .hbm, ⟨32, _⟩ => ⟨S64x4x4x64x64, .f32⟩
  | .hbm, ⟨33, _⟩ => ⟨S_, .f32⟩
  | .hbm, ⟨34, _⟩ => ⟨S64x4x4x64x64, .i1⟩
  | .hbm, ⟨35, _⟩ => ⟨S64x4x4x64x64, .f32⟩
  | .hbm, ⟨36, _⟩ => ⟨S64x4x4x64x64, .f32⟩
  | .hbm, ⟨37, _⟩ => ⟨S64x4x4x64x256, .f32⟩
  | .hbm, ⟨38, _⟩ => ⟨S64x4x4x64x128, .f32⟩
  | .hbm, ⟨39, _⟩ => ⟨S64x4x4x64x128, .f32⟩
  | .hbm, ⟨40, _⟩ => ⟨S64x4x4x64x128, .f32⟩
  | .hbm, ⟨41, _⟩ => ⟨S64x4x4x64x128, .f32⟩
  | .hbm, ⟨42, _⟩ => ⟨S64x4x4x128, .f32⟩
  | .hbm, ⟨43, _⟩ => ⟨S64x4x4x128, .f32⟩
  | .hbm, ⟨44, _⟩ => ⟨S_, .f32⟩
  | .hbm, ⟨45, _⟩ => ⟨S4x4x128x256, .f32⟩
  | .hbm, ⟨46, _⟩ => ⟨S_, .f32⟩
  | .hbm, ⟨47, _⟩ => ⟨S64x4x4x64x256, .f32⟩
  | .hbm, ⟨48, _⟩ => ⟨S_, .i32⟩
  | .hbm, ⟨49, _⟩ => ⟨S64x4x4x64x128, .f32⟩
  | .hbm, ⟨50, _⟩ => ⟨S64x4x4x64x128, .f32⟩
  | .hbm, ⟨51, _⟩ => ⟨S64x4x4x64x256, .f32⟩
  | .hbm, ⟨52, _⟩ => ⟨S64x4x4x128, .f32⟩
  | .hbm, ⟨53, _⟩ => ⟨S64x4x4x64x256, .f32⟩
  | .hbm, ⟨54, _⟩ => ⟨S_, .i32⟩
  | .hbm, ⟨55, _⟩ => ⟨S4x4x128x256, .f32⟩
  | .hbm, ⟨56, _⟩ => ⟨S64x4x4x64x256, .f32⟩
  | .hbm, ⟨57, _⟩ => ⟨S_, .i32⟩
  | .hbm, ⟨58, _⟩ => ⟨S_, .i1⟩
  | .hbm, ⟨59, _⟩ => ⟨S_, .i32⟩
  | .hbm, ⟨60, _⟩ => ⟨S_, .i32⟩
  | .hbm, ⟨61, _⟩ => ⟨S_, .i32⟩
  | .hbm, ⟨62, _⟩ => ⟨S_, .i32⟩
  | .hbm, ⟨63, _⟩ => ⟨S1x4x4x64x128, .f32⟩
  | .hbm, ⟨64, _⟩ => ⟨S4x4x64x128, .f32⟩
  | .hbm, ⟨65, _⟩ => ⟨S_, .i32⟩
  | .hbm, ⟨66, _⟩ => ⟨S_, .i32⟩
  | .hbm, ⟨67, _⟩ => ⟨S_, .i32⟩
  | .hbm, ⟨68, _⟩ => ⟨S_, .i32⟩
  | .hbm, ⟨69, _⟩ => ⟨S1x4x4x64x128, .f32⟩
  | .hbm, ⟨70, _⟩ => ⟨S4x4x64x128, .f32⟩
  | .hbm, ⟨71, _⟩ => ⟨S_, .i32⟩
  | .hbm, ⟨72, _⟩ => ⟨S_, .i32⟩
  | .hbm, ⟨73, _⟩ => ⟨S_, .i32⟩
  | .hbm, ⟨74, _⟩ => ⟨S_, .i32⟩
  | .hbm, ⟨75, _⟩ => ⟨S1x4x4x64x256, .f32⟩
  | .hbm, ⟨76, _⟩ => ⟨S4x4x64x256, .f32⟩
  | .hbm, ⟨77, _⟩ => ⟨S_, .i32⟩
  | .hbm, ⟨78, _⟩ => ⟨S_, .i32⟩
  | .hbm, ⟨79, _⟩ => ⟨S_, .i32⟩
  | .hbm, ⟨80, _⟩ => ⟨S1x4x4x128, .f32⟩
  | .hbm, ⟨81, _⟩ => ⟨S4x4x128, .f32⟩
  | .hbm, ⟨82, _⟩ => ⟨S_, .i32⟩
  | .hbm, ⟨83, _⟩ => ⟨S_, .i32⟩
  | .hbm, ⟨84, _⟩ => ⟨S_, .i32⟩
  | .hbm, ⟨85, _⟩ => ⟨S_, .i32⟩
  | .hbm, ⟨86, _⟩ => ⟨S1x4x4x64x256, .f32⟩
  | .hbm, ⟨87, _⟩ => ⟨S4x4x64x256, .f32⟩
  | .hbm, ⟨88, _⟩ => ⟨S4x4x64x256, .f32⟩
  | .hbm, ⟨89, _⟩ => ⟨S4x4x128x1, .f32⟩
  | .hbm, ⟨90, _⟩ => ⟨S4x4x128x256, .f32⟩
  | .hbm, ⟨91, _⟩ => ⟨S4x4x128x256, .f32⟩
  | .hbm, ⟨92, _⟩ => ⟨S4x4x128x256, .f32⟩
  | .hbm, ⟨93, _⟩ => ⟨S4x4x128x256, .f32⟩
  | .hbm, ⟨94, _⟩ => ⟨S4x4x64x256, .f32⟩
  | .hbm, ⟨95, _⟩ => ⟨S1x4x4x64x256, .f32⟩
  | .hbm, ⟨96, _⟩ => ⟨S_, .i32⟩
  | .hbm, ⟨97, _⟩ => ⟨S_, .i32⟩
  | .hbm, ⟨98, _⟩ => ⟨S_, .i32⟩
  | .hbm, ⟨99, _⟩ => ⟨S_, .i32⟩
  | .hbm, ⟨100, _⟩ => ⟨S64x4x4x64x256, .f32⟩
  | .hbm, ⟨101, _⟩ => ⟨S_, .i32⟩
  | .hbm, ⟨102, _⟩ => ⟨S_, .i32⟩
  | .hbm, ⟨103, _⟩ => ⟨S4x64x64x4x256, .f32⟩
  | .hbm, ⟨104, _⟩ => ⟨S16384x1024, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_call0_call0_cst : Ref sig .tc := ⟨.hbm, 12, rfl⟩
abbrev main_call0_call0_v0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_v15 : Ref sig .tc := ⟨.hbm, 22, rfl⟩
abbrev main_call1_v0 : Ref sig .tc := ⟨.hbm, 23, rfl⟩
abbrev main_call1_c : Ref sig .tc := ⟨.hbm, 24, rfl⟩
abbrev main_call1_v1 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_call1_c_0 : Ref sig .tc := ⟨.hbm, 29, rfl⟩
abbrev main_call1_v5 : Ref sig .tc := ⟨.hbm, 30, rfl⟩
abbrev main_v16 : Ref sig .tc := ⟨.hbm, 31, rfl⟩
abbrev main_v17 : Ref sig .tc := ⟨.hbm, 32, rfl⟩
abbrev main_cst : Ref sig .tc := ⟨.hbm, 33, rfl⟩
abbrev main_call2_v0 : Ref sig .tc := ⟨.hbm, 34, rfl⟩
abbrev main_call2_v1 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_0 : Ref sig .tc := ⟨.hbm, 44, rfl⟩
abbrev main_v26 : Ref sig .tc := ⟨.hbm, 45, rfl⟩
abbrev main_cst_1 : Ref sig .tc := ⟨.hbm, 46, rfl⟩
abbrev main_v27 : Ref sig .tc := ⟨.hbm, 47, rfl⟩
abbrev main_c_2 : Ref sig .tc := ⟨.hbm, 48, rfl⟩
abbrev main_v28_0 : Ref sig .tc := ⟨.hbm, 49, rfl⟩
abbrev main_v28_1 : Ref sig .tc := ⟨.hbm, 50, rfl⟩
abbrev main_v28_2 : Ref sig .tc := ⟨.hbm, 51, rfl⟩
abbrev main_v28_3 : Ref sig .tc := ⟨.hbm, 52, rfl⟩
abbrev main_v28_4 : Ref sig .tc := ⟨.hbm, 53, rfl⟩
abbrev main_v28_5 : Ref sig .tc := ⟨.hbm, 54, rfl⟩
abbrev main_v28_6 : Ref sig .tc := ⟨.hbm, 55, rfl⟩
abbrev main_v28_7 : Ref sig .tc := ⟨.hbm, 56, rfl⟩
abbrev main_while0c_c_10 : Ref sig .tc := ⟨.hbm, 57, rfl⟩
abbrev main_while0c_v31 : Ref sig .tc := ⟨.hbm, 58, rfl⟩
abbrev main_while0b_call3_c : Ref sig .tc := ⟨.hbm, 59, rfl⟩
abbrev main_while0b_call3_c_0 : Ref sig .tc := ⟨.hbm, 60, rfl⟩
abbrev main_while0b_call3_c_1 : Ref sig .tc := ⟨.hbm, 61, rfl⟩
abbrev main_while0b_call3_c_2 : Ref sig .tc := ⟨.hbm, 62, rfl⟩
abbrev main_while0b_call3_v0 : Ref sig .tc := ⟨.hbm, 63, rfl⟩
abbrev main_while0b_v31 : Ref sig .tc := ⟨.hbm, 64, rfl⟩
abbrev main_while0b_call4_c : Ref sig .tc := ⟨.hbm, 65, rfl⟩
abbrev main_while0b_call4_c_0 : Ref sig .tc := ⟨.hbm, 66, rfl⟩
abbrev main_while0b_call4_c_1 : Ref sig .tc := ⟨.hbm, 67, rfl⟩
abbrev main_while0b_call4_c_2 : Ref sig .tc := ⟨.hbm, 68, rfl⟩
abbrev main_while0b_call4_v0 : Ref sig .tc := ⟨.hbm, 69, rfl⟩
abbrev main_while0b_v32 : Ref sig .tc := ⟨.hbm, 70, rfl⟩
abbrev main_while0b_call5_c : Ref sig .tc := ⟨.hbm, 71, rfl⟩
abbrev main_while0b_call5_c_0 : Ref sig .tc := ⟨.hbm, 72, rfl⟩
abbrev main_while0b_call5_c_1 : Ref sig .tc := ⟨.hbm, 73, rfl⟩
abbrev main_while0b_call5_c_2 : Ref sig .tc := ⟨.hbm, 74, rfl⟩
abbrev main_while0b_call5_v0 : Ref sig .tc := ⟨.hbm, 75, rfl⟩
abbrev main_while0b_v33 : Ref sig .tc := ⟨.hbm, 76, rfl⟩
abbrev main_while0b_call6_c : Ref sig .tc := ⟨.hbm, 77, rfl⟩
abbrev main_while0b_call6_c_0 : Ref sig .tc := ⟨.hbm, 78, rfl⟩
abbrev main_while0b_call6_c_1 : Ref sig .tc := ⟨.hbm, 79, rfl⟩
abbrev main_while0b_call6_v0 : Ref sig .tc := ⟨.hbm, 80, rfl⟩
abbrev main_while0b_v34 : Ref sig .tc := ⟨.hbm, 81, rfl⟩
abbrev main_while0b_call7_c : Ref sig .tc := ⟨.hbm, 82, rfl⟩
abbrev main_while0b_call7_c_0 : Ref sig .tc := ⟨.hbm, 83, rfl⟩
abbrev main_while0b_call7_c_1 : Ref sig .tc := ⟨.hbm, 84, rfl⟩
abbrev main_while0b_call7_c_2 : Ref sig .tc := ⟨.hbm, 85, rfl⟩
abbrev main_while0b_call7_v0 : Ref sig .tc := ⟨.hbm, 86, rfl⟩
abbrev main_while0b_v35 : Ref sig .tc := ⟨.hbm, 87, rfl⟩
abbrev main_while0b_v36 : Ref sig .tc := ⟨.hbm, 88, rfl⟩
abbrev main_while0b_v37 : Ref sig .tc := ⟨.hbm, 89, rfl⟩
abbrev main_while0b_v38 : Ref sig .tc := ⟨.hbm, 90, rfl⟩
abbrev main_while0b_v39 : Ref sig .tc := ⟨.hbm, 91, rfl⟩
abbrev main_while0b_v40 : Ref sig .tc := ⟨.hbm, 92, rfl⟩
abbrev main_while0b_v41 : Ref sig .tc := ⟨.hbm, 93, rfl⟩
abbrev main_while0b_v42 : Ref sig .tc := ⟨.hbm, 94, rfl⟩
abbrev main_while0b_call8_v0 : Ref sig .tc := ⟨.hbm, 95, rfl⟩
abbrev main_while0b_call8_c : Ref sig .tc := ⟨.hbm, 96, rfl⟩
abbrev main_while0b_call8_c_0 : Ref sig .tc := ⟨.hbm, 97, rfl⟩
abbrev main_while0b_call8_c_1 : Ref sig .tc := ⟨.hbm, 98, rfl⟩
abbrev main_while0b_call8_c_2 : Ref sig .tc := ⟨.hbm, 99, rfl⟩
abbrev main_while0b_v43 : Ref sig .tc := ⟨.hbm, 100, rfl⟩
abbrev main_while0b_c_10 : Ref sig .tc := ⟨.hbm, 101, rfl⟩
abbrev main_while0b_v44 : Ref sig .tc := ⟨.hbm, 102, rfl⟩
abbrev main_v29 : Ref sig .tc := ⟨.hbm, 103, rfl⟩
abbrev main_v30 : Ref sig .tc := ⟨.hbm, 104, rfl⟩

abbrev nD : Nat := 1
abbrev τ : Topo := Topo.v7x

variable {F : FTy → Type} [FloatOps F]

abbrev main_while0_count : Scf.Loop 32 := ⟨0#32, 64#32, 1#32⟩
-- ==== Kernel2.lean ====
abbrev S4x4096x1024 : Shape := ⟨3, ![4, 4096, 1024]⟩
abbrev S1x1024 : Shape := ⟨2, ![1, 1024]⟩
abbrev S1x1024x9556 : Shape := ⟨3, ![1, 1024, 9556]⟩
abbrev S1024 : Shape := ⟨1, ![1024]⟩
abbrev S1024x9556 : Shape := ⟨2, ![1024, 9556]⟩
abbrev S1024x4096 : Shape := ⟨2, ![1024, 4096]⟩
abbrev S4096 : Shape := ⟨1, ![4096]⟩
abbrev S64 : Shape := ⟨1, ![64]⟩
abbrev S_ : Shape := ⟨0, ![]⟩
abbrev S4096x1 : Shape := ⟨2, ![4096, 1]⟩
abbrev S1x64 : Shape := ⟨2, ![1, 64]⟩
abbrev S4096x64 : Shape := ⟨2, ![4096, 64]⟩
abbrev S4096x128 : Shape := ⟨2, ![4096, 128]⟩
abbrev S1x4096x1x128 : Shape := ⟨4, ![1, 4096, 1, 128]⟩
abbrev S16384x1024 : Shape := ⟨2, ![16384, 1024]⟩
abbrev S32x1024x512 : Shape := ⟨3, ![32, 1024, 512]⟩
abbrev S512x1024 : Shape := ⟨2, ![512, 1024]⟩
abbrev S512x128 : Shape := ⟨2, ![512, 128]⟩
abbrev S1x1024x512 : Shape := ⟨3, ![1, 1024, 512]⟩
abbrev S512 : Shape := ⟨1, ![512]⟩
abbrev S512x1 : Shape := ⟨2, ![512, 1]⟩
abbrev S1024x1024 : Shape := ⟨2, ![1024, 1024]⟩
abbrev S1024x512 : Shape := ⟨2, ![1024, 512]⟩

abbrev nBuf : Space → Nat
  | .hbm => 41
  | .vmem => 20
  | .smem => 0
  | _ => 0

abbrev bufTy : (tb : Table) → Fin (tcTables nBuf tb) → BufTy
  | .hbm, ⟨0, _⟩ => ⟨S4x4096x1024, .f32⟩
  | .hbm, ⟨1, _⟩ => ⟨S1x1024, .f32⟩
  | .hbm, ⟨2, _⟩ => ⟨S1x1024x9556, .f32⟩
  | .hbm, ⟨3, _⟩ => ⟨S1024, .f32⟩
  | .hbm, ⟨4, _⟩ => ⟨S1x1024, .f32⟩
  | .hbm, ⟨5, _⟩ => ⟨S1024x9556, .f32⟩
  | .hbm, ⟨6, _⟩ => ⟨S1024x4096, .f32⟩
  | .hbm, ⟨7, _⟩ => ⟨S1024x4096, .bf16⟩
  | .hbm, ⟨8, _⟩ => ⟨S4096, .i32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S4096, .f32⟩
  | .hbm, ⟨18, _⟩ => ⟨S4096x1, .f32⟩
  | .hbm, ⟨19, _⟩ => ⟨S1x64, .f32⟩
  | .hbm, ⟨20, _⟩ => ⟨S4096x64, .f32⟩
  | .hbm, ⟨21, _⟩ => ⟨S4096x64, .f32⟩
  | .hbm, ⟨22, _⟩ => ⟨S4096x64, .f32⟩
  | .hbm, ⟨23, _⟩ => ⟨S4096x64, .f32⟩
  | .hbm, ⟨24, _⟩ => ⟨S4096x64, .f32⟩
  | .hbm, ⟨25, _⟩ => ⟨S4096x128, .f32⟩
  | .hbm, ⟨26, _⟩ => ⟨S1x4096x1x128, .f32⟩
  | .hbm, ⟨27, _⟩ => ⟨S1x4096x1x128, .f32⟩
  | .hbm, ⟨28, _⟩ => ⟨S4096x128, .f32⟩
  | .hbm, ⟨29, _⟩ => ⟨S4096x64, .f32⟩
  | .hbm, ⟨30, _⟩ => ⟨S4096x128, .f32⟩
  | .hbm, ⟨31, _⟩ => ⟨S1x4096x1x128, .f32⟩
  | .hbm, ⟨32, _⟩ => ⟨S1x4096x1x128, .f32⟩
  | .hbm, ⟨33, _⟩ => ⟨S4096x128, .f32⟩
  | .hbm, ⟨34, _⟩ => ⟨S16384x1024, .f32⟩
  | .hbm, ⟨35, _⟩ => ⟨S32x1024x512, .bf16⟩
  | .hbm, ⟨36, _⟩ => ⟨S16384x1024, .f32⟩
  | .hbm, ⟨37, _⟩ => ⟨S16384x1024, .bf16⟩
  | .hbm, ⟨38, _⟩ => ⟨S16384x1024, .f32⟩
  | .hbm, ⟨39, _⟩ => ⟨S32x1024x512, .bf16⟩
  | .hbm, ⟨40, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4096, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S1x1024x512, .bf16⟩
  | .local _ .vmem, ⟨9, _⟩ => ⟨S1x1024x512, .bf16⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S512x1024, .f32⟩
  | .local _ .vmem, ⟨15, _⟩ => ⟨S512x1024, .f32⟩
  | .local _ .vmem, ⟨16, _⟩ => ⟨S1x1024x512, .bf16⟩
  | .local _ .vmem, ⟨17, _⟩ => ⟨S1x1024x512, .bf16⟩
  | .local _ .vmem, ⟨18, _⟩ => ⟨S512x1024, .bf16⟩
  | .local _ .vmem, ⟨19, _⟩ => ⟨S512x1024, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30_0 : Ref sig .tc := ⟨.hbm, 35, rfl⟩
abbrev main_v30_1 : Ref sig .tc := ⟨.hbm, 36, rfl⟩
abbrev main_v30_2 : Ref sig .tc := ⟨.hbm, 37, rfl⟩
abbrev main_v30_3 : Ref sig .tc := ⟨.hbm, 38, rfl⟩
abbrev main_v30_4 : Ref sig .tc := ⟨.hbm, 39, rfl⟩
abbrev main_v30_5 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference2Ideal.lean ====
abbrev S4x4096x1024 : Shape := ⟨3, ![4, 4096, 1024]⟩
abbrev S1x1024 : Shape := ⟨2, ![1, 1024]⟩
abbrev S1x1024x9556 : Shape := ⟨3, ![1, 1024, 9556]⟩
abbrev S4096 : Shape := ⟨1, ![4096]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1024x9556 : Shape := ⟨2, ![1024, 9556]⟩
abbrev S4x4096x9556 : Shape := ⟨3, ![4, 4096, 9556]⟩
abbrev S4x4096x8x128 : Shape := ⟨4, ![4, 4096, 8, 128]⟩
abbrev S64 : Shape := ⟨1, ![64]⟩
abbrev S4096x1 : Shape := ⟨2, ![4096, 1]⟩
abbrev S1x64 : Shape := ⟨2, ![1, 64]⟩
abbrev S4096x64 : Shape := ⟨2, ![4096, 64]⟩
abbrev S4096x1x64 : Shape := ⟨3, ![4096, 1, 64]⟩
abbrev S4x4096x8x64 : Shape := ⟨4, ![4, 4096, 8, 64]⟩
abbrev S1x4096x1x64 : Shape := ⟨4, ![1, 4096, 1, 64]⟩
abbrev S16384x1024 : Shape := ⟨2, ![16384, 1024]⟩
abbrev S32x512x1024 : Shape := ⟨3, ![32, 512, 1024]⟩
abbrev S32x1024x512 : Shape := ⟨3, ![32, 1024, 512]⟩

abbrev nBuf : Space → Nat
  | .hbm => 123
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1x1024, .f32⟩
  | .hbm, ⟨2, _⟩ => ⟨S1x1024x9556, .f32⟩
  | .hbm, ⟨3, _⟩ => ⟨S4096, .i32⟩
  | .hbm, ⟨4, _⟩ => ⟨S1024, .f32⟩
  | .hbm, ⟨5, _⟩ => ⟨S4x4096x1024, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S4x4096x1, .f32⟩
  | .hbm, ⟨16, _⟩ => ⟨S4x4096x1024, .f32⟩
  | .hbm, ⟨17, _⟩ => ⟨S4x4096x1024, .f32⟩
  | .hbm, ⟨18, _⟩ => ⟨S1x1x1024, .f32⟩
  | .hbm, ⟨19, _⟩ => ⟨S4x4096x1024, .f32⟩
  | .hbm, ⟨20, _⟩ => ⟨S4x4096x1024, .f32⟩
  | .hbm, ⟨21, _⟩ => ⟨S1024x9556, .f32⟩
  | .hbm, ⟨22, _⟩ => ⟨S4x4096x9556, .f32⟩
  | .hbm, ⟨23, _⟩ => ⟨S4x4096x1024, .f32⟩
  | .hbm, ⟨24, _⟩ => ⟨S4x4096x1024, .f32⟩
  | .hbm, ⟨25, _⟩ => ⟨S4x4096x1024, .f32⟩
  | .hbm, ⟨26, _⟩ => ⟨S4x4096x1024, .f32⟩
  | .hbm, ⟨27, _⟩ => ⟨S4x4096x8x128, .f32⟩
  | .hbm, ⟨28, _⟩ => ⟨S64, .f32⟩
  | .hbm, ⟨29, _⟩ => ⟨S64, .f32⟩
  | .hbm, ⟨30, _⟩ => ⟨S_, .f32⟩
  | .hbm, ⟨31, _⟩ => ⟨S64, .f32⟩
  | .hbm, ⟨32, _⟩ => ⟨S64, .f32⟩
  | .hbm, ⟨33, _⟩ => ⟨S_, .f32⟩
  | .hbm, ⟨34, _⟩ => ⟨S64, .f32⟩
  | .hbm, ⟨35, _⟩ => ⟨S64, .f32⟩
  | .hbm, ⟨36, _⟩ => ⟨S4096, .f32⟩
  | .hbm, ⟨37, _⟩ => ⟨S4096x1, .f32⟩
  | .hbm, ⟨38, _⟩ => ⟨S1x64, .f32⟩
  | .hbm, ⟨39, _⟩ => ⟨S4096x64, .f32⟩
  | .hbm, ⟨40, _⟩ => ⟨S4096x64, .f32⟩
  | .hbm, ⟨41, _⟩ => ⟨S4096x64, .f32⟩
  | .hbm, ⟨42, _⟩ => ⟨S4096x64, .f32⟩
  | .hbm, ⟨43, _⟩ => ⟨S4096x1x64, .f32⟩
  | .hbm, ⟨44, _⟩ => ⟨S4096x64, .f32⟩
  | .hbm, ⟨45, _⟩ => ⟨S4096x1x64, .f32⟩
  | .hbm, ⟨46, _⟩ => ⟨S4x4096x8x64, .f32⟩
  | .hbm, ⟨47, _⟩ => ⟨S4x4096x8x64, .f32⟩
  | .hbm, ⟨48, _⟩ => ⟨S1x4096x1x64, .f32⟩
  | .hbm, ⟨49, _⟩ => ⟨S4x4096x8x64, .f32⟩
  | .hbm, ⟨50, _⟩ => ⟨S4x4096x8x64, .f32⟩
  | .hbm, ⟨51, _⟩ => ⟨S1x4096x1x64, .f32⟩
  | .hbm, ⟨52, _⟩ => ⟨S4x4096x8x64, .f32⟩
  | .hbm, ⟨53, _⟩ => ⟨S4x4096x8x64, .f32⟩
  | .hbm, ⟨54, _⟩ => ⟨S4x4096x8x64, .f32⟩
  | .hbm, ⟨55, _⟩ => ⟨S1x4096x1x64, .f32⟩
  | .hbm, ⟨56, _⟩ => ⟨S4x4096x8x64, .f32⟩
  | .hbm, ⟨57, _⟩ => ⟨S4x4096x8x64, .f32⟩
  | .hbm, ⟨58, _⟩ => ⟨S1x4096x1x64, .f32⟩
  | .hbm, ⟨59, _⟩ => ⟨S4x4096x8x64, .f32⟩
  | .hbm, ⟨60, _⟩ => ⟨S4x4096x8x64, .f32⟩
  | .hbm, ⟨61, _⟩ => ⟨S4x4096x8x64, .f32⟩
  | .hbm, ⟨62, _⟩ => ⟨S4x4096x8x128, .f32⟩
  | .hbm, ⟨63, _⟩ => ⟨S_, .f32⟩
  | .hbm, ⟨64, _⟩ => ⟨S4x4096x8x128, .f32⟩
  | .hbm, ⟨65, _⟩ => ⟨S4x4096x8x128, .f32⟩
  | .hbm, ⟨66, _⟩ => ⟨S4x4096x8x128, .f32⟩
  | .hbm, ⟨67, _⟩ => ⟨S64, .f32⟩
  | .hbm, ⟨68, _⟩ => ⟨S64, .f32⟩
  | .hbm, ⟨69, _⟩ => ⟨S_, .f32⟩
  | .hbm, ⟨70, _⟩ => ⟨S64, .f32⟩
  | .hbm, ⟨71, _⟩ => ⟨S64, .f32⟩
  | .hbm, ⟨72, _⟩ => ⟨S_, .f32⟩
  | .hbm, ⟨73, _⟩ => ⟨S64, .f32⟩
  | .hbm, ⟨74, _⟩ => ⟨S64, .f32⟩
  | .hbm, ⟨75, _⟩ => ⟨S4096, .f32⟩
  | .hbm, ⟨76, _⟩ => ⟨S4096x1, .f32⟩
  | .hbm, ⟨77, _⟩ => ⟨S1x64, .f32⟩
  | .hbm, ⟨78, _⟩ => ⟨S4096x64, .f32⟩
  | .hbm, ⟨79, _⟩ => ⟨S4096x64, .f32⟩
  | .hbm, ⟨80, _⟩ => ⟨S4096x64, .f32⟩
  | .hbm, ⟨81, _⟩ => ⟨S4096x64, .f32⟩
  | .hbm, ⟨82, _⟩ => ⟨S4096x1x64, .f32⟩
  | .hbm, ⟨83, _⟩ => ⟨S4096x64, .f32⟩
  | .hbm, ⟨84, _⟩ => ⟨S4096x1x64, .f32⟩
  | .hbm, ⟨85, _⟩ => ⟨S4x4096x8x64, .f32⟩
  | .hbm, ⟨86, _⟩ => ⟨S4x4096x8x64, .f32⟩
  | .hbm, ⟨87, _⟩ => ⟨S1x4096x1x64, .f32⟩
  | .hbm, ⟨88, _⟩ => ⟨S4x4096x8x64, .f32⟩
  | .hbm, ⟨89, _⟩ => ⟨S4x4096x8x64, .f32⟩
  | .hbm, ⟨90, _⟩ => ⟨S1x4096x1x64, .f32⟩
  | .hbm, ⟨91, _⟩ => ⟨S4x4096x8x64, .f32⟩
  | .hbm, ⟨92, _⟩ => ⟨S4x4096x8x64, .f32⟩
  | .hbm, ⟨93, _⟩ => ⟨S4x4096x8x64, .f32⟩
  | .hbm, ⟨94, _⟩ => ⟨S1x4096x1x64, .f32⟩
  | .hbm, ⟨95, _⟩ => ⟨S4x4096x8x64, .f32⟩
  | .hbm, ⟨96, _⟩ => ⟨S4x4096x8x64, .f32⟩
  | .hbm, ⟨97, _⟩ => ⟨S1x4096x1x64, .f32⟩
  | .hbm, ⟨98, _⟩ => ⟨S4x4096x8x64, .f32⟩
  | .hbm, ⟨99, _⟩ => ⟨S4x4096x8x64, .f32⟩
  | .hbm, ⟨100, _⟩ => ⟨S4x4096x8x64, .f32⟩
  | .hbm, ⟨101, _⟩ => ⟨S4x4096x8x128, .f32⟩
  | .hbm, ⟨102, _⟩ => ⟨S4x4096x1024, .f32⟩
  | .hbm, ⟨103, _⟩ => ⟨S4x4096x1024, .f32⟩
  | .hbm, ⟨104, _⟩ => ⟨S_, .f32⟩
  | .hbm, ⟨105, _⟩ => ⟨S4x4096x1024, .f32⟩
  | .hbm, ⟨106, _⟩ => ⟨S4x4096x1024, .f32⟩
  | .hbm, ⟨107, _⟩ => ⟨S_, .f32⟩
  | .hbm, ⟨108, _⟩ => ⟨S4x4096x1024, .f32⟩
  | .hbm, ⟨109, _⟩ => ⟨S4x4096x1024, .f32⟩
  | .hbm, ⟨110, _⟩ => ⟨S4x4096x1024, .f32⟩
  | .hbm, ⟨111, _⟩ => ⟨S16384x1024, .f32⟩
  | .hbm, ⟨112, _⟩ => ⟨S16384x1024, .f32⟩
  | .hbm, ⟨113, _⟩ => ⟨S16384x1024, .f32⟩
  | .hbm, ⟨114, _⟩ => ⟨S16384x1024, .f32⟩
  | .hbm, ⟨115, _⟩ => ⟨S32x512x1024, .f32⟩
  | .hbm, ⟨116, _⟩ => ⟨S32x1024x512, .f32⟩
  | .hbm, ⟨117, _⟩ => ⟨S32x1024x512, .bf16⟩
  | .hbm, ⟨118, _⟩ => ⟨S16384x1024, .bf16⟩
  | .hbm, ⟨119, _⟩ => ⟨S32x512x1024, .f32⟩
  | .hbm, ⟨120, _⟩ => ⟨S32x1024x512, .f32⟩
  | .hbm, ⟨121, _⟩ => ⟨S32x1024x512, .bf16⟩
  | .hbm, ⟨122, _⟩ => ⟨S16384x1024, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_v25 : Ref sig .tc := ⟨.hbm, 32, rfl⟩
abbrev main_cst_3 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_cst_4 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_cst_5 : Ref sig .tc := ⟨.hbm, 69, rfl⟩
abbrev main_v60 : Ref sig .tc := ⟨.hbm, 70, rfl⟩
abbrev main_v61 : Ref sig .tc := ⟨.hbm, 71, rfl⟩
abbrev main_cst_6 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_call0_v0 : Ref sig .tc := ⟨.hbm, 102, rfl⟩
abbrev main_call0_v1 : Ref sig .tc := ⟨.hbm, 103, rfl⟩
abbrev main_call0_cst : Ref sig .tc := ⟨.hbm, 104, rfl⟩
abbrev main_call0_v2 : Ref sig .tc := ⟨.hbm, 105, rfl⟩
abbrev main_call0_v3 : Ref sig .tc := ⟨.hbm, 106, rfl⟩
abbrev main_call0_cst_0 : Ref sig .tc := ⟨.hbm, 107, rfl⟩
abbrev main_call0_v4 : Ref sig .tc := ⟨.hbm, 108, rfl⟩
abbrev main_call0_v5 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩

abbrev nD : Nat := 1
abbrev τ : Topo := Topo.v7x

variable {F : FTy → Type} [FloatOps F]
-- ==== Kernel3.lean ====
abbrev S32x1x1024 : Shape := ⟨3, ![32, 1, 1024]⟩
abbrev S1x1024 : Shape := ⟨2, ![1, 1024]⟩
abbrev S1x1024x9556 : Shape := ⟨3, ![1, 1024, 9556]⟩
abbrev S1024 : Shape := ⟨1, ![1024]⟩
abbrev S1024x9556 : Shape := ⟨2, ![1024, 9556]⟩
abbrev S1024x4096 : Shape := ⟨2, ![1024, 4096]⟩
abbrev S_ : Shape := ⟨0, ![]⟩
abbrev S32 : Shape := ⟨1, ![32]⟩
abbrev S64 : Shape := ⟨1, ![64]⟩
abbrev S32x1 : Shape := ⟨2, ![32, 1]⟩
abbrev S1x64 : Shape := ⟨2, ![1, 64]⟩
abbrev S32x64 : Shape := ⟨2, ![32, 64]⟩
abbrev S32x128 : Shape := ⟨2, ![32, 128]⟩
abbrev S1x32x1x128 : Shape := ⟨4, ![1, 32, 1, 128]⟩
abbrev S32x1024 : Shape := ⟨2, ![32, 1024]⟩
abbrev S1024x1024 : Shape := ⟨2, ![1024, 1024]⟩

abbrev nBuf : Space → Nat
  | .hbm => 40
  | .vmem => 9
  | .smem => 0
  | _ => 0

abbrev bufTy : (tb : Table) → Fin (tcTables nBuf tb) → BufTy
  | .hbm, ⟨0, _⟩ => ⟨S32x1x1024, .f32⟩
  | .hbm, ⟨1, _⟩ => ⟨S1x1024, .f32⟩
  | .hbm, ⟨2, _⟩ => ⟨S1x1024x9556, .f32⟩
  | .hbm, ⟨3, _⟩ => ⟨S1024, .f32⟩
  | .hbm, ⟨4, _⟩ => ⟨S1x1024, .f32⟩
  | .hbm, ⟨5, _⟩ => ⟨S1024x9556, .f32⟩
  | .hbm, ⟨6, _⟩ => ⟨S1024x4096, .f32⟩
  | .hbm, ⟨7, _⟩ => ⟨S1024x4096, .bf16⟩
  | .hbm, ⟨8, _⟩ => ⟨S_, .i32⟩
  | .hbm, ⟨9, _⟩ => ⟨S32, .i32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S32, .f32⟩
  | .hbm, ⟨19, _⟩ => ⟨S32x1, .f32⟩
  | .hbm, ⟨20, _⟩ => ⟨S1x64, .f32⟩
  | .hbm, ⟨21, _⟩ => ⟨S32x64, .f32⟩
  | .hbm, ⟨22, _⟩ => ⟨S32x64, .f32⟩
  | .hbm, ⟨23, _⟩ => ⟨S32x64, .f32⟩
  | .hbm, ⟨24, _⟩ => ⟨S32x64, .f32⟩
  | .hbm, ⟨25, _⟩ => ⟨S32x64, .f32⟩
  | .hbm, ⟨26, _⟩ => ⟨S32x128, .f32⟩
  | .hbm, ⟨27, _⟩ => ⟨S1x32x1x128, .f32⟩
  | .hbm, ⟨28, _⟩ => ⟨S1x32x1x128, .f32⟩
  | .hbm, ⟨29, _⟩ => ⟨S32x128, .f32⟩
  | .hbm, ⟨30, _⟩ => ⟨S32x64, .f32⟩
  | .hbm, ⟨31, _⟩ => ⟨S32x128, .f32⟩
  | .hbm, ⟨32, _⟩ => ⟨S1x32x1x128, .f32⟩
  | .hbm, ⟨33, _⟩ => ⟨S1x32x1x128, .f32⟩
  | .hbm, ⟨34, _⟩ => ⟨S32x128, .f32⟩
  | .hbm, ⟨35, _⟩ => ⟨S32x1024, .f32⟩
  | .hbm, ⟨36, _⟩ => ⟨S32x1024, .bf16⟩
  | .hbm, ⟨37, _⟩ => ⟨S32x1024, .f32⟩
  | .hbm, ⟨38, _⟩ => ⟨S32x1024, .f32⟩
  | .hbm, ⟨39, _⟩ => ⟨S32x1024, .bf16⟩
  | .local _ .vmem, ⟨0, _⟩ => ⟨S32x1024, .f32⟩
  | .local _ .vmem, ⟨1, _⟩ => ⟨S1x1024, .f32⟩
  | .local _ .vmem, ⟨2, _⟩ => ⟨S1024x4096, .bf16⟩
  | .local _ .vmem, ⟨3, _⟩ => ⟨S32x128, .f32⟩
  | .local _ .vmem, ⟨4, _⟩ => ⟨S32x128, .f32⟩
  | .local _ .vmem, ⟨5, _⟩ => ⟨S32x1024, .bf16⟩
  | .local _ .vmem, ⟨6, _⟩ => ⟨S32x1024, .f32⟩
  | .local _ .vmem, ⟨7, _⟩ => ⟨S32x1024, .f32⟩
  | .local _ .vmem, ⟨8, _⟩ => ⟨S32x1024, .bf16⟩
  | _, _ => ⟨S32x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30_0 : Ref sig .tc := ⟨.hbm, 36, rfl⟩
abbrev main_v30_1 : Ref sig .tc := ⟨.hbm, 37, rfl⟩
abbrev main_v30_2 : Ref sig .tc := ⟨.hbm, 38, rfl⟩
abbrev main_v30_3 : Ref sig .tc := ⟨.hbm, 39, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S32x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S32x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S32x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Reference3Ideal.lean ====
abbrev S32x1x1024 : Shape := ⟨3, ![32, 1, 1024]⟩
abbrev S1x1024 : Shape := ⟨2, ![1, 1024]⟩
abbrev S1x1024x9556 : Shape := ⟨3, ![1, 1024, 9556]⟩
abbrev S1 : Shape := ⟨1, ![1]⟩
abbrev S_ : Shape := ⟨0, ![]⟩
abbrev S1024 : Shape := ⟨1, ![1024]⟩
abbrev S32x1 : Shape := ⟨2, ![32, 1]⟩
abbrev S32x1x1 : Shape := ⟨3, ![32, 1, 1]⟩
abbrev S1x1x1024 : Shape := ⟨3, ![1, 1, 1024]⟩
abbrev S1024x9556 : Shape := ⟨2, ![1024, 9556]⟩
abbrev S32x1x9556 : Shape := ⟨3, ![32, 1, 9556]⟩
abbrev S32x1x8x128 : Shape := ⟨4, ![32, 1, 8, 128]⟩
abbrev S64 : Shape := ⟨1, ![64]⟩
abbrev S1x1 : Shape := ⟨2, ![1, 1]⟩
abbrev S1x64 : Shape := ⟨2, ![1, 64]⟩
abbrev S1x1x64 : Shape := ⟨3, ![1, 1, 64]⟩
abbrev S32x1x8x64 : Shape := ⟨4, ![32, 1, 8, 64]⟩
abbrev S1x1x1x64 : Shape := ⟨4, ![1, 1, 1, 64]⟩
abbrev S32x1024 : Shape := ⟨2, ![32, 1024]⟩

abbrev nBuf : Space → Nat
  | .hbm => 118
  | .vmem => 0
  | .smem => 0
  | _ => 0

abbrev bufTy : (tb : Table) → Fin (tcTables nBuf tb) → BufTy
  | .hbm, ⟨0, _⟩ => ⟨S32x1x1024, .f32⟩
  | .hbm, ⟨1, _⟩ => ⟨S1x1024, .f32⟩
  | .hbm, ⟨2, _⟩ => ⟨S1x1024x9556, .f32⟩
  | .hbm, ⟨3, _⟩ => ⟨S1, .i32⟩
  | .hbm, ⟨4, _⟩ => ⟨S_, .i32⟩
  | .hbm, ⟨5, _⟩ => ⟨S1, .i32⟩
  | .hbm, ⟨6, _⟩ => ⟨S1, .i32⟩
  | .hbm, ⟨7, _⟩ => ⟨S1024, .f32⟩
  | .hbm, ⟨8, _⟩ => ⟨S32x1x1024, .f32⟩
  | .hbm, ⟨9, _⟩ => ⟨S_, .f32⟩
  | .hbm, ⟨10, _⟩ => ⟨S32x1, .f32⟩
  | .hbm, ⟨11, _⟩ => ⟨S32x1x1, .f32⟩
  | .hbm, ⟨12, _⟩ => ⟨S_, .f32⟩
  | .hbm, ⟨13, _⟩ => ⟨S32x1x1, .f32⟩
  | .hbm, ⟨14, _⟩ => ⟨S32x1x1, .f32⟩
  | .hbm, ⟨15, _⟩ => ⟨S_, .f32⟩
  | .hbm, ⟨16, _⟩ => ⟨S32x1x1, .f32⟩
  | .hbm, ⟨17, _⟩ => ⟨S32x1x1, .f32⟩
  | .hbm, ⟨18, _⟩ => ⟨S32x1x1, .f32⟩
  | .hbm, ⟨19, _⟩ => ⟨S32x1x1024, .f32⟩
  | .hbm, ⟨20, _⟩ => ⟨S32x1x1024, .f32⟩
  | .hbm, ⟨21, _⟩ => ⟨S1x1x1024, .f32⟩
  | .hbm, ⟨22, _⟩ => ⟨S32x1x1024, .f32⟩
  | .hbm, ⟨23, _⟩ => ⟨S32x1x1024, .f32⟩
  | .hbm, ⟨24, _⟩ => ⟨S1024x9556, .f32⟩
  | .hbm, ⟨25, _⟩ => ⟨S32x1x9556, .f32⟩
  | .hbm, ⟨26, _⟩ => ⟨S32x1x1024, .f32⟩
  | .hbm, ⟨27, _⟩ => ⟨S32x1x1024, .f32⟩
  | .hbm, ⟨28, _⟩ => ⟨S32x1x1024, .f32⟩
  | .hbm, ⟨29, _⟩ => ⟨S32x1x1024, .f32⟩
  | .hbm, ⟨30, _⟩ => ⟨S32x1x8x128, .f32⟩
  | .hbm, ⟨31, _⟩ => ⟨S64, .f32⟩
  | .hbm, ⟨32, _⟩ => ⟨S64, .f32⟩
  | .hbm, ⟨33, _⟩ => ⟨S_, .f32⟩
  | .hbm, ⟨34, _⟩ => ⟨S64, .f32⟩
  | .hbm, ⟨35, _⟩ => ⟨S64, .f32⟩
  | .hbm, ⟨36, _⟩ => ⟨S_, .f32⟩
  | .hbm, ⟨37, _⟩ => ⟨S64, .f32⟩
  | .hbm, ⟨38, _⟩ => ⟨S64, .f32⟩
  | .hbm, ⟨39, _⟩ => ⟨S1, .f32⟩
  | .hbm, ⟨40, _⟩ => ⟨S1x1, .f32⟩
  | .hbm, ⟨41, _⟩ => ⟨S1x64, .f32⟩
  | .hbm, ⟨42, _⟩ => ⟨S1x64, .f32⟩
  | .hbm, ⟨43, _⟩ => ⟨S1x64, .f32⟩
  | .hbm, ⟨44, _⟩ => ⟨S1x64, .f32⟩
  | .hbm, ⟨45, _⟩ => ⟨S1x1x64, .f32⟩
  | .hbm, ⟨46, _⟩ => ⟨S1x64, .f32⟩
  | .hbm, ⟨47, _⟩ => ⟨S1x1x64, .f32⟩
  | .hbm, ⟨48, _⟩ => ⟨S32x1x8x64, .f32⟩
  | .hbm, ⟨49, _⟩ => ⟨S32x1x8x64, .f32⟩
  | .hbm, ⟨50, _⟩ => ⟨S1x1x1x64, .f32⟩
  | .hbm, ⟨51, _⟩ => ⟨S32x1x8x64, .f32⟩
  | .hbm, ⟨52, _⟩ => ⟨S32x1x8x64, .f32⟩
  | .hbm, ⟨53, _⟩ => ⟨S1x1x1x64, .f32⟩
  | .hbm, ⟨54, _⟩ => ⟨S32x1x8x64, .f32⟩
  | .hbm, ⟨55, _⟩ => ⟨S32x1x8x64, .f32⟩
  | .hbm, ⟨56, _⟩ => ⟨S32x1x8x64, .f32⟩
  | .hbm, ⟨57, _⟩ => ⟨S1x1x1x64, .f32⟩
  | .hbm, ⟨58, _⟩ => ⟨S32x1x8x64, .f32⟩
  | .hbm, ⟨59, _⟩ => ⟨S32x1x8x64, .f32⟩
  | .hbm, ⟨60, _⟩ => ⟨S1x1x1x64, .f32⟩
  | .hbm, ⟨61, _⟩ => ⟨S32x1x8x64, .f32⟩
  | .hbm, ⟨62, _⟩ => ⟨S32x1x8x64, .f32⟩
  | .hbm, ⟨63, _⟩ => ⟨S32x1x8x64, .f32⟩
  | .hbm, ⟨64, _⟩ => ⟨S32x1x8x128, .f32⟩
  | .hbm, ⟨65, _⟩ => ⟨S_, .f32⟩
  | .hbm, ⟨66, _⟩ => ⟨S32x1x8x128, .f32⟩
  | .hbm, ⟨67, _⟩ => ⟨S32x1x8x128, .f32⟩
  | .hbm, ⟨68, _⟩ => ⟨S32x1x8x128, .f32⟩
  | .hbm, ⟨69, _⟩ => ⟨S64, .f32⟩
  | .hbm, ⟨70, _⟩ => ⟨S64, .f32⟩
  | .hbm, ⟨71, _⟩ => ⟨S_, .f32⟩
  | .hbm, ⟨72, _⟩ => ⟨S64, .f32⟩
  | .hbm, ⟨73, _⟩ => ⟨S64, .f32⟩
  | .hbm, ⟨74, _⟩ => ⟨S_, .f32⟩
  | .hbm, ⟨75, _⟩ => ⟨S64, .f32⟩
  | .hbm, ⟨76, _⟩ => ⟨S64, .f32⟩
  | .hbm, ⟨77, _⟩ => ⟨S1, .f32⟩
  | .hbm, ⟨78, _⟩ => ⟨S1x1, .f32⟩
  | .hbm, ⟨79, _⟩ => ⟨S1x64, .f32⟩
  | .hbm, ⟨80, _⟩ => ⟨S1x64, .f32⟩
  | .hbm, ⟨81, _⟩ => ⟨S1x64, .f32⟩
  | .hbm, ⟨82, _⟩ => ⟨S1x64, .f32⟩
  | .hbm, ⟨83, _⟩ => ⟨S1x1x64, .f32⟩
  | .hbm, ⟨84, _⟩ => ⟨S1x64, .f32⟩
  | .hbm, ⟨85, _⟩ => ⟨S1x1x64, .f32⟩
  | .hbm, ⟨86, _⟩ => ⟨S32x1x8x64, .f32⟩
  | .hbm, ⟨87, _⟩ => ⟨S32x1x8x64, .f32⟩
  | .hbm, ⟨88, _⟩ => ⟨S1x1x1x64, .f32⟩
  | .hbm, ⟨89, _⟩ => ⟨S32x1x8x64, .f32⟩
  | .hbm, ⟨90, _⟩ => ⟨S32x1x8x64, .f32⟩
  | .hbm, ⟨91, _⟩ => ⟨S1x1x1x64, .f32⟩
  | .hbm, ⟨92, _⟩ => ⟨S32x1x8x64, .f32⟩
  | .hbm, ⟨93, _⟩ => ⟨S32x1x8x64, .f32⟩
  | .hbm, ⟨94, _⟩ => ⟨S32x1x8x64, .f32⟩
  | .hbm, ⟨95, _⟩ => ⟨S1x1x1x64, .f32⟩
  | .hbm, ⟨96, _⟩ => ⟨S32x1x8x64, .f32⟩
  | .hbm, ⟨97, _⟩ => ⟨S32x1x8x64, .f32⟩
  | .hbm, ⟨98, _⟩ => ⟨S1x1x1x64, .f32⟩
  | .hbm, ⟨99, _⟩ => ⟨S32x1x8x64, .f32⟩
  | .hbm, ⟨100, _⟩ => ⟨S32x1x8x64, .f32⟩
  | .hbm, ⟨101, _⟩ => ⟨S32x1x8x64, .f32⟩
  | .hbm, ⟨102, _⟩ => ⟨S32x1x8x128, .f32⟩
  | .hbm, ⟨103, _⟩ => ⟨S32x1x1024, .f32⟩
  | .hbm, ⟨104, _⟩ => ⟨S32x1x1024, .f32⟩
  | .hbm, ⟨105, _⟩ => ⟨S_, .f32⟩
  | .hbm, ⟨106, _⟩ => ⟨S32x1x1024, .f32⟩
  | .hbm, ⟨107, _⟩ => ⟨S32x1x1024, .f32⟩
  | .hbm, ⟨108, _⟩ => ⟨S_, .f32⟩
  | .hbm, ⟨109, _⟩ => ⟨S32x1x1024, .f32⟩
  | .hbm, ⟨110, _⟩ => ⟨S32x1x1024, .f32⟩
  | .hbm, ⟨111, _⟩ => ⟨S32x1x1024, .f32⟩
  | .hbm, ⟨112, _⟩ => ⟨S32x1024, .f32⟩
  | .hbm, ⟨113, _⟩ => ⟨S32x1024, .f32⟩
  | .hbm, ⟨114, _⟩ => ⟨S32x1024, .f32⟩
  | .hbm, ⟨115, _⟩ => ⟨S32x1024, .f32⟩
  | .hbm, ⟨116, _⟩ => ⟨S32x1024, .bf16⟩
  | .hbm, ⟨117, _⟩ => ⟨S32x1024, .bf16⟩
  | _, _ => ⟨S32x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_2 : Ref sig .tc := ⟨.hbm, 33, rfl⟩
abbrev main_v26 : Ref sig .tc := ⟨.hbm, 34, rfl⟩
abbrev main_v27 : Ref sig .tc := ⟨.hbm, 35, rfl⟩
abbrev main_cst_3 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_cst_4 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_cst_5 : Ref sig .tc := ⟨.hbm, 71, rfl⟩
abbrev main_v61 : Ref sig .tc := ⟨.hbm, 72, rfl⟩
abbrev main_v62 : Ref sig .tc := ⟨.hbm, 73, rfl⟩
abbrev main_cst_6 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_call0_v0 : Ref sig .tc := ⟨.hbm, 103, rfl⟩
abbrev main_call0_v1 : Ref sig .tc := ⟨.hbm, 104, rfl⟩
abbrev main_call0_cst : Ref sig .tc := ⟨.hbm, 105, rfl⟩
abbrev main_call0_v2 : Ref sig .tc := ⟨.hbm, 106, rfl⟩
abbrev main_call0_v3 : Ref sig .tc := ⟨.hbm, 107, rfl⟩
abbrev main_call0_cst_0 : Ref sig .tc := ⟨.hbm, 108, rfl⟩
abbrev main_call0_v4 : Ref sig .tc := ⟨.hbm, 109, rfl⟩
abbrev main_call0_v5 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩

abbrev nD : Nat := 1
abbrev τ : Topo := Topo.v7x

variable {F : FTy → Type} [FloatOps F]
-- ==== Kernel4.lean ====
abbrev S16384x1024 : Shape := ⟨2, ![16384, 1024]⟩
abbrev S1x1024 : Shape := ⟨2, ![1, 1024]⟩
abbrev S1x1024x1024 : Shape := ⟨3, ![1, 1024, 1024]⟩
abbrev S1024x1024 : Shape := ⟨2, ![1024, 1024]⟩
abbrev S512x1024 : Shape := ⟨2, ![512, 1024]⟩
abbrev S512x256 : Shape := ⟨2, ![512, 256]⟩
abbrev S1x256 : Shape := ⟨2, ![1, 256]⟩
abbrev S512 : Shape := ⟨1, ![512]⟩
abbrev S512x1 : Shape := ⟨2, ![512, 1]⟩

abbrev nBuf : Space → Nat
  | .hbm => 19
  | .vmem => 21
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S16384x1024, .bf16⟩
  | .hbm, ⟨3, _⟩ => ⟨S16384x1024, .f32⟩
  | .hbm, ⟨4, _⟩ => ⟨S16384x1024, .bf16⟩
  | .hbm, ⟨5, _⟩ => ⟨S16384x1024, .bf16⟩
  | .hbm, ⟨6, _⟩ => ⟨S16384x1024, .bf16⟩
  | .hbm, ⟨7, _⟩ => ⟨S1x1024, .f32⟩
  | .hbm, ⟨8, _⟩ => ⟨S1x1024x1024, .f32⟩
  | .hbm, ⟨9, _⟩ => ⟨S1x1024x1024, .f32⟩
  | .hbm, ⟨10, _⟩ => ⟨S1x1024x1024, .f32⟩
  | .hbm, ⟨11, _⟩ => ⟨S1x1024, .f32⟩
  | .hbm, ⟨12, _⟩ => ⟨S1024x1024, .f32⟩
  | .hbm, ⟨13, _⟩ => ⟨S1024x1024, .bf16⟩
  | .hbm, ⟨14, _⟩ => ⟨S1024x1024, .f32⟩
  | .hbm, ⟨15, _⟩ => ⟨S1024x1024, .bf16⟩
  | .hbm, ⟨16, _⟩ => ⟨S1024x1024, .f32⟩
  | .hbm, ⟨17, _⟩ => ⟨S1024x1024, .bf16⟩
  | .hbm, ⟨18, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S1x1024, .f32⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | .local _ .vmem, ⟨18, _⟩ => ⟨S1x1024, .f32⟩
  | .local _ .vmem, ⟨19, _⟩ => ⟨S512x1024, .f32⟩
  | .local _ .vmem, ⟨20, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference4Ideal.lean ====
abbrev S16384x1024 : Shape := ⟨2, ![16384, 1024]⟩
abbrev S1x1024 : Shape := ⟨2, ![1, 1024]⟩
abbrev S1x1024x1024 : Shape := ⟨3, ![1, 1024, 1024]⟩
abbrev S16384x4x256 : Shape := ⟨3, ![16384, 4, 256]⟩
abbrev S1024 : Shape := ⟨1, ![1024]⟩
abbrev S4x256 : Shape := ⟨2, ![4, 256]⟩
abbrev S_ : Shape := ⟨0, ![]⟩
abbrev S16384x4 : Shape := ⟨2, ![16384, 4]⟩
abbrev S16384x4x1 : Shape := ⟨3, ![16384, 4, 1]⟩
abbrev S1x4x256 : Shape := ⟨3, ![1, 4, 256]⟩
abbrev S1024x1024 : Shape := ⟨2, ![1024, 1024]⟩
abbrev S16384 : Shape := ⟨1, ![16384]⟩
abbrev S16384x1 : Shape := ⟨2, ![16384, 1]⟩

abbrev nBuf : Space → Nat
  | .hbm => 66
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S16384x1024, .bf16⟩
  | .hbm, ⟨3, _⟩ => ⟨S16384x1024, .f32⟩
  | .hbm, ⟨4, _⟩ => ⟨S16384x1024, .bf16⟩
  | .hbm, ⟨5, _⟩ => ⟨S16384x1024, .bf16⟩
  | .hbm, ⟨6, _⟩ => ⟨S16384x1024, .bf16⟩
  | .hbm, ⟨7, _⟩ => ⟨S1x1024, .f32⟩
  | .hbm, ⟨8, _⟩ => ⟨S1x1024x1024, .f32⟩
  | .hbm, ⟨9, _⟩ => ⟨S1x1024x1024, .f32⟩
  | .hbm, ⟨10, _⟩ => ⟨S1x1024x1024, .f32⟩
  | .hbm, ⟨11, _⟩ => ⟨S1x1024, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S16384x4x256, .f32⟩
  | .hbm, ⟨16, _⟩ => ⟨S1024, .f32⟩
  | .hbm, ⟨17, _⟩ => ⟨S4x256, .f32⟩
  | .hbm, ⟨18, _⟩ => ⟨S16384x4x256, .f32⟩
  | .hbm, ⟨19, _⟩ => ⟨S_, .f32⟩
  | .hbm, ⟨20, _⟩ => ⟨S16384x4, .f32⟩
  | .hbm, ⟨21, _⟩ => ⟨S16384x4x1, .f32⟩
  | .hbm, ⟨22, _⟩ => ⟨S_, .f32⟩
  | .hbm, ⟨23, _⟩ => ⟨S16384x4x1, .f32⟩
  | .hbm, ⟨24, _⟩ => ⟨S16384x4x1, .f32⟩
  | .hbm, ⟨25, _⟩ => ⟨S_, .f32⟩
  | .hbm, ⟨26, _⟩ => ⟨S16384x4x1, .f32⟩
  | .hbm, ⟨27, _⟩ => ⟨S16384x4x1, .f32⟩
  | .hbm, ⟨28, _⟩ => ⟨S16384x4x1, .f32⟩
  | .hbm, ⟨29, _⟩ => ⟨S16384x4x256, .f32⟩
  | .hbm, ⟨30, _⟩ => ⟨S16384x4x256, .f32⟩
  | .hbm, ⟨31, _⟩ => ⟨S1x4x256, .f32⟩
  | .hbm, ⟨32, _⟩ => ⟨S16384x4x256, .f32⟩
  | .hbm, ⟨33, _⟩ => ⟨S16384x4x256, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S1024x1024, .f32⟩
  | .hbm, ⟨38, _⟩ => ⟨S16384x1024, .f32⟩
  | .hbm, ⟨39, _⟩ => ⟨S1024x1024, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S1024x1024, .f32⟩
  | .hbm, ⟨47, _⟩ => ⟨S16384x1024, .f32⟩
  | .hbm, ⟨48, _⟩ => ⟨S1024, .f32⟩
  | .hbm, ⟨49, _⟩ => ⟨S16384x1024, .f32⟩
  | .hbm, ⟨50, _⟩ => ⟨S_, .f32⟩
  | .hbm, ⟨51, _⟩ => ⟨S16384, .f32⟩
  | .hbm, ⟨52, _⟩ => ⟨S16384x1, .f32⟩
  | .hbm, ⟨53, _⟩ => ⟨S_, .f32⟩
  | .hbm, ⟨54, _⟩ => ⟨S16384x1, .f32⟩
  | .hbm, ⟨55, _⟩ => ⟨S16384x1, .f32⟩
  | .hbm, ⟨56, _⟩ => ⟨S_, .f32⟩
  | .hbm, ⟨57, _⟩ => ⟨S16384x1, .f32⟩
  | .hbm, ⟨58, _⟩ => ⟨S16384x1, .f32⟩
  | .hbm, ⟨59, _⟩ => ⟨S16384x1, .f32⟩
  | .hbm, ⟨60, _⟩ => ⟨S16384x1024, .f32⟩
  | .hbm, ⟨61, _⟩ => ⟨S16384x1024, .f32⟩
  | .hbm, ⟨62, _⟩ => ⟨S1x1024, .f32⟩
  | .hbm, ⟨63, _⟩ => ⟨S16384x1024, .f32⟩
  | .hbm, ⟨64, _⟩ => ⟨S16384x1024, .f32⟩
  | .hbm, ⟨65, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_2 : Ref sig .tc := ⟨.hbm, 50, rfl⟩
abbrev main_v35 : Ref sig .tc := ⟨.hbm, 51, rfl⟩
abbrev main_v36 : Ref sig .tc := ⟨.hbm, 52, rfl⟩
abbrev main_cst_3 : Ref sig .tc := ⟨.hbm, 53, rfl⟩
abbrev main_v37 : Ref sig .tc := ⟨.hbm, 54, rfl⟩
abbrev main_v38 : Ref sig .tc := ⟨.hbm, 55, rfl⟩
abbrev main_cst_4 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩

abbrev nD : Nat := 1
abbrev τ : Topo := Topo.v7x

variable {F : FTy → Type} [FloatOps F]
-- ==== Kernel5.lean ====
abbrev S32x512 : Shape := ⟨2, ![32, 512]⟩
abbrev S32x1024 : Shape := ⟨2, ![32, 1024]⟩
abbrev S32x4x128x256 : Shape := ⟨4, ![32, 4, 128, 256]⟩
abbrev S32x1x512 : Shape := ⟨3, ![32, 1, 512]⟩
abbrev S32x1x1024 : Shape := ⟨3, ![32, 1, 1024]⟩
abbrev S1x1x512 : Shape := ⟨3, ![1, 1, 512]⟩
abbrev S1x1x1024 : Shape := ⟨3, ![1, 1, 1024]⟩
abbrev S1x4x128x256 : Shape := ⟨4, ![1, 4, 128, 256]⟩
abbrev S1x1x128 : Shape := ⟨3, ![1, 1, 128]⟩
abbrev S1x128 : Shape := ⟨2, ![1, 128]⟩
abbrev S128x128 : Shape := ⟨2, ![128, 128]⟩
abbrev S128 : Shape := ⟨1, ![128]⟩
abbrev S128x1 : Shape := ⟨2, ![128, 1]⟩
abbrev S1x1x128x256 : Shape := ⟨4, ![1, 1, 128, 256]⟩
abbrev S128x256 : Shape := ⟨2, ![128, 256]⟩
abbrev S1x1x256 : Shape := ⟨3, ![1, 1, 256]⟩
abbrev S1x256 : Shape := ⟨2, ![1, 256]⟩
abbrev S256 : Shape := ⟨1, ![256]⟩

abbrev nBuf : Space → Nat
  | .hbm => 11
  | .vmem => 14
  | .smem => 0
  | _ => 0

abbrev bufTy : (tb : Table) → Fin (tcTables nBuf tb) → BufTy
  | .hbm, ⟨0, _⟩ => ⟨S32x512, .f32⟩
  | .hbm, ⟨1, _⟩ => ⟨S32x512, .f32⟩
  | .hbm, ⟨2, _⟩ => ⟨S32x1024, .f32⟩
  | .hbm, ⟨3, _⟩ => ⟨S32x512, .f32⟩
  | .hbm, ⟨4, _⟩ => ⟨S32x4x128x256, .f32⟩
  | .hbm, ⟨5, _⟩ => ⟨S32x1x512, .f32⟩
  | .hbm, ⟨6, _⟩ => ⟨S32x1x512, .f32⟩
  | .hbm, ⟨7, _⟩ => ⟨S32x1x1024, .f32⟩
  | .hbm, ⟨8, _⟩ => ⟨S32x1x512, .f32⟩
  | .hbm, ⟨9, _⟩ => ⟨S32x1x1024, .f32⟩
  | .hbm, ⟨10, _⟩ => ⟨S32x4x128x256, .f32⟩
  | .local _ .vmem, ⟨0, _⟩ => ⟨S1x1x512, .f32⟩
  | .local _ .vmem, ⟨1, _⟩ => ⟨S1x1x512, .f32⟩
  | .local _ .vmem, ⟨2, _⟩ => ⟨S1x1x512, .f32⟩
  | .local _ .vmem, ⟨3, _⟩ => ⟨S1x1x512, .f32⟩
  | .local _ .vmem, ⟨4, _⟩ => ⟨S1x1x1024, .f32⟩
  | .local _ .vmem, ⟨5, _⟩ => ⟨S1x1x1024, .f32⟩
  | .local _ .vmem, ⟨6, _⟩ => ⟨S1x1x512, .f32⟩
  | .local _ .vmem, ⟨7, _⟩ => ⟨S1x1x512, .f32⟩
  | .local _ .vmem, ⟨8, _⟩ => ⟨S1x4x128x256, .f32⟩
  | .local _ .vmem, ⟨9, _⟩ => ⟨S1x4x128x256, .f32⟩
  | .local _ .vmem, ⟨10, _⟩ => ⟨S1x1x1024, .f32⟩
  | .local _ .vmem, ⟨11, _⟩ => ⟨S1x1x1024, .f32⟩
  | .local _ .vmem, ⟨12, _⟩ => ⟨S1x4x128x256, .f32⟩
  | .local _ .vmem, ⟨13, _⟩ => ⟨S1x4x128x256, .f32⟩
  | _, _ => ⟨S32x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x1x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4x128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x4x128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference5Ideal.lean ====
abbrev S32x512 : Shape := ⟨2, ![32, 512]⟩
abbrev S32x1024 : Shape := ⟨2, ![32, 1024]⟩
abbrev S32x4x128x256 : Shape := ⟨4, ![32, 4, 128, 256]⟩
abbrev S32x4x128 : Shape := ⟨3, ![32, 4, 128]⟩
abbrev S32x4x256 : Shape := ⟨3, ![32, 4, 256]⟩
abbrev S32x4x128x1 : Shape := ⟨4, ![32, 4, 128, 1]⟩
abbrev S32x4x1x256 : Shape := ⟨4, ![32, 4, 1, 256]⟩
abbrev S32x1x1024 : Shape := ⟨3, ![32, 1, 1024]⟩

abbrev nBuf : Space → Nat
  | .hbm => 21
  | .vmem => 0
  | .smem => 0
  | _ => 0

abbrev bufTy : (tb : Table) → Fin (tcTables nBuf tb) → BufTy
  | .hbm, ⟨0, _⟩ => ⟨S32x512, .f32⟩
  | .hbm, ⟨1, _⟩ => ⟨S32x512, .f32⟩
  | .hbm, ⟨2, _⟩ => ⟨S32x1024, .f32⟩
  | .hbm, ⟨3, _⟩ => ⟨S32x512, .f32⟩
  | .hbm, ⟨4, _⟩ => ⟨S32x4x128x256, .f32⟩
  | .hbm, ⟨5, _⟩ => ⟨S32x4x128, .f32⟩
  | .hbm, ⟨6, _⟩ => ⟨S32x4x128, .f32⟩
  | .hbm, ⟨7, _⟩ => ⟨S32x4x128, .f32⟩
  | .hbm, ⟨8, _⟩ => ⟨S32x4x256, .f32⟩
  | .hbm, ⟨9, _⟩ => ⟨S32x4x128, .f32⟩
  | .hbm, ⟨10, _⟩ => ⟨S32x4x128x1, .f32⟩
  | .hbm, ⟨11, _⟩ => ⟨S32x4x128x256, .f32⟩
  | .hbm, ⟨12, _⟩ => ⟨S32x4x128x256, .f32⟩
  | .hbm, ⟨13, _⟩ => ⟨S32x4x128x1, .f32⟩
  | .hbm, ⟨14, _⟩ => ⟨S32x4x1x256, .f32⟩
  | .hbm, ⟨15, _⟩ => ⟨S32x4x128x256, .f32⟩
  | .hbm, ⟨16, _⟩ => ⟨S32x4x128x256, .f32⟩
  | .hbm, ⟨17, _⟩ => ⟨S32x4x128x256, .f32⟩
  | .hbm, ⟨18, _⟩ => ⟨S32x4x128x256, .f32⟩
  | .hbm, ⟨19, _⟩ => ⟨S32x4x256, .f32⟩
  | .hbm, ⟨20, _⟩ => ⟨S32x1x1024, .f32⟩
  | _, _ => ⟨S32x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== Kernel6.lean ====
abbrev S4x4096x1024 : Shape := ⟨3, ![4, 4096, 1024]⟩
abbrev S1x1024 : Shape := ⟨2, ![1, 1024]⟩
abbrev S1x1024x9556 : Shape := ⟨3, ![1, 1024, 9556]⟩
abbrev S1x64 : Shape := ⟨2, ![1, 64]⟩
abbrev S1x16x512 : Shape := ⟨3, ![1, 16, 512]⟩
abbrev S1x512 : Shape := ⟨2, ![1, 512]⟩
abbrev S1024x9556 : Shape := ⟨2, ![1024, 9556]⟩
abbrev S1024x2048 : Shape := ⟨2, ![1024, 2048]⟩
abbrev S1024x3072 : Shape := ⟨2, ![1024, 3072]⟩
abbrev S1024x5120 : Shape := ⟨2, ![1024, 5120]⟩
abbrev S1024x324 : Shape := ⟨2, ![1024, 324]⟩
abbrev S1024x16 : Shape := ⟨2, ![1024, 16]⟩
abbrev S_ : Shape := ⟨0, ![]⟩
abbrev S1024x44 : Shape := ⟨2, ![1024, 44]⟩
abbrev S1024x384 : Shape := ⟨2, ![1024, 384]⟩
abbrev S3072x384 : Shape := ⟨2, ![3072, 384]⟩
abbrev S128x512 : Shape := ⟨2, ![128, 512]⟩
abbrev S16x512 : Shape := ⟨2, ![16, 512]⟩
abbrev S1 : Shape := ⟨1, ![1]⟩
abbrev S1x128 : Shape := ⟨2, ![1, 128]⟩
abbrev S64 : Shape := ⟨1, ![64]⟩
abbrev S2 : Shape := ⟨1, ![2]⟩
abbrev S4096 : Shape := ⟨1, ![4096]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S16384x1024 : Shape := ⟨2, ![16384, 1024]⟩
abbrev S16384x512 : Shape := ⟨2, ![16384, 512]⟩
abbrev S32x1024x512 : Shape := ⟨3, ![32, 1024, 512]⟩
abbrev S16384x256 : Shape := ⟨2, ![16384, 256]⟩
abbrev S16384x128 : Shape := ⟨2, ![16384, 128]⟩
abbrev S512x1024 : Shape := ⟨2, ![512, 1024]⟩
abbrev S512x128 : Shape := ⟨2, ![512, 128]⟩
abbrev S512x512 : Shape := ⟨2, ![512, 512]⟩
abbrev S1x1024x512 : Shape := ⟨3, ![1, 1024, 512]⟩
abbrev S512x256 : Shape := ⟨2, ![512, 256]⟩
abbrev S512 : Shape := ⟨1, ![512]⟩
abbrev S512x1 : Shape := ⟨2, ![512, 1]⟩
abbrev S1024x512 : Shape := ⟨2, ![1024, 512]⟩
abbrev S1024x1024 : Shape := ⟨2, ![1024, 1024]⟩
abbrev S512x3072 : Shape := ⟨2, ![512, 3072]⟩
abbrev S512x384 : Shape := ⟨2, ![512, 384]⟩

abbrev nBuf : Space → Nat
  | .hbm => 73
  | .vmem => 32
  | .smem => 0
  | _ => 0

abbrev bufTy : (tb : Table) → Fin (tcTables nBuf tb) → BufTy
  | .hbm, ⟨0, _⟩ => ⟨S4x4096x1024, .f32⟩
  | .hbm, ⟨1, _⟩ => ⟨S1x1024, .f32⟩
  | .hbm, ⟨2, _⟩ => ⟨S1x1024x9556, .f32⟩
  | .hbm, ⟨3, _⟩ => ⟨S1x64, .f32⟩
  | .hbm, ⟨4, _⟩ => ⟨S1x16x512, .f32⟩
  | .hbm, ⟨5, _⟩ => ⟨S1x512, .f32⟩
  | .hbm, ⟨6, _⟩ => ⟨S1024x9556, .f32⟩
  | .hbm, ⟨7, _⟩ => ⟨S1024x2048, .f32⟩
  | .hbm, ⟨8, _⟩ => ⟨S1024x3072, .f32⟩
  | .hbm, ⟨9, _⟩ => ⟨S1024x5120, .f32⟩
  | .hbm, ⟨10, _⟩ => ⟨S1024x5120, .bf16⟩
  | .hbm, ⟨11, _⟩ => ⟨S1024x324, .f32⟩
  | .hbm, ⟨12, _⟩ => ⟨S1024x16, .f32⟩
  | .hbm, ⟨13, _⟩ => ⟨S_, .f32⟩
  | .hbm, ⟨14, _⟩ => ⟨S1024x44, .f32⟩
  | .hbm, ⟨15, _⟩ => ⟨S1024x384, .f32⟩
  | .hbm, ⟨16, _⟩ => ⟨S1024x384, .bf16⟩
  | .hbm, ⟨17, _⟩ => ⟨S1024x384, .f32⟩
  | .hbm, ⟨18, _⟩ => ⟨S1024x384, .f32⟩
  | .hbm, ⟨19, _⟩ => ⟨S1024x384, .bf16⟩
  | .hbm, ⟨20, _⟩ => ⟨S3072x384, .bf16⟩
  | .hbm, ⟨21, _⟩ => ⟨S_, .f32⟩
  | .hbm, ⟨22, _⟩ => ⟨S128x512, .f32⟩
  | .hbm, ⟨23, _⟩ => ⟨S16x512, .f32⟩
  | .hbm, ⟨24, _⟩ => ⟨S_, .i32⟩
  | .hbm, ⟨25, _⟩ => ⟨S1, .i32⟩
  | .hbm, ⟨26, _⟩ => ⟨S128x512, .f32⟩
  | .hbm, ⟨27, _⟩ => ⟨S_, .f32⟩
  | .hbm, ⟨28, _⟩ => ⟨S1x128, .f32⟩
  | .hbm, ⟨29, _⟩ => ⟨S64, .f32⟩
  | .hbm, ⟨30, _⟩ => ⟨S_, .i32⟩
  | .hbm, ⟨31, _⟩ => ⟨S1, .i32⟩
  | .hbm, ⟨32, _⟩ => ⟨S_, .i32⟩
  | .hbm, ⟨33, _⟩ => ⟨S1, .i32⟩
  | .hbm, ⟨34, _⟩ => ⟨S2, .i32⟩
  | .hbm, ⟨35, _⟩ => ⟨S1x128, .f32⟩
  | .hbm, ⟨36, _⟩ => ⟨S4096, .i32⟩
  | .hbm, ⟨37, _⟩ => ⟨S32, .f32⟩
  | .hbm, ⟨38, _⟩ => ⟨S32, .f32⟩
  | .hbm, ⟨39, _⟩ => ⟨S_, .f32⟩
  | .hbm, ⟨40, _⟩ => ⟨S32, .f32⟩
  | .hbm, ⟨41, _⟩ => ⟨S32, .f32⟩
  | .hbm, ⟨42, _⟩ => ⟨S_, .f32⟩
  | .hbm, ⟨43, _⟩ => ⟨S32, .f32⟩
  | .hbm, ⟨44, _⟩ => ⟨S32, .f32⟩
  | .hbm, ⟨45, _⟩ => ⟨S4096, .f32⟩
  | .hbm, ⟨46, _⟩ => ⟨S4096x1, .f32⟩
  | .hbm, ⟨47, _⟩ => ⟨S1x32, .f32⟩
  | .hbm, ⟨48, _⟩ => ⟨S4096x32, .f32⟩
  | .hbm, ⟨49, _⟩ => ⟨S4096x32, .f32⟩
  | .hbm, ⟨50, _⟩ => ⟨S4096x32, .f32⟩
  | .hbm, ⟨51, _⟩ => ⟨S4096x32, .f32⟩
  | .hbm, ⟨52, _⟩ => ⟨S4096x32, .f32⟩
  | .hbm, ⟨53, _⟩ => ⟨S4096x64, .f32⟩
  | .hbm, ⟨54, _⟩ => ⟨S1x4096x1x64, .f32⟩
  | .hbm, ⟨55, _⟩ => ⟨S1x4096x2x64, .f32⟩
  | .hbm, ⟨56, _⟩ => ⟨S4096x128, .f32⟩
  | .hbm, ⟨57, _⟩ => ⟨S4096x32, .f32⟩
  | .hbm, ⟨58, _⟩ => ⟨S4096x64, .f32⟩
  | .hbm, ⟨59, _⟩ => ⟨S1x4096x1x64, .f32⟩
  | .hbm, ⟨60, _⟩ => ⟨S1x4096x2x64, .f32⟩
  | .hbm, ⟨61, _⟩ => ⟨S4096x128, .f32⟩
  | .hbm, ⟨62, _⟩ => ⟨S16384x1024, .f32⟩
  | .hbm, ⟨63, _⟩ => ⟨S16384x512, .f32⟩
  | .hbm, ⟨64, _⟩ => ⟨S16384x512, .f32⟩
  | .hbm, ⟨65, _⟩ => ⟨S16384x1024, .f32⟩
  | .hbm, ⟨66, _⟩ => ⟨S16384x512, .f32⟩
  | .hbm, ⟨67, _⟩ => ⟨S16384x1024, .bf16⟩
  | .hbm, ⟨68, _⟩ => ⟨S16384x1024, .bf16⟩
  | .hbm, ⟨69, _⟩ => ⟨S16384x1024, .bf16⟩
  | .hbm, ⟨70, _⟩ => ⟨S32x1024x512, .bf16⟩
  | .hbm, ⟨71, _⟩ => ⟨S16384x256, .bf16⟩
  | .hbm, ⟨72, _⟩ => ⟨S16384x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5120, .bf16⟩
  | .local _ .vmem, ⟨4, _⟩ => ⟨S3072x384, .bf16⟩
  | .local _ .vmem, ⟨5, _⟩ => ⟨S1x128, .f32⟩
  | .local _ .vmem, ⟨6, _⟩ => ⟨S128x512, .f32⟩
  | .local _ .vmem, ⟨7, _⟩ => ⟨S1x512, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x1024, .f32⟩
  | .local _ .vmem, ⟨17, _⟩ => ⟨S512x1024, .f32⟩
  | .local _ .vmem, ⟨18, _⟩ => ⟨S512x512, .f32⟩
  | .local _ .vmem, ⟨19, _⟩ => ⟨S512x512, .f32⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S512x1024, .bf16⟩
  | .local _ .vmem, ⟨26, _⟩ => ⟨S1x1024x512, .bf16⟩
  | .local _ .vmem, ⟨27, _⟩ => ⟨S1x1024x512, .bf16⟩
  | .local _ .vmem, ⟨28, _⟩ => ⟨S512x256, .bf16⟩
  | .local _ .vmem, ⟨29, _⟩ => ⟨S512x256, .bf16⟩
  | .local _ .vmem, ⟨30, _⟩ => ⟨S512x128, .f32⟩
  | .local _ .vmem, ⟨31, _⟩ => ⟨S512x128, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_c : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_c_2 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49_0 : Ref sig .tc := ⟨.hbm, 63, rfl⟩
abbrev main_v49_1 : Ref sig .tc := ⟨.hbm, 64, rfl⟩
abbrev main_v49_2 : Ref sig .tc := ⟨.hbm, 65, rfl⟩
abbrev main_v49_3 : Ref sig .tc := ⟨.hbm, 66, rfl⟩
abbrev main_v49_4 : Ref sig .tc := ⟨.hbm, 67, rfl⟩
abbrev main_v49_5 : Ref sig .tc := ⟨.hbm, 68, rfl⟩
abbrev main_v49_6 : Ref sig .tc := ⟨.hbm, 69, rfl⟩
abbrev main_v49_7 : Ref sig .tc := ⟨.hbm, 70, rfl⟩
abbrev main_v49_8 : Ref sig .tc := ⟨.hbm, 71, rfl⟩
abbrev main_v49_9 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5120 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3072x384 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x1024x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== Reference6Ideal.lean ====
abbrev S4x4096x1024 : Shape := ⟨3, ![4, 4096, 1024]⟩
abbrev S1x1024 : Shape := ⟨2, ![1, 1024]⟩
abbrev S1x1024x9556 : Shape := ⟨3, ![1, 1024, 9556]⟩
abbrev S1x64 : Shape := ⟨2, ![1, 64]⟩
abbrev S1x16x512 : Shape := ⟨3, ![1, 16, 512]⟩
abbrev S1x512 : Shape := ⟨2, ![1, 512]⟩
abbrev S4096 : Shape := ⟨1, ![4096]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1024x9556 : Shape := ⟨2, ![1024, 9556]⟩
abbrev S4x4096x9556 : Shape := ⟨3, ![4, 4096, 9556]⟩
abbrev S4x4096x256 : Shape := ⟨3, ![4, 4096, 256]⟩
abbrev S4x4096x64 : Shape := ⟨3, ![4, 4096, 64]⟩
abbrev S4x4096x4 : Shape := ⟨3, ![4, 4096, 4]⟩
abbrev S4x4096x512 : Shape := ⟨3, ![4, 4096, 512]⟩
abbrev S4x4096x16 : Shape := ⟨3, ![4, 4096, 16]⟩
abbrev S4x4096x4x64 : Shape := ⟨4, ![4, 4096, 4, 64]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S4096x1x32 : Shape := ⟨3, ![4096, 1, 32]⟩
abbrev S4x4096x4x32 : Shape := ⟨4, ![4, 4096, 4, 32]⟩
abbrev S1x4096x1x32 : Shape := ⟨4, ![1, 4096, 1, 32]⟩
abbrev S64 : Shape := ⟨1, ![64]⟩
abbrev S1x1x64 : Shape := ⟨3, ![1, 1, 64]⟩
abbrev S4x4096x1x64 : Shape := ⟨4, ![4, 4096, 1, 64]⟩
abbrev S4x4096x1x32 : Shape := ⟨4, ![4, 4096, 1, 32]⟩
abbrev S16x512 : Shape := ⟨2, ![16, 512]⟩
abbrev S512 : Shape := ⟨1, ![512]⟩
abbrev S1x1x512 : Shape := ⟨3, ![1, 1, 512]⟩
abbrev S4x4096x44 : Shape := ⟨3, ![4, 4096, 44]⟩
abbrev S4x4096x128 : Shape := ⟨3, ![4, 4096, 128]⟩
abbrev S16384x512 : Shape := ⟨2, ![16384, 512]⟩
abbrev S16384x1024 : Shape := ⟨2, ![16384, 1024]⟩
abbrev S16384x256 : Shape := ⟨2, ![16384, 256]⟩
abbrev S16384x128 : Shape := ⟨2, ![16384, 128]⟩

abbrev nBuf : Space → Nat
  | .hbm => 197
  | .vmem => 0
  | .smem => 0
  | _ => 0

abbrev hbmTy0_0 (i : Nat) : BufTy := match i % 128 with
  | 0 => ⟨S4x4096x1024, .f32⟩
  | 1 => ⟨S1x1024, .f32⟩
  | 2 => ⟨S1x1024x9556, .f32⟩
  | 3 => ⟨S1x64, .f32⟩
  | 4 => ⟨S1x16x512, .f32⟩
  | 5 => ⟨S1x512, .f32⟩
  | 6 => ⟨S4096, .i32⟩
  | 7 => ⟨S1024, .f32⟩
  | 8 => ⟨S4x4096x1024, .f32⟩
  | 9 => ⟨S_, .f32⟩
  | 10 => ⟨S4x4096, .f32⟩
  | 11 => ⟨S4x4096x1, .f32⟩
  | 12 => ⟨S_, .f32⟩
  | 13 => ⟨S4x4096x1, .f32⟩
  | 14 => ⟨S4x4096x1, .f32⟩
  | 15 => ⟨S_, .f32⟩
  | 16 => ⟨S4x4096x1, .f32⟩
  | 17 => ⟨S4x4096x1, .f32⟩
  | 18 => ⟨S4x4096x1, .f32⟩
  | 19 => ⟨S4x4096x1024, .f32⟩
  | 20 => ⟨S4x4096x1024, .f32⟩
  | 21 => ⟨S1x1x1024, .f32⟩
  | 22 => ⟨S4x4096x1024, .f32⟩
  | 23 => ⟨S4x4096x1024, .f32⟩
  | 24 => ⟨S1024x9556, .f32⟩
  | 25 => ⟨S4x4096x9556, .f32⟩
  | 26 => ⟨S4x4096x256, .f32⟩
  | 27 => ⟨S4x4096x64, .f32⟩
  | 28 => ⟨S4x4096x4, .f32⟩
  | 29 => ⟨S4x4096x512, .f32⟩
  | 30 => ⟨S4x4096x512, .f32⟩
  | 31 => ⟨S4x4096x1024, .f32⟩
  | 32 => ⟨S4x4096x16, .f32⟩
  | 33 => ⟨S4x4096x1024, .f32⟩
  | 34 => ⟨S4x4096x1024, .f32⟩
  | 35 => ⟨S4x4096x1024, .f32⟩
  | 36 => ⟨S4x4096x4x64, .f32⟩
  | 37 => ⟨S32, .f32⟩
  | 38 => ⟨S32, .f32⟩
  | 39 => ⟨S_, .f32⟩
  | 40 => ⟨S32, .f32⟩
  | 41 => ⟨S32, .f32⟩
  | 42 => ⟨S_, .f32⟩
  | 43 => ⟨S32, .f32⟩
  | 44 => ⟨S32, .f32⟩
  | 45 => ⟨S4096, .f32⟩
  | 46 => ⟨S4096x1, .f32⟩
  | 47 => ⟨S1x32, .f32⟩
  | 48 => ⟨S4096x32, .f32⟩
  | 49 => ⟨S4096x32, .f32⟩
  | 50 => ⟨S4096x32, .f32⟩
  | 51 => ⟨S4096x32, .f32⟩
  | 52 => ⟨S4096x1x32, .f32⟩
  | 53 => ⟨S4096x32, .f32⟩
  | 54 => ⟨S4096x1x32, .f32⟩
  | 55 => ⟨S4x4096x4x32, .f32⟩
  | 56 => ⟨S4x4096x4x32, .f32⟩
  | 57 => ⟨S1x4096x1x32, .f32⟩
  | 58 => ⟨S4x4096x4x32, .f32⟩
  | 59 => ⟨S4x4096x4x32, .f32⟩
  | 60 => ⟨S1x4096x1x32, .f32⟩
  | 61 => ⟨S4x4096x4x32, .f32⟩
  | 62 => ⟨S4x4096x4x32, .f32⟩
  | 63 => ⟨S4x4096x4x32, .f32⟩
  | 64 => ⟨S1x4096x1x32, .f32⟩
  | 65 => ⟨S4x4096x4x32, .f32⟩
  | 66 => ⟨S4x4096x4x32, .f32⟩
  | 67 => ⟨S1x4096x1x32, .f32⟩
  | 68 => ⟨S4x4096x4x32, .f32⟩
  | 69 => ⟨S4x4096x4x32, .f32⟩
  | 70 => ⟨S4x4096x4x32, .f32⟩
  | 71 => ⟨S4x4096x4x64, .f32⟩
  | 72 => ⟨S64, .f32⟩
  | 73 => ⟨S4x4096x64, .f32⟩
  | 74 => ⟨S_, .f32⟩
  | 75 => ⟨S4x4096, .f32⟩
  | 76 => ⟨S4x4096x1, .f32⟩
  | 77 => ⟨S_, .f32⟩
  | 78 => ⟨S4x4096x1, .f32⟩
  | 79 => ⟨S4x4096x1, .f32⟩
  | 80 => ⟨S_, .f32⟩
  | 81 => ⟨S4x4096x1, .f32⟩
  | 82 => ⟨S4x4096x1, .f32⟩
  | 83 => ⟨S4x4096x1, .f32⟩
  | 84 => ⟨S4x4096x64, .f32⟩
  | 85 => ⟨S4x4096x64, .f32⟩
  | 86 => ⟨S1x1x64, .f32⟩
  | 87 => ⟨S4x4096x64, .f32⟩
  | 88 => ⟨S4x4096x64, .f32⟩
  | 89 => ⟨S4x4096x1x64, .f32⟩
  | 90 => ⟨S32, .f32⟩
  | 91 => ⟨S32, .f32⟩
  | 92 => ⟨S_, .f32⟩
  | 93 => ⟨S32, .f32⟩
  | 94 => ⟨S32, .f32⟩
  | 95 => ⟨S_, .f32⟩
  | 96 => ⟨S32, .f32⟩
  | 97 => ⟨S32, .f32⟩
  | 98 => ⟨S4096, .f32⟩
  | 99 => ⟨S4096x1, .f32⟩
  | 100 => ⟨S1x32, .f32⟩
  | 101 => ⟨S4096x32, .f32⟩
  | 102 => ⟨S4096x32, .f32⟩
  | 103 => ⟨S4096x32, .f32⟩
  | 104 => ⟨S4096x32, .f32⟩
  | 105 => ⟨S4096x1x32, .f32⟩
  | 106 => ⟨S4096x32, .f32⟩
  | 107 => ⟨S4096x1x32, .f32⟩
  | 108 => ⟨S4x4096x1x32, .f32⟩
  | 109 => ⟨S4x4096x1x32, .f32⟩
  | 110 => ⟨S1x4096x1x32, .f32⟩
  | 111 => ⟨S4x4096x1x32, .f32⟩
  | 112 => ⟨S4x4096x1x32, .f32⟩
  | 113 => ⟨S1x4096x1x32, .f32⟩
  | 114 => ⟨S4x4096x1x32, .f32⟩
  | 115 => ⟨S4x4096x1x32, .f32⟩
  | 116 => ⟨S4x4096x1x32, .f32⟩
  | 117 => ⟨S1x4096x1x32, .f32⟩
  | 118 => ⟨S4x4096x1x32, .f32⟩
  | 119 => ⟨S4x4096x1x32, .f32⟩
  | 120 => ⟨S1x4096x1x32, .f32⟩
  | 121 => ⟨S4x4096x1x32, .f32⟩
  | 122 => ⟨S4x4096x1x32, .f32⟩
  | 123 => ⟨S4x4096x1x32, .f32⟩
  | 124 => ⟨S4x4096x1x64, .f32⟩
  | 125 => ⟨S4x4096x64, .f32⟩
  | 126 => ⟨S_, .f32⟩
  | 127 => ⟨S4x4096x4, .f32⟩
  | _ => ⟨S4x4096x1024, .f32⟩

abbrev hbmTy0_1 (i : Nat) : BufTy := match i % 128 with
  | 0 => ⟨S4x4096x4, .f32⟩
  | 1 => ⟨S_, .f32⟩
  | 2 => ⟨S4x4096x512, .f32⟩
  | 3 => ⟨S4x4096x512, .f32⟩
  | 4 => ⟨S16x512, .f32⟩
  | 5 => ⟨S4x4096x512, .f32⟩
  | 6 => ⟨S512, .f32⟩
  | 7 => ⟨S1x1x512, .f32⟩
  | 8 => ⟨S4x4096x512, .f32⟩
  | 9 => ⟨S4x4096x512, .f32⟩
  | 10 => ⟨S4x4096x512, .f32⟩
  | 11 => ⟨S_, .f32⟩
  | 12 => ⟨S4x4096x512, .f32⟩
  | 13 => ⟨S4x4096x512, .f32⟩
  | 14 => ⟨S4x4096x512, .f32⟩
  | 15 => ⟨S4x4096x512, .f32⟩
  | 16 => ⟨S4x4096x512, .i1⟩
  | 17 => ⟨S4x4096x512, .f32⟩
  | 18 => ⟨S4x4096x512, .f32⟩
  | 19 => ⟨S4x4096x512, .f32⟩
  | 20 => ⟨S4x4096x512, .f32⟩
  | 21 => ⟨S4x4096x512, .f32⟩
  | 22 => ⟨S4x4096x512, .f32⟩
  | 23 => ⟨S4x4096x512, .f32⟩
  | 24 => ⟨S4x4096x512, .f32⟩
  | 25 => ⟨S4x4096x512, .f32⟩
  | 26 => ⟨S_, .f32⟩
  | 27 => ⟨S4x4096x512, .f32⟩
  | 28 => ⟨S4x4096x512, .f32⟩
  | 29 => ⟨S_, .f32⟩
  | 30 => ⟨S4x4096x44, .f32⟩
  | 31 => ⟨S4x4096x128, .f32⟩
  | 32 => ⟨S16384x512, .f32⟩
  | 33 => ⟨S16384x512, .f32⟩
  | 34 => ⟨S16384x1024, .f32⟩
  | 35 => ⟨S16384x512, .f32⟩
  | 36 => ⟨S4x4096x1024, .f32⟩
  | 37 => ⟨S4x4096x1024, .f32⟩
  | 38 => ⟨S_, .f32⟩
  | 39 => ⟨S4x4096x1024, .f32⟩
  | 40 => ⟨S4x4096x1024, .f32⟩
  | 41 => ⟨S_, .f32⟩
  | 42 => ⟨S4x4096x1024, .f32⟩
  | 43 => ⟨S4x4096x1024, .f32⟩
  | 44 => ⟨S4x4096x1024, .f32⟩
  | 45 => ⟨S16384x1024, .f32⟩
  | 46 => ⟨S16384x1024, .bf16⟩
  | 47 => ⟨S4x4096x1024, .f32⟩
  | 48 => ⟨S4x4096x1024, .f32⟩
  | 49 => ⟨S_, .f32⟩
  | 50 => ⟨S4x4096x1024, .f32⟩
  | 51 => ⟨S4x4096x1024, .f32⟩
  | 52 => ⟨S_, .f32⟩
  | 53 => ⟨S4x4096x1024, .f32⟩
  | 54 => ⟨S4x4096x1024, .f32⟩
  | 55 => ⟨S16384x1024, .f32⟩
  | 56 => ⟨S16384x1024, .bf16⟩
  | 57 => ⟨S4x4096x1024, .f32⟩
  | 58 => ⟨S4x4096x1024, .f32⟩
  | 59 => ⟨S_, .f32⟩
  | 60 => ⟨S4x4096x1024, .f32⟩
  | 61 => ⟨S4x4096x1024, .f32⟩
  | 62 => ⟨S_, .f32⟩
  | 63 => ⟨S4x4096x1024, .f32⟩
  | 64 => ⟨S4x4096x1024, .f32⟩
  | 65 => ⟨S16384x1024, .f32⟩
  | 66 => ⟨S16384x1024, .bf16⟩
  | 67 => ⟨S16384x256, .f32⟩
  | 68 => ⟨S16384x128, .f32⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_2 : Ref sig .tc := ⟨.hbm, 39, rfl⟩
abbrev main_v30 : Ref sig .tc := ⟨.hbm, 40, rfl⟩
abbrev main_v31 : Ref sig .tc := ⟨.hbm, 41, rfl⟩
abbrev main_cst_3 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_cst_4 : Ref sig .tc := ⟨.hbm, 74, rfl⟩
abbrev main_v63 : Ref sig .tc := ⟨.hbm, 75, rfl⟩
abbrev main_v64 : Ref sig .tc := ⟨.hbm, 76, rfl⟩
abbrev main_cst_5 : Ref sig .tc := ⟨.hbm, 77, rfl⟩
abbrev main_v65 : Ref sig .tc := ⟨.hbm, 78, rfl⟩
abbrev main_v66 : Ref sig .tc := ⟨.hbm, 79, rfl⟩
abbrev main_cst_6 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_cst_7 : Ref sig .tc := ⟨.hbm, 92, rfl⟩
abbrev main_v78 : Ref sig .tc := ⟨.hbm, 93, rfl⟩
abbrev main_v79 : Ref sig .tc := ⟨.hbm, 94, rfl⟩
abbrev main_cst_8 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_cst_9 : Ref sig .tc := ⟨.hbm, 126, rfl⟩
abbrev main_v110 : Ref sig .tc := ⟨.hbm, 127, rfl⟩
abbrev main_v111 : Ref sig .tc := ⟨.hbm, 128, rfl⟩
abbrev main_cst_10 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_call0_v0 : Ref sig .tc := ⟨.hbm, 138, rfl⟩
abbrev main_call0_call0_cst : Ref sig .tc := ⟨.hbm, 139, rfl⟩
abbrev main_call0_call0_v0 : Ref sig .tc := ⟨.hbm, 140, rfl⟩
abbrev main_call0_call0_v1 : Ref sig .tc := ⟨.hbm, 141, rfl⟩
abbrev main_call0_call0_v2 : Ref sig .tc := ⟨.hbm, 142, rfl⟩
abbrev main_call0_call0_v3 : Ref sig .tc := ⟨.hbm, 143, rfl⟩
abbrev main_call0_call0_v4 : Ref sig .tc := ⟨.hbm, 144, rfl⟩
abbrev main_call0_call0_v5 : Ref sig .tc := ⟨.hbm, 145, rfl⟩
abbrev main_call0_call0_v6 : Ref sig .tc := ⟨.hbm, 146, rfl⟩
abbrev main_call0_call0_v7 : Ref sig .tc := ⟨.hbm, 147, rfl⟩
abbrev main_call0_call0_v8 : Ref sig .tc := ⟨.hbm, 148, rfl⟩
abbrev main_call0_call0_v9 : Ref sig .tc := ⟨.hbm, 149, rfl⟩
abbrev main_call0_call0_v10 : Ref sig .tc := ⟨.hbm, 150, rfl⟩
abbrev main_call0_call0_v11 : Ref sig .tc := ⟨.hbm, 151, rfl⟩
abbrev main_call0_v1 : Ref sig .tc := ⟨.hbm, 152, rfl⟩
abbrev main_v120 : Ref sig .tc := ⟨.hbm, 153, rfl⟩
abbrev main_cst_11 : Ref sig .tc := ⟨.hbm, 154, rfl⟩
abbrev main_v121 : Ref sig .tc := ⟨.hbm, 155, rfl⟩
abbrev main_v122 : Ref sig .tc := ⟨.hbm, 156, rfl⟩
abbrev main_cst_12 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_call1_v0 : Ref sig .tc := ⟨.hbm, 164, rfl⟩
abbrev main_call1_v1 : Ref sig .tc := ⟨.hbm, 165, rfl⟩
abbrev main_call1_cst : Ref sig .tc := ⟨.hbm, 166, rfl⟩
abbrev main_call1_v2 : Ref sig .tc := ⟨.hbm, 167, rfl⟩
abbrev main_call1_v3 : Ref sig .tc := ⟨.hbm, 168, rfl⟩
abbrev main_call1_cst_0 : Ref sig .tc := ⟨.hbm, 169, rfl⟩
abbrev main_call1_v4 : Ref sig .tc := ⟨.hbm, 170, rfl⟩
abbrev main_call1_v5 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_cst_13 : Ref sig .tc := ⟨.hbm, 177, rfl⟩
abbrev main_v134 : Ref sig .tc := ⟨.hbm, 178, rfl⟩
abbrev main_v135 : Ref sig .tc := ⟨.hbm, 179, rfl⟩
abbrev main_cst_14 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_cst_15 : Ref sig .tc := ⟨.hbm, 187, rfl⟩
abbrev main_v142 : Ref sig .tc := ⟨.hbm, 188, rfl⟩
abbrev main_v143 : Ref sig .tc := ⟨.hbm, 189, rfl⟩
abbrev main_cst_16 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩

abbrev nD : Nat := 1
abbrev τ : Topo := Topo.v7x

variable {F : FTy → Type} [FloatOps F]
-- ==== Proof.GlaSpec.lean ====
module

public import Idealize.ShloMosaic.Lib.Pointwise

@[expose] public section

/-!
# The gated linear attention recurrence, in scalars

One head keeps a state `S` of 128 by 256 numbers. The sequence is cut in chunks of 64 rows. Within a chunk the log
decays are summed along the rows (`cumS`); the row `c` of the output is the attention inside the chunk plus the query
against the state before the chunk (`outS`); the state after the chunk is the decayed state plus the chunk's outer
products (`stateS`). All functions are over natural row and column numbers.
-/

noncomputable section

open Idealize.ShloMosaic

namespace Cert.Gla

/-- A table of extended reals by row and column number. -/
abbrev Tab := ℕ → ℕ → EReal

/-- An array of two axes as a table: zero outside its bounds. -/
def rd {R C : ℕ} (x : (⟨2, ![R, C]⟩ : Shape).Idx → EReal) : Tab := fun r c =>
  if h : r < R ∧ c < C then x (ix2 ⟨r, h.1⟩ ⟨c, h.2⟩) else 0

theorem ix2_rd {R C : ℕ} (x : (⟨2, ![R, C]⟩ : Shape).Idx → EReal) (i : Fin R) (j : Fin C) :
    x (ix2 i j) = rd x i.val j.val := by
  unfold rd; rw [dif_pos ⟨i.isLt, j.isLt⟩]

/-- The sum of a column of log decays over the rows up to `c` of a chunk. -/
def cumS (l : Tab) : Tab := fun c d => ∑ j : Fin 64, if j.val ≤ c then l j.val d else 0

/-- Row `c`, column `w` of a chunk's output: queries `q`, keys `k`, values `v`, summed log decays `b`, state `S`. -/
def outS (q k v b S : Tab) : Tab := fun c w =>
  (∑ s : Fin 64, (if s.val ≤ c then
      ∑ d : Fin 128, (q c d.val * Ideal.exp (b c d.val)) * (k s.val d.val * Ideal.exp (-(b s.val d.val))) else 0) * v s.val w)
    + ∑ d : Fin 128, (q c d.val * Ideal.exp (b c d.val)) * S d.val w

/-- The state after a chunk. -/
def stateS (k v b S : Tab) : Tab := fun d w =>
  Ideal.exp (b 63 d) * S d w + ∑ c : Fin 64, (k c.val d * Ideal.exp (b 63 d - b c.val d)) * v c.val w

/-- The rows of chunk `n` of a table, from row `r0` and column `c0`. -/
def rows (x : Tab) (r0 c0 n : ℕ) : Tab := fun c d => x (r0 + 64 * n + c) (c0 + d)

/-- The states of the head whose rows begin at `r0`, whose keys begin at column `ck` and values at `cv`, from the
    state `S`: after `n` chunks. -/
def GS (S K V L : Tab) (r0 ck cv : ℕ) : ℕ → Tab
  | 0 => S
  | n + 1 => stateS (rows K r0 ck n) (rows V r0 cv n) (cumS (rows L r0 ck n)) (GS S K V L r0 ck cv n)

/-- The output of chunk `n` of that head. -/
def GO (S Q K V L : Tab) (r0 ck cv n : ℕ) : Tab :=
  outS (rows Q r0 ck n) (rows K r0 ck n) (rows V r0 cv n) (cumS (rows L r0 ck n)) (GS S K V L r0 ck cv n)

theorem cumS_congr {l l' : Tab} {c d : ℕ} (h : ∀ j < 64, l j d = l' j d) : cumS l c d = cumS l' c d :=
  Finset.sum_congr rfl fun j _ => by rw [h j.val j.isLt]

theorem stateS_congr {k v b S k' v' b' S' : Tab} {d w : ℕ} (hk : ∀ c < 64, k c d = k' c d)
    (hv : ∀ c < 64, v c w = v' c w) (hb : ∀ c < 64, b c d = b' c d) (hS : S d w = S' d w) :
    stateS k v b S d w = stateS k' v' b' S' d w := by
  unfold stateS
  rw [hS, hb 63 (by decide)]
  exact congrArg _ (Finset.sum_congr rfl fun c _ => by rw [hk c.val c.isLt, hv c.val c.isLt, hb c.val c.isLt])

theorem outS_congr {q k v b S q' k' v' b' S' : Tab} {c w : ℕ} (hc : c < 64) (hq : ∀ c < 64, ∀ d < 128, q c d = q' c d)
    (hk : ∀ c < 64, ∀ d < 128, k c d = k' c d) (hv : ∀ c < 64, v c w = v' c w)
    (hb : ∀ c < 64, ∀ d < 128, b c d = b' c d) (hS : ∀ d < 128, S d w = S' d w) :
    outS q k v b S c w = outS q' k' v' b' S' c w := by
  unfold outS
  refine congrArg₂ (· + ·) (Finset.sum_congr rfl fun s _ => ?_) (Finset.sum_congr rfl fun d _ => ?_)
  · rw [hv s.val s.isLt]
    refine congrArg (· * _) (if_congr Iff.rfl (Finset.sum_congr rfl fun d _ => ?_) rfl)
    rw [hq c hc d.val d.isLt, hk s.val s.isLt d.val d.isLt, hb c hc d.val d.isLt, hb s.val s.isLt d.val d.isLt]
  · rw [hq c hc d.val d.isLt, hb c hc d.val d.isLt, hS d.val d.isLt]

/-- `m` chunks of a window of the tables that begins `n0` chunks down, from a state that agrees with the one reached
    after those `n0` chunks. -/
theorem GS_window {S S' K V L K' V' L' : Tab} {r0 ck cv n0 M : ℕ}
    (hK : ∀ r < 64 * M, ∀ d < 128, K' r d = K (r0 + 64 * n0 + r) (ck + d))
    (hV : ∀ r < 64 * M, ∀ w < 256, V' r w = V (r0 + 64 * n0 + r) (cv + w))
    (hL : ∀ r < 64 * M, ∀ d < 128, L' r d = L (r0 + 64 * n0 + r) (ck + d))
    (hS : ∀ d < 128, ∀ w < 256, S' d w = GS S K V L r0 ck cv n0 d w) (m : ℕ) (hm : m ≤ M) :
    ∀ d < 128, ∀ w < 256, GS S' K' V' L' 0 0 0 m d w = GS S K V L r0 ck cv (n0 + m) d w := by
  induction m with
  | zero => exact hS
  | succ m ih =>
    intro d hd w hw
    have e : ∀ c, r0 + 64 * n0 + (0 + 64 * m + c) = r0 + 64 * (n0 + m) + c := fun c => by omega
    refine stateS_congr (fun c hc => ?_) (fun c hc => ?_) (fun c hc => cumS_congr fun j hj => ?_) (ih (by omega) d hd w hw)
    · unfold rows; rw [hK _ (by omega) _ (by omega), e, Nat.zero_add]; rfl
    · unfold rows; rw [hV _ (by omega) _ (by omega), e, Nat.zero_add]; rfl
    · unfold rows; rw [hL _ (by omega) _ (by omega), e, Nat.zero_add]; rfl

/-- The output of chunk `m` of the window. -/
theorem GO_window {S S' Q K V L Q' K' V' L' : Tab} {r0 ck cv n0 M : ℕ}
    (hQ : ∀ r < 64 * M, ∀ d < 128, Q' r d = Q (r0 + 64 * n0 + r) (ck + d))
    (hK : ∀ r < 64 * M, ∀ d < 128, K' r d = K (r0 + 64 * n0 + r) (ck + d))
    (hV : ∀ r < 64 * M, ∀ w < 256, V' r w = V (r0 + 64 * n0 + r) (cv + w))
    (hL : ∀ r < 64 * M, ∀ d < 128, L' r d = L (r0 + 64 * n0 + r) (ck + d))
    (hS : ∀ d < 128, ∀ w < 256, S' d w = GS S K V L r0 ck cv n0 d w) (m : ℕ) (hm : m < M) :
    ∀ c < 64, ∀ w < 256, GO S' Q' K' V' L' 0 0 0 m c w = GO S Q K V L r0 ck cv (n0 + m) c w := by
  intro c hc w hw
  have e : ∀ c, r0 + 64 * n0 + (0 + 64 * m + c) = r0 + 64 * (n0 + m) + c := fun c => by omega
  refine outS_congr hc (fun c hc d hd => ?_) (fun c hc d hd => ?_) (fun c hc => ?_)
    (fun c hc d hd => cumS_congr fun j hj => ?_) (fun d hd => GS_window hK hV hL hS m hm.le d hd w hw)
  · unfold rows; rw [hQ _ (by omega) _ (by omega), e, Nat.zero_add]
  · unfold rows; rw [hK _ (by omega) _ (by omega), e, Nat.zero_add]
  · unfold rows; rw [hV _ (by omega) _ (by omega), e, Nat.zero_add]
  · unfold rows; rw [hL _ (by omega) _ (by omega), e, Nat.zero_add]

end Cert.Gla
end
-- ==== Proof.GlaChunk.lean ====
module

public import proofs.«01_k».proof.Proof.Gen.KernelIdeal.Skeleton
public import proofs.«01_k».proof.Proof.GlaSpec
public import Idealize.ShloMosaic.Lib.WordCmp
public import Idealize.ShloMosaic.Lib.WordArith
public import Idealize.ShloMosaic.Lib.Pointwise

@[expose] public section

/-!
# The kernel's summed log decays

The kernel sums the log decays of its eight chunks at once: a 512 by 512 matrix of ones and zeros (row and column in the
same chunk, column at most the row) times the log decays, split in three parts whose sum they are.
-/

noncomputable section

open Idealize.ShloMosaic Idealize.ShloMosaic.TcCoe Idealize.SL.Sem
open Cert.KernelIdeal Cert.KernelIdeal.Gen Cert.Gla
namespace Cert.GlaValue

theorem shr6 : ∀ k : Fin 512, IntOp.shrsi .vector (BitVec.ofNat 32 k.val) 6#32 = BitVec.ofNat 32 (k.val / 64) := by
  decide +kernel

/-- A choice by an equality of two small words. -/
theorem select_eq_ofNat {a b : ℕ} (ha : a < 2 ^ 32) (hb : b < 2 ^ 32) (x y : EReal) :
    Scalar.select (IntOp.cmpi .eq (BitVec.ofNat 32 a) (BitVec.ofNat 32 b)) x y = if a = b then x else y := by
  rw [WordCmp.cmpi_eq_ofNat ha hb]
  by_cases h : a = b <;> simp [h, Scalar.select]

/-- A choice by an order of two small words. -/
theorem select_sle_ofNat {a b : ℕ} (ha : a < 2 ^ 31) (hb : b < 2 ^ 31) (x y : EReal) :
    Scalar.select (IntOp.cmpi .sle (BitVec.ofNat 32 a) (BitVec.ofNat 32 b)) x y = if a ≤ b then x else y := by
  rw [WordCmp.cmpi_sle_ofNat ha hb]
  by_cases h : a ≤ b <;> simp [h, Scalar.select]

/-- A choice by "in the same chunk and not after". -/
theorem select_chunk (k r : Fin 512) (x y : EReal) :
    Scalar.select (IntOp.andi (IntOp.cmpi .sle (BitVec.ofNat 32 k.val) (BitVec.ofNat 32 r.val))
      (IntOp.cmpi .eq (IntOp.shrsi .vector (BitVec.ofNat 32 k.val) 6#32) (IntOp.shrsi .vector (BitVec.ofNat 32 r.val) 6#32))) x y
      = if k.val ≤ r.val ∧ k.val / 64 = r.val / 64 then x else y := by
  have hk := k.isLt
  have hr := r.isLt
  rw [shr6, shr6, WordCmp.cmpi_sle_ofNat (by norm_num; omega) (by norm_num; omega),
    WordCmp.cmpi_eq_ofNat (by norm_num; omega) (by norm_num; omega), WordCmp.andi_ofBool, ← Bool.decide_and]
  by_cases h : k.val ≤ r.val ∧ k.val / 64 = r.val / 64
  · rw [if_pos h, decide_eq_true h]; rfl
  · rw [if_neg h, decide_eq_false h]; rfl

/-- The three parts of a number below infinity sum to it. -/
theorem split3 {x : EReal} (hx : x < ⊤) : x + (x - x) + (x - x - (x - x)) = x := by
  induction x with
  | bot => rfl
  | coe x => rw [← EReal.coe_sub, sub_self]; simp
  | top => exact absurd hx (lt_irrefl _)

/-- The summed log decays of a block of rows, chunk by chunk. -/
def bB (x : Tab) : Tab := fun r d => cumS (rows x 0 0 (r / 64)) (r % 64) d

theorem bB_chunk (x : Tab) (n c d : ℕ) (hc : c < 64) : cumS (rows x 0 0 n) c d = bB x (64 * n + c) d := by
  unfold bB; rw [show (64 * n + c) / 64 = n by omega, show (64 * n + c) % 64 = c by omega]

theorem sum_chunk (f : ℕ → EReal) (r : ℕ) (hr : r < 512) :
    (∑ k : Fin 512, if k.val ≤ r ∧ k.val / 64 = r / 64 then f k.val else 0)
      = ∑ j : Fin 64, if j.val ≤ r % 64 then f (64 * (r / 64) + j.val) else 0 := by
  rw [Fin.sum_univ_eq_sum_range (fun k => if k ≤ r ∧ k / 64 = r / 64 then f k else 0) 512,
    Fin.sum_univ_eq_sum_range (fun j => if j ≤ r % 64 then f (64 * (r / 64) + j) else 0) 64,
    ← Finset.sum_filter, ← Finset.sum_filter]
  refine Finset.sum_nbij' (fun k => k % 64) (fun j => 64 * (r / 64) + j) ?_ ?_ ?_ ?_ ?_
  · intro k hk; simp only [Finset.mem_filter, Finset.mem_range] at hk ⊢; omega
  · intro k hk; simp only [Finset.mem_filter, Finset.mem_range] at hk ⊢; omega
  · intro k hk; simp only [Finset.mem_filter, Finset.mem_range] at hk; omega
  · intro k hk; simp only [Finset.mem_filter, Finset.mem_range] at hk; omega
  · intro k hk; simp only [Finset.mem_filter, Finset.mem_range] at hk; congr 1; omega

set_option maxRecDepth 16384 in
/-- The kernel's summed log decays, where no log decay is plus infinity. -/
theorem pay10_apply (x : Vec Ideal S512x128 .f32) (hx : ∀ i, x i < (⊤ : EReal)) (r : Fin 512) (d : Fin 128) :
    k0_pay10 x (ix2 r d) = bB (rd x) r.val d.val := by
  pointwise [k0_pay10]
  simp only [select_chunk]
  rw [← Finset.sum_add_distrib, ← Finset.sum_add_distrib]
  trans ∑ k : Fin 512, if k.val ≤ r.val ∧ k.val / 64 = r.val / 64 then rd x k.val d.val else 0
  · refine Finset.sum_congr rfl fun k _ => ?_
    by_cases h : k.val ≤ r.val ∧ k.val / 64 = r.val / 64
    · rw [if_pos h, if_pos h, if_pos h, if_pos h, split3 (hx _), ix2_rd x]
    · rw [if_neg h, if_neg h, if_neg h, if_neg h, add_zero, add_zero]
  · rw [sum_chunk (fun k => rd x k d.val) r.val r.isLt]
    unfold bB cumS rows
    simp only [Nat.zero_add]

end Cert.GlaValue
end
-- ==== Proof.GlaBlock.lean ====
module

public import proofs.«01_k».proof.Proof.Gen.KernelIdeal.Frame
public import proofs.«01_k».proof.Proof.GlaChunk
public import Idealize.ShloMosaic.Lib.Pipeline.Value
public import Idealize.ShloMosaic.Lib.Pipeline.ValueKit
public import Idealize.ShloMosaic.Lib.Tactic
public import Idealize.ShloMosaic.Lib.Pointwise

@[expose] public section

/-!
# What one grid point of the kernel stores

A point's eight chunks, each read at an index: the scratch after the point and the second output hold the state after
eight chunks (`Gla.GS`), the first output's row `64 n + c` holds row `c` of chunk `n`'s output (`Gla.GO`).
-/

noncomputable section

open Idealize.ShloMosaic Idealize.ShloMosaic.TcCoe Idealize.SL.Sem
open Cert.KernelIdeal Cert.KernelIdeal.Gen Cert.Gla
namespace Cert.GlaValue

set_option maxRecDepth 16384

theorem pay12_at (x : Vec Ideal S512x128 .f32) (j : Fin 128) : k0_pay12 x (ix2 0 j) = k0_pay10 x (ix2 63 j) := by
  pointwise [k0_pay12, k0_pay10]

theorem pay13_at (x : Vec Ideal S512x128 .f32) (j : Fin 128) : k0_pay13 x (ix2 0 j) = k0_pay10 x (ix2 127 j) := by
  pointwise [k0_pay13, k0_pay10]

theorem pay14_at (x : Vec Ideal S512x128 .f32) (j : Fin 128) : k0_pay14 x (ix2 0 j) = k0_pay10 x (ix2 191 j) := by
  pointwise [k0_pay14, k0_pay10]

theorem pay15_at (x : Vec Ideal S512x128 .f32) (j : Fin 128) : k0_pay15 x (ix2 0 j) = k0_pay10 x (ix2 255 j) := by
  pointwise [k0_pay15, k0_pay10]

theorem pay16_at (x : Vec Ideal S512x128 .f32) (j : Fin 128) : k0_pay16 x (ix2 0 j) = k0_pay10 x (ix2 319 j) := by
  pointwise [k0_pay16, k0_pay10]

theorem pay17_at (x : Vec Ideal S512x128 .f32) (i : Fin 64) (j : Fin 128) : k0_pay17 x (ix2 i j) = k0_pay10 x (ix2 ⟨320 + i.val, by omega⟩ j) := by
  pointwise [k0_pay17, k0_pay10]

theorem decay_col (f : Fin 128 → EReal) (i : Fin 128) :
    (∑ x : Fin 128, Scalar.select (IntOp.cmpi .eq (BitVec.ofNat 32 i.val) (BitVec.ofNat 32 x.val)) (f x) 0) = f i := by
  have h : ∀ x : Fin 128, Scalar.select (IntOp.cmpi .eq (BitVec.ofNat 32 i.val) (BitVec.ofNat 32 x.val)) (f x) 0
      = if i = x then f x else 0 := fun x => by
    rw [select_eq_ofNat (by omega) (by omega)]; exact if_congr Fin.val_inj rfl rfl
  simp only [h, Finset.sum_ite_eq, Finset.mem_univ, if_true]

theorem pay98_at (v250 : FVec Ideal S128x256 .f32) (v251 : FVec Ideal S128x256 .f32) (v252 : FVec Ideal S128x256 .f32) (v253 : FVec Ideal S128x256 .f32) (v254 : FVec Ideal S128x256 .f32) (v275 : FVec Ideal S128x1 .f32) (v285 : FVec Ideal S128x1 .f32) (v295 : FVec Ideal S128x1 .f32) (v305 : FVec Ideal S128x1 .f32) (v315 : FVec Ideal S128x1 .f32) (v346 : FVec Ideal S128x256 .f32) (d : Fin 128) (w : Fin 256) :
    k0_pay98 v250 v251 v252 v253 v254 v275 v285 v295 v305 v315 v346 (ix2 d w) = (v315 (ix2 d 0) * (v305 (ix2 d 0) * (v295 (ix2 d 0) * (v285 (ix2 d 0) * (v275 (ix2 d 0) * v346 (ix2 d w) + v250 (ix2 d w)) + v251 (ix2 d w)) + v252 (ix2 d w)) + v253 (ix2 d w)) + v254 (ix2 d w)) := by
  pointwise [k0_pay98, k0_pay96, k0_pay94, k0_pay92, k0_pay90]

theorem pay99_at (v250 : FVec Ideal S128x256 .f32) (v251 : FVec Ideal S128x256 .f32) (v252 : FVec Ideal S128x256 .f32) (v253 : FVec Ideal S128x256 .f32) (v254 : FVec Ideal S128x256 .f32) (v275 : FVec Ideal S128x1 .f32) (v285 : FVec Ideal S128x1 .f32) (v295 : FVec Ideal S128x1 .f32) (v305 : FVec Ideal S128x1 .f32) (v315 : FVec Ideal S128x1 .f32) (v346 : FVec Ideal S128x256 .f32) (d : Fin 128) (w : Fin 256) :
    k0_pay99 v250 v251 v252 v253 v254 v275 v285 v295 v305 v315 v346 (ix2 d w) = (v315 (ix2 d 0) * (v305 (ix2 d 0) * (v295 (ix2 d 0) * (v285 (ix2 d 0) * (v275 (ix2 d 0) * v346 (ix2 d w) + v250 (ix2 d w)) + v251 (ix2 d w)) + v252 (ix2 d w)) + v253 (ix2 d w)) + v254 (ix2 d w)) := by
  pointwise [k0_pay99, k0_pay98, k0_pay96, k0_pay94, k0_pay92, k0_pay90]

theorem pay7_at (v255 : FVec Ideal S128x256 .f32) (v256 : FVec Ideal S128x256 .f32) (v257 : FVec Ideal S128x256 .f32) (v325 : FVec Ideal S128x1 .f32) (v335 : FVec Ideal S128x1 .f32) (v345 : FVec Ideal S128x1 .f32) (v381 : FVec Ideal S128x256 .f32) (d : Fin 128) (w : Fin 256) :
    k0_pay7 v255 v256 v257 v325 v335 v345 v381 (ix2 d w) = (v345 (ix2 d 0) * (v335 (ix2 d 0) * (v325 (ix2 d 0) * v381 (ix2 d w) + v255 (ix2 d w)) + v256 (ix2 d w)) + v257 (ix2 d w)) := by
  pointwise [k0_pay7, k0_pay6, k0_pay4, k0_pay2]

theorem pay8_at (v255 : FVec Ideal S128x256 .f32) (v256 : FVec Ideal S128x256 .f32) (v257 : FVec Ideal S128x256 .f32) (v325 : FVec Ideal S128x1 .f32) (v335 : FVec Ideal S128x1 .f32) (v345 : FVec Ideal S128x1 .f32) (v381 : FVec Ideal S128x256 .f32) (d : Fin 128) (w : Fin 256) :
    k0_pay8 v255 v256 v257 v325 v335 v345 v381 (ix4 0 0 d w) = (v345 (ix2 d 0) * (v335 (ix2 d 0) * (v325 (ix2 d 0) * v381 (ix2 d w) + v255 (ix2 d w)) + v256 (ix2 d w)) + v257 (ix2 d w)) := by
  pointwise [k0_pay8, k0_pay6, k0_pay4, k0_pay2]

theorem pay89_at (v54 : FVec Ideal S64x128 .bf16) (v258 : FVec Ideal S64x256 .f32) (v346 : FVec Ideal S128x256 .f32) (c : Fin 64) (w : Fin 256) :
    k0_pay89 v54 v258 v346 (ix2 c w) = v258 (ix2 c w) + ∑ d : Fin 128, v54 (ix2 c d) * v346 (ix2 d w) := by
  pointwise [k0_pay89]

theorem pay91_at (v59 : FVec Ideal S64x128 .bf16) (v250 : FVec Ideal S128x256 .f32) (v259 : FVec Ideal S64x256 .f32) (v275 : FVec Ideal S128x1 .f32) (v346 : FVec Ideal S128x256 .f32) (c : Fin 64) (w : Fin 256) :
    k0_pay91 v59 v250 v259 v275 v346 (ix2 c w) = v259 (ix2 c w) + ∑ d : Fin 128, v59 (ix2 c d) * (v275 (ix2 d 0) * v346 (ix2 d w) + v250 (ix2 d w)) := by
  pointwise [k0_pay91, k0_pay90]

theorem pay93_at (v64 : FVec Ideal S64x128 .bf16) (v250 : FVec Ideal S128x256 .f32) (v251 : FVec Ideal S128x256 .f32) (v260 : FVec Ideal S64x256 .f32) (v275 : FVec Ideal S128x1 .f32) (v285 : FVec Ideal S128x1 .f32) (v346 : FVec Ideal S128x256 .f32) (c : Fin 64) (w : Fin 256) :
    k0_pay93 v64 v250 v251 v260 v275 v285 v346 (ix2 c w) = v260 (ix2 c w) + ∑ d : Fin 128, v64 (ix2 c d) * (v285 (ix2 d 0) * (v275 (ix2 d 0) * v346 (ix2 d w) + v250 (ix2 d w)) + v251 (ix2 d w)) := by
  pointwise [k0_pay93, k0_pay92, k0_pay90]

theorem pay95_at (v69 : FVec Ideal S64x128 .bf16) (v250 : FVec Ideal S128x256 .f32) (v251 : FVec Ideal S128x256 .f32) (v252 : FVec Ideal S128x256 .f32) (v261 : FVec Ideal S64x256 .f32) (v275 : FVec Ideal S128x1 .f32) (v285 : FVec Ideal S128x1 .f32) (v295 : FVec Ideal S128x1 .f32) (v346 : FVec Ideal S128x256 .f32) (c : Fin 64) (w : Fin 256) :
    k0_pay95 v69 v250 v251 v252 v261 v275 v285 v295 v346 (ix2 c w) = v261 (ix2 c w) + ∑ d : Fin 128, v69 (ix2 c d) * (v295 (ix2 d 0) * (v285 (ix2 d 0) * (v275 (ix2 d 0) * v346 (ix2 d w) + v250 (ix2 d w)) + v251 (ix2 d w)) + v252 (ix2 d w)) := by
  pointwise [k0_pay95, k0_pay94, k0_pay92, k0_pay90]

theorem pay97_at (v74 : FVec Ideal S64x128 .bf16) (v250 : FVec Ideal S128x256 .f32) (v251 : FVec Ideal S128x256 .f32) (v252 : FVec Ideal S128x256 .f32) (v253 : FVec Ideal S128x256 .f32) (v262 : FVec Ideal S64x256 .f32) (v275 : FVec Ideal S128x1 .f32) (v285 : FVec Ideal S128x1 .f32) (v295 : FVec Ideal S128x1 .f32) (v305 : FVec Ideal S128x1 .f32) (v346 : FVec Ideal S128x256 .f32) (c : Fin 64) (w : Fin 256) :
    k0_pay97 v74 v250 v251 v252 v253 v262 v275 v285 v295 v305 v346 (ix2 c w) = v262 (ix2 c w) + ∑ d : Fin 128, v74 (ix2 c d) * (v305 (ix2 d 0) * (v295 (ix2 d 0) * (v285 (ix2 d 0) * (v275 (ix2 d 0) * v346 (ix2 d w) + v250 (ix2 d w)) + v251 (ix2 d w)) + v252 (ix2 d w)) + v253 (ix2 d w)) := by
  pointwise [k0_pay97, k0_pay96, k0_pay94, k0_pay92, k0_pay90]

theorem pay1_at (v79 : FVec Ideal S64x128 .bf16) (v263 : FVec Ideal S64x256 .f32) (v382 : FVec Ideal S128x256 .bf16) (c : Fin 64) (w : Fin 256) :
    k0_pay1 v79 v263 v382 (ix2 c w) = v263 (ix2 c w) + ∑ d : Fin 128, v79 (ix2 c d) * v382 (ix2 d w) := by
  pointwise [k0_pay1]

theorem pay3_at (v84 : FVec Ideal S64x128 .bf16) (v255 : FVec Ideal S128x256 .f32) (v264 : FVec Ideal S64x256 .f32) (v325 : FVec Ideal S128x1 .f32) (v381 : FVec Ideal S128x256 .f32) (c : Fin 64) (w : Fin 256) :
    k0_pay3 v84 v255 v264 v325 v381 (ix2 c w) = v264 (ix2 c w) + ∑ d : Fin 128, v84 (ix2 c d) * (v325 (ix2 d 0) * v381 (ix2 d w) + v255 (ix2 d w)) := by
  pointwise [k0_pay3, k0_pay2]

theorem pay5_at (v89 : FVec Ideal S64x128 .bf16) (v255 : FVec Ideal S128x256 .f32) (v256 : FVec Ideal S128x256 .f32) (v265 : FVec Ideal S64x256 .f32) (v325 : FVec Ideal S128x1 .f32) (v335 : FVec Ideal S128x1 .f32) (v381 : FVec Ideal S128x256 .f32) (c : Fin 64) (w : Fin 256) :
    k0_pay5 v89 v255 v256 v265 v325 v335 v381 (ix2 c w) = v265 (ix2 c w) + ∑ d : Fin 128, v89 (ix2 c d) * (v335 (ix2 d 0) * (v325 (ix2 d 0) * v381 (ix2 d w) + v255 (ix2 d w)) + v256 (ix2 d w)) := by
  pointwise [k0_pay5, k0_pay4, k0_pay2]

/-! ### The parts of one chunk, over the point's blocks -/

variable (x0 : Vec Ideal S512x128 .f32) (x1 : Vec Ideal S512x128 .f32) (x2 : Vec Ideal S512x256 .f32) (x3 : Vec Ideal S512x128 .f32)
    (hx : ∀ i, x3 i < (⊤ : EReal))

/-- A chunk's outer products. -/
def kvS (K V L : Tab) (n : ℕ) : Tab := fun d w =>
  ∑ c : Fin 64, (K (64 * n + c.val) d * Ideal.exp (bB L (64 * n + 63) d - bB L (64 * n + c.val) d)) * V (64 * n + c.val) w

/-- A chunk's attention inside the chunk. -/
def oiS (Q K V L : Tab) (n : ℕ) : Tab := fun c w =>
  ∑ s : Fin 64, (if s.val ≤ c then
      ∑ d : Fin 128, (Q (64 * n + c) d.val * Ideal.exp (bB L (64 * n + c) d.val))
        * (K (64 * n + s.val) d.val * Ideal.exp (-(bB L (64 * n + s.val) d.val))) else 0) * V (64 * n + s.val) w

theorem GS_succ (S K V L : Tab) (n d w : ℕ) :
    GS S K V L 0 0 0 (n + 1) d w = Ideal.exp (bB L (64 * n + 63) d) * GS S K V L 0 0 0 n d w + kvS K V L n d w := by
  show stateS _ _ _ _ d w = _
  unfold stateS kvS
  rw [bB_chunk _ _ _ _ (by decide)]
  refine congrArg _ (Finset.sum_congr rfl fun c _ => ?_)
  rw [bB_chunk _ _ _ _ c.isLt]
  simp only [rows, Nat.zero_add]

theorem GO_eq (S Q K V L : Tab) (n c w : ℕ) (hc : c < 64) :
    GO S Q K V L 0 0 0 n c w = oiS Q K V L n c w
      + ∑ d : Fin 128, (Q (64 * n + c) d.val * Ideal.exp (bB L (64 * n + c) d.val)) * GS S K V L 0 0 0 n d.val w := by
  unfold GO outS oiS
  have h : ∀ c < 64, ∀ d, cumS (rows L 0 0 n) c d = bB L (64 * n + c) d := fun c hc d => bB_chunk _ _ _ _ hc
  refine congrArg₂ (· + ·) (Finset.sum_congr rfl fun s _ => ?_) (Finset.sum_congr rfl fun d _ => ?_)
  · simp only [h c hc, h s.val s.isLt, rows, Nat.zero_add]
  · simp only [h c hc, rows, Nat.zero_add]

section
include hx

theorem dec0_at (d : Fin 128) : k0_pay79 (k0_pay12 x3) (ix2 d 0) = Ideal.exp (bB (rd x3) (64 * 0 + 63) d.val) := by
  pointwise [k0_pay79]
  simp only [decay_col, pay12_at]
  rw [pay10_apply x3 hx]; try rfl

theorem kv0_at (d : Fin 128) (w : Fin 256) : k0_pay63 (k0_pay39 (k0_pay10 x3) (k0_pay12 x3) (View.ld x1 (Rect.unit ![0, 0] ![64, 128] inb_S512x128_S64x128_0_0))) (k0_pay47 (View.ld x2 (Rect.unit ![0, 0] ![64, 256] inb_S512x256_S64x256_0_0))) (ix2 d w) = kvS (rd x1) (rd x2) (rd x3) 0 d.val w.val := by
  pointwise [k0_pay63, k0_pay39, k0_pay47]
  simp only [pay12_at]
  simp only [pay10_apply x3 hx, ix2_rd x1, ix2_rd x2]
  exact Finset.sum_congr rfl fun c _ => by norm_num

theorem dec1_at (d : Fin 128) : k0_pay80 (k0_pay13 x3) (ix2 d 0) = Ideal.exp (bB (rd x3) (64 * 1 + 63) d.val) := by
  pointwise [k0_pay80]
  simp only [decay_col, pay13_at]
  rw [pay10_apply x3 hx]; try rfl

theorem kv1_at (d : Fin 128) (w : Fin 256) : k0_pay64 (k0_pay40 (k0_pay10 x3) (k0_pay13 x3) (View.ld x1 (Rect.unit ![64, 0] ![64, 128] inb_S512x128_S64x128_64_0))) (k0_pay48 (View.ld x2 (Rect.unit ![64, 0] ![64, 256] inb_S512x256_S64x256_64_0))) (ix2 d w) = kvS (rd x1) (rd x2) (rd x3) 1 d.val w.val := by
  pointwise [k0_pay64, k0_pay40, k0_pay48]
  simp only [pay13_at]
  simp only [pay10_apply x3 hx, ix2_rd x1, ix2_rd x2]
  exact Finset.sum_congr rfl fun c _ => by norm_num

theorem dec2_at (d : Fin 128) : k0_pay82 (k0_pay81 (k0_pay14 x3)) (ix2 d 0) = Ideal.exp (bB (rd x3) (64 * 2 + 63) d.val) := by
  pointwise [k0_pay82, k0_pay81]
  simp only [decay_col, pay14_at]
  rw [pay10_apply x3 hx]; try rfl

theorem kv2_at (d : Fin 128) (w : Fin 256) : k0_pay65 (k0_pay41 (k0_pay10 x3) (k0_pay14 x3) (View.ld x1 (Rect.unit ![128, 0] ![64, 128] inb_S512x128_S64x128_128_0))) (k0_pay49 (View.ld x2 (Rect.unit ![128, 0] ![64, 256] inb_S512x256_S64x256_128_0))) (ix2 d w) = kvS (rd x1) (rd x2) (rd x3) 2 d.val w.val := by
  pointwise [k0_pay65, k0_pay41, k0_pay49]
  simp only [pay14_at]
  simp only [pay10_apply x3 hx, ix2_rd x1, ix2_rd x2]
  exact Finset.sum_congr rfl fun c _ => by norm_num

theorem dec3_at (d : Fin 128) : k0_pay83 (k0_pay15 x3) (ix2 d 0) = Ideal.exp (bB (rd x3) (64 * 3 + 63) d.val) := by
  pointwise [k0_pay83]
  simp only [decay_col, pay15_at]
  rw [pay10_apply x3 hx]; try rfl

theorem kv3_at (d : Fin 128) (w : Fin 256) : k0_pay66 (k0_pay42 (k0_pay10 x3) (k0_pay15 x3) (View.ld x1 (Rect.unit ![192, 0] ![64, 128] inb_S512x128_S64x128_192_0))) (k0_pay50 (View.ld x2 (Rect.unit ![192, 0] ![64, 256] inb_S512x256_S64x256_192_0))) (constant S128x256 .f32 0#32) (ix2 d w) = kvS (rd x1) (rd x2) (rd x3) 3 d.val w.val := by
  pointwise [k0_pay66, k0_pay42, k0_pay50]
  simp only [pay15_at]
  simp only [pay10_apply x3 hx, ix2_rd x1, ix2_rd x2]
  exact Finset.sum_congr rfl fun c _ => by norm_num

theorem dec4_at (d : Fin 128) : k0_pay84 (k0_pay16 x3) (ix2 d 0) = Ideal.exp (bB (rd x3) (64 * 4 + 63) d.val) := by
  pointwise [k0_pay84]
  simp only [decay_col, pay16_at]
  rw [pay10_apply x3 hx]; try rfl

theorem kv4_at (d : Fin 128) (w : Fin 256) : k0_pay67 (k0_pay43 (k0_pay10 x3) (k0_pay16 x3) (View.ld x1 (Rect.unit ![256, 0] ![64, 128] inb_S512x128_S64x128_256_0))) (k0_pay51 (View.ld x2 (Rect.unit ![256, 0] ![64, 256] inb_S512x256_S64x256_256_0))) (ix2 d w) = kvS (rd x1) (rd x2) (rd x3) 4 d.val w.val := by
  pointwise [k0_pay67, k0_pay43, k0_pay51]
  simp only [pay16_at]
  simp only [pay10_apply x3 hx, ix2_rd x1, ix2_rd x2]
  exact Finset.sum_congr rfl fun c _ => by norm_num

theorem dec5_at (d : Fin 128) : k0_pay85 (k0_pay18 (k0_pay17 x3)) (ix2 d 0) = Ideal.exp (bB (rd x3) (64 * 5 + 63) d.val) := by
  pointwise [k0_pay85, k0_pay18]
  simp only [decay_col, pay17_at]
  rw [pay10_apply x3 hx]; try rfl

theorem kv5_at (d : Fin 128) (w : Fin 256) : k0_pay68 (k0_pay44 (k0_pay10 x3) (k0_pay18 (k0_pay17 x3)) (View.ld x1 (Rect.unit ![320, 0] ![64, 128] inb_S512x128_S64x128_320_0))) (k0_pay52 (View.ld x2 (Rect.unit ![320, 0] ![64, 256] inb_S512x256_S64x256_320_0))) (ix2 d w) = kvS (rd x1) (rd x2) (rd x3) 5 d.val w.val := by
  pointwise [k0_pay68, k0_pay44, k0_pay52, k0_pay18]
  simp only [pay17_at]
  simp only [pay10_apply x3 hx, ix2_rd x1, ix2_rd x2]
  exact Finset.sum_congr rfl fun c _ => by norm_num

theorem dec6_at (d : Fin 128) : k0_pay86 (k0_pay19 (k0_pay10 x3)) (ix2 d 0) = Ideal.exp (bB (rd x3) (64 * 6 + 63) d.val) := by
  pointwise [k0_pay86, k0_pay19]
  simp only [decay_col]
  rw [pay10_apply x3 hx]; try rfl

theorem kv6_at (d : Fin 128) (w : Fin 256) : k0_pay69 (k0_pay45 (k0_pay10 x3) (k0_pay19 (k0_pay10 x3)) (View.ld x1 (Rect.unit ![384, 0] ![64, 128] inb_S512x128_S64x128_384_0))) (k0_pay53 (View.ld x2 (Rect.unit ![384, 0] ![64, 256] inb_S512x256_S64x256_384_0))) (ix2 d w) = kvS (rd x1) (rd x2) (rd x3) 6 d.val w.val := by
  pointwise [k0_pay69, k0_pay45, k0_pay53, k0_pay19]
  simp only [pay10_apply x3 hx, ix2_rd x1, ix2_rd x2]
  exact Finset.sum_congr rfl fun c _ => by norm_num

theorem dec7_at (d : Fin 128) : k0_pay88 (k0_pay87 (k0_pay20 (k0_pay10 x3))) (ix2 d 0) = Ideal.exp (bB (rd x3) (64 * 7 + 63) d.val) := by
  pointwise [k0_pay88, k0_pay87, k0_pay20]
  simp only [decay_col]
  rw [pay10_apply x3 hx]; try rfl

theorem kv7_at (d : Fin 128) (w : Fin 256) : k0_pay70 (k0_pay46 (k0_pay10 x3) (k0_pay20 (k0_pay10 x3)) (View.ld x1 (Rect.unit ![448, 0] ![64, 128] inb_S512x128_S64x128_448_0))) (k0_pay54 (View.ld x2 (Rect.unit ![448, 0] ![64, 256] inb_S512x256_S64x256_448_0))) (ix2 d w) = kvS (rd x1) (rd x2) (rd x3) 7 d.val w.val := by
  pointwise [k0_pay70, k0_pay46, k0_pay54, k0_pay20]
  simp only [pay10_apply x3 hx, ix2_rd x1, ix2_rd x2]
  exact Finset.sum_congr rfl fun c _ => by norm_num

theorem qd0_at (c : Fin 64) (d : Fin 128) : k0_pay21 (k0_pay10 x3) (View.ld x0 (Rect.unit ![0, 0] ![64, 128] inb_S512x128_S64x128_0_0)) (ix2 c d)
    = rd x0 (64 * 0 + c.val) d.val * Ideal.exp (bB (rd x3) (64 * 0 + c.val) d.val) := by
  pointwise [k0_pay21]
  simp only [pay10_apply x3 hx, ix2_rd x0]
  try norm_num
theorem oi0_at (c : Fin 64) (w : Fin 256) :
    k0_pay71 (k0_pay47 (View.ld x2 (Rect.unit ![0, 0] ![64, 256] inb_S512x256_S64x256_0_0))) (k0_pay55 k0_pay11 (k0_pay21 (k0_pay10 x3) (View.ld x0 (Rect.unit ![0, 0] ![64, 128] inb_S512x128_S64x128_0_0))) (k0_pay30 (k0_pay10 x3) (View.ld x1 (Rect.unit ![0, 0] ![64, 128] inb_S512x128_S64x128_0_0)))) (ix2 c w)
      = oiS (rd x0) (rd x1) (rd x2) (rd x3) 0 c.val w.val := by
  pointwise [k0_pay71, k0_pay47, k0_pay55, k0_pay11, k0_pay21, k0_pay30]
  simp only [pay10_apply x3 hx, ix2_rd x0, ix2_rd x1, ix2_rd x2]
  refine Finset.sum_congr rfl fun s _ => ?_
  rw [select_sle_ofNat (by omega) (by omega)]
  try norm_num

theorem qd1_at (c : Fin 64) (d : Fin 128) : k0_pay22 (k0_pay10 x3) (View.ld x0 (Rect.unit ![64, 0] ![64, 128] inb_S512x128_S64x128_64_0)) (ix2 c d)
    = rd x0 (64 * 1 + c.val) d.val * Ideal.exp (bB (rd x3) (64 * 1 + c.val) d.val) := by
  pointwise [k0_pay22]
  simp only [pay10_apply x3 hx, ix2_rd x0]
  try norm_num
theorem oi1_at (c : Fin 64) (w : Fin 256) :
    k0_pay72 (k0_pay48 (View.ld x2 (Rect.unit ![64, 0] ![64, 256] inb_S512x256_S64x256_64_0))) (k0_pay56 k0_pay11 (k0_pay22 (k0_pay10 x3) (View.ld x0 (Rect.unit ![64, 0] ![64, 128] inb_S512x128_S64x128_64_0))) (k0_pay31 (k0_pay10 x3) (View.ld x1 (Rect.unit ![64, 0] ![64, 128] inb_S512x128_S64x128_64_0)))) (ix2 c w)
      = oiS (rd x0) (rd x1) (rd x2) (rd x3) 1 c.val w.val := by
  pointwise [k0_pay72, k0_pay48, k0_pay56, k0_pay11, k0_pay22, k0_pay31]
  simp only [pay10_apply x3 hx, ix2_rd x0, ix2_rd x1, ix2_rd x2]
  refine Finset.sum_congr rfl fun s _ => ?_
  rw [select_sle_ofNat (by omega) (by omega)]
  try norm_num

theorem qd2_at (c : Fin 64) (d : Fin 128) : k0_pay23 (k0_pay10 x3) (View.ld x0 (Rect.unit ![128, 0] ![64, 128] inb_S512x128_S64x128_128_0)) (ix2 c d)
    = rd x0 (64 * 2 + c.val) d.val * Ideal.exp (bB (rd x3) (64 * 2 + c.val) d.val) := by
  pointwise [k0_pay23]
  simp only [pay10_apply x3 hx, ix2_rd x0]
  try norm_num
theorem oi2_at (c : Fin 64) (w : Fin 256) :
    k0_pay73 (k0_pay49 (View.ld x2 (Rect.unit ![128, 0] ![64, 256] inb_S512x256_S64x256_128_0))) (k0_pay57 k0_pay11 (k0_pay23 (k0_pay10 x3) (View.ld x0 (Rect.unit ![128, 0] ![64, 128] inb_S512x128_S64x128_128_0))) (k0_pay32 (k0_pay10 x3) (View.ld x1 (Rect.unit ![128, 0] ![64, 128] inb_S512x128_S64x128_128_0)))) (ix2 c w)
      = oiS (rd x0) (rd x1) (rd x2) (rd x3) 2 c.val w.val := by
  pointwise [k0_pay73, k0_pay49, k0_pay57, k0_pay11, k0_pay23, k0_pay32]
  simp only [pay10_apply x3 hx, ix2_rd x0, ix2_rd x1, ix2_rd x2]
  refine Finset.sum_congr rfl fun s _ => ?_
  rw [select_sle_ofNat (by omega) (by omega)]
  try norm_num

theorem qd3_at (c : Fin 64) (d : Fin 128) : k0_pay24 (k0_pay10 x3) (View.ld x0 (Rect.unit ![192, 0] ![64, 128] inb_S512x128_S64x128_192_0)) (ix2 c d)
    = rd x0 (64 * 3 + c.val) d.val * Ideal.exp (bB (rd x3) (64 * 3 + c.val) d.val) := by
  pointwise [k0_pay24]
  simp only [pay10_apply x3 hx, ix2_rd x0]
  try norm_num
theorem oi3_at (c : Fin 64) (w : Fin 256) :
    k0_pay74 (k0_pay50 (View.ld x2 (Rect.unit ![192, 0] ![64, 256] inb_S512x256_S64x256_192_0))) (k0_pay58 k0_pay11 (k0_pay24 (k0_pay10 x3) (View.ld x0 (Rect.unit ![192, 0] ![64, 128] inb_S512x128_S64x128_192_0))) (k0_pay33 (k0_pay10 x3) (View.ld x1 (Rect.unit ![192, 0] ![64, 128] inb_S512x128_S64x128_192_0)))) (ix2 c w)
      = oiS (rd x0) (rd x1) (rd x2) (rd x3) 3 c.val w.val := by
  pointwise [k0_pay74, k0_pay50, k0_pay58, k0_pay11, k0_pay24, k0_pay33]
  simp only [pay10_apply x3 hx, ix2_rd x0, ix2_rd x1, ix2_rd x2]
  refine Finset.sum_congr rfl fun s _ => ?_
  rw [select_sle_ofNat (by omega) (by omega)]
  try norm_num

theorem qd4_at (c : Fin 64) (d : Fin 128) : k0_pay25 (k0_pay10 x3) (View.ld x0 (Rect.unit ![256, 0] ![64, 128] inb_S512x128_S64x128_256_0)) (ix2 c d)
    = rd x0 (64 * 4 + c.val) d.val * Ideal.exp (bB (rd x3) (64 * 4 + c.val) d.val) := by
  pointwise [k0_pay25]
  simp only [pay10_apply x3 hx, ix2_rd x0]
  try norm_num
theorem oi4_at (c : Fin 64) (w : Fin 256) :
    k0_pay75 (k0_pay51 (View.ld x2 (Rect.unit ![256, 0] ![64, 256] inb_S512x256_S64x256_256_0))) (k0_pay59 k0_pay11 (k0_pay25 (k0_pay10 x3) (View.ld x0 (Rect.unit ![256, 0] ![64, 128] inb_S512x128_S64x128_256_0))) (k0_pay34 (k0_pay10 x3) (View.ld x1 (Rect.unit ![256, 0] ![64, 128] inb_S512x128_S64x128_256_0)))) (ix2 c w)
      = oiS (rd x0) (rd x1) (rd x2) (rd x3) 4 c.val w.val := by
  pointwise [k0_pay75, k0_pay51, k0_pay59, k0_pay11, k0_pay25, k0_pay34]
  simp only [pay10_apply x3 hx, ix2_rd x0, ix2_rd x1, ix2_rd x2]
  refine Finset.sum_congr rfl fun s _ => ?_
  rw [select_sle_ofNat (by omega) (by omega)]
  try norm_num

theorem qd5_at (c : Fin 64) (d : Fin 128) : k0_pay26 (k0_pay10 x3) (View.ld x0 (Rect.unit ![320, 0] ![64, 128] inb_S512x128_S64x128_320_0)) (ix2 c d)
    = rd x0 (64 * 5 + c.val) d.val * Ideal.exp (bB (rd x3) (64 * 5 + c.val) d.val) := by
  pointwise [k0_pay26]
  simp only [pay10_apply x3 hx, ix2_rd x0]
  try norm_num
theorem oi5_at (c : Fin 64) (w : Fin 256) :
    k0_pay76 (k0_pay52 (View.ld x2 (Rect.unit ![320, 0] ![64, 256] inb_S512x256_S64x256_320_0))) (k0_pay60 k0_pay11 (k0_pay26 (k0_pay10 x3) (View.ld x0 (Rect.unit ![320, 0] ![64, 128] inb_S512x128_S64x128_320_0))) (k0_pay36 (k0_pay35 (k0_pay10 x3) (View.ld x1 (Rect.unit ![320, 0] ![64, 128] inb_S512x128_S64x128_320_0))))) (ix2 c w)
      = oiS (rd x0) (rd x1) (rd x2) (rd x3) 5 c.val w.val := by
  pointwise [k0_pay76, k0_pay52, k0_pay60, k0_pay11, k0_pay26, k0_pay36, k0_pay35]
  simp only [pay10_apply x3 hx, ix2_rd x0, ix2_rd x1, ix2_rd x2]
  refine Finset.sum_congr rfl fun s _ => ?_
  rw [select_sle_ofNat (by omega) (by omega)]
  try norm_num

theorem qd6_at (c : Fin 64) (d : Fin 128) : k0_pay27 (k0_pay10 x3) (View.ld x0 (Rect.unit ![384, 0] ![64, 128] inb_S512x128_S64x128_384_0)) (ix2 c d)
    = rd x0 (64 * 6 + c.val) d.val * Ideal.exp (bB (rd x3) (64 * 6 + c.val) d.val) := by
  pointwise [k0_pay27]
  simp only [pay10_apply x3 hx, ix2_rd x0]
  try norm_num
theorem oi6_at (c : Fin 64) (w : Fin 256) :
    k0_pay77 (k0_pay53 (View.ld x2 (Rect.unit ![384, 0] ![64, 256] inb_S512x256_S64x256_384_0))) (k0_pay61 k0_pay11 (k0_pay27 (k0_pay10 x3) (View.ld x0 (Rect.unit ![384, 0] ![64, 128] inb_S512x128_S64x128_384_0))) (k0_pay37 (k0_pay10 x3) (View.ld x1 (Rect.unit ![384, 0] ![64, 128] inb_S512x128_S64x128_384_0)))) (ix2 c w)
      = oiS (rd x0) (rd x1) (rd x2) (rd x3) 6 c.val w.val := by
  pointwise [k0_pay77, k0_pay53, k0_pay61, k0_pay11, k0_pay27, k0_pay37]
  simp only [pay10_apply x3 hx, ix2_rd x0, ix2_rd x1, ix2_rd x2]
  refine Finset.sum_congr rfl fun s _ => ?_
  rw [select_sle_ofNat (by omega) (by omega)]
  try norm_num

theorem qd7_at (c : Fin 64) (d : Fin 128) : k0_pay29 (k0_pay28 (k0_pay10 x3) (View.ld x0 (Rect.unit ![448, 0] ![64, 128] inb_S512x128_S64x128_448_0))) (ix2 c d)
    = rd x0 (64 * 7 + c.val) d.val * Ideal.exp (bB (rd x3) (64 * 7 + c.val) d.val) := by
  pointwise [k0_pay29, k0_pay28]
  simp only [pay10_apply x3 hx, ix2_rd x0]
  try norm_num
theorem oi7_at (c : Fin 64) (w : Fin 256) :
    k0_pay78 (k0_pay54 (View.ld x2 (Rect.unit ![448, 0] ![64, 256] inb_S512x256_S64x256_448_0))) (k0_pay62 k0_pay11 (k0_pay29 (k0_pay28 (k0_pay10 x3) (View.ld x0 (Rect.unit ![448, 0] ![64, 128] inb_S512x128_S64x128_448_0)))) (k0_pay38 (k0_pay10 x3) (View.ld x1 (Rect.unit ![448, 0] ![64, 128] inb_S512x128_S64x128_448_0)))) (ix2 c w)
      = oiS (rd x0) (rd x1) (rd x2) (rd x3) 7 c.val w.val := by
  pointwise [k0_pay78, k0_pay54, k0_pay62, k0_pay11, k0_pay29, k0_pay28, k0_pay38]
  simp only [pay10_apply x3 hx, ix2_rd x0, ix2_rd x1, ix2_rd x2]
  refine Finset.sum_congr rfl fun s _ => ?_
  rw [select_sle_ofNat (by omega) (by omega)]
  try norm_num

/-! ### What a point's run leaves -/

variable (c : Dev nD) (i : grid0.Coords) (arg3 : Memref sig .tc .vmem S512x128 .f32) (harg3 : arg3.IsWhole) (arg4 : Memref sig .tc .vmem S512x128 .f32) (harg4 : arg4.IsWhole) (arg5 : Memref sig .tc .vmem S512x256 .f32) (harg5 : arg5.IsWhole) (arg6 : Memref sig .tc .vmem S512x128 .f32) (harg6 : arg6.IsWhole) (arg7 : Memref sig .tc .vmem S512x256 .f32) (harg7 : arg7.IsWhole) (arg8 : Memref sig .tc .vmem S1x1x128x256 .f32) (harg8 : arg8.IsWhole) (arg9 : Memref sig .tc .vmem S128x256 .f32) (harg9 : arg9.IsWhole)

theorem scratch_B (hc0 : ¬cond0_0 i) (xs0 : Vec Ideal S128x256 .f32) (d : Fin 128) (w : Fin 256) :
    sout0_B_0 c i arg3 harg3 arg4 harg4 arg5 harg5 arg6 harg6 arg7 harg7 arg8 harg8 arg9 harg9 hc0 x0 x1 x2 x3 xs0 (ix2 d w) = GS (rd xs0) (rd x1) (rd x2) (rd x3) 0 0 0 8 d.val w.val := by
  frame_out
  rw [pay7_at, pay98_at]
  simp only [dec0_at x3 hx, dec1_at x3 hx, dec2_at x3 hx, dec3_at x3 hx, dec4_at x3 hx, dec5_at x3 hx, dec6_at x3 hx, dec7_at x3 hx, kv0_at x1 x2 x3 hx, kv1_at x1 x2 x3 hx, kv2_at x1 x2 x3 hx, kv3_at x1 x2 x3 hx, kv4_at x1 x2 x3 hx, kv5_at x1 x2 x3 hx, kv6_at x1 x2 x3 hx, kv7_at x1 x2 x3 hx]
  simp only [GS_succ, ix2_rd xs0]
  rfl

theorem state_B (hc0 : ¬cond0_0 i) (xs0 : Vec Ideal S128x256 .f32) (d : Fin 128) (w : Fin 256) :
    out0_B_5 c i arg3 harg3 arg4 harg4 arg5 harg5 arg6 harg6 arg7 harg7 arg8 harg8 arg9 harg9 hc0 x0 x1 x2 x3 xs0 (ix4 0 0 d w) = GS (rd xs0) (rd x1) (rd x2) (rd x3) 0 0 0 8 d.val w.val := by
  frame_out
  rw [pay8_at, pay98_at]
  simp only [dec0_at x3 hx, dec1_at x3 hx, dec2_at x3 hx, dec3_at x3 hx, dec4_at x3 hx, dec5_at x3 hx, dec6_at x3 hx, dec7_at x3 hx, kv0_at x1 x2 x3 hx, kv1_at x1 x2 x3 hx, kv2_at x1 x2 x3 hx, kv3_at x1 x2 x3 hx, kv4_at x1 x2 x3 hx, kv5_at x1 x2 x3 hx, kv6_at x1 x2 x3 hx, kv7_at x1 x2 x3 hx]
  simp only [GS_succ, ix2_rd xs0]
  rfl

theorem rows_B (hc0 : ¬cond0_0 i) (xs0 : Vec Ideal S128x256 .f32) (x : S512x256.Idx) :
    out0_B_4 c i arg3 harg3 arg4 harg4 arg5 harg5 arg6 harg6 arg7 harg7 arg8 harg8 arg9 harg9 hc0 x0 x1 x2 x3 xs0 x = GO (rd xs0) (rd x0) (rd x1) (rd x2) (rd x3) 0 0 0 ((x 0).val / 64) ((x 0).val % 64) (x 1).val := by
  frame_out
  canon_tiles x h
  · rename_i y
    rw [show (y 0).val / 64 = 7 by omega, show (y 0).val % 64 = (x 0).val by omega, h1, GO_eq _ _ _ _ _ _ _ _ x0_lt]
    obtain ⟨a, b, rfl⟩ : ∃ (a : Fin 64) (b : Fin 256), x = ix2 a b := ⟨x 0, x 1, eq_ix2 x⟩
    simp only [pay5_at, pay98_at, oi0_at x0 x1 x2 x3 hx, oi1_at x0 x1 x2 x3 hx, oi2_at x0 x1 x2 x3 hx, oi3_at x0 x1 x2 x3 hx, oi4_at x0 x1 x2 x3 hx, oi5_at x0 x1 x2 x3 hx, oi6_at x0 x1 x2 x3 hx, oi7_at x0 x1 x2 x3 hx, qd0_at x0 x3 hx, qd1_at x0 x3 hx, qd2_at x0 x3 hx, qd3_at x0 x3 hx, qd4_at x0 x3 hx, qd5_at x0 x3 hx, qd6_at x0 x3 hx, qd7_at x0 x3 hx]
    simp only [dec0_at x3 hx, dec1_at x3 hx, dec2_at x3 hx, dec3_at x3 hx, dec4_at x3 hx, dec5_at x3 hx, dec6_at x3 hx, dec7_at x3 hx, kv0_at x1 x2 x3 hx, kv1_at x1 x2 x3 hx, kv2_at x1 x2 x3 hx, kv3_at x1 x2 x3 hx, kv4_at x1 x2 x3 hx, kv5_at x1 x2 x3 hx, kv6_at x1 x2 x3 hx, kv7_at x1 x2 x3 hx]
    simp only [GS_succ, ix2_rd xs0]
    rfl
  · rename_i y
    rw [show (y 0).val / 64 = 6 by omega, show (y 0).val % 64 = (x 0).val by omega, h1, GO_eq _ _ _ _ _ _ _ _ x0_lt]
    obtain ⟨a, b, rfl⟩ : ∃ (a : Fin 64) (b : Fin 256), x = ix2 a b := ⟨x 0, x 1, eq_ix2 x⟩
    simp only [pay3_at, pay98_at, oi0_at x0 x1 x2 x3 hx, oi1_at x0 x1 x2 x3 hx, oi2_at x0 x1 x2 x3 hx, oi3_at x0 x1 x2 x3 hx, oi4_at x0 x1 x2 x3 hx, oi5_at x0 x1 x2 x3 hx, oi6_at x0 x1 x2 x3 hx, oi7_at x0 x1 x2 x3 hx, qd0_at x0 x3 hx, qd1_at x0 x3 hx, qd2_at x0 x3 hx, qd3_at x0 x3 hx, qd4_at x0 x3 hx, qd5_at x0 x3 hx, qd6_at x0 x3 hx, qd7_at x0 x3 hx]
    simp only [dec0_at x3 hx, dec1_at x3 hx, dec2_at x3 hx, dec3_at x3 hx, dec4_at x3 hx, dec5_at x3 hx, dec6_at x3 hx, dec7_at x3 hx, kv0_at x1 x2 x3 hx, kv1_at x1 x2 x3 hx, kv2_at x1 x2 x3 hx, kv3_at x1 x2 x3 hx, kv4_at x1 x2 x3 hx, kv5_at x1 x2 x3 hx, kv6_at x1 x2 x3 hx, kv7_at x1 x2 x3 hx]
    simp only [GS_succ, ix2_rd xs0]
    rfl
  · rename_i y
    rw [show (y 0).val / 64 = 5 by omega, show (y 0).val % 64 = (x 0).val by omega, h1, GO_eq _ _ _ _ _ _ _ _ x0_lt]
    obtain ⟨a, b, rfl⟩ : ∃ (a : Fin 64) (b : Fin 256), x = ix2 a b := ⟨x 0, x 1, eq_ix2 x⟩
    simp only [pay1_at, pay99_at, oi0_at x0 x1 x2 x3 hx, oi1_at x0 x1 x2 x3 hx, oi2_at x0 x1 x2 x3 hx, oi3_at x0 x1 x2 x3 hx, oi4_at x0 x1 x2 x3 hx, oi5_at x0 x1 x2 x3 hx, oi6_at x0 x1 x2 x3 hx, oi7_at x0 x1 x2 x3 hx, qd0_at x0 x3 hx, qd1_at x0 x3 hx, qd2_at x0 x3 hx, qd3_at x0 x3 hx, qd4_at x0 x3 hx, qd5_at x0 x3 hx, qd6_at x0 x3 hx, qd7_at x0 x3 hx]
    simp only [dec0_at x3 hx, dec1_at x3 hx, dec2_at x3 hx, dec3_at x3 hx, dec4_at x3 hx, dec5_at x3 hx, dec6_at x3 hx, dec7_at x3 hx, kv0_at x1 x2 x3 hx, kv1_at x1 x2 x3 hx, kv2_at x1 x2 x3 hx, kv3_at x1 x2 x3 hx, kv4_at x1 x2 x3 hx, kv5_at x1 x2 x3 hx, kv6_at x1 x2 x3 hx, kv7_at x1 x2 x3 hx]
    simp only [GS_succ, ix2_rd xs0]
    rfl
  · rename_i y
    rw [show (y 0).val / 64 = 4 by omega, show (y 0).val % 64 = (x 0).val by omega, h1, GO_eq _ _ _ _ _ _ _ _ x0_lt]
    obtain ⟨a, b, rfl⟩ : ∃ (a : Fin 64) (b : Fin 256), x = ix2 a b := ⟨x 0, x 1, eq_ix2 x⟩
    simp only [pay97_at, oi0_at x0 x1 x2 x3 hx, oi1_at x0 x1 x2 x3 hx, oi2_at x0 x1 x2 x3 hx, oi3_at x0 x1 x2 x3 hx, oi4_at x0 x1 x2 x3 hx, oi5_at x0 x1 x2 x3 hx, oi6_at x0 x1 x2 x3 hx, oi7_at x0 x1 x2 x3 hx, qd0_at x0 x3 hx, qd1_at x0 x3 hx, qd2_at x0 x3 hx, qd3_at x0 x3 hx, qd4_at x0 x3 hx, qd5_at x0 x3 hx, qd6_at x0 x3 hx, qd7_at x0 x3 hx]
    simp only [dec0_at x3 hx, dec1_at x3 hx, dec2_at x3 hx, dec3_at x3 hx, dec4_at x3 hx, dec5_at x3 hx, dec6_at x3 hx, dec7_at x3 hx, kv0_at x1 x2 x3 hx, kv1_at x1 x2 x3 hx, kv2_at x1 x2 x3 hx, kv3_at x1 x2 x3 hx, kv4_at x1 x2 x3 hx, kv5_at x1 x2 x3 hx, kv6_at x1 x2 x3 hx, kv7_at x1 x2 x3 hx]
    simp only [GS_succ, ix2_rd xs0]
    rfl
  · rename_i y
    rw [show (y 0).val / 64 = 3 by omega, show (y 0).val % 64 = (x 0).val by omega, h1, GO_eq _ _ _ _ _ _ _ _ x0_lt]
    obtain ⟨a, b, rfl⟩ : ∃ (a : Fin 64) (b : Fin 256), x = ix2 a b := ⟨x 0, x 1, eq_ix2 x⟩
    simp only [pay95_at, oi0_at x0 x1 x2 x3 hx, oi1_at x0 x1 x2 x3 hx, oi2_at x0 x1 x2 x3 hx, oi3_at x0 x1 x2 x3 hx, oi4_at x0 x1 x2 x3 hx, oi5_at x0 x1 x2 x3 hx, oi6_at x0 x1 x2 x3 hx, oi7_at x0 x1 x2 x3 hx, qd0_at x0 x3 hx, qd1_at x0 x3 hx, qd2_at x0 x3 hx, qd3_at x0 x3 hx, qd4_at x0 x3 hx, qd5_at x0 x3 hx, qd6_at x0 x3 hx, qd7_at x0 x3 hx]
    simp only [dec0_at x3 hx, dec1_at x3 hx, dec2_at x3 hx, dec3_at x3 hx, dec4_at x3 hx, dec5_at x3 hx, dec6_at x3 hx, dec7_at x3 hx, kv0_at x1 x2 x3 hx, kv1_at x1 x2 x3 hx, kv2_at x1 x2 x3 hx, kv3_at x1 x2 x3 hx, kv4_at x1 x2 x3 hx, kv5_at x1 x2 x3 hx, kv6_at x1 x2 x3 hx, kv7_at x1 x2 x3 hx]
    simp only [GS_succ, ix2_rd xs0]
    rfl
  · rename_i y
    rw [show (y 0).val / 64 = 2 by omega, show (y 0).val % 64 = (x 0).val by omega, h1, GO_eq _ _ _ _ _ _ _ _ x0_lt]
    obtain ⟨a, b, rfl⟩ : ∃ (a : Fin 64) (b : Fin 256), x = ix2 a b := ⟨x 0, x 1, eq_ix2 x⟩
    simp only [pay93_at, oi0_at x0 x1 x2 x3 hx, oi1_at x0 x1 x2 x3 hx, oi2_at x0 x1 x2 x3 hx, oi3_at x0 x1 x2 x3 hx, oi4_at x0 x1 x2 x3 hx, oi5_at x0 x1 x2 x3 hx, oi6_at x0 x1 x2 x3 hx, oi7_at x0 x1 x2 x3 hx, qd0_at x0 x3 hx, qd1_at x0 x3 hx, qd2_at x0 x3 hx, qd3_at x0 x3 hx, qd4_at x0 x3 hx, qd5_at x0 x3 hx, qd6_at x0 x3 hx, qd7_at x0 x3 hx]
    simp only [dec0_at x3 hx, dec1_at x3 hx, dec2_at x3 hx, dec3_at x3 hx, dec4_at x3 hx, dec5_at x3 hx, dec6_at x3 hx, dec7_at x3 hx, kv0_at x1 x2 x3 hx, kv1_at x1 x2 x3 hx, kv2_at x1 x2 x3 hx, kv3_at x1 x2 x3 hx, kv4_at x1 x2 x3 hx, kv5_at x1 x2 x3 hx, kv6_at x1 x2 x3 hx, kv7_at x1 x2 x3 hx]
    simp only [GS_succ, ix2_rd xs0]
    rfl
  · rename_i y
    rw [show (y 0).val / 64 = 1 by omega, show (y 0).val % 64 = (x 0).val by omega, h1, GO_eq _ _ _ _ _ _ _ _ x0_lt]
    obtain ⟨a, b, rfl⟩ : ∃ (a : Fin 64) (b : Fin 256), x = ix2 a b := ⟨x 0, x 1, eq_ix2 x⟩
    simp only [pay91_at, oi0_at x0 x1 x2 x3 hx, oi1_at x0 x1 x2 x3 hx, oi2_at x0 x1 x2 x3 hx, oi3_at x0 x1 x2 x3 hx, oi4_at x0 x1 x2 x3 hx, oi5_at x0 x1 x2 x3 hx, oi6_at x0 x1 x2 x3 hx, oi7_at x0 x1 x2 x3 hx, qd0_at x0 x3 hx, qd1_at x0 x3 hx, qd2_at x0 x3 hx, qd3_at x0 x3 hx, qd4_at x0 x3 hx, qd5_at x0 x3 hx, qd6_at x0 x3 hx, qd7_at x0 x3 hx]
    simp only [dec0_at x3 hx, dec1_at x3 hx, dec2_at x3 hx, dec3_at x3 hx, dec4_at x3 hx, dec5_at x3 hx, dec6_at x3 hx, dec7_at x3 hx, kv0_at x1 x2 x3 hx, kv1_at x1 x2 x3 hx, kv2_at x1 x2 x3 hx, kv3_at x1 x2 x3 hx, kv4_at x1 x2 x3 hx, kv5_at x1 x2 x3 hx, kv6_at x1 x2 x3 hx, kv7_at x1 x2 x3 hx]
    simp only [GS_succ, ix2_rd xs0]
    rfl
  · rename_i y
    rw [show (y 0).val / 64 = 0 by omega, show (y 0).val % 64 = (x 0).val by omega, h1, GO_eq _ _ _ _ _ _ _ _ x0_lt]
    obtain ⟨a, b, rfl⟩ : ∃ (a : Fin 64) (b : Fin 256), x = ix2 a b := ⟨x 0, x 1, eq_ix2 x⟩
    simp only [pay89_at, oi0_at x0 x1 x2 x3 hx, oi1_at x0 x1 x2 x3 hx, oi2_at x0 x1 x2 x3 hx, oi3_at x0 x1 x2 x3 hx, oi4_at x0 x1 x2 x3 hx, oi5_at x0 x1 x2 x3 hx, oi6_at x0 x1 x2 x3 hx, oi7_at x0 x1 x2 x3 hx, qd0_at x0 x3 hx, qd1_at x0 x3 hx, qd2_at x0 x3 hx, qd3_at x0 x3 hx, qd4_at x0 x3 hx, qd5_at x0 x3 hx, qd6_at x0 x3 hx, qd7_at x0 x3 hx]
    simp only [GS, ix2_rd xs0]
    rfl

theorem scratch_A (hc0 : cond0_0 i) (d : Fin 128) (w : Fin 256) :
    sout0_A_0 c i arg3 harg3 arg4 harg4 arg5 harg5 arg6 harg6 arg7 harg7 arg8 harg8 arg9 harg9 hc0 x0 x1 x2 x3 (ix2 d w) = GS (rd (k0_pay9 (F := Ideal))) (rd x1) (rd x2) (rd x3) 0 0 0 8 d.val w.val := by
  frame_out
  rw [pay7_at, pay98_at]
  simp only [dec0_at x3 hx, dec1_at x3 hx, dec2_at x3 hx, dec3_at x3 hx, dec4_at x3 hx, dec5_at x3 hx, dec6_at x3 hx, dec7_at x3 hx, kv0_at x1 x2 x3 hx, kv1_at x1 x2 x3 hx, kv2_at x1 x2 x3 hx, kv3_at x1 x2 x3 hx, kv4_at x1 x2 x3 hx, kv5_at x1 x2 x3 hx, kv6_at x1 x2 x3 hx, kv7_at x1 x2 x3 hx]
  simp only [GS_succ, ix2_rd (k0_pay9 (F := Ideal))]
  rfl

theorem state_A (hc0 : cond0_0 i) (d : Fin 128) (w : Fin 256) :
    out0_A_5 c i arg3 harg3 arg4 harg4 arg5 harg5 arg6 harg6 arg7 harg7 arg8 harg8 arg9 harg9 hc0 x0 x1 x2 x3 (ix4 0 0 d w) = GS (rd (k0_pay9 (F := Ideal))) (rd x1) (rd x2) (rd x3) 0 0 0 8 d.val w.val := by
  frame_out
  rw [pay8_at, pay98_at]
  simp only [dec0_at x3 hx, dec1_at x3 hx, dec2_at x3 hx, dec3_at x3 hx, dec4_at x3 hx, dec5_at x3 hx, dec6_at x3 hx, dec7_at x3 hx, kv0_at x1 x2 x3 hx, kv1_at x1 x2 x3 hx, kv2_at x1 x2 x3 hx, kv3_at x1 x2 x3 hx, kv4_at x1 x2 x3 hx, kv5_at x1 x2 x3 hx, kv6_at x1 x2 x3 hx, kv7_at x1 x2 x3 hx]
  simp only [GS_succ, ix2_rd (k0_pay9 (F := Ideal))]
  rfl

theorem rows_A (hc0 : cond0_0 i) (x : S512x256.Idx) :
    out0_A_4 c i arg3 harg3 arg4 harg4 arg5 harg5 arg6 harg6 arg7 harg7 arg8 harg8 arg9 harg9 hc0 x0 x1 x2 x3 x = GO (rd (k0_pay9 (F := Ideal))) (rd x0) (rd x1) (rd x2) (rd x3) 0 0 0 ((x 0).val / 64) ((x 0).val % 64) (x 1).val := by
  frame_out
  canon_tiles x h
  · rename_i y
    rw [show (y 0).val / 64 = 7 by omega, show (y 0).val % 64 = (x 0).val by omega, h1, GO_eq _ _ _ _ _ _ _ _ x0_lt]
    obtain ⟨a, b, rfl⟩ : ∃ (a : Fin 64) (b : Fin 256), x = ix2 a b := ⟨x 0, x 1, eq_ix2 x⟩
    simp only [pay5_at, pay98_at, oi0_at x0 x1 x2 x3 hx, oi1_at x0 x1 x2 x3 hx, oi2_at x0 x1 x2 x3 hx, oi3_at x0 x1 x2 x3 hx, oi4_at x0 x1 x2 x3 hx, oi5_at x0 x1 x2 x3 hx, oi6_at x0 x1 x2 x3 hx, oi7_at x0 x1 x2 x3 hx, qd0_at x0 x3 hx, qd1_at x0 x3 hx, qd2_at x0 x3 hx, qd3_at x0 x3 hx, qd4_at x0 x3 hx, qd5_at x0 x3 hx, qd6_at x0 x3 hx, qd7_at x0 x3 hx]
    simp only [dec0_at x3 hx, dec1_at x3 hx, dec2_at x3 hx, dec3_at x3 hx, dec4_at x3 hx, dec5_at x3 hx, dec6_at x3 hx, dec7_at x3 hx, kv0_at x1 x2 x3 hx, kv1_at x1 x2 x3 hx, kv2_at x1 x2 x3 hx, kv3_at x1 x2 x3 hx, kv4_at x1 x2 x3 hx, kv5_at x1 x2 x3 hx, kv6_at x1 x2 x3 hx, kv7_at x1 x2 x3 hx]
    simp only [GS_succ, ix2_rd (k0_pay9 (F := Ideal))]
    rfl
  · rename_i y
    rw [show (y 0).val / 64 = 6 by omega, show (y 0).val % 64 = (x 0).val by omega, h1, GO_eq _ _ _ _ _ _ _ _ x0_lt]
    obtain ⟨a, b, rfl⟩ : ∃ (a : Fin 64) (b : Fin 256), x = ix2 a b := ⟨x 0, x 1, eq_ix2 x⟩
    simp only [pay3_at, pay98_at, oi0_at x0 x1 x2 x3 hx, oi1_at x0 x1 x2 x3 hx, oi2_at x0 x1 x2 x3 hx, oi3_at x0 x1 x2 x3 hx, oi4_at x0 x1 x2 x3 hx, oi5_at x0 x1 x2 x3 hx, oi6_at x0 x1 x2 x3 hx, oi7_at x0 x1 x2 x3 hx, qd0_at x0 x3 hx, qd1_at x0 x3 hx, qd2_at x0 x3 hx, qd3_at x0 x3 hx, qd4_at x0 x3 hx, qd5_at x0 x3 hx, qd6_at x0 x3 hx, qd7_at x0 x3 hx]
    simp only [dec0_at x3 hx, dec1_at x3 hx, dec2_at x3 hx, dec3_at x3 hx, dec4_at x3 hx, dec5_at x3 hx, dec6_at x3 hx, dec7_at x3 hx, kv0_at x1 x2 x3 hx, kv1_at x1 x2 x3 hx, kv2_at x1 x2 x3 hx, kv3_at x1 x2 x3 hx, kv4_at x1 x2 x3 hx, kv5_at x1 x2 x3 hx, kv6_at x1 x2 x3 hx, kv7_at x1 x2 x3 hx]
    simp only [GS_succ, ix2_rd (k0_pay9 (F := Ideal))]
    rfl
  · rename_i y
    rw [show (y 0).val / 64 = 5 by omega, show (y 0).val % 64 = (x 0).val by omega, h1, GO_eq _ _ _ _ _ _ _ _ x0_lt]
    obtain ⟨a, b, rfl⟩ : ∃ (a : Fin 64) (b : Fin 256), x = ix2 a b := ⟨x 0, x 1, eq_ix2 x⟩
    simp only [pay1_at, pay99_at, oi0_at x0 x1 x2 x3 hx, oi1_at x0 x1 x2 x3 hx, oi2_at x0 x1 x2 x3 hx, oi3_at x0 x1 x2 x3 hx, oi4_at x0 x1 x2 x3 hx, oi5_at x0 x1 x2 x3 hx, oi6_at x0 x1 x2 x3 hx, oi7_at x0 x1 x2 x3 hx, qd0_at x0 x3 hx, qd1_at x0 x3 hx, qd2_at x0 x3 hx, qd3_at x0 x3 hx, qd4_at x0 x3 hx, qd5_at x0 x3 hx, qd6_at x0 x3 hx, qd7_at x0 x3 hx]
    simp only [dec0_at x3 hx, dec1_at x3 hx, dec2_at x3 hx, dec3_at x3 hx, dec4_at x3 hx, dec5_at x3 hx, dec6_at x3 hx, dec7_at x3 hx, kv0_at x1 x2 x3 hx, kv1_at x1 x2 x3 hx, kv2_at x1 x2 x3 hx, kv3_at x1 x2 x3 hx, kv4_at x1 x2 x3 hx, kv5_at x1 x2 x3 hx, kv6_at x1 x2 x3 hx, kv7_at x1 x2 x3 hx]
    simp only [GS_succ, ix2_rd (k0_pay9 (F := Ideal))]
    rfl
  · rename_i y
    rw [show (y 0).val / 64 = 4 by omega, show (y 0).val % 64 = (x 0).val by omega, h1, GO_eq _ _ _ _ _ _ _ _ x0_lt]
    obtain ⟨a, b, rfl⟩ : ∃ (a : Fin 64) (b : Fin 256), x = ix2 a b := ⟨x 0, x 1, eq_ix2 x⟩
    simp only [pay97_at, oi0_at x0 x1 x2 x3 hx, oi1_at x0 x1 x2 x3 hx, oi2_at x0 x1 x2 x3 hx, oi3_at x0 x1 x2 x3 hx, oi4_at x0 x1 x2 x3 hx, oi5_at x0 x1 x2 x3 hx, oi6_at x0 x1 x2 x3 hx, oi7_at x0 x1 x2 x3 hx, qd0_at x0 x3 hx, qd1_at x0 x3 hx, qd2_at x0 x3 hx, qd3_at x0 x3 hx, qd4_at x0 x3 hx, qd5_at x0 x3 hx, qd6_at x0 x3 hx, qd7_at x0 x3 hx]
    simp only [dec0_at x3 hx, dec1_at x3 hx, dec2_at x3 hx, dec3_at x3 hx, dec4_at x3 hx, dec5_at x3 hx, dec6_at x3 hx, dec7_at x3 hx, kv0_at x1 x2 x3 hx, kv1_at x1 x2 x3 hx, kv2_at x1 x2 x3 hx, kv3_at x1 x2 x3 hx, kv4_at x1 x2 x3 hx, kv5_at x1 x2 x3 hx, kv6_at x1 x2 x3 hx, kv7_at x1 x2 x3 hx]
    simp only [GS_succ, ix2_rd (k0_pay9 (F := Ideal))]
    rfl
  · rename_i y
    rw [show (y 0).val / 64 = 3 by omega, show (y 0).val % 64 = (x 0).val by omega, h1, GO_eq _ _ _ _ _ _ _ _ x0_lt]
    obtain ⟨a, b, rfl⟩ : ∃ (a : Fin 64) (b : Fin 256), x = ix2 a b := ⟨x 0, x 1, eq_ix2 x⟩
    simp only [pay95_at, oi0_at x0 x1 x2 x3 hx, oi1_at x0 x1 x2 x3 hx, oi2_at x0 x1 x2 x3 hx, oi3_at x0 x1 x2 x3 hx, oi4_at x0 x1 x2 x3 hx, oi5_at x0 x1 x2 x3 hx, oi6_at x0 x1 x2 x3 hx, oi7_at x0 x1 x2 x3 hx, qd0_at x0 x3 hx, qd1_at x0 x3 hx, qd2_at x0 x3 hx, qd3_at x0 x3 hx, qd4_at x0 x3 hx, qd5_at x0 x3 hx, qd6_at x0 x3 hx, qd7_at x0 x3 hx]
    simp only [dec0_at x3 hx, dec1_at x3 hx, dec2_at x3 hx, dec3_at x3 hx, dec4_at x3 hx, dec5_at x3 hx, dec6_at x3 hx, dec7_at x3 hx, kv0_at x1 x2 x3 hx, kv1_at x1 x2 x3 hx, kv2_at x1 x2 x3 hx, kv3_at x1 x2 x3 hx, kv4_at x1 x2 x3 hx, kv5_at x1 x2 x3 hx, kv6_at x1 x2 x3 hx, kv7_at x1 x2 x3 hx]
    simp only [GS_succ, ix2_rd (k0_pay9 (F := Ideal))]
    rfl
  · rename_i y
    rw [show (y 0).val / 64 = 2 by omega, show (y 0).val % 64 = (x 0).val by omega, h1, GO_eq _ _ _ _ _ _ _ _ x0_lt]
    obtain ⟨a, b, rfl⟩ : ∃ (a : Fin 64) (b : Fin 256), x = ix2 a b := ⟨x 0, x 1, eq_ix2 x⟩
    simp only [pay93_at, oi0_at x0 x1 x2 x3 hx, oi1_at x0 x1 x2 x3 hx, oi2_at x0 x1 x2 x3 hx, oi3_at x0 x1 x2 x3 hx, oi4_at x0 x1 x2 x3 hx, oi5_at x0 x1 x2 x3 hx, oi6_at x0 x1 x2 x3 hx, oi7_at x0 x1 x2 x3 hx, qd0_at x0 x3 hx, qd1_at x0 x3 hx, qd2_at x0 x3 hx, qd3_at x0 x3 hx, qd4_at x0 x3 hx, qd5_at x0 x3 hx, qd6_at x0 x3 hx, qd7_at x0 x3 hx]
    simp only [dec0_at x3 hx, dec1_at x3 hx, dec2_at x3 hx, dec3_at x3 hx, dec4_at x3 hx, dec5_at x3 hx, dec6_at x3 hx, dec7_at x3 hx, kv0_at x1 x2 x3 hx, kv1_at x1 x2 x3 hx, kv2_at x1 x2 x3 hx, kv3_at x1 x2 x3 hx, kv4_at x1 x2 x3 hx, kv5_at x1 x2 x3 hx, kv6_at x1 x2 x3 hx, kv7_at x1 x2 x3 hx]
    simp only [GS_succ, ix2_rd (k0_pay9 (F := Ideal))]
    rfl
  · rename_i y
    rw [show (y 0).val / 64 = 1 by omega, show (y 0).val % 64 = (x 0).val by omega, h1, GO_eq _ _ _ _ _ _ _ _ x0_lt]
    obtain ⟨a, b, rfl⟩ : ∃ (a : Fin 64) (b : Fin 256), x = ix2 a b := ⟨x 0, x 1, eq_ix2 x⟩
    simp only [pay91_at, oi0_at x0 x1 x2 x3 hx, oi1_at x0 x1 x2 x3 hx, oi2_at x0 x1 x2 x3 hx, oi3_at x0 x1 x2 x3 hx, oi4_at x0 x1 x2 x3 hx, oi5_at x0 x1 x2 x3 hx, oi6_at x0 x1 x2 x3 hx, oi7_at x0 x1 x2 x3 hx, qd0_at x0 x3 hx, qd1_at x0 x3 hx, qd2_at x0 x3 hx, qd3_at x0 x3 hx, qd4_at x0 x3 hx, qd5_at x0 x3 hx, qd6_at x0 x3 hx, qd7_at x0 x3 hx]
    simp only [dec0_at x3 hx, dec1_at x3 hx, dec2_at x3 hx, dec3_at x3 hx, dec4_at x3 hx, dec5_at x3 hx, dec6_at x3 hx, dec7_at x3 hx, kv0_at x1 x2 x3 hx, kv1_at x1 x2 x3 hx, kv2_at x1 x2 x3 hx, kv3_at x1 x2 x3 hx, kv4_at x1 x2 x3 hx, kv5_at x1 x2 x3 hx, kv6_at x1 x2 x3 hx, kv7_at x1 x2 x3 hx]
    simp only [GS_succ, ix2_rd (k0_pay9 (F := Ideal))]
    rfl
  · rename_i y
    rw [show (y 0).val / 64 = 0 by omega, show (y 0).val % 64 = (x 0).val by omega, h1, GO_eq _ _ _ _ _ _ _ _ x0_lt]
    obtain ⟨a, b, rfl⟩ : ∃ (a : Fin 64) (b : Fin 256), x = ix2 a b := ⟨x 0, x 1, eq_ix2 x⟩
    simp only [pay89_at, oi0_at x0 x1 x2 x3 hx, oi1_at x0 x1 x2 x3 hx, oi2_at x0 x1 x2 x3 hx, oi3_at x0 x1 x2 x3 hx, oi4_at x0 x1 x2 x3 hx, oi5_at x0 x1 x2 x3 hx, oi6_at x0 x1 x2 x3 hx, oi7_at x0 x1 x2 x3 hx, qd0_at x0 x3 hx, qd1_at x0 x3 hx, qd2_at x0 x3 hx, qd3_at x0 x3 hx, qd4_at x0 x3 hx, qd5_at x0 x3 hx, qd6_at x0 x3 hx, qd7_at x0 x3 hx]
    simp only [GS, ix2_rd (k0_pay9 (F := Ideal))]
    rfl

end

end Cert.GlaValue
end
-- ==== Proof.GlaKernel.lean ====
module

public import proofs.«01_k».proof.Proof.Gen.KernelIdeal.Value
public import proofs.«01_k».proof.Proof.GlaBlock
public import Idealize.ShloMosaic.Lib.Pipeline.Value
public import Idealize.ShloMosaic.Lib.Pipeline.ValueKit
public import Idealize.ShloMosaic.Lib.Tactic
public import Idealize.ShloMosaic.Lib.Pointwise

@[expose] public section

/-!
# The kernel's result arrays

Grid point `t` works on batch `t / 32`, head `t / 8 % 4` and rows `512 (t % 8)` on of that batch: eight chunks of the
head's recurrence. The scratch carries the state from point to point, so it holds the recurrence's state; the first
result array holds every chunk's output, the second every head's last state.
-/

noncomputable section

open Idealize.ShloMosaic Idealize.ShloMosaic.TcCoe Idealize.SL.Sem
open Cert.KernelIdeal Cert.KernelIdeal.Gen Cert.Gla
open Idealize.ShloMosaic.Pipeline (Dat)
namespace Cert.GlaValue

variable (m : (ℓ : Loc nD τ sig) → Buf (Elt Ideal) ℓ) (c : Dev nD)

theorem i0 : ∀ t : Fin cfg0.N, win0_0.index t = ![8 * (t.val / 32) + t.val % 8, t.val / 8 % 4] :=
  (by decide +kernel : ∀ t : Fin grid0.N, _)
theorem i1 : ∀ t : Fin cfg0.N, win0_1.index t = ![8 * (t.val / 32) + t.val % 8, t.val / 8 % 4] :=
  (by decide +kernel : ∀ t : Fin grid0.N, _)
theorem i2 : ∀ t : Fin cfg0.N, win0_2.index t = ![8 * (t.val / 32) + t.val % 8, t.val / 8 % 4] :=
  (by decide +kernel : ∀ t : Fin grid0.N, _)
theorem i3 : ∀ t : Fin cfg0.N, win0_3.index t = ![8 * (t.val / 32) + t.val % 8, t.val / 8 % 4] :=
  (by decide +kernel : ∀ t : Fin grid0.N, _)
theorem i4 : ∀ t : Fin cfg0.N, win0_4.index t = ![8 * (t.val / 32) + t.val % 8, t.val / 8 % 4] :=
  (by decide +kernel : ∀ t : Fin grid0.N, _)
theorem i5 : ∀ t : Fin cfg0.N, win0_5.index t = ![t.val / 32, t.val / 8 % 4, 0, 0] :=
  (by decide +kernel : ∀ t : Fin grid0.N, _)

/-- The four argument arrays as tables. -/
abbrev Qm : Tab := rd (R := 16384) (C := 512) (m ((c : Thread nD τ).loc main_arg0))
abbrev Km : Tab := rd (R := 16384) (C := 512) (m ((c : Thread nD τ).loc main_arg1))
abbrev Vm : Tab := rd (R := 16384) (C := 1024) (m ((c : Thread nD τ).loc main_arg2))
abbrev Lm : Tab := rd (R := 16384) (C := 512) (m ((c : Thread nD τ).loc main_arg3))

theorem rd_eq {R C : ℕ} (x : (⟨2, ![R, C]⟩ : Shape).Idx → EReal) {r c : ℕ} (hr : r < R) (hc : c < C) :
    rd x r c = x (ix2 ⟨r, hr⟩ ⟨c, hc⟩) := dif_pos ⟨hr, hc⟩

theorem blk0 (t : Fin cfg0.N) : ∀ r < 64 * 8, ∀ d < 128, rd (R := 512) (C := 128) (iblk m c 0 t) r d
    = Qm m c (4096 * (t.val / 32) + 64 * (8 * (t.val % 8)) + r) (128 * (t.val / 8 % 4) + d) := by
  intro r hr d hd
  have ht : t.val < 128 := lt_of_lt_of_eq t.isLt N_0
  unfold Qm
  rw [rd_eq _ hr hd, rd_eq _ (by omega) (by omega)]
  blk_ext [iblk, V, i0 t]

theorem blk1 (t : Fin cfg0.N) : ∀ r < 64 * 8, ∀ d < 128, rd (R := 512) (C := 128) (iblk m c 1 t) r d
    = Km m c (4096 * (t.val / 32) + 64 * (8 * (t.val % 8)) + r) (128 * (t.val / 8 % 4) + d) := by
  intro r hr d hd
  have ht : t.val < 128 := lt_of_lt_of_eq t.isLt N_0
  unfold Km
  rw [rd_eq _ hr hd, rd_eq _ (by omega) (by omega)]
  blk_ext [iblk, V, i1 t]

theorem blk2 (t : Fin cfg0.N) : ∀ r < 64 * 8, ∀ d < 256, rd (R := 512) (C := 256) (iblk m c 2 t) r d
    = Vm m c (4096 * (t.val / 32) + 64 * (8 * (t.val % 8)) + r) (256 * (t.val / 8 % 4) + d) := by
  intro r hr d hd
  have ht : t.val < 128 := lt_of_lt_of_eq t.isLt N_0
  unfold Vm
  rw [rd_eq _ hr hd, rd_eq _ (by omega) (by omega)]
  blk_ext [iblk, V, i2 t]

theorem blk3 (t : Fin cfg0.N) : ∀ r < 64 * 8, ∀ d < 128, rd (R := 512) (C := 128) (iblk m c 3 t) r d
    = Lm m c (4096 * (t.val / 32) + 64 * (8 * (t.val % 8)) + r) (128 * (t.val / 8 % 4) + d) := by
  intro r hr d hd
  have ht : t.val < 128 := lt_of_lt_of_eq t.isLt N_0
  unfold Lm
  rw [rd_eq _ hr hd, rd_eq _ (by omega) (by omega)]
  blk_ext [iblk, V, i3 t]

variable (hx : ∀ i, @LT.lt EReal _ (m ((c : Thread nD τ).loc main_arg3) i) ⊤)

include hx in
theorem below3 (t : Fin cfg0.N) : ∀ i, @LT.lt EReal _ (iblk m c 3 t i) ⊤ := by
  intro i
  blk_simp [iblk, V]
  exact hx _

theorem zero_state (K V L : Tab) (r0 ck cv : ℕ) : ∀ d < 128, ∀ w < 256,
    rd (k0_pay9 (F := Ideal)) d w = GS (fun _ _ => 0) K V L r0 ck cv 0 d w := by
  intro d hd w hw
  rw [rd_eq _ hd hw]
  pointwise [k0_pay9]
  rfl

/-! ### What a point leaves, from what the point before left -/

include hx in
theorem point_rows_A (t : Fin cfg0.N) (h0 : t.val % 8 = 0) (x : S512x256.Idx) : (outsAt0 m c t.val t.isLt).1 x
    = GO (rd (k0_pay9 (F := Ideal))) (rd (R := 512) (C := 128) (iblk m c 0 t)) (rd (R := 512) (C := 128) (iblk m c 1 t)) (rd (R := 512) (C := 256) (iblk m c 2 t)) (rd (R := 512) (C := 128) (iblk m c 3 t)) 0 0 0 ((x 0).val / 64) ((x 0).val % 64) (x 1).val := by
  rw [outsAt0_A m c t h0]
  exact rows_A (iblk m c 0 t) (iblk m c 1 t) (iblk m c 2 t) (iblk m c 3 t) (below3 m c hx t) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) x

include hx in
theorem point_scratch_A (t : Fin cfg0.N) (h0 : t.val % 8 = 0) (d : Fin 128) (w : Fin 256) : (outsAt0 m c t.val t.isLt).2.2 (ix2 d w)
    = GS (rd (k0_pay9 (F := Ideal))) (rd (R := 512) (C := 128) (iblk m c 1 t)) (rd (R := 512) (C := 256) (iblk m c 2 t)) (rd (R := 512) (C := 128) (iblk m c 3 t)) 0 0 0 8 d.val w.val := by
  rw [outsAt0_A m c t h0]
  exact scratch_A (iblk m c 0 t) (iblk m c 1 t) (iblk m c 2 t) (iblk m c 3 t) (below3 m c hx t) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) d w

include hx in
theorem point_rows_B (t : Fin cfg0.N) (h0 : ¬t.val % 8 = 0) (x : S512x256.Idx) : (outsAt0 m c t.val t.isLt).1 x
    = GO (rd (R := 128) (C := 256) (outsAt0 m c (t.val - 1) (Nat.lt_of_le_of_lt (Nat.sub_le _ _) t.isLt)).2.2) (rd (R := 512) (C := 128) (iblk m c 0 t)) (rd (R := 512) (C := 128) (iblk m c 1 t)) (rd (R := 512) (C := 256) (iblk m c 2 t)) (rd (R := 512) (C := 128) (iblk m c 3 t)) 0 0 0 ((x 0).val / 64) ((x 0).val % 64) (x 1).val := by
  rw [outsAt0_B m c t h0]
  exact rows_B (iblk m c 0 t) (iblk m c 1 t) (iblk m c 2 t) (iblk m c 3 t) (below3 m c hx t) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (outsAt0 m c (t.val - 1) (Nat.lt_of_le_of_lt (Nat.sub_le _ _) t.isLt)).2.2 x

include hx in
theorem point_scratch_B (t : Fin cfg0.N) (h0 : ¬t.val % 8 = 0) (d : Fin 128) (w : Fin 256) : (outsAt0 m c t.val t.isLt).2.2 (ix2 d w)
    = GS (rd (R := 128) (C := 256) (outsAt0 m c (t.val - 1) (Nat.lt_of_le_of_lt (Nat.sub_le _ _) t.isLt)).2.2) (rd (R := 512) (C := 128) (iblk m c 1 t)) (rd (R := 512) (C := 256) (iblk m c 2 t)) (rd (R := 512) (C := 128) (iblk m c 3 t)) 0 0 0 8 d.val w.val := by
  rw [outsAt0_B m c t h0]
  exact scratch_B (iblk m c 0 t) (iblk m c 1 t) (iblk m c 2 t) (iblk m c 3 t) (below3 m c hx t) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (outsAt0 m c (t.val - 1) (Nat.lt_of_le_of_lt (Nat.sub_le _ _) t.isLt)).2.2 d w

include hx in
theorem point_state_B (t : Fin cfg0.N) (h0 : ¬t.val % 8 = 0) (d : Fin 128) (w : Fin 256) : (outsAt0 m c t.val t.isLt).2.1 (ix4 (n0 := 1) (n1 := 1) (n2 := 128) (n3 := 256) 0 0 d w)
    = GS (rd (R := 128) (C := 256) (outsAt0 m c (t.val - 1) (Nat.lt_of_le_of_lt (Nat.sub_le _ _) t.isLt)).2.2) (rd (R := 512) (C := 128) (iblk m c 1 t)) (rd (R := 512) (C := 256) (iblk m c 2 t)) (rd (R := 512) (C := 128) (iblk m c 3 t)) 0 0 0 8 d.val w.val := by
  rw [outsAt0_B m c t h0]
  dsimp only
  rw [state_B (iblk m c 0 t) (iblk m c 1 t) (iblk m c 2 t) (iblk m c 3 t) (below3 m c hx t) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (outsAt0 m c (t.val - 1) (Nat.lt_of_le_of_lt (Nat.sub_le _ _) t.isLt)).2.2 d w]

/-- The state of point `t`'s head after `n` chunks. -/
abbrev HS (t n : ℕ) : Tab :=
  GS (fun _ _ => 0) (Km m c) (Vm m c) (Lm m c) (4096 * (t / 32)) (128 * (t / 8 % 4)) (256 * (t / 8 % 4)) n

/-- What the scratch holds before point `t`'s chunks, as a table that agrees with the recurrence. -/
theorem before (t : ℕ) (ht : t + 1 < cfg0.N) (h0 : ¬(t + 1) % 8 = 0) (S : Tab)
    (h : ∀ d < 128, ∀ w < 256, S d w = HS m c t (8 * (t % 8) + 8) d w) :
    ∀ d < 128, ∀ w < 256, S d w = HS m c (t + 1) (8 * ((t + 1) % 8)) d w := by
  intro d hd w hw
  rw [h d hd w hw]
  unfold HS
  rw [show (t + 1) / 32 = t / 32 by omega, show (t + 1) / 8 = t / 8 by omega, show 8 * ((t + 1) % 8) = 8 * (t % 8) + 8 by omega]

include hx in
/-- The scratch after point `t`: the head's state after the chunks so far. -/
theorem scratch (t : ℕ) (ht : t < cfg0.N) : ∀ d < 128, ∀ w < 256,
    rd (R := 128) (C := 256) (outsAt0 m c t ht).2.2 d w = HS m c t (8 * (t % 8) + 8) d w := by
  induction t with
  | zero =>
    intro d hd w hw
    rw [rd_eq _ hd hw]
    refine (point_scratch_A m c hx ⟨0, ht⟩ (Nat.zero_mod 8) _ _).trans ?_
    exact GS_window (blk1 m c ⟨0, ht⟩) (blk2 m c ⟨0, ht⟩) (blk3 m c ⟨0, ht⟩) (zero_state _ _ _ _ _ _) 8 le_rfl d hd w hw
  | succ t ih =>
    intro d hd w hw
    rw [rd_eq _ hd hw]
    by_cases h0 : (t + 1) % 8 = 0
    · refine (point_scratch_A m c hx ⟨t + 1, ht⟩ h0 _ _).trans ?_
      refine (GS_window (n0 := 8 * ((t + 1) % 8)) (M := 8) (blk1 m c ⟨t + 1, ht⟩) (blk2 m c ⟨t + 1, ht⟩) (blk3 m c ⟨t + 1, ht⟩) ?_ 8 le_rfl d hd w hw)
      rw [h0]; exact zero_state _ _ _ _ _ _
    · refine (point_scratch_B m c hx ⟨t + 1, ht⟩ h0 _ _).trans ?_
      exact GS_window (n0 := 8 * ((t + 1) % 8)) (blk1 m c ⟨t + 1, ht⟩) (blk2 m c ⟨t + 1, ht⟩) (blk3 m c ⟨t + 1, ht⟩)
        (before m c t ht h0 _ (ih (Nat.lt_of_succ_lt ht))) 8 le_rfl d hd w hw

/-- The first result array. -/
def outArr : S16384x1024.Idx → EReal := fun i =>
  GO (fun _ _ => 0) (Qm m c) (Km m c) (Vm m c) (Lm m c) (4096 * ((i 0).val / 4096)) (128 * ((i 1).val / 256)) (256 * ((i 1).val / 256))
    ((i 0).val % 4096 / 64) ((i 0).val % 64) ((i 1).val % 256)

/-- The second result array. -/
def stateArr : S4x4x128x256.Idx → EReal := fun i =>
  GS (fun _ _ => 0) (Km m c) (Vm m c) (Lm m c) (4096 * (i 0).val) (128 * (i 1).val) (256 * (i 1).val) 64 (i 2).val (i 3).val

include hx in
theorem rows_at (t : Fin cfg0.N) (x : S512x256.Idx) : (outsAt0 m c t.val t.isLt).1 x
    = GO (fun _ _ => 0) (Qm m c) (Km m c) (Vm m c) (Lm m c) (4096 * (t.val / 32)) (128 * (t.val / 8 % 4)) (256 * (t.val / 8 % 4))
      (8 * (t.val % 8) + (x 0).val / 64) ((x 0).val % 64) (x 1).val := by
  have h0x : (x 0).val < 512 := (x 0).isLt
  have h1x : (x 1).val < 256 := (x 1).isLt
  by_cases h0 : t.val % 8 = 0
  · refine (point_rows_A m c hx t h0 x).trans ?_
    refine GO_window (n0 := 8 * (t.val % 8)) (M := 8) (blk0 m c t) (blk1 m c t) (blk2 m c t) (blk3 m c t) ?_ _ (by omega) _ (by omega) _ h1x
    rw [h0]; exact zero_state _ _ _ _ _ _
  · refine (point_rows_B m c hx t h0 x).trans ?_
    obtain ⟨t, ht⟩ := t
    obtain _ | t := t
    · exact absurd rfl h0
    exact GO_window (n0 := 8 * ((t + 1) % 8)) (M := 8) (blk0 m c ⟨t + 1, ht⟩) (blk1 m c ⟨t + 1, ht⟩) (blk2 m c ⟨t + 1, ht⟩) (blk3 m c ⟨t + 1, ht⟩)
      (before m c t ht h0 _ (scratch m c hx t (Nat.lt_of_succ_lt ht))) _ (by omega) _ (by omega) _ h1x

include hx in
theorem state_at (t : Fin cfg0.N) (h7 : t.val % 8 = 7) (d : Fin 128) (w : Fin 256) : (outsAt0 m c t.val t.isLt).2.1 (ix4 (n0 := 1) (n1 := 1) (n2 := 128) (n3 := 256) 0 0 d w)
    = HS m c t.val 64 d.val w.val := by
  have h0 : ¬t.val % 8 = 0 := by omega
  refine (point_state_B m c hx t h0 d w).trans ?_
  obtain ⟨t, ht⟩ := t
  obtain _ | t := t
  · exact absurd rfl h0
  refine (GS_window (n0 := 8 * ((t + 1) % 8)) (M := 8) (blk1 m c ⟨t + 1, ht⟩) (blk2 m c ⟨t + 1, ht⟩) (blk3 m c ⟨t + 1, ht⟩)
        (before m c t ht h0 _ (scratch m c hx t (Nat.lt_of_succ_lt ht))) 8 le_rfl _ d.isLt _ w.isLt).trans ?_
  dsimp only at h7
  rw [h7]

include hx in
theorem final_out : (dats m 0 c).arrAt 4 cfg0.N = outArr m c := by
  refine (dats m 0 c).arrAt_eq_of_covers 4 _ (by decide +kernel) fun t hf y => ?_
  have ht : t.val < 128 := lt_of_lt_of_eq t.isLt N_0
  blk_simp
  rw [after0_4, rows_at m c hx]
  unfold outArr
  idx_bounds y
  blk_simp [i4 t]
  rw [show ((8 * (t.val / 32) + t.val % 8) * 512 + (y 0).val) / 4096 = t.val / 32 by omega,
    show (t.val / 8 % 4 * 256 + (y 1).val) / 256 = t.val / 8 % 4 by omega,
    show ((8 * (t.val / 32) + t.val % 8) * 512 + (y 0).val) % 4096 / 64 = 8 * (t.val % 8) + (y 0).val / 64 by omega,
    show ((8 * (t.val / 32) + t.val % 8) * 512 + (y 0).val) % 64 = (y 0).val % 64 by omega,
    show (t.val / 8 % 4 * 256 + (y 1).val) % 256 = (y 1).val by omega]

include hx in
theorem final_state : (dats m 0 c).arrAt 5 cfg0.N = stateArr m c := by
  refine (dats m 0 c).arrAt_eq_of_covers 5 _ (by decide +kernel) fun t hf y => ?_
  have ht : t.val < 128 := lt_of_lt_of_eq t.isLt N_0
  have h7 := (flush0_5 t).mp hf
  blk_simp
  rw [after0_5]
  obtain ⟨a, b, d, w, rfl⟩ : ∃ (a b : Fin 1) (d : Fin 128) (w : Fin 256), y = ix4 a b d w :=
    ⟨y 0, y 1, y 2, y 3, eq_ix4 (n0 := 1) (n1 := 1) (n2 := 128) (n3 := 256) y⟩
  obtain rfl : a = 0 := Subsingleton.elim _ _
  obtain rfl : b = 0 := Subsingleton.elim _ _
  rw [state_at m c hx t h7]
  unfold stateArr
  blk_simp [i5 t]
  rfl

end Cert.GlaValue
end
-- ==== Proof.GlaRefRun.lean ====
/- The launch set-up of the chunked recurrence's reference: its generated run stated over one trip's step, as the
   generated module states it, with the one rewriting step there that does not fire (the stacked outputs' update)
   closed by the equation itself. -/
module

public import proofs.«01_k».proof.Proof.Gen.ReferenceIdeal.Run
public import proofs.«01_k».proof.Proof.Gen.ReferenceIdeal.Step

@[expose] public section

noncomputable section

namespace Cert.GlaRef

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_6 : V0 (Proc.devRef .tc main_v28_6) = s.main_v28_6
  f_7 : V0 (Proc.devRef .tc main_v28_7) = s.main_v28_7
  f_0 : V0 (Proc.devRef .tc main_v28_0) = s.main_v28_0
  f_1 : V0 (Proc.devRef .tc main_v28_1) = s.main_v28_1
  f_2 : V0 (Proc.devRef .tc main_v28_2) = s.main_v28_2
  f_3 : V0 (Proc.devRef .tc main_v28_3) = s.main_v28_3
  f_4 : V0 (Proc.devRef .tc main_v28_4) = s.main_v28_4
  n_5 : V0 (Proc.devRef .tc main_v28_5) = constantI S_ 32 (BitVec.ofNat 32 j)

variable {V0 s j}

set_option maxRecDepth 8192 in
theorem al_0 (h : Holds V0 s j) : (constantI S_ 32 0#32 : (Proc.devRef .tc main_while0b_call3_c : DevRef τ sig).ty.Contents (Elt F)) = Cert.ReferenceIdeal.Step.b0 j s := by
  unfold Cert.ReferenceIdeal.Step.b0
  rfl
set_option maxRecDepth 8192 in
theorem al_1 (h : Holds V0 s j) : (constantI S_ 32 0#32 : (Proc.devRef .tc main_while0b_call3_c_0 : DevRef τ sig).ty.Contents (Elt F)) = Cert.ReferenceIdeal.Step.b1 j s := by
  unfold Cert.ReferenceIdeal.Step.b1
  rfl
set_option maxRecDepth 8192 in
theorem al_2 (h : Holds V0 s j) : (constantI S_ 32 0#32 : (Proc.devRef .tc main_while0b_call3_c_1 : DevRef τ sig).ty.Contents (Elt F)) = Cert.ReferenceIdeal.Step.b2 j s := by
  unfold Cert.ReferenceIdeal.Step.b2
  rfl
set_option maxRecDepth 8192 in
theorem al_3 (h : Holds V0 s j) : (constantI S_ 32 0#32 : (Proc.devRef .tc main_while0b_call3_c_2 : DevRef τ sig).ty.Contents (Elt F)) = Cert.ReferenceIdeal.Step.b3 j s := by
  unfold Cert.ReferenceIdeal.Step.b3
  rfl
set_option maxRecDepth 8192 in
theorem al_4 (h : Holds V0 s j) : (Host.dynamicSlice S1x4x4x64x128 (V0 (Proc.devRef .tc main_v28_0)) (fun k => (((![V0 (Proc.devRef .tc main_v28_5), constantI S_ 32 0#32, constantI S_ 32 0#32, constantI S_ 32 0#32, constantI S_ 32 0#32] : Fin 5 → (⟨S_, .i32⟩ : BufTy).Contents (Elt F))) k (Shape.Idx.first h_S_)).toInt) sliceFits_S64x4x4x64x128_S1x4x4x64x128 : (Proc.devRef .tc main_while0b_call3_v0 : DevRef τ sig).ty.Contents (Elt F)) = Cert.ReferenceIdeal.Step.b4 j s := by
  unfold Cert.ReferenceIdeal.Step.b4
  rw [← al_0 h, ← al_1 h, ← al_2 h, ← al_3 h, h.f_0, h.n_5]
  try rfl
set_option maxRecDepth 8192 in
theorem al_5 (h : Holds V0 s j) : (shapeCast S4x4x64x128 (Host.dynamicSlice S1x4x4x64x128 (V0 (Proc.devRef .tc main_v28_0)) (fun k => (((![V0 (Proc.devRef .tc main_v28_5), constantI S_ 32 0#32, constantI S_ 32 0#32, constantI S_ 32 0#32, constantI S_ 32 0#32] : Fin 5 → (⟨S_, .i32⟩ : BufTy).Contents (Elt F))) k (Shape.Idx.first h_S_)).toInt) sliceFits_S64x4x4x64x128_S1x4x4x64x128) shapeCasts_S1x4x4x64x128_S4x4x64x128 : (Proc.devRef .tc main_while0b_v31 : DevRef τ sig).ty.Contents (Elt F)) = Cert.ReferenceIdeal.Step.b5 j s := by
  unfold Cert.ReferenceIdeal.Step.b5
  rw [← al_4 h]
  try rfl
set_option maxRecDepth 8192 in
theorem al_6 (h : Holds V0 s j) : (constantI S_ 32 0#32 : (Proc.devRef .tc main_while0b_call4_c : DevRef τ sig).ty.Contents (Elt F)) = Cert.ReferenceIdeal.Step.b6 j s := by
  unfold Cert.ReferenceIdeal.Step.b6
  rfl
set_option maxRecDepth 8192 in
theorem al_7 (h : Holds V0 s j) : (constantI S_ 32 0#32 : (Proc.devRef .tc main_while0b_call4_c_0 : DevRef τ sig).ty.Contents (Elt F)) = Cert.ReferenceIdeal.Step.b7 j s := by
  unfold Cert.ReferenceIdeal.Step.b7
  rfl
set_option maxRecDepth 8192 in
theorem al_8 (h : Holds V0 s j) : (constantI S_ 32 0#32 : (Proc.devRef .tc main_while0b_call4_c_1 : DevRef τ sig).ty.Contents (Elt F)) = Cert.ReferenceIdeal.Step.b8 j s := by
  unfold Cert.ReferenceIdeal.Step.b8
  rfl
set_option maxRecDepth 8192 in
theorem al_9 (h : Holds V0 s j) : (constantI S_ 32 0#32 : (Proc.devRef .tc main_while0b_call4_c_2 : DevRef τ sig).ty.Contents (Elt F)) = Cert.ReferenceIdeal.Step.b9 j s := by
  unfold Cert.ReferenceIdeal.Step.b9
  rfl
set_option maxRecDepth 8192 in
theorem al_10 (h : Holds V0 s j) : (Host.dynamicSlice S1x4x4x64x128 (V0 (Proc.devRef .tc main_v28_1)) (fun k => (((![V0 (Proc.devRef .tc main_v28_5), constantI S_ 32 0#32, constantI S_ 32 0#32, constantI S_ 32 0#32, constantI S_ 32 0#32] : Fin 5 → (⟨S_, .i32⟩ : BufTy).Contents (Elt F))) k (Shape.Idx.first h_S_)).toInt) sliceFits_S64x4x4x64x128_S1x4x4x64x128 : (Proc.devRef .tc main_while0b_call4_v0 : DevRef τ sig).ty.Contents (Elt F)) = Cert.ReferenceIdeal.Step.b10 j s := by
  unfold Cert.ReferenceIdeal.Step.b10
  rw [← al_6 h, ← al_7 h, ← al_8 h, ← al_9 h, h.f_1, h.n_5]
  try rfl
set_option maxRecDepth 8192 in
theorem al_11 (h : Holds V0 s j) : (shapeCast S4x4x64x128 (Host.dynamicSlice S1x4x4x64x128 (V0 (Proc.devRef .tc main_v28_1)) (fun k => (((![V0 (Proc.devRef .tc main_v28_5), constantI S_ 32 0#32, constantI S_ 32 0#32, constantI S_ 32 0#32, constantI S_ 32 0#32] : Fin 5 → (⟨S_, .i32⟩ : BufTy).Contents (Elt F))) k (Shape.Idx.first h_S_)).toInt) sliceFits_S64x4x4x64x128_S1x4x4x64x128) shapeCasts_S1x4x4x64x128_S4x4x64x128 : (Proc.devRef .tc main_while0b_v32 : DevRef τ sig).ty.Contents (Elt F)) = Cert.ReferenceIdeal.Step.b11 j s := by
  unfold Cert.ReferenceIdeal.Step.b11
  rw [← al_10 h]
  try rfl
set_option maxRecDepth 8192 in
theorem al_12 (h : Holds V0 s j) : (constantI S_ 32 0#32 : (Proc.devRef .tc main_while0b_call5_c : DevRef τ sig).ty.Contents (Elt F)) = Cert.ReferenceIdeal.Step.b12 j s := by
  unfold Cert.ReferenceIdeal.Step.b12
  rfl
set_option maxRecDepth 8192 in
theorem al_13 (h : Holds V0 s j) : (constantI S_ 32 0#32 : (Proc.devRef .tc main_while0b_call5_c_0 : DevRef τ sig).ty.Contents (Elt F)) = Cert.ReferenceIdeal.Step.b13 j s := by
  unfold Cert.ReferenceIdeal.Step.b13
  rfl
set_option maxRecDepth 8192 in
theorem al_14 (h : Holds V0 s j) : (constantI S_ 32 0#32 : (Proc.devRef .tc main_while0b_call5_c_1 : DevRef τ sig).ty.Contents (Elt F)) = Cert.ReferenceIdeal.Step.b14 j s := by
  unfold Cert.ReferenceIdeal.Step.b14
  rfl
set_option maxRecDepth 8192 in
theorem al_15 (h : Holds V0 s j) : (constantI S_ 32 0#32 : (Proc.devRef .tc main_while0b_call5_c_2 : DevRef τ sig).ty.Contents (Elt F)) = Cert.ReferenceIdeal.Step.b15 j s := by
  unfold Cert.ReferenceIdeal.Step.b15
  rfl
set_option maxRecDepth 8192 in
theorem al_16 (h : Holds V0 s j) : (Host.dynamicSlice S1x4x4x64x256 (V0 (Proc.devRef .tc main_v28_2)) (fun k => (((![V0 (Proc.devRef .tc main_v28_5), constantI S_ 32 0#32, constantI S_ 32 0#32, constantI S_ 32 0#32, constantI S_ 32 0#32] : Fin 5 → (⟨S_, .i32⟩ : BufTy).Contents (Elt F))) k (Shape.Idx.first h_S_)).toInt) sliceFits_S64x4x4x64x256_S1x4x4x64x256 : (Proc.devRef .tc main_while0b_call5_v0 : DevRef τ sig).ty.Contents (Elt F)) = Cert.ReferenceIdeal.Step.b16 j s := by
  unfold Cert.ReferenceIdeal.Step.b16
  rw [← al_12 h, ← al_13 h, ← al_14 h, ← al_15 h, h.f_2, h.n_5]
  try rfl
set_option maxRecDepth 8192 in
theorem al_17 (h : Holds V0 s j) : (shapeCast S4x4x64x256 (Host.dynamicSlice S1x4x4x64x256 (V0 (Proc.devRef .tc main_v28_2)) (fun k => (((![V0 (Proc.devRef .tc main_v28_5), constantI S_ 32 0#32, constantI S_ 32 0#32, constantI S_ 32 0#32, constantI S_ 32 0#32] : Fin 5 → (⟨S_, .i32⟩ : BufTy).Contents (Elt F))) k (Shape.Idx.first h_S_)).toInt) sliceFits_S64x4x4x64x256_S1x4x4x64x256) shapeCasts_S1x4x4x64x256_S4x4x64x256 : (Proc.devRef .tc main_while0b_v33 : DevRef τ sig).ty.Contents (Elt F)) = Cert.ReferenceIdeal.Step.b17 j s := by
  unfold Cert.ReferenceIdeal.Step.b17
  rw [← al_16 h]
  try rfl
set_option maxRecDepth 8192 in
theorem al_18 (h : Holds V0 s j) : (constantI S_ 32 0#32 : (Proc.devRef .tc main_while0b_call6_c : DevRef τ sig).ty.Contents (Elt F)) = Cert.ReferenceIdeal.Step.b18 j s := by
  unfold Cert.ReferenceIdeal.Step.b18
  rfl
set_option maxRecDepth 8192 in
theorem al_19 (h : Holds V0 s j) : (constantI S_ 32 0#32 : (Proc.devRef .tc main_while0b_call6_c_0 : DevRef τ sig).ty.Contents (Elt F)) = Cert.ReferenceIdeal.Step.b19 j s := by
  unfold Cert.ReferenceIdeal.Step.b19
  rfl
set_option maxRecDepth 8192 in
theorem al_20 (h : Holds V0 s j) : (constantI S_ 32 0#32 : (Proc.devRef .tc main_while0b_call6_c_1 : DevRef τ sig).ty.Contents (Elt F)) = Cert.ReferenceIdeal.Step.b20 j s := by
  unfold Cert.ReferenceIdeal.Step.b20
  rfl
set_option maxRecDepth 8192 in
theorem al_21 (h : Holds V0 s j) : (Host.dynamicSlice S1x4x4x128 (V0 (Proc.devRef .tc main_v28_3)) (fun k => (((![V0 (Proc.devRef .tc main_v28_5), constantI S_ 32 0#32, constantI S_ 32 0#32, constantI S_ 32 0#32] : Fin 4 → (⟨S_, .i32⟩ : BufTy).Contents (Elt F))) k (Shape.Idx.first h_S_)).toInt) sliceFits_S64x4x4x128_S1x4x4x128 : (Proc.devRef .tc main_while0b_call6_v0 : DevRef τ sig).ty.Contents (Elt F)) = Cert.ReferenceIdeal.Step.b21 j s := by
  unfold Cert.ReferenceIdeal.Step.b21
  rw [← al_18 h, ← al_19 h, ← al_20 h, h.f_3, h.n_5]
  try rfl
set_option maxRecDepth 8192 in
theorem al_22 (h : Holds V0 s j) : (shapeCast S4x4x128 (Host.dynamicSlice S1x4x4x128 (V0 (Proc.devRef .tc main_v28_3)) (fun k => (((![V0 (Proc.devRef .tc main_v28_5), constantI S_ 32 0#32, constantI S_ 32 0#32, constantI S_ 32 0#32] : Fin 4 → (⟨S_, .i32⟩ : BufTy).Contents (Elt F))) k (Shape.Idx.first h_S_)).toInt) sliceFits_S64x4x4x128_S1x4x4x128) shapeCasts_S1x4x4x128_S4x4x128 : (Proc.devRef .tc main_while0b_v34 : DevRef τ sig).ty.Contents (Elt F)) = Cert.ReferenceIdeal.Step.b22 j s := by
  unfold Cert.ReferenceIdeal.Step.b22
  rw [← al_21 h]
  try rfl
set_option maxRecDepth 8192 in
theorem al_23 (h : Holds V0 s j) : (constantI S_ 32 0#32 : (Proc.devRef .tc main_while0b_call7_c : DevRef τ sig).ty.Contents (Elt F)) = Cert.ReferenceIdeal.Step.b23 j s := by
  unfold Cert.ReferenceIdeal.Step.b23
  rfl
set_option maxRecDepth 8192 in
theorem al_24 (h : Holds V0 s j) : (constantI S_ 32 0#32 : (Proc.devRef .tc main_while0b_call7_c_0 : DevRef τ sig).ty.Contents (Elt F)) = Cert.ReferenceIdeal.Step.b24 j s := by
  unfold Cert.ReferenceIdeal.Step.b24
  rfl
set_option maxRecDepth 8192 in
theorem al_25 (h : Holds V0 s j) : (constantI S_ 32 0#32 : (Proc.devRef .tc main_while0b_call7_c_1 : DevRef τ sig).ty.Contents (Elt F)) = Cert.ReferenceIdeal.Step.b25 j s := by
  unfold Cert.ReferenceIdeal.Step.b25
  rfl
set_option maxRecDepth 8192 in
theorem al_26 (h : Holds V0 s j) : (constantI S_ 32 0#32 : (Proc.devRef .tc main_while0b_call7_c_2 : DevRef τ sig).ty.Contents (Elt F)) = Cert.ReferenceIdeal.Step.b26 j s := by
  unfold Cert.ReferenceIdeal.Step.b26
  rfl
set_option maxRecDepth 8192 in
theorem al_27 (h : Holds V0 s j) : (Host.dynamicSlice S1x4x4x64x256 (V0 (Proc.devRef .tc main_v28_4)) (fun k => (((![V0 (Proc.devRef .tc main_v28_5), constantI S_ 32 0#32, constantI S_ 32 0#32, constantI S_ 32 0#32, constantI S_ 32 0#32] : Fin 5 → (⟨S_, .i32⟩ : BufTy).Contents (Elt F))) k (Shape.Idx.first h_S_)).toInt) sliceFits_S64x4x4x64x256_S1x4x4x64x256 : (Proc.devRef .tc main_while0b_call7_v0 : DevRef τ sig).ty.Contents (Elt F)) = Cert.ReferenceIdeal.Step.b27 j s := by
  unfold Cert.ReferenceIdeal.Step.b27
  rw [← al_23 h, ← al_24 h, ← al_25 h, ← al_26 h, h.f_4, h.n_5]
  try rfl
set_option maxRecDepth 8192 in
theorem al_28 (h : Holds V0 s j) : (shapeCast S4x4x64x256 (Host.dynamicSlice S1x4x4x64x256 (V0 (Proc.devRef .tc main_v28_4)) (fun k => (((![V0 (Proc.devRef .tc main_v28_5), constantI S_ 32 0#32, constantI S_ 32 0#32, constantI S_ 32 0#32, constantI S_ 32 0#32] : Fin 5 → (⟨S_, .i32⟩ : BufTy).Contents (Elt F))) k (Shape.Idx.first h_S_)).toInt) sliceFits_S64x4x4x64x256_S1x4x4x64x256) shapeCasts_S1x4x4x64x256_S4x4x64x256 : (Proc.devRef .tc main_while0b_v35 : DevRef τ sig).ty.Contents (Elt F)) = Cert.ReferenceIdeal.Step.b28 j s := by
  unfold Cert.ReferenceIdeal.Step.b28
  rw [← al_27 h]
  try rfl
set_option maxRecDepth 8192 in
theorem al_29 (h : Holds V0 s j) : (Host.dotGeneral dot_S4x4x64x128_S4x4x128x256_S4x4x64x256_3_2_2_3_01_01 none (shapeCast S4x4x64x128 (Host.dynamicSlice S1x4x4x64x128 (V0 (Proc.devRef .tc main_v28_0)) (fun k => (((![V0 (Proc.devRef .tc main_v28_5), constantI S_ 32 0#32, constantI S_ 32 0#32, constantI S_ 32 0#32, constantI S_ 32 0#32] : Fin 5 → (⟨S_, .i32⟩ : BufTy).Contents (Elt F))) k (Shape.Idx.first h_S_)).toInt) sliceFits_S64x4x4x64x128_S1x4x4x64x128) shapeCasts_S1x4x4x64x128_S4x4x64x128) (V0 (Proc.devRef .tc main_v28_6)) : (Proc.devRef .tc main_while0b_v36 : DevRef τ sig).ty.Contents (Elt F)) = Cert.ReferenceIdeal.Step.b29 j s := by
  unfold Cert.ReferenceIdeal.Step.b29
  rw [← al_5 h, h.f_6]
  try rfl
set_option maxRecDepth 8192 in
theorem al_30 (h : Holds V0 s j) : (broadcastInDim S4x4x128x1 ![0, 1, 2] bcast_S4x4x128_S4x4x128x1_0_1_2 (shapeCast S4x4x128 (Host.dynamicSlice S1x4x4x128 (V0 (Proc.devRef .tc main_v28_3)) (fun k => (((![V0 (Proc.devRef .tc main_v28_5), constantI S_ 32 0#32, constantI S_ 32 0#32, constantI S_ 32 0#32] : Fin 4 → (⟨S_, .i32⟩ : BufTy).Contents (Elt F))) k (Shape.Idx.first h_S_)).toInt) sliceFits_S64x4x4x128_S1x4x4x128) shapeCasts_S1x4x4x128_S4x4x128) : (Proc.devRef .tc main_while0b_v37 : DevRef τ sig).ty.Contents (Elt F)) = Cert.ReferenceIdeal.Step.b30 j s := by
  unfold Cert.ReferenceIdeal.Step.b30
  rw [← al_22 h]
  try rfl
set_option maxRecDepth 8192 in
theorem al_31 (h : Holds V0 s j) : (broadcastInDim S4x4x128x256 ![0, 1, 2, 3] bcast_S4x4x128x1_S4x4x128x256_0_1_2_3 (broadcastInDim S4x4x128x1 ![0, 1, 2] bcast_S4x4x128_S4x4x128x1_0_1_2 (shapeCast S4x4x128 (Host.dynamicSlice S1x4x4x128 (V0 (Proc.devRef .tc main_v28_3)) (fun k => (((![V0 (Proc.devRef .tc main_v28_5), constantI S_ 32 0#32, constantI S_ 32 0#32, constantI S_ 32 0#32] : Fin 4 → (⟨S_, .i32⟩ : BufTy).Contents (Elt F))) k (Shape.Idx.first h_S_)).toInt) sliceFits_S64x4x4x128_S1x4x4x128) shapeCasts_S1x4x4x128_S4x4x128)) : (Proc.devRef .tc main_while0b_v38 : DevRef τ sig).ty.Contents (Elt F)) = Cert.ReferenceIdeal.Step.b31 j s := by
  unfold Cert.ReferenceIdeal.Step.b31
  rw [← al_30 h]
  try rfl
set_option maxRecDepth 8192 in
theorem al_32 (h : Holds V0 s j) : (mulf (broadcastInDim S4x4x128x256 ![0, 1, 2, 3] bcast_S4x4x128x1_S4x4x128x256_0_1_2_3 (broadcastInDim S4x4x128x1 ![0, 1, 2] bcast_S4x4x128_S4x4x128x1_0_1_2 (shapeCast S4x4x128 (Host.dynamicSlice S1x4x4x128 (V0 (Proc.devRef .tc main_v28_3)) (fun k => (((![V0 (Proc.devRef .tc main_v28_5), constantI S_ 32 0#32, constantI S_ 32 0#32, constantI S_ 32 0#32] : Fin 4 → (⟨S_, .i32⟩ : BufTy).Contents (Elt F))) k (Shape.Idx.first h_S_)).toInt) sliceFits_S64x4x4x128_S1x4x4x128) shapeCasts_S1x4x4x128_S4x4x128))) (V0 (Proc.devRef .tc main_v28_6)) : (Proc.devRef .tc main_while0b_v39 : DevRef τ sig).ty.Contents (Elt F)) = Cert.ReferenceIdeal.Step.b32 j s := by
  unfold Cert.ReferenceIdeal.Step.b32
  rw [← al_31 h, h.f_6]
  try rfl
set_option maxRecDepth 8192 in
theorem al_33 (h : Holds V0 s j) : (Host.dotGeneral dot_S4x4x64x128_S4x4x64x256_S4x4x128x256_2_2_3_3_01_01 none (shapeCast S4x4x64x128 (Host.dynamicSlice S1x4x4x64x128 (V0 (Proc.devRef .tc main_v28_1)) (fun k => (((![V0 (Proc.devRef .tc main_v28_5), constantI S_ 32 0#32, constantI S_ 32 0#32, constantI S_ 32 0#32, constantI S_ 32 0#32] : Fin 5 → (⟨S_, .i32⟩ : BufTy).Contents (Elt F))) k (Shape.Idx.first h_S_)).toInt) sliceFits_S64x4x4x64x128_S1x4x4x64x128) shapeCasts_S1x4x4x64x128_S4x4x64x128) (shapeCast S4x4x64x256 (Host.dynamicSlice S1x4x4x64x256 (V0 (Proc.devRef .tc main_v28_2)) (fun k => (((![V0 (Proc.devRef .tc main_v28_5), constantI S_ 32 0#32, constantI S_ 32 0#32, constantI S_ 32 0#32, constantI S_ 32 0#32] : Fin 5 → (⟨S_, .i32⟩ : BufTy).Contents (Elt F))) k (Shape.Idx.first h_S_)).toInt) sliceFits_S64x4x4x64x256_S1x4x4x64x256) shapeCasts_S1x4x4x64x256_S4x4x64x256) : (Proc.devRef .tc main_while0b_v40 : DevRef τ sig).ty.Contents (Elt F)) = Cert.ReferenceIdeal.Step.b33 j s := by
  unfold Cert.ReferenceIdeal.Step.b33
  rw [← al_11 h, ← al_17 h]
  try rfl
set_option maxRecDepth 8192 in
theorem al_34 (h : Holds V0 s j) : (addf (mulf (broadcastInDim S4x4x128x256 ![0, 1, 2, 3] bcast_S4x4x128x1_S4x4x128x256_0_1_2_3 (broadcastInDim S4x4x128x1 ![0, 1, 2] bcast_S4x4x128_S4x4x128x1_0_1_2 (shapeCast S4x4x128 (Host.dynamicSlice S1x4x4x128 (V0 (Proc.devRef .tc main_v28_3)) (fun k => (((![V0 (Proc.devRef .tc main_v28_5), constantI S_ 32 0#32, constantI S_ 32 0#32, constantI S_ 32 0#32] : Fin 4 → (⟨S_, .i32⟩ : BufTy).Contents (Elt F))) k (Shape.Idx.first h_S_)).toInt) sliceFits_S64x4x4x128_S1x4x4x128) shapeCasts_S1x4x4x128_S4x4x128))) (V0 (Proc.devRef .tc main_v28_6))) (Host.dotGeneral dot_S4x4x64x128_S4x4x64x256_S4x4x128x256_2_2_3_3_01_01 none (shapeCast S4x4x64x128 (Host.dynamicSlice S1x4x4x64x128 (V0 (Proc.devRef .tc main_v28_1)) (fun k => (((![V0 (Proc.devRef .tc main_v28_5), constantI S_ 32 0#32, constantI S_ 32 0#32, constantI S_ 32 0#32, constantI S_ 32 0#32] : Fin 5 → (⟨S_, .i32⟩ : BufTy).Contents (Elt F))) k (Shape.Idx.first h_S_)).toInt) sliceFits_S64x4x4x64x128_S1x4x4x64x128) shapeCasts_S1x4x4x64x128_S4x4x64x128) (shapeCast S4x4x64x256 (Host.dynamicSlice S1x4x4x64x256 (V0 (Proc.devRef .tc main_v28_2)) (fun k => (((![V0 (Proc.devRef .tc main_v28_5), constantI S_ 32 0#32, constantI S_ 32 0#32, constantI S_ 32 0#32, constantI S_ 32 0#32] : Fin 5 → (⟨S_, .i32⟩ : BufTy).Contents (Elt F))) k (Shape.Idx.first h_S_)).toInt) sliceFits_S64x4x4x64x256_S1x4x4x64x256) shapeCasts_S1x4x4x64x256_S4x4x64x256)) : (Proc.devRef .tc main_while0b_v41 : DevRef τ sig).ty.Contents (Elt F)) = Cert.ReferenceIdeal.Step.b34 j s := by
  unfold Cert.ReferenceIdeal.Step.b34
  rw [← al_32 h, ← al_33 h]
  try rfl
set_option maxRecDepth 8192 in
theorem al_35 (h : Holds V0 s j) : (addf (shapeCast S4x4x64x256 (Host.dynamicSlice S1x4x4x64x256 (V0 (Proc.devRef .tc main_v28_4)) (fun k => (((![V0 (Proc.devRef .tc main_v28_5), constantI S_ 32 0#32, constantI S_ 32 0#32, constantI S_ 32 0#32, constantI S_ 32 0#32] : Fin 5 → (⟨S_, .i32⟩ : BufTy).Contents (Elt F))) k (Shape.Idx.first h_S_)).toInt) sliceFits_S64x4x4x64x256_S1x4x4x64x256) shapeCasts_S1x4x4x64x256_S4x4x64x256) (Host.dotGeneral dot_S4x4x64x128_S4x4x128x256_S4x4x64x256_3_2_2_3_01_01 none (shapeCast S4x4x64x128 (Host.dynamicSlice S1x4x4x64x128 (V0 (Proc.devRef .tc main_v28_0)) (fun k => (((![V0 (Proc.devRef .tc main_v28_5), constantI S_ 32 0#32, constantI S_ 32 0#32, constantI S_ 32 0#32, constantI S_ 32 0#32] : Fin 5 → (⟨S_, .i32⟩ : BufTy).Contents (Elt F))) k (Shape.Idx.first h_S_)).toInt) sliceFits_S64x4x4x64x128_S1x4x4x64x128) shapeCasts_S1x4x4x64x128_S4x4x64x128) (V0 (Proc.devRef .tc main_v28_6))) : (Proc.devRef .tc main_while0b_v42 : DevRef τ sig).ty.Contents (Elt F)) = Cert.ReferenceIdeal.Step.b35 j s := by
  unfold Cert.ReferenceIdeal.Step.b35
  rw [← al_28 h, ← al_29 h]
  try rfl
set_option maxRecDepth 8192 in
theorem al_36 (h : Holds V0 s j) : (broadcastInDim S1x4x4x64x256 ![1, 2, 3, 4] bcast_S4x4x64x256_S1x4x4x64x256_1_2_3_4 (addf (shapeCast S4x4x64x256 (Host.dynamicSlice S1x4x4x64x256 (V0 (Proc.devRef .tc main_v28_4)) (fun k => (((![V0 (Proc.devRef .tc main_v28_5), constantI S_ 32 0#32, constantI S_ 32 0#32, constantI S_ 32 0#32, constantI S_ 32 0#32] : Fin 5 → (⟨S_, .i32⟩ : BufTy).Contents (Elt F))) k (Shape.Idx.first h_S_)).toInt) sliceFits_S64x4x4x64x256_S1x4x4x64x256) shapeCasts_S1x4x4x64x256_S4x4x64x256) (Host.dotGeneral dot_S4x4x64x128_S4x4x128x256_S4x4x64x256_3_2_2_3_01_01 none (shapeCast S4x4x64x128 (Host.dynamicSlice S1x4x4x64x128 (V0 (Proc.devRef .tc main_v28_0)) (fun k => (((![V0 (Proc.devRef .tc main_v28_5), constantI S_ 32 0#32, constantI S_ 32 0#32, constantI S_ 32 0#32, constantI S_ 32 0#32] : Fin 5 → (⟨S_, .i32⟩ : BufTy).Contents (Elt F))) k (Shape.Idx.first h_S_)).toInt) sliceFits_S64x4x4x64x128_S1x4x4x64x128) shapeCasts_S1x4x4x64x128_S4x4x64x128) (V0 (Proc.devRef .tc main_v28_6)))) : (Proc.devRef .tc main_while0b_call8_v0 : DevRef τ sig).ty.Contents (Elt F)) = Cert.ReferenceIdeal.Step.b36 j s := by
  unfold Cert.ReferenceIdeal.Step.b36
  rw [← al_35 h]
  try rfl
set_option maxRecDepth 8192 in
theorem al_37 (h : Holds V0 s j) : (constantI S_ 32 0#32 : (Proc.devRef .tc main_while0b_call8_c : DevRef τ sig).ty.Contents (Elt F)) = Cert.ReferenceIdeal.Step.b37 j s := by
  unfold Cert.ReferenceIdeal.Step.b37
  rfl
set_option maxRecDepth 8192 in
theorem al_38 (h : Holds V0 s j) : (constantI S_ 32 0#32 : (Proc.devRef .tc main_while0b_call8_c_0 : DevRef τ sig).ty.Contents (Elt F)) = Cert.ReferenceIdeal.Step.b38 j s := by
  unfold Cert.ReferenceIdeal.Step.b38
  rfl
set_option maxRecDepth 8192 in
theorem al_39 (h : Holds V0 s j) : (constantI S_ 32 0#32 : (Proc.devRef .tc main_while0b_call8_c_1 : DevRef τ sig).ty.Contents (Elt F)) = Cert.ReferenceIdeal.Step.b39 j s := by
  unfold Cert.ReferenceIdeal.Step.b39
  rfl
set_option maxRecDepth 8192 in
theorem al_40 (h : Holds V0 s j) : (constantI S_ 32 0#32 : (Proc.devRef .tc main_while0b_call8_c_2 : DevRef τ sig).ty.Contents (Elt F)) = Cert.ReferenceIdeal.Step.b40 j s := by
  unfold Cert.ReferenceIdeal.Step.b40
  rfl
set_option maxRecDepth 8192 in
theorem al_41 (h : Holds V0 s j) : (Host.dynamicUpdateSlice (V0 (Proc.devRef .tc main_v28_7)) (broadcastInDim S1x4x4x64x256 ![1, 2, 3, 4] bcast_S4x4x64x256_S1x4x4x64x256_1_2_3_4 (addf (shapeCast S4x4x64x256 (Host.dynamicSlice S1x4x4x64x256 (V0 (Proc.devRef .tc main_v28_4)) (fun k => (((![V0 (Proc.devRef .tc main_v28_5), constantI S_ 32 0#32, constantI S_ 32 0#32, constantI S_ 32 0#32, constantI S_ 32 0#32] : Fin 5 → (⟨S_, .i32⟩ : BufTy).Contents (Elt F))) k (Shape.Idx.first h_S_)).toInt) sliceFits_S64x4x4x64x256_S1x4x4x64x256) shapeCasts_S1x4x4x64x256_S4x4x64x256) (Host.dotGeneral dot_S4x4x64x128_S4x4x128x256_S4x4x64x256_3_2_2_3_01_01 none (shapeCast S4x4x64x128 (Host.dynamicSlice S1x4x4x64x128 (V0 (Proc.devRef .tc main_v28_0)) (fun k => (((![V0 (Proc.devRef .tc main_v28_5), constantI S_ 32 0#32, constantI S_ 32 0#32, constantI S_ 32 0#32, constantI S_ 32 0#32] : Fin 5 → (⟨S_, .i32⟩ : BufTy).Contents (Elt F))) k (Shape.Idx.first h_S_)).toInt) sliceFits_S64x4x4x64x128_S1x4x4x64x128) shapeCasts_S1x4x4x64x128_S4x4x64x128) (V0 (Proc.devRef .tc main_v28_6))))) (fun k => (((![V0 (Proc.devRef .tc main_v28_5), constantI S_ 32 0#32, constantI S_ 32 0#32, constantI S_ 32 0#32, constantI S_ 32 0#32] : Fin 5 → (⟨S_, .i32⟩ : BufTy).Contents (Elt F))) k (Shape.Idx.first h_S_)).toInt) updateFits_S64x4x4x64x256_S1x4x4x64x256 : (Proc.devRef .tc main_while0b_v43 : DevRef τ sig).ty.Contents (Elt F)) = Cert.ReferenceIdeal.Step.b41 j s := by
  unfold Cert.ReferenceIdeal.Step.b41
  rw [← al_36 h, ← al_37 h, ← al_38 h, ← al_39 h, ← al_40 h, h.f_7, h.n_5]
  try rfl

/-! One trip's step of the carried values is `step`, field by field; a counter steps to the next number. -/

theorem step_6 (h : Holds V0 s j) : step_main_v28_6 V0 = (step j s).main_v28_6 := by
  unfold step_main_v28_6 Cert.ReferenceIdeal.Step.step
  show id (addf (mulf (broadcastInDim S4x4x128x256 ![0, 1, 2, 3] bcast_S4x4x128x1_S4x4x128x256_0_1_2_3 (broadcastInDim S4x4x128x1 ![0, 1, 2] bcast_S4x4x128_S4x4x128x1_0_1_2 (shapeCast S4x4x128 (Host.dynamicSlice S1x4x4x128 (V0 (Proc.devRef .tc main_v28_3)) (fun k => (((![V0 (Proc.devRef .tc main_v28_5), constantI S_ 32 0#32, constantI S_ 32 0#32, constantI S_ 32 0#32] : Fin 4 → (⟨S_, .i32⟩ : BufTy).Contents (Elt F))) k (Shape.Idx.first h_S_)).toInt) sliceFits_S64x4x4x128_S1x4x4x128) shapeCasts_S1x4x4x128_S4x4x128))) (V0 (Proc.devRef .tc main_v28_6))) (Host.dotGeneral dot_S4x4x64x128_S4x4x64x256_S4x4x128x256_2_2_3_3_01_01 none (shapeCast S4x4x64x128 (Host.dynamicSlice S1x4x4x64x128 (V0 (Proc.devRef .tc main_v28_1)) (fun k => (((![V0 (Proc.devRef .tc main_v28_5), constantI S_ 32 0#32, constantI S_ 32 0#32, constantI S_ 32 0#32, constantI S_ 32 0#32] : Fin 5 → (⟨S_, .i32⟩ : BufTy).Contents (Elt F))) k (Shape.Idx.first h_S_)).toInt) sliceFits_S64x4x4x64x128_S1x4x4x64x128) shapeCasts_S1x4x4x64x128_S4x4x64x128) (shapeCast S4x4x64x256 (Host.dynamicSlice S1x4x4x64x256 (V0 (Proc.devRef .tc main_v28_2)) (fun k => (((![V0 (Proc.devRef .tc main_v28_5), constantI S_ 32 0#32, constantI S_ 32 0#32, constantI S_ 32 0#32, constantI S_ 32 0#32] : Fin 5 → (⟨S_, .i32⟩ : BufTy).Contents (Elt F))) k (Shape.Idx.first h_S_)).toInt) sliceFits_S64x4x4x64x256_S1x4x4x64x256) shapeCasts_S1x4x4x64x256_S4x4x64x256))) = _
  rw [al_34 h]
  try rfl
theorem step_7 (h : Holds V0 s j) : step_main_v28_7 V0 = (step j s).main_v28_7 := by
  unfold step_main_v28_7 Cert.ReferenceIdeal.Step.step
  show id (Host.dynamicUpdateSlice (V0 (Proc.devRef .tc main_v28_7)) (broadcastInDim S1x4x4x64x256 ![1, 2, 3, 4] bcast_S4x4x64x256_S1x4x4x64x256_1_2_3_4 (addf (shapeCast S4x4x64x256 (Host.dynamicSlice S1x4x4x64x256 (V0 (Proc.devRef .tc main_v28_4)) (fun k => (((![V0 (Proc.devRef .tc main_v28_5), constantI S_ 32 0#32, constantI S_ 32 0#32, constantI S_ 32 0#32, constantI S_ 32 0#32] : Fin 5 → (⟨S_, .i32⟩ : BufTy).Contents (Elt F))) k (Shape.Idx.first h_S_)).toInt) sliceFits_S64x4x4x64x256_S1x4x4x64x256) shapeCasts_S1x4x4x64x256_S4x4x64x256) (Host.dotGeneral dot_S4x4x64x128_S4x4x128x256_S4x4x64x256_3_2_2_3_01_01 none (shapeCast S4x4x64x128 (Host.dynamicSlice S1x4x4x64x128 (V0 (Proc.devRef .tc main_v28_0)) (fun k => (((![V0 (Proc.devRef .tc main_v28_5), constantI S_ 32 0#32, constantI S_ 32 0#32, constantI S_ 32 0#32, constantI S_ 32 0#32] : Fin 5 → (⟨S_, .i32⟩ : BufTy).Contents (Elt F))) k (Shape.Idx.first h_S_)).toInt) sliceFits_S64x4x4x64x128_S1x4x4x64x128) shapeCasts_S1x4x4x64x128_S4x4x64x128) (V0 (Proc.devRef .tc main_v28_6))))) (fun k => (((![V0 (Proc.devRef .tc main_v28_5), constantI S_ 32 0#32, constantI S_ 32 0#32, constantI S_ 32 0#32, constantI S_ 32 0#32] : Fin 5 → (⟨S_, .i32⟩ : BufTy).Contents (Elt F))) k (Shape.Idx.first h_S_)).toInt) updateFits_S64x4x4x64x256_S1x4x4x64x256) = _
  exact al_41 h
theorem step_5 (h : Holds V0 s j) : step_main_v28_5 V0 = constantI S_ 32 (BitVec.ofNat 32 (j + 1)) := by
  unfold step_main_v28_5
  rw [h.n_5]
  funext i
  show BitVec.ofNat 32 j + 1#32 = BitVec.ofNat 32 (j + 1)
  simp only [BitVec.ofNat_add]

set_option maxRecDepth 8192 in
theorem out_main_v30_holds (h : Holds V0 s j) : out_main_v30 V0 = Cert.ReferenceIdeal.Step.R_main_v30 s := by
  unfold out_main_v30 Cert.ReferenceIdeal.Step.R_main_v30
  rw [h.f_7]
  try rfl

/-- One trip keeps the valuation holding: `step` of the state, the same set-up values, the next number. -/
theorem holds_step (h : Holds V0 s j) : Holds (STEP V0) (step j s) (j + 1) where
  f_6 := (STEP_main_v28_6 V0).trans (step_6 h)
  f_7 := (STEP_main_v28_7 V0).trans (step_7 h)
  n_5 := (STEP_main_v28_5 V0).trans (step_5 h)
  f_0 := (STEP_main_v28_0 V0).trans h.f_0
  f_1 := (STEP_main_v28_1 V0).trans h.f_1
  f_2 := (STEP_main_v28_2 V0).trans h.f_2
  f_3 := (STEP_main_v28_3 V0).trans h.f_3
  f_4 := (STEP_main_v28_4 V0).trans h.f_4

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2)) (m ((c.tc : Thread nD τ).loc main_arg3))

variable (m : (ℓ : Loc nD τ sig) → Buf (Elt F) ℓ) (c : Dev nD)

set_option maxRecDepth 65536 in
set_option maxHeartbeats 500000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 64 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v30) = Cert.ReferenceIdeal.Step.R_main_v30 (it c 64)
      ∧ r.2.mem ((c.tc : Thread nD τ).loc main_v28_6) = (it c 64).main_v28_6
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    have hk := holds_iter m c (it c) (h0 c) (hs c) 64
    ⟨(h c).1.trans (out_main_v30_holds hk), (h c).2.1.trans hk.f_6, (h c).2.2.1, (h c).2.2.2.1, (h c).2.2.2.2.1, (h c).2.2.2.2.2⟩) (Value.run m ρ)

end Cert.GlaRef

end
-- ==== Proof.GlaCumsum.lean ====
module

public import proofs.«01_k».proof.Proof.GlaRefRun
public import proofs.«01_k».proof.Proof.GlaSpec
public import Idealize.ShloMosaic.Lib.Pointwise
public import Idealize.ShloMosaic.Lib.WordCmp

@[expose] public section
noncomputable section
namespace Cert.GlaRef
open Idealize.ShloMosaic Cert.Gla
open Cert.ReferenceIdeal Cert.ReferenceIdeal.Gen Cert.ReferenceIdeal.Step

/-- A left fold of sums from `v` is `v` and the sum of the terms. -/
theorem foldl_add_eq {ι : Type} (g : ι → EReal) (l : List ι) : ∀ v : EReal,
    l.foldl (fun r n => r + g n) v = v + (l.map g).sum := by
  induction l with
  | nil => intro v; simp
  | cons a l ih => intro v; rw [List.foldl_cons, ih, List.map_cons, List.sum_cons, add_assoc]

/-- The window sum as a sum over the window's indices. -/
theorem reduceWindowAdd_eq {s : Shape} (window strides lo hi : Fin s.rank → Nat) {t : Shape}
    (h : s.ReduceWindows window strides lo hi t) (x : s.Idx → EReal) (j : t.Idx) :
    Ideal.hostReduceWindowAdd window strides lo hi h x 0 j
      = ∑ p : (⟨s.rank, window⟩ : Shape).Idx,
          (if hin : ∀ a, lo a ≤ (j (a.cast h.1.symm)).val * strides a + (p a).val
              ∧ (j (a.cast h.1.symm)).val * strides a + (p a).val - lo a < s.size a then
            x (fun a => ⟨(j (a.cast h.1.symm)).val * strides a + (p a).val - lo a, (hin a).2⟩) else 0) := by
  unfold Ideal.hostReduceWindowAdd Host.reduceWindow
  dsimp only
  erw [foldl_add_eq]
  rw [zero_add, ← Fin.sum_univ_def]
  convert Equiv.sum_comp (⟨s.rank, window⟩ : Shape).rowMajor.symm (fun p : (⟨s.rank, window⟩ : Shape).Idx =>
    (if hin : ∀ a, lo a ≤ (j (a.cast h.1.symm)).val * strides a + (p a).val
              ∧ (j (a.cast h.1.symm)).val * strides a + (p a).val - lo a < s.size a then
            x (fun a => ⟨(j (a.cast h.1.symm)).val * strides a + (p a).val - lo a, (hin a).2⟩) else 0))

/-- The window of a running sum over 64 rows. -/
abbrev Win : Shape := ⟨5, ![1, 1, 1, 64, 1]⟩

/-- A window index's place on the summed axis. -/
def place (p : Win.Idx) : Fin 64 := p 3

theorem eq_place (p : Win.Idx) : p = ix5 0 0 0 (place p) 0 := by
  funext a
  have h := (p a).isLt
  fin_cases a
  · exact Fin.ext (by have : (p 0).val < 1 := h; show (p 0).val = 0; omega)
  · exact Fin.ext (by have : (p 1).val < 1 := h; show (p 1).val = 0; omega)
  · exact Fin.ext (by have : (p 2).val < 1 := h; show (p 2).val = 0; omega)
  · rfl
  · exact Fin.ext (by have : (p 4).val < 1 := h; show (p 4).val = 0; omega)

/-- The window's indices, by the place they have on the summed axis, turned by `c`. -/
def winEquiv (c : Fin 64) : Fin 64 ≃ Win.Idx where
  toFun j := ix5 0 0 0 (j - c - 1) 0
  invFun p := place p + 1 + c
  left_inv j := by
    show (j - c - 1) + 1 + c = j
    abel
  right_inv p := by
    refine Eq.trans ?_ (eq_place p).symm
    have h3 : (place p + 1 + c) - c - 1 = place p := by abel
    exact congrArg (fun w => ix5 0 0 0 w 0) h3

/-- The running sum along a chunk's rows, as the host's windowed sum computes it. -/
theorem cumsum_apply (x : S64x4x4x64x128.Idx → EReal)
    (h : S64x4x4x64x128.ReduceWindows ![1, 1, 1, 64, 1] ![1, 1, 1, 1, 1] ![0, 0, 0, 63, 0] ![0, 0, 0, 0, 0] S64x4x4x64x128)
    (n : Fin 64) (b hd : Fin 4) (c : Fin 64) (d : Fin 128) :
    Ideal.hostReduceWindowAdd (s := S64x4x4x64x128) ![1, 1, 1, 64, 1] ![1, 1, 1, 1, 1] ![0, 0, 0, 63, 0] ![0, 0, 0, 0, 0] h x 0 (ix5 n b hd c d)
      = ∑ j : Fin 64, if j.val ≤ c.val then x (ix5 n b hd j d) else 0 := by
  rw [reduceWindowAdd_eq]
  refine ((winEquiv c).sum_comp _).symm.trans (Finset.sum_congr rfl fun j _ => ?_)
  have hw : ((j - c - 1 : Fin 64)).val = (j.val + (63 - c.val)) % 64 := by
    rw [Fin.sub_def, Fin.sub_def]; simp only [Fin.val_one]; omega
  have e : ((winEquiv c j) 3).val = (j.val + (63 - c.val)) % 64 := hw
  have hc := c.isLt
  have hj := j.isLt
  split_ifs with h1 h2 h2
  · congr 1
    funext a
    fin_cases a
    · exact Fin.ext (show n.val * 1 + 0 - 0 = n.val by omega)
    · exact Fin.ext (show b.val * 1 + 0 - 0 = b.val by omega)
    · exact Fin.ext (show hd.val * 1 + 0 - 0 = hd.val by omega)
    · exact Fin.ext (show c.val * 1 + (j - c - 1 : Fin 64).val - 63 = j.val by omega)
    · exact Fin.ext (show d.val * 1 + 0 - 0 = d.val by omega)
  · exfalso
    have h3 : 63 ≤ c.val * 1 + (j - c - 1 : Fin 64).val := (h1 3).1
    omega
  · exfalso
    apply h1
    intro a
    fin_cases a
    · exact ⟨Nat.zero_le _, (show n.val * 1 + 0 - 0 < 64 by omega)⟩
    · exact ⟨Nat.zero_le _, (show b.val * 1 + 0 - 0 < 4 by omega)⟩
    · exact ⟨Nat.zero_le _, (show hd.val * 1 + 0 - 0 < 4 by omega)⟩
    · exact ⟨(show 63 ≤ c.val * 1 + (j - c - 1 : Fin 64).val by omega),
        (show c.val * 1 + (j - c - 1 : Fin 64).val - 63 < 64 by omega)⟩
    · exact ⟨Nat.zero_le _, (show d.val * 1 + 0 - 0 < 128 by omega)⟩
  · rfl
-- ==== Proof.GlaReference.lean ====
module

public import proofs.«01_k».proof.Proof.GlaCumsum
public import Idealize.ShloMosaic.Lib.WordArith
public import Idealize.ShloMosaic.Lib.DynamicIndex
public import Idealize.ShloMosaic.Lib.Pipeline.Value

@[expose] public section

/-!
# The reference's chunked recurrence, read in scalars

The values computed before the loop are read at an index of chunk, sequence, head, row and column; the loop's state and
its stacked outputs follow by induction on the chunks done.
-/

noncomputable section

namespace Cert.GlaRef

open Idealize.ShloMosaic Cert.Gla
open Cert.ReferenceIdeal Cert.ReferenceIdeal.Gen Cert.ReferenceIdeal.Step

section Before

variable (x0 x1 : S16384x512.Idx → EReal) (x2 : S16384x1024.Idx → EReal) (x3 : S16384x512.Idx → EReal)
variable (n : Fin 64) (b h : Fin 4) (c : Fin 64)

theorem v1_apply (d : Fin 128) : A_main_v1 (F := Ideal) x0 x1 x2 x3 (ix5 n b h c d)
    = rows (rd x0) (4096 * b.val) (128 * h.val) n.val c.val d.val := by
  unfold A_main_v1
  pointwise [A_main_v0]
  refine (ix2_rd x0 _ _).trans ?_
  exact congrArg₂ (rd x0) (show b.val * 4096 + n.val * 64 + c.val = 4096 * b.val + 64 * n.val + c.val by omega)
    (show h.val * 128 + d.val = 128 * h.val + d.val by omega)

theorem v3_apply (d : Fin 128) : A_main_v3 (F := Ideal) x0 x1 x2 x3 (ix5 n b h c d)
    = rows (rd x1) (4096 * b.val) (128 * h.val) n.val c.val d.val := by
  unfold A_main_v3
  pointwise [A_main_v2]
  refine (ix2_rd x1 _ _).trans ?_
  exact congrArg₂ (rd x1) (show b.val * 4096 + n.val * 64 + c.val = 4096 * b.val + 64 * n.val + c.val by omega)
    (show h.val * 128 + d.val = 128 * h.val + d.val by omega)

theorem v5_apply (d : Fin 256) : A_main_v5 (F := Ideal) x0 x1 x2 x3 (ix5 n b h c d)
    = rows (rd x2) (4096 * b.val) (256 * h.val) n.val c.val d.val := by
  unfold A_main_v5
  pointwise [A_main_v4]
  refine (ix2_rd x2 _ _).trans ?_
  exact congrArg₂ (rd x2) (show b.val * 4096 + n.val * 64 + c.val = 4096 * b.val + 64 * n.val + c.val by omega)
    (show h.val * 256 + d.val = 256 * h.val + d.val by omega)

theorem v7_apply (d : Fin 128) : A_main_v7 (F := Ideal) x0 x1 x2 x3 (ix5 n b h c d)
    = rows (rd x3) (4096 * b.val) (128 * h.val) n.val c.val d.val := by
  unfold A_main_v7
  pointwise [A_main_v6]
  refine (ix2_rd x3 _ _).trans ?_
  exact congrArg₂ (rd x3) (show b.val * 4096 + n.val * 64 + c.val = 4096 * b.val + 64 * n.val + c.val by omega)
    (show h.val * 128 + d.val = 128 * h.val + d.val by omega)

/-- The summed log decays of chunk `n` of head `h` of sequence `b`. -/
abbrev B (n b h : ℕ) : Tab := cumS (rows (rd x3) (4096 * b) (128 * h) n)

theorem v8_apply (d : Fin 128) : A_main_v8 (F := Ideal) x0 x1 x2 x3 (ix5 n b h c d) = B x3 n.val b.val h.val c.val d.val := by
  have hv : (K_main_call0_call0_v0 (F := Ideal)) (Shape.Idx.first h_S_) = (0 : EReal) := by
    pointwise [K_main_call0_call0_v0, K_main_call0_call0_cst]
  unfold A_main_v8
  show Ideal.hostReduceWindowAdd (s := S64x4x4x64x128) ![1, 1, 1, 64, 1] ![1, 1, 1, 1, 1] ![0, 0, 0, 63, 0] ![0, 0, 0, 0, 0]
    reduceWindows_S64x4x4x64x128_S64x4x4x64x128_w1s1p0_0_w1s1p0_0_w1s1p0_0_w64s1p63_0_w1s1p0_0
    (A_main_v7 (F := Ideal) x0 x1 x2 x3) ((K_main_call0_call0_v0 (F := Ideal)) (Shape.Idx.first h_S_)) (ix5 n b h c d) = _
  rw [hv, cumsum_apply]
  refine Finset.sum_congr rfl fun j _ => ?_
  rw [v7_apply]

theorem v11_apply (d : Fin 128) : A_main_v11 (F := Ideal) x0 x1 x2 x3 (ix5 n b h c d)
    = rows (rd x0) (4096 * b.val) (128 * h.val) n.val c.val d.val * Ideal.exp (B x3 n.val b.val h.val c.val d.val) := by
  unfold A_main_v11
  pointwise [A_main_v10]
  rw [v1_apply, v8_apply]

theorem v14_apply (d : Fin 128) : A_main_v14 (F := Ideal) x0 x1 x2 x3 (ix5 n b h c d)
    = rows (rd x1) (4096 * b.val) (128 * h.val) n.val c.val d.val * Ideal.exp (-(B x3 n.val b.val h.val c.val d.val)) := by
  unfold A_main_v14
  pointwise [A_main_v13, A_main_v12]
  rw [v3_apply, v8_apply]

theorem v23_apply (d : Fin 128) : A_main_v23 (F := Ideal) x0 x1 x2 x3 (ix5 n b h c d)
    = rows (rd x1) (4096 * b.val) (128 * h.val) n.val c.val d.val
      * Ideal.exp (B x3 n.val b.val h.val 63 d.val - B x3 n.val b.val h.val c.val d.val) := by
  unfold A_main_v23
  pointwise [A_main_v22, A_main_v21, A_main_v20, A_main_v9]
  rw [v3_apply, v8_apply, v8_apply]
  rfl

theorem v25_apply (d : Fin 128) : A_main_v25 (F := Ideal) x0 x1 x2 x3 (ix4 n b h d)
    = Ideal.exp (B x3 n.val b.val h.val 63 d.val) := by
  unfold A_main_v25
  pointwise [A_main_v24, A_main_v9]
  rw [v8_apply]
  rfl

theorem v17_apply (s : Fin 64) : A_main_v17 (F := Ideal) x0 x1 x2 x3 (ix5 n b h c s)
    = ∑ d : Fin 128, (rows (rd x0) (4096 * b.val) (128 * h.val) n.val c.val d.val * Ideal.exp (B x3 n.val b.val h.val c.val d.val))
      * (rows (rd x1) (4096 * b.val) (128 * h.val) n.val s.val d.val * Ideal.exp (-(B x3 n.val b.val h.val s.val d.val))) := by
  unfold A_main_v17
  pointwise
  exact Finset.sum_congr rfl fun d _ => by rw [v11_apply, v14_apply]

/-- A choice by the causal mask. -/
theorem select_causal (c s : Fin 64) (x y : EReal) :
    Scalar.select (Scalar.select (IntOp.cmpi CmpIPredicate.sge (IntOp.addi (BitVec.ofNat 32 c.val) 0#32) (BitVec.ofNat 32 s.val))
      1#1 0#1) x y = if s.val ≤ c.val then x else y := by
  have e : IntOp.addi (BitVec.ofNat 32 c.val) 0#32 = BitVec.ofNat 32 c.val := BitVec.add_zero _
  rw [e, WordCmp.cmpi_sge_ofNat (by have := c.isLt; omega) (by have := s.isLt; omega)]
  by_cases h : s.val ≤ c.val <;> simp [h, Scalar.select]

theorem v18_apply (s : Fin 64) : A_main_v18 (F := Ideal) x0 x1 x2 x3 (ix5 n b h c s)
    = if s.val ≤ c.val then A_main_v17 (F := Ideal) x0 x1 x2 x3 (ix5 n b h c s) else 0 := by
  unfold A_main_v18
  pointwise [K_main_call2_v0, K_main_v16, K_main_call1_v4, K_main_call1_v2, K_main_call1_v3, K_main_call1_v0, K_main_call1_v1,
    K_main_call1_c, K_main_v15, K_main_c, K_main_call1_v5, K_main_call1_c_0, K_main_call2_v1, K_main_cst]
  exact select_causal c s _ _

theorem v19_apply (w : Fin 256) : A_main_v19 (F := Ideal) x0 x1 x2 x3 (ix5 n b h c w)
    = ∑ s : Fin 64, (if s.val ≤ c.val then
        ∑ d : Fin 128, (rows (rd x0) (4096 * b.val) (128 * h.val) n.val c.val d.val * Ideal.exp (B x3 n.val b.val h.val c.val d.val))
          * (rows (rd x1) (4096 * b.val) (128 * h.val) n.val s.val d.val * Ideal.exp (-(B x3 n.val b.val h.val s.val d.val)))
        else 0) * rows (rd x2) (4096 * b.val) (256 * h.val) n.val s.val w.val := by
  unfold A_main_v19
  pointwise
  exact Finset.sum_congr rfl fun s _ => by rw [v18_apply, v17_apply, v5_apply]

end Before

section Trip

variable (j : ℕ) (hj : j < 64) (s : State Ideal) (b h : Fin 4) (c : Fin 64)
include hj

theorem toInt_trip : (BitVec.ofNat 32 j).toInt = (j : ℤ) := by
  rw [BitVec.toInt_ofNat']
  exact Int.bmod_eq_of_le (by omega) (by omega)

theorem b5_apply (d : Fin 128) : b5 (F := Ideal) j s (ix4 b h c d) = s.main_v28_0 (ix5 ⟨j, hj⟩ b h c d) := by
  have ho : S64x4x4x64x128.Slices ![j, 0, 0, 0, 0] S1x4x4x64x128 := ⟨rfl, fun a => by
    fin_cases a
    · exact Nat.le_of_lt_succ (by show j + 1 < 64 + 1; omega)
    · exact (by decide : 0 + 4 ≤ 4)
    · exact (by decide : 0 + 4 ≤ 4)
    · exact (by decide : 0 + 64 ≤ 64)
    · exact (by decide : 0 + 128 ≤ 128)⟩
  unfold b5 b4
  rw [Host.dynamicSlice_eq_extractStridedSlice S1x4x4x64x128 _ _ ![j, 0, 0, 0, 0] _ ho (fun a => by
    fin_cases a
    · exact toInt_trip j hj
    all_goals rfl)]
  pointwise

theorem b11_apply (d : Fin 128) : b11 (F := Ideal) j s (ix4 b h c d) = s.main_v28_1 (ix5 ⟨j, hj⟩ b h c d) := by
  have ho : S64x4x4x64x128.Slices ![j, 0, 0, 0, 0] S1x4x4x64x128 := ⟨rfl, fun a => by
    fin_cases a
    · exact Nat.le_of_lt_succ (by show j + 1 < 64 + 1; omega)
    · exact (by decide : 0 + 4 ≤ 4)
    · exact (by decide : 0 + 4 ≤ 4)
    · exact (by decide : 0 + 64 ≤ 64)
    · exact (by decide : 0 + 128 ≤ 128)⟩
  unfold b11 b10
  rw [Host.dynamicSlice_eq_extractStridedSlice S1x4x4x64x128 _ _ ![j, 0, 0, 0, 0] _ ho (fun a => by
    fin_cases a
    · exact toInt_trip j hj
    all_goals rfl)]
  pointwise

theorem b17_apply (d : Fin 256) : b17 (F := Ideal) j s (ix4 b h c d) = s.main_v28_2 (ix5 ⟨j, hj⟩ b h c d) := by
  have ho : S64x4x4x64x256.Slices ![j, 0, 0, 0, 0] S1x4x4x64x256 := ⟨rfl, fun a => by
    fin_cases a
    · exact Nat.le_of_lt_succ (by show j + 1 < 64 + 1; omega)
    · exact (by decide : 0 + 4 ≤ 4)
    · exact (by decide : 0 + 4 ≤ 4)
    · exact (by decide : 0 + 64 ≤ 64)
    · exact (by decide : 0 + 256 ≤ 256)⟩
  unfold b17 b16
  rw [Host.dynamicSlice_eq_extractStridedSlice S1x4x4x64x256 _ _ ![j, 0, 0, 0, 0] _ ho (fun a => by
    fin_cases a
    · exact toInt_trip j hj
    all_goals rfl)]
  pointwise

theorem b22_apply (d : Fin 128) : b22 (F := Ideal) j s (ix3 b h d) = s.main_v28_3 (ix4 ⟨j, hj⟩ b h d) := by
  have ho : S64x4x4x128.Slices ![j, 0, 0, 0] S1x4x4x128 := ⟨rfl, fun a => by
    fin_cases a
    · exact Nat.le_of_lt_succ (by show j + 1 < 64 + 1; omega)
    · exact (by decide : 0 + 4 ≤ 4)
    · exact (by decide : 0 + 4 ≤ 4)
    · exact (by decide : 0 + 128 ≤ 128)⟩
  unfold b22 b21
  rw [Host.dynamicSlice_eq_extractStridedSlice S1x4x4x128 _ _ ![j, 0, 0, 0] _ ho (fun a => by
    fin_cases a
    · exact toInt_trip j hj
    all_goals rfl)]
  pointwise

theorem b28_apply (d : Fin 256) : b28 (F := Ideal) j s (ix4 b h c d) = s.main_v28_4 (ix5 ⟨j, hj⟩ b h c d) := by
  have ho : S64x4x4x64x256.Slices ![j, 0, 0, 0, 0] S1x4x4x64x256 := ⟨rfl, fun a => by
    fin_cases a
    · exact Nat.le_of_lt_succ (by show j + 1 < 64 + 1; omega)
    · exact (by decide : 0 + 4 ≤ 4)
    · exact (by decide : 0 + 4 ≤ 4)
    · exact (by decide : 0 + 64 ≤ 64)
    · exact (by decide : 0 + 256 ≤ 256)⟩
  unfold b28 b27
  rw [Host.dynamicSlice_eq_extractStridedSlice S1x4x4x64x256 _ _ ![j, 0, 0, 0, 0] _ ho (fun a => by
    fin_cases a
    · exact toInt_trip j hj
    all_goals rfl)]
  pointwise

theorem b34_apply (d : Fin 128) (w : Fin 256) : b34 (F := Ideal) j s (ix4 b h d w)
    = s.main_v28_3 (ix4 ⟨j, hj⟩ b h d) * s.main_v28_6 (ix4 b h d w)
      + ∑ c : Fin 64, s.main_v28_1 (ix5 ⟨j, hj⟩ b h c d) * s.main_v28_2 (ix5 ⟨j, hj⟩ b h c w) := by
  unfold b34
  pointwise [b32, b31, b30, b33]
  rw [b22_apply j hj]
  exact congrArg _ (Finset.sum_congr rfl fun c _ => by rw [b11_apply j hj, b17_apply j hj])

theorem b35_apply (w : Fin 256) : b35 (F := Ideal) j s (ix4 b h c w)
    = s.main_v28_4 (ix5 ⟨j, hj⟩ b h c w)
      + ∑ d : Fin 128, s.main_v28_0 (ix5 ⟨j, hj⟩ b h c d) * s.main_v28_6 (ix4 b h d w) := by
  unfold b35
  pointwise [b29]
  rw [b28_apply j hj]
  exact congrArg _ (Finset.sum_congr rfl fun d _ => by rw [b5_apply j hj])

theorem b41_apply (n : Fin 64) (w : Fin 256) : b41 (F := Ideal) j s (ix5 n b h c w)
    = if n.val = j then b35 j s (ix4 b h c w) else s.main_v28_7 (ix5 n b h c w) := by
  have ho : S64x4x4x64x256.Slices ![j, 0, 0, 0, 0] S1x4x4x64x256 := ⟨rfl, fun a => by
    fin_cases a
    · exact Nat.le_of_lt_succ (by show j + 1 < 64 + 1; omega)
    · exact (by decide : 0 + 4 ≤ 4)
    · exact (by decide : 0 + 4 ≤ 4)
    · exact (by decide : 0 + 64 ≤ 64)
    · exact (by decide : 0 + 256 ≤ 256)⟩
  unfold b41
  rw [Host.dynamicUpdateSlice_eq_updateSlice _ _ _ _ ![j, 0, 0, 0, 0] (fun a => by
    fin_cases a
    · show (min (max (BitVec.ofNat 32 j).toInt 0) ((64 - 1 : ℕ) : ℤ)).toNat = j
      rw [toInt_trip j hj]; omega
    all_goals rfl) ho]
  pointwise [b36]
  by_cases h1 : n.val = j
  · rw [dif_pos ⟨by omega, by omega⟩, if_pos h1]
  · rw [dif_neg (fun h2 => h1 (by omega)), if_neg h1]

end Trip

section Iterate

variable (x0 x1 : S16384x512.Idx → EReal) (x2 : S16384x1024.Idx → EReal) (x3 : S16384x512.Idx → EReal)
variable (it : ℕ → State Ideal) (h0 : it 0 = init x0 x1 x2 x3) (hs : ∀ n, it (n + 1) = step n (it n))
include h0 hs

/-- No trip changes the values computed before the loop. -/
theorem it_fixed (n : ℕ) : (it n).main_v28_0 = A_main_v11 x0 x1 x2 x3 ∧ (it n).main_v28_1 = A_main_v23 x0 x1 x2 x3
    ∧ (it n).main_v28_2 = A_main_v5 x0 x1 x2 x3 ∧ (it n).main_v28_3 = A_main_v25 x0 x1 x2 x3
    ∧ (it n).main_v28_4 = A_main_v19 x0 x1 x2 x3 := by
  induction n with
  | zero => rw [h0]; exact ⟨rfl, rfl, rfl, rfl, rfl⟩
  | succ n ih => rw [hs]; exact ih

/-- The loop's state after `n` chunks. -/
theorem it_state (n : ℕ) (hn : n ≤ 64) (b h : Fin 4) (d : Fin 128) (w : Fin 256) : (it n).main_v28_6 (ix4 b h d w)
    = GS (fun _ _ => 0) (rd x1) (rd x2) (rd x3) (4096 * b.val) (128 * h.val) (256 * h.val) n d.val w.val := by
  induction n with
  | zero =>
    rw [h0]
    show (K_main_v26 (F := Ideal)) (ix4 b h d w) = (0 : EReal)
    pointwise [K_main_v26, K_main_cst_0]
  | succ n ih =>
    obtain ⟨-, e1, e2, e3, -⟩ := it_fixed x0 x1 x2 x3 it h0 hs n
    rw [hs, step_main_v28_6, b34_apply n hn, ih (by omega), e1, e2, e3, v25_apply]
    refine congrArg _ (Finset.sum_congr rfl fun c _ => ?_)
    rw [v23_apply, v5_apply]

/-- The stacked outputs after `n` chunks. -/
theorem it_out (n : ℕ) (hn : n ≤ 64) (k : Fin 64) (hk : k.val < n) (b h : Fin 4) (c : Fin 64) (w : Fin 256) :
    (it n).main_v28_7 (ix5 k b h c w)
    = GO (fun _ _ => 0) (rd x0) (rd x1) (rd x2) (rd x3) (4096 * b.val) (128 * h.val) (256 * h.val) k.val c.val w.val := by
  induction n with
  | zero => omega
  | succ n ih =>
    rw [hs, step_main_v28_7, b41_apply n hn]
    by_cases e : k.val = n
    · subst e
      obtain ⟨e0, -, -, -, e4⟩ := it_fixed x0 x1 x2 x3 it h0 hs k.val
      rw [if_pos rfl, b35_apply k.val k.isLt, e0, e4, v19_apply]
      refine congrArg _ (Finset.sum_congr rfl fun d _ => ?_)
      rw [v11_apply, it_state x0 x1 x2 x3 it h0 hs k.val (by omega)]
    · rw [if_neg e]
      exact ih (by omega) (by omega)

/-- The reference's output. -/
theorem result_out : (R_main_v30 (it 64) : S16384x1024.Idx → EReal) = fun i =>
    GO (fun _ _ => 0) (rd x0) (rd x1) (rd x2) (rd x3) (4096 * ((i 0).val / 4096)) (128 * ((i 1).val / 256))
      (256 * ((i 1).val / 256)) ((i 0).val % 4096 / 64) ((i 0).val % 64) ((i 1).val % 256) := by
  funext i
  have hr : (i 0).val < 16384 := (i 0).isLt
  have hw : (i 1).val < 1024 := (i 1).isLt
  refine Eq.trans ?_ (it_out x0 x1 x2 x3 it h0 hs 64 le_rfl ⟨(i 0).val % 4096 / 64, by omega⟩ (by show _ / 64 < 64; omega)
    ⟨(i 0).val / 4096, by omega⟩ ⟨(i 1).val / 256, by omega⟩ ⟨(i 0).val % 64, by omega⟩ ⟨(i 1).val % 256, by omega⟩)
  unfold R_main_v30
  pointwise
  exact congrArg (fun k => (it 64).main_v28_7 (ix5 k ⟨(i 0).val / 4096, by omega⟩ ⟨(i 1).val / 256, by omega⟩
    ⟨(i 0).val % 64, by omega⟩ ⟨(i 1).val % 256, by omega⟩))
    (Fin.ext (show (i 0).val / 64 % 64 = (i 0).val % 4096 / 64 by omega))

/-- The reference's final states. -/
theorem result_state : ((it 64).main_v28_6 : S4x4x128x256.Idx → EReal) = fun i =>
    GS (fun _ _ => 0) (rd x1) (rd x2) (rd x3) (4096 * (i 0).val) (128 * (i 1).val) (256 * (i 1).val) 64 (i 2).val (i 3).val := by
  funext i
  refine (congrArg _ (eq_ix4 i)).trans ?_
  exact it_state x0 x1 x2 x3 it h0 hs 64 le_rfl (i 0) (i 1) (i 2) (i 3)

end Iterate

end Cert.GlaRef

end
-- ==== Proof.GlaClaims.lean ====
/- The claims of the chunked recurrence: both frames of the kernel, the reference's frame, and the equality of both
   results. -/
module

public import proofs.«01_k».proof.Defs
public import proofs.«01_k».proof.Proof.Gen.Kernel
public import proofs.«01_k».proof.Proof.Gen.Kernel.Frame
public import proofs.«01_k».proof.Proof.Gen.KernelIdeal.Frame
public import proofs.«01_k».proof.Proof.GlaKernel
public import proofs.«01_k».proof.Proof.GlaReference
public import Idealize.ShloMosaic.Lib.ReduceAll
public import Idealize.ShloMosaic.Adequacy
public import Idealize.ShloMosaic.Init

@[expose] public section

noncomputable section

namespace Cert.GlaClaims

open Idealize.ShloMosaic Idealize.ShloMosaic.TcCoe Idealize.SL.Sem

instance facts_decays : Cert.Pre_decays_below_inf.Facts where
  bcast_S_S16384x512 := by decide
  reducesTo_S16384x512_S_d0_1 := by decide
  h_S_ := by decide

theorem lt_top_of_cmp {x y : EReal} (h : Ideal.cmp .olt x y = 1#1) : x < ⊤ := by
  by_contra hn
  have h3 : ¬ x < y := fun hl => hn (lt_of_lt_of_le hl le_top)
  simp [Ideal.cmp, h3] at h

/-- The precondition read: every log decay is below infinity. -/
theorem below (m : (ℓ : Loc Cert.KernelIdeal.nD Cert.KernelIdeal.τ Cert.KernelIdeal.sig) → Buf (Elt Ideal) ℓ)
    (hp : Cert.Pre_KernelIdeal_decays_below_inf m) (c : Dev Cert.KernelIdeal.nD) (i : Cert.KernelIdeal.S16384x512.Idx) :
    @LT.lt EReal _ (m ((c : Thread Cert.KernelIdeal.nD Cert.KernelIdeal.τ).loc Cert.KernelIdeal.main_arg3) i) ⊤ := by
  have h := hp c
  unfold Cert.Pre_decays_below_inf.fn at h
  have hs : Subsingleton Cert.Pre_decays_below_inf.S_.Idx := ⟨fun a b => funext fun k => k.elim0⟩
  have h1 := Host.reduce_andi_all _ _ _ _ (Shape.Idx.first Cert.Pre_decays_below_inf.Facts.h_S_) (congrFun h _) i
  exact lt_top_of_cmp h1

/-- The reference's states, chunk after chunk. -/
def refIter (m' : (ℓ : Loc Cert.ReferenceIdeal.nD Cert.ReferenceIdeal.τ Cert.ReferenceIdeal.sig) → Buf (Elt Ideal) ℓ)
    (c : Dev Cert.ReferenceIdeal.nD) : ℕ → Cert.ReferenceIdeal.Step.State Ideal
  | 0 => Cert.GlaRef.initState m' c
  | n + 1 => Cert.ReferenceIdeal.Step.step n (refIter m' c n)

theorem frame_reference : Cert.quiescent_ReferenceIdeal := fun m ρ _ =>
  (θ_run Cert.ReferenceIdeal.defs _ _).mono (fun r h => ⟨fun c => (h c).2.2,
      Idealize.ShloMosaic.sem_eq_zero_of_no_sems (by decide) r.2⟩)
    (Cert.GlaRef.run_iter m ρ (refIter m) (fun _ => rfl) (fun _ _ => rfl))

theorem algebraic : Cert.algebraic_KernelIdeal_ReferenceIdeal_pre_decays_below_inf := by
  intro m g m' g' hp hag
  refine ⟨fun c => Cert.GlaValue.outArr m c, fun c => Cert.GlaValue.stateArr m c, ?_, ?_⟩
  · refine (θ_run Cert.KernelIdeal.defs _ _).mono (fun r h c => ?_) (Cert.KernelIdeal.Value.run_blocks m g)
    obtain ⟨e0, e1, ea⟩ := h c
    exact ⟨e0.trans (Cert.GlaValue.final_out m c (below m hp c)), e1.trans (Cert.GlaValue.final_state m c (below m hp c)), ea⟩
  · refine (θ_run Cert.ReferenceIdeal.defs _ _).mono (fun r h c => ?_)
      (Cert.GlaRef.run_iter m' g' (refIter m') (fun _ => rfl) (fun _ _ => rfl))
    obtain ⟨e0, e1, ea⟩ := h c
    obtain ⟨a0, a1, a2, a3⟩ := hag c
    have r0 := Cert.GlaRef.result_out _ _ _ _ (refIter m' c) rfl (fun _ => rfl)
    have r1 := Cert.GlaRef.result_state _ _ _ _ (refIter m' c) rfl (fun _ => rfl)
    refine ⟨e0.trans (r0.trans ?_), e1.trans (r1.trans ?_), ea⟩
    · unfold Cert.GlaValue.outArr Cert.GlaValue.Qm Cert.GlaValue.Km Cert.GlaValue.Vm Cert.GlaValue.Lm
      rw [a0, a1, a2, a3]
    · unfold Cert.GlaValue.stateArr Cert.GlaValue.Km Cert.GlaValue.Vm Cert.GlaValue.Lm
      rw [a1, a2, a3]

end Cert.GlaClaims

end
-- ==== Proof.AttnSpec.lean ====
module

public import proofs.«01_k».proof.Proof.GlaSpec
public import Idealize.ShloMosaic.Lib.Pointwise

@[expose] public section

/-!
# The attention projections, in scalars

A row is normalised (`Rms`), multiplied by the weight columns (`Prj`), and, for queries and keys, every head of 128
columns is turned by its position's angles (`Rot`): column `j` of a head with angle `j mod 64`.
All functions are over natural row and column numbers.
-/

noncomputable section

open Idealize.ShloMosaic

namespace Cert.Attn

open Cert.Gla

/-- A row over the root of its mean square, times the gain. -/
def Rms (X : Tab) (G : ℕ → EReal) : Tab := fun r d =>
  X r d * Ideal.rsqrt (Ideal.div (∑ e : Fin 1024, X r e.val * X r e.val) (Ideal.ofBits .f32 0x44800000#32)
    + Ideal.ofBits .f32 0x358637BD#32) * G d

/-- The normalised rows against the weight columns. -/
def Prj (X : Tab) (G : ℕ → EReal) (W : Tab) : Tab := fun r e => ∑ d : Fin 1024, Rms X G r d.val * W d.val e

/-- Every head of 128 columns turned, from tables of cosines and signed sines. -/
def Turn (z C S : Tab) : Tab := fun r e =>
  z r e * C r (e % 128) + z r (128 * (e / 128) + (e + 64) % 128) * S r (e % 128)

/-- A natural number, as the programs turn it into a float. -/
abbrev num (j : ℕ) : EReal := (FloatOps.sitofp .f32 (BitVec.ofNat 32 j) : Ideal .f32)

/-- The angle of position `p`, frequency `j`. -/
def ang (p : EReal) (j : ℕ) : EReal :=
  p * Ideal.pow (Ideal.ofBits .f32 0x461C4000#32) (Ideal.div (-num j) (Ideal.ofBits .f32 0x42800000#32))

/-- The table of cosines, from the rows' positions. -/
def cosT (p : ℕ → EReal) : Tab := fun r j => Ideal.cos (ang (p r) (j % 64))

/-- The table of signed sines. -/
def sinT (p : ℕ → EReal) : Tab := fun r j => if j < 64 then -Ideal.sin (ang (p r) (j % 64)) else Ideal.sin (ang (p r) (j % 64))

/-- Queries or keys: columns from `o` on of the projection, turned. -/
def QK (X : Tab) (G : ℕ → EReal) (W : Tab) (p : ℕ → EReal) (o : ℕ) : Tab :=
  Turn (fun r e => Prj X G W r (o + e)) (cosT p) (sinT p)

/-- Gates: the projection times its logistic. -/
def Silu (X : Tab) (G : ℕ → EReal) (W : Tab) (o : ℕ) : Tab := fun r e =>
  Prj X G W r (o + e) * Ideal.logistic (Prj X G W r (o + e))

theorem rd_eq {R C : ℕ} (x : (⟨2, ![R, C]⟩ : Shape).Idx → EReal) {r c : ℕ} (hr : r < R) (hc : c < C) :
    rd x r c = x (ix2 ⟨r, hr⟩ ⟨c, hc⟩) := dif_pos ⟨hr, hc⟩

theorem rd_at {R C : ℕ} (x : (⟨2, ![R, C]⟩ : Shape).Idx → EReal) (i : Fin R) (j : Fin C) {r c : ℕ} (hr : r = i.val) (hc : c = j.val) :
    rd x r c = x (ix2 i j) := by
  subst hr hc; exact (ix2_rd x i j).symm

/-- An array of three axes as a table: its first two axes are the rows. -/
def rd3 {B T C : ℕ} (x : (⟨3, ![B, T, C]⟩ : Shape).Idx → EReal) : Tab := fun r c =>
  if h : r / T < B ∧ r % T < T ∧ c < C then x (ix3 ⟨r / T, h.1⟩ ⟨r % T, h.2.1⟩ ⟨c, h.2.2⟩) else 0

theorem rd3_at {B T C : ℕ} (x : (⟨3, ![B, T, C]⟩ : Shape).Idx → EReal) (b : Fin B) (t : Fin T) (j : Fin C) {r c : ℕ}
    (hr : r = T * b.val + t.val) (hc : c = j.val) : rd3 x r c = x (ix3 b t j) := by
  have hT : 0 < T := lt_of_le_of_lt (Nat.zero_le _) t.isLt
  have e0 : r / T = b.val := by rw [hr, Nat.mul_add_div hT, Nat.div_eq_of_lt t.isLt, Nat.add_zero]
  have e1 : r % T = t.val := by rw [hr, Nat.mul_add_mod, Nat.mod_eq_of_lt t.isLt]
  unfold rd3
  rw [dif_pos ⟨e0 ▸ b.isLt, e1 ▸ t.isLt, hc ▸ j.isLt⟩]
  have f0 : (⟨r / T, e0 ▸ b.isLt⟩ : Fin B) = b := Fin.ext e0
  have f1 : (⟨r % T, e1 ▸ t.isLt⟩ : Fin T) = t := Fin.ext e1
  have f2 : (⟨c, hc ▸ j.isLt⟩ : Fin C) = j := Fin.ext hc
  rw [f0, f1, f2]

/-- An element of a product of a normalised row, over arrays. -/
theorem prj_of {R C : ℕ} (x : (⟨2, ![R, 1024]⟩ : Shape).Idx → EReal) (g : (⟨2, ![1, 1024]⟩ : Shape).Idx → EReal)
    (w : (⟨2, ![1024, C]⟩ : Shape).Idx → EReal) (r : Fin R) (e : Fin C) {e' : ℕ} (he : e' = e.val) :
    ∑ d : Fin 1024, x (ix2 r d) * Ideal.rsqrt (Ideal.div (∑ e : Fin 1024, x (ix2 r e) * x (ix2 r e)) (Ideal.ofBits .f32 0x44800000#32)
      + Ideal.ofBits .f32 0x358637BD#32) * g (ix2 0 d) * w (ix2 d e) = Prj (rd x) (rd g 0) (rd w) r.val e' := by
  subst he
  unfold Prj Rms
  refine Finset.sum_congr rfl fun d _ => ?_
  rw [rd_at x r d rfl rfl, rd_at (r := 0) g 0 d rfl rfl, rd_at w d e rfl rfl]
  simp only [ix2_rd]

theorem rms_congr {X X' : Tab} {G G' : ℕ → EReal} {r r' : ℕ} (hX : ∀ d < 1024, X r d = X' r' d)
    (hG : ∀ d < 1024, G d = G' d) {d : ℕ} (hd : d < 1024) : Rms X G r d = Rms X' G' r' d := by
  unfold Rms
  rw [hX d hd, hG d hd, Finset.sum_congr rfl fun e _ => by rw [hX e.val e.isLt]]

theorem prj_congr {X X' : Tab} {G G' : ℕ → EReal} {W W' : Tab} {r r' e e' : ℕ} (hX : ∀ d < 1024, X r d = X' r' d)
    (hG : ∀ d < 1024, G d = G' d) (hW : ∀ d < 1024, W d e = W' d e') : Prj X G W r e = Prj X' G' W' r' e' := by
  unfold Prj
  exact Finset.sum_congr rfl fun d _ => by rw [rms_congr hX hG d.isLt, hW d.val d.isLt]

theorem turn_congr {z z' C C' S S' : Tab} {r r' e : ℕ} (he : e < 1024) (hz : ∀ e < 1024, z r e = z' r' e)
    (hC : ∀ j < 128, C r j = C' r' j) (hS : ∀ j < 128, S r j = S' r' j) : Turn z C S r e = Turn z' C' S' r' e := by
  unfold Turn
  rw [hz e he, hz _ (by omega), hC _ (Nat.mod_lt _ (by omega)), hS _ (Nat.mod_lt _ (by omega))]

/-- One element of a turned head, as the kernels compute it. -/
theorem turn_of {z C S : Tab} {r e a b j : ℕ} {p q c s : EReal} (hp : p = z r a) (hq : q = z r b) (hc : c = C r j) (hs : s = S r j)
    (ha : a = e) (hb : b = 128 * (e / 128) + (e + 64) % 128) (hj : j = e % 128) : p * c + q * s = Turn z C S r e := by
  subst hp hq hc hs ha hb hj; rfl

end Cert.Attn
end
-- ==== Proof.AttnBlock.lean ====
module

public import proofs.«01_k».proof.Proof.Gen.Kernel2Ideal.Value
public import proofs.«01_k».proof.Proof.AttnSpec
public import Idealize.ShloMosaic.Lib.Tactic
public import Idealize.ShloMosaic.Lib.Pipeline.Value
public import Idealize.ShloMosaic.Lib.Pipeline.ValueKit
public import Idealize.ShloMosaic.Lib.Pointwise

@[expose] public section

/-!
# One grid point of the prompt's attention projections

What the body leaves in every output block, from the blocks of the inputs: rows, gain, weights, cosines, signed sines.
-/

noncomputable section

open Idealize.ShloMosaic Idealize.ShloMosaic.TcCoe Idealize.SL.Sem
open Cert.Kernel2Ideal Cert.Kernel2Ideal.Gen Cert.Gla Cert.Attn

namespace Cert.AttnBlock

variable (x0 : Vec Ideal S512x1024 .f32) (x1 : Vec Ideal S1x1024 .f32) (x2 : Vec Ideal S1024x4096 .bf16)
  (x3 x4 : Vec Ideal S512x128 .f32)

/-- The block's projection. -/
abbrev P : Tab := Prj (rd (R := 512) (C := 1024) x0) (rd (R := 1) (C := 1024) x1 0) (rd (R := 1024) (C := 4096) x2)

/-- A group of turned heads: the projection's columns from `o` on. -/
abbrev T (o : ℕ) : Tab := Turn (fun r e => P x0 x1 x2 r (o + e)) (rd (R := 512) (C := 128) x3) (rd (R := 512) (C := 128) x4)

theorem pay5_at (r : Fin 512) (e : Fin 1024) : k0_pay5 x0 x1 (View.ld x2 r0_3) (ix2 r e) = P x0 x1 x2 r.val (0 + e.val) := by
  pointwise [k0_pay5, k0_pay2]
  have := e.isLt
  exact prj_of x0 x1 x2 r ⟨e.val, by omega⟩ rfl

theorem pay12_at (r : Fin 512) (e : Fin 1024) : k0_pay12 (k0_pay2 x0 x1) (View.ld x2 r0_4) (ix2 r e) = P x0 x1 x2 r.val (1024 + e.val) := by
  pointwise [k0_pay12, k0_pay2]
  exact prj_of x0 x1 x2 r _ rfl

theorem pay20_at (r : Fin 512) (e : Fin 1024) : k0_pay20 (k0_pay2 x0 x1) (View.ld x2 r0_5) (ix2 r e) = P x0 x1 x2 r.val (2048 + e.val) := by
  pointwise [k0_pay20, k0_pay2]
  exact prj_of x0 x1 x2 r _ rfl

theorem pay25_eq : k0_pay25 x0 x1 x2 x3 x4 = k0_pay2 x0 x1 := by
  unfold k0_pay25
  rw [View.ld_unit_zero (by decide), View.ld_unit_zero (by decide)]

theorem out_v (r : Fin 512) (e : Fin 1024) : out0_8 x0 x1 x2 x3 x4 (ix2 r e) = P x0 x1 x2 r.val (2048 + e.val) := by
  frame_out
  rw [pay25_eq]
  exact pay20_at x0 x1 x2 r e

theorem out_vs (z : Fin 1) (e : Fin 1024) (r : Fin 512) : out0_9 x0 x1 x2 x3 x4 (ix3 z e r) = P x0 x1 x2 r.val (2048 + e.val) := by
  frame_out
  rw [pay25_eq]
  pointwise [k0_pay1, k0_pay24]
  exact pay20_at x0 x1 x2 r e

theorem out_s (r : Fin 512) (e : Fin 1024) : out0_10 x0 x1 x2 x3 x4 (ix2 r e)
    = P x0 x1 x2 r.val (3072 + e.val) * Ideal.logistic (P x0 x1 x2 r.val (3072 + e.val)) := by
  frame_out
  rw [pay25_eq]
  pointwise [k0_pay21, k0_pay2]
  exact congrArg (fun z : EReal => z * Ideal.logistic z) (prj_of x0 x1 x2 r _ rfl)

theorem out_q (z : Fin 1) (e : Fin 1024) (r : Fin 512) : out0_5 x0 x1 x2 x3 x4 (ix3 z e r)
    = T x0 x1 x2 x3 x4 0 r.val e.val * Ideal.ofBits .f32 0x3E0293EE#32 := by
  frame_out
  pointwise [k0_pay22, k0_pay11, k0_pay6, k0_pay7, k0_pay8, k0_pay9, k0_pay10, k0_pay3, k0_pay4, k0_pay26, k0_pay27]
  refine congrArg (· * _) ?_
  have := e.isLt
  split_ifs <;>
  exact turn_of (pay5_at x0 x1 x2 r _) (pay5_at x0 x1 x2 r _) (ix2_rd x3 r _) (ix2_rd x4 r _)
      (by first | (dsimp only; done) | (dsimp only; omega)) (by first | (dsimp only; done) | (dsimp only; omega))
      (by first | (dsimp only; done) | (dsimp only; omega))

theorem pay19_at (r : Fin 512) (e : Fin 1024) :
    k0_pay19 (k0_pay26 x0 x1 x2 x3 x4) (k0_pay27 x0 x1 x2 x3 x4) (k0_pay28 x0 x1 x2 x3 x4) (k0_pay29 x0 x1 x2 x3 x4)
      (k0_pay30 x0 x1 x2 x3 x4) (k0_pay31 x0 x1 x2 x3 x4) (k0_pay32 x0 x1 x2 x3 x4) (k0_pay33 x0 x1 x2 x3 x4) (ix2 r e)
    = T x0 x1 x2 x3 x4 1024 r.val e.val := by
  unfold k0_pay28 k0_pay29 k0_pay30 k0_pay31 k0_pay32 k0_pay33
  rw [pay25_eq]
  pointwise [k0_pay19, k0_pay13, k0_pay14, k0_pay15, k0_pay16, k0_pay17, k0_pay18, k0_pay3, k0_pay4, k0_pay26, k0_pay27]
  have := e.isLt
  split_ifs <;>
  exact turn_of (pay12_at x0 x1 x2 r _) (pay12_at x0 x1 x2 r _) (ix2_rd x3 r _) (ix2_rd x4 r _)
      (by first | (dsimp only; done) | (dsimp only; omega)) (by first | (dsimp only; done) | (dsimp only; omega))
      (by first | (dsimp only; done) | (dsimp only; omega))

theorem out_k (r : Fin 512) (e : Fin 1024) : out0_6 x0 x1 x2 x3 x4 (ix2 r e) = T x0 x1 x2 x3 x4 1024 r.val e.val := by
  frame_out
  exact pay19_at x0 x1 x2 x3 x4 r e

theorem out_kb (r : Fin 512) (e : Fin 1024) : out0_7 x0 x1 x2 x3 x4 (ix2 r e) = T x0 x1 x2 x3 x4 1024 r.val e.val := by
  frame_out
  pointwise [k0_pay23]
  exact pay19_at x0 x1 x2 x3 x4 r e

end Cert.AttnBlock
end
-- ==== Proof.AttnKernel.lean ====
module

public import proofs.«01_k».proof.Proof.AttnBlock

@[expose] public section

/-!
# The prompt's attention projections: the result arrays

Grid point `t` works on rows `512 t` on; its positions are those rows modulo 4096.
-/

noncomputable section

open Idealize.ShloMosaic Idealize.ShloMosaic.TcCoe Idealize.SL.Sem
open Cert.Kernel2Ideal Cert.Kernel2Ideal.Gen Cert.Gla Cert.Attn
open Idealize.ShloMosaic.Pipeline (Dat)

namespace Cert.AttnValue

variable (m : (ℓ : Loc nD τ sig) → Buf (Elt Ideal) ℓ) (c : Dev nD)

/-! ### What the host operations before the call leave -/

/-- The angles of the positions. -/
def angA : FVec Ideal S4096x64 .f32 :=
  mulf
    (broadcastInDim S4096x64 ![0, 1] bcast_S4096x1_S4096x64_0_1
      (broadcastInDim S4096x1 ![0] bcast_S4096_S4096x1_0 (sitofp FTy.f32 (iotaInDim S4096 32 0))))
    (broadcastInDim S4096x64 ![0, 1] bcast_S1x64_S4096x64_0_1
      (broadcastInDim S1x64 ![1] bcast_S64_S1x64_1
        (Host.powf (broadcastInDim S64 ![] bcast_S_S64 (constant S_ FTy.f32 0x461C4000#32))
          (Host.divf (Host.negf (sitofp FTy.f32 (iotaInDim S64 32 0)))
            (broadcastInDim S64 ![] bcast_S_S64 (constant S_ FTy.f32 0x42800000#32))))))

/-- Two tables of 64 columns side by side, as the call takes them. -/
def pairA (a b : FVec Ideal S4096x64 .f32) : FVec Ideal S4096x128 .f32 :=
  shapeCast S4096x128
    (broadcastInDim S1x4096x1x128 ![0, 1, 2, 3] bcast_S1x4096x1x128_S1x4096x1x128_0_1_2_3
      (shapeCast S1x4096x1x128
        (concatenate S4096x128 1 [⟨S4096x64, a⟩, ⟨S4096x64, b⟩] concatenates_S4096x64_S4096x64_S4096x128_d1)
        shapeCasts_S4096x128_S1x4096x1x128))
    shapeCasts_S1x4096x1x128_S4096x128

theorem V_cos : (V m c main_v23 : S4096x128.Idx → EReal) = pairA (Host.cos angA) (Host.cos angA) := by
  unfold_abbrev_sides
  after_results
  rfl

theorem V_sin : (V m c main_v28 : S4096x128.Idx → EReal) = pairA (Host.negf (Host.sin angA)) (Host.sin angA) := by
  unfold_abbrev_sides
  after_results
  rfl

theorem V_w : (V m c main_v4 : S1024x4096.Idx → EReal)
    = truncf (F := Ideal) .bf16 (extractStridedSlice S1024x4096 ![0, 0] (shapeCast S1024x9556 (m ((c : Thread nD τ).loc main_arg2)) shapeCasts_S1x1024x9556_S1024x9556)
        slices_S1024x9556_S1024x4096_0_0) bitsLt_bf16_f32 := by
  unfold_abbrev_sides
  after_results
  rfl

theorem V_g : (V m c main_v1 : S1x1024.Idx → EReal)
    = shapeCast S1x1024 (shapeCast S1024 (m ((c : Thread nD τ).loc main_arg1)) shapeCasts_S1x1024_S1024) shapeCasts_S1024_S1x1024 := by
  unfold_abbrev_sides
  after_results
  rfl

theorem V_x : (V m c main_v29 : S16384x1024.Idx → EReal)
    = shapeCast S16384x1024 (m ((c : Thread nD τ).loc main_arg0)) shapeCasts_S4x4096x1024_S16384x1024 := by
  unfold_abbrev_sides
  after_results
  rfl

theorem flat_at (a : FVec Ideal S4x4096x1024 .f32) (R : Fin 16384) (d : Fin 1024) :
    shapeCast S16384x1024 a shapeCasts_S4x4096x1024_S16384x1024 (ix2 R d) = rd3 (B := 4) (T := 4096) (C := 1024) a R.val d.val := by
  pointwise []
  exact (rd3_at _ _ _ _ (by dsimp only; omega) rfl).symm

theorem gain_at (a : FVec Ideal S1x1024 .f32) (d : Fin 1024) :
    shapeCast S1x1024 (shapeCast S1024 a shapeCasts_S1x1024_S1024) shapeCasts_S1024_S1x1024 (ix2 0 d) = rd (R := 1) (C := 1024) a 0 d.val := by
  pointwise []
  exact (rd_at (r := 0) a 0 d rfl rfl).symm

theorem weight_at (a : FVec Ideal S1x1024x9556 .f32) (d : Fin 1024) (e : Fin 4096) :
    truncf (F := Ideal) .bf16 (extractStridedSlice S1024x4096 ![0, 0] (shapeCast S1024x9556 a shapeCasts_S1x1024x9556_S1024x9556)
        slices_S1024x9556_S1024x4096_0_0) bitsLt_bf16_f32 (ix2 d e) = rd3 (B := 1) (T := 1024) (C := 9556) a d.val e.val := by
  pointwise []
  exact (rd3_at _ _ _ _ (by simp) rfl).symm

theorem ang_at (r : Fin 4096) (j : Fin 64) : angA (ix2 r j) = ang (num r.val) j.val := by
  pointwise [angA]
  rfl

theorem cos_at (r : Fin 4096) (j : Fin 128) : pairA (Host.cos angA) (Host.cos angA) (ix2 r j) = cosT num r.val j.val := by
  pointwise [pairA]
  have := j.isLt
  unfold cosT
  split_ifs
  · rw [ang_at, Nat.mod_eq_of_lt (by assumption)]
  · rw [ang_at, show j.val % 64 = j.val - 64 by omega]
  · exact absurd rfl ‹_›

theorem sin_at (r : Fin 4096) (j : Fin 128) : pairA (Host.negf (Host.sin angA)) (Host.sin angA) (ix2 r j) = sinT num r.val j.val := by
  pointwise [pairA]
  have := j.isLt
  unfold sinT
  split_ifs
  · rw [ang_at, Nat.mod_eq_of_lt (by assumption)]
  · rw [ang_at, show j.val % 64 = j.val - 64 by omega]
  · exact absurd rfl ‹_›

/-! ### The blocks -/

theorem i0 : ∀ t : Fin cfg0.N, win0_0.index t = ![t.val, 0] := (by decide +kernel : ∀ t : Fin grid0.N, _)
theorem i1 : ∀ t : Fin cfg0.N, win0_1.index t = ![0, 0] := (by decide +kernel : ∀ t : Fin grid0.N, _)
theorem i2 : ∀ t : Fin cfg0.N, win0_2.index t = ![0, 0] := (by decide +kernel : ∀ t : Fin grid0.N, _)
theorem i3 : ∀ t : Fin cfg0.N, win0_3.index t = ![t.val % 8, 0] := (by decide +kernel : ∀ t : Fin grid0.N, _)
theorem i4 : ∀ t : Fin cfg0.N, win0_4.index t = ![t.val % 8, 0] := (by decide +kernel : ∀ t : Fin grid0.N, _)
theorem i5 : ∀ t : Fin cfg0.N, win0_5.index t = ![t.val, 0, 0] := (by decide +kernel : ∀ t : Fin grid0.N, _)
theorem i6 : ∀ t : Fin cfg0.N, win0_6.index t = ![t.val, 0] := (by decide +kernel : ∀ t : Fin grid0.N, _)
theorem i7 : ∀ t : Fin cfg0.N, win0_7.index t = ![t.val, 0] := (by decide +kernel : ∀ t : Fin grid0.N, _)
theorem i8 : ∀ t : Fin cfg0.N, win0_8.index t = ![t.val, 0] := (by decide +kernel : ∀ t : Fin grid0.N, _)
theorem i9 : ∀ t : Fin cfg0.N, win0_9.index t = ![t.val, 0, 0] := (by decide +kernel : ∀ t : Fin grid0.N, _)
theorem i10 : ∀ t : Fin cfg0.N, win0_10.index t = ![t.val, 0] := (by decide +kernel : ∀ t : Fin grid0.N, _)

/-- The argument arrays as tables. -/
abbrev Xm : Tab := rd3 (B := 4) (T := 4096) (C := 1024) (m ((c : Thread nD τ).loc main_arg0))
abbrev Gm : ℕ → EReal := rd (R := 1) (C := 1024) (m ((c : Thread nD τ).loc main_arg1)) 0
abbrev Wm : Tab := rd3 (B := 1) (T := 1024) (C := 9556) (m ((c : Thread nD τ).loc main_arg2))

theorem blk0 (t : Fin cfg0.N) (r : Fin 512) : ∀ d < 1024, rd (R := 512) (C := 1024) (iblk m c 0 t) r.val d = Xm m c (512 * t.val + r.val) d := by
  intro d hd
  have ht : t.val < 32 := lt_of_lt_of_eq t.isLt N_0
  have hr := r.isLt
  rw [rd_at _ r ⟨d, hd⟩ rfl rfl]
  have h : iblk m c 0 t (ix2 r ⟨d, hd⟩) = (V m c main_v29 : S16384x1024.Idx → EReal) (ix2 ⟨512 * t.val + r.val, by omega⟩ ⟨d, hd⟩) := by
    blk_ext [iblk, i0 t]
  rw [h, V_x]
  exact flat_at _ _ _

theorem blk1 (t : Fin cfg0.N) : ∀ d < 1024, rd (R := 1) (C := 1024) (iblk m c 1 t) 0 d = Gm m c d := by
  intro d hd
  rw [rd_at (r := 0) _ 0 ⟨d, hd⟩ rfl rfl]
  have h : iblk m c 1 t (ix2 0 ⟨d, hd⟩) = (V m c main_v1 : S1x1024.Idx → EReal) (ix2 0 ⟨d, hd⟩) := by
    blk_ext [iblk, i1 t]
  rw [h, V_g]
  exact gain_at _ _

theorem blk2 (t : Fin cfg0.N) {e : ℕ} (he : e < 4096) : ∀ d < 1024, rd (R := 1024) (C := 4096) (iblk m c 2 t) d e = Wm m c d e := by
  intro d hd
  rw [rd_at _ ⟨d, hd⟩ ⟨e, he⟩ rfl rfl]
  have h : iblk m c 2 t (ix2 ⟨d, hd⟩ ⟨e, he⟩) = (V m c main_v4 : S1024x4096.Idx → EReal) (ix2 ⟨d, hd⟩ ⟨e, he⟩) := by
    blk_ext [iblk, i2 t]
  rw [h, V_w]
  exact weight_at _ _ _

theorem blk3 (t : Fin cfg0.N) (r : Fin 512) : ∀ j < 128, rd (R := 512) (C := 128) (iblk m c 3 t) r.val j = cosT num ((512 * t.val + r.val) % 4096) j := by
  intro d hd
  have ht : t.val < 32 := lt_of_lt_of_eq t.isLt N_0
  have hr := r.isLt
  rw [rd_at _ r ⟨d, hd⟩ rfl rfl]
  have h : iblk m c 3 t (ix2 r ⟨d, hd⟩) = (V m c main_v23 : S4096x128.Idx → EReal) (ix2 ⟨(512 * t.val + r.val) % 4096, by omega⟩ ⟨d, hd⟩) := by
    blk_ext [iblk, i3 t]
  rw [h, V_cos, cos_at]

theorem blk4 (t : Fin cfg0.N) (r : Fin 512) : ∀ j < 128, rd (R := 512) (C := 128) (iblk m c 4 t) r.val j = sinT num ((512 * t.val + r.val) % 4096) j := by
  intro d hd
  have ht : t.val < 32 := lt_of_lt_of_eq t.isLt N_0
  have hr := r.isLt
  rw [rd_at _ r ⟨d, hd⟩ rfl rfl]
  have h : iblk m c 4 t (ix2 r ⟨d, hd⟩) = (V m c main_v28 : S4096x128.Idx → EReal) (ix2 ⟨(512 * t.val + r.val) % 4096, by omega⟩ ⟨d, hd⟩) := by
    blk_ext [iblk, i4 t]
  rw [h, V_sin, sin_at]

theorem blkP (t : Fin cfg0.N) (r : Fin 512) {e : ℕ} (he : e < 4096) :
    AttnBlock.P (iblk m c 0 t) (iblk m c 1 t) (iblk m c 2 t) r.val e = Prj (Xm m c) (Gm m c) (Wm m c) (512 * t.val + r.val) e :=
  prj_congr (blk0 m c t r) (blk1 m c t) (blk2 m c t he)

/-- A row's position. -/
abbrev pos : ℕ → EReal := fun r => num (r % 4096)

theorem blkT (t : Fin cfg0.N) (r : Fin 512) {o e : ℕ} (ho : o ≤ 3072) (he : e < 1024) :
    AttnBlock.T (iblk m c 0 t) (iblk m c 1 t) (iblk m c 2 t) (iblk m c 3 t) (iblk m c 4 t) o r.val e
      = QK (Xm m c) (Gm m c) (Wm m c) pos o (512 * t.val + r.val) e :=
  turn_congr he (fun e he => blkP m c t r (by omega)) (blk3 m c t r) (blk4 m c t r)

/-! ### The arrays -/

def kArr : S16384x1024.Idx → EReal := fun i => QK (Xm m c) (Gm m c) (Wm m c) pos 1024 (i 0).val (i 1).val
def vArr : S16384x1024.Idx → EReal := fun i => Prj (Xm m c) (Gm m c) (Wm m c) (i 0).val (2048 + (i 1).val)
def sArr : S16384x1024.Idx → EReal := fun i => Silu (Xm m c) (Gm m c) (Wm m c) 3072 (i 0).val (i 1).val
def qArr : S32x1024x512.Idx → EReal := fun i =>
  QK (Xm m c) (Gm m c) (Wm m c) pos 0 (512 * (i 0).val + (i 2).val) (i 1).val * Ideal.ofBits .f32 0x3E0293EE#32
def vsArr : S32x1024x512.Idx → EReal := fun i =>
  Prj (Xm m c) (Gm m c) (Wm m c) (512 * (i 0).val + (i 2).val) (2048 + (i 1).val)

theorem final_q : (dats m 0 c).arrAt 5 cfg0.N = qArr m c := by
  refine (dats m 0 c).arrAt_eq_of_covers 5 _ (by decide +kernel) fun t hf y => ?_
  blk_simp
  rw [after0_5]
  obtain ⟨z, e, r, rfl⟩ : ∃ (z : Fin 1) (e : Fin 1024) (r : Fin 512), y = ix3 z e r := ⟨y 0, y 1, y 2, eq_ix3 (n0 := 1) (n1 := 1024) (n2 := 512) y⟩
  obtain rfl : z = 0 := Subsingleton.elim _ _
  rw [AttnBlock.out_q, blkT m c t r (Nat.zero_le _) e.isLt]
  unfold qArr
  blk_simp [i5 t]
  simp [mul_comm]

theorem final_k : (dats m 0 c).arrAt 6 cfg0.N = kArr m c := by
  refine (dats m 0 c).arrAt_eq_of_covers 6 _ (by decide +kernel) fun t hf y => ?_
  blk_simp
  rw [after0_6]
  obtain ⟨r, e, rfl⟩ : ∃ (r : Fin 512) (e : Fin 1024), y = ix2 r e := ⟨y 0, y 1, eq_ix2 (n0 := 512) (n1 := 1024) y⟩
  rw [AttnBlock.out_k, blkT m c t r (by omega) e.isLt]
  unfold kArr
  blk_simp [i6 t]
  simp [mul_comm]

theorem final_kb : (dats m 0 c).arrAt 7 cfg0.N = kArr m c := by
  refine (dats m 0 c).arrAt_eq_of_covers 7 _ (by decide +kernel) fun t hf y => ?_
  blk_simp
  rw [after0_7]
  obtain ⟨r, e, rfl⟩ : ∃ (r : Fin 512) (e : Fin 1024), y = ix2 r e := ⟨y 0, y 1, eq_ix2 (n0 := 512) (n1 := 1024) y⟩
  have := e.isLt
  rw [AttnBlock.out_kb, blkT m c t r (by omega) e.isLt]
  unfold kArr
  blk_simp [i7 t]
  simp [mul_comm]

theorem final_v : (dats m 0 c).arrAt 8 cfg0.N = vArr m c := by
  refine (dats m 0 c).arrAt_eq_of_covers 8 _ (by decide +kernel) fun t hf y => ?_
  blk_simp
  rw [after0_8]
  obtain ⟨r, e, rfl⟩ : ∃ (r : Fin 512) (e : Fin 1024), y = ix2 r e := ⟨y 0, y 1, eq_ix2 (n0 := 512) (n1 := 1024) y⟩
  have := e.isLt
  rw [AttnBlock.out_v, blkP m c t r (by omega)]
  unfold vArr
  blk_simp [i8 t]
  simp [mul_comm]

theorem final_vs : (dats m 0 c).arrAt 9 cfg0.N = vsArr m c := by
  refine (dats m 0 c).arrAt_eq_of_covers 9 _ (by decide +kernel) fun t hf y => ?_
  blk_simp
  rw [after0_9]
  obtain ⟨z, e, r, rfl⟩ : ∃ (z : Fin 1) (e : Fin 1024) (r : Fin 512), y = ix3 z e r := ⟨y 0, y 1, y 2, eq_ix3 (n0 := 1) (n1 := 1024) (n2 := 512) y⟩
  obtain rfl : z = 0 := Subsingleton.elim _ _
  have := e.isLt
  rw [AttnBlock.out_vs, blkP m c t r (by omega)]
  unfold vsArr
  blk_simp [i9 t]
  simp [mul_comm]

theorem final_s : (dats m 0 c).arrAt 10 cfg0.N = sArr m c := by
  refine (dats m 0 c).arrAt_eq_of_covers 10 _ (by decide +kernel) fun t hf y => ?_
  blk_simp
  rw [after0_10]
  obtain ⟨r, e, rfl⟩ : ∃ (r : Fin 512) (e : Fin 1024), y = ix2 r e := ⟨y 0, y 1, eq_ix2 (n0 := 512) (n1 := 1024) y⟩
  have := e.isLt
  rw [AttnBlock.out_s, blkP m c t r (by omega)]
  unfold sArr Silu
  blk_simp [i10 t]
  rw [Nat.mul_comm t.val 512]

end Cert.AttnValue
end
-- ==== Proof.AttnReference.lean ====
module

public import proofs.«01_k».proof.Proof.Gen.Reference2Ideal.Run
public import proofs.«01_k».proof.Proof.AttnSpec
public import Idealize.ShloMosaic.Lib.Tactic
public import Idealize.ShloMosaic.Lib.Pointwise

@[expose] public section

/-!
# The reference of the prompt's attention projections, element by element
-/

noncomputable section

open Idealize.ShloMosaic Idealize.ShloMosaic.TcCoe Idealize.SL.Sem
open Cert.Reference2Ideal Cert.Reference2Ideal.Gen Cert.Gla Cert.Attn

namespace Cert.AttnRef

variable (x : FVec Ideal S4x4096x1024 .f32) (g : FVec Ideal S1x1024 .f32) (w : FVec Ideal S1x1024x9556 .f32)

/-- The normalised rows. -/
def hA : FVec Ideal S4x4096x1024 .f32 :=
  mulf (mulf x (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf x x) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 (shapeCast _ g shapeCasts_S1x1024_S1024)))

/-- All projections. -/
def zA : FVec Ideal S4x4096x9556 .f32 :=
  Host.dotGeneral dot_S4x4096x1024_S1024x9556_S4x4096x9556_2_0_01_1_n_n none (hA x g) (shapeCast _ w shapeCasts_S1x1024x9556_S1024x9556)

/-- The angles of the positions. -/
def angA : FVec Ideal S4096x64 .f32 :=
  (mulf (broadcastInDim S4096x64 ![0, 1] bcast_S4096x1_S4096x64_0_1 (broadcastInDim S4096x1 ![0] bcast_S4096_S4096x1_0 (sitofp .f32 (iotaInDim S4096 32 0)))) (broadcastInDim S4096x64 ![0, 1] bcast_S1x64_S4096x64_0_1 (broadcastInDim S1x64 ![1] bcast_S64_S1x64_1 (Host.powf (broadcastInDim S64 ![] bcast_S_S64 (constant S_ .f32 0x461C4000#32)) (Host.divf (Host.negf (sitofp .f32 (iotaInDim S64 32 0))) (broadcastInDim S64 ![] bcast_S_S64 (constant S_ .f32 0x42800000#32)))))))

/-- A table over the positions, for every head of every row. -/
def spread (a : FVec Ideal S4096x64 .f32) : FVec Ideal S4x4096x8x64 .f32 :=
  (broadcastInDim S4x4096x8x64 ![0, 1, 2, 3] bcast_S1x4096x1x64_S4x4096x8x64_0_1_2_3 (broadcastInDim S1x4096x1x64 ![1, 2, 3] bcast_S4096x1x64_S1x4096x1x64_1_2_3 (broadcastInDim S4096x1x64 ![0, 2] bcast_S4096x64_S4096x1x64_0_2 a)))

/-- Turned heads. -/
def turnA (z : FVec Ideal S4x4096x8x128 .f32) (c s : FVec Ideal S4x4096x8x64 .f32) : FVec Ideal S4x4096x8x128 .f32 :=
  concatenate S4x4096x8x128 3 [⟨S4x4096x8x64,
      subf (mulf (extractStridedSlice S4x4096x8x64 ![0, 0, 0, 0] z slices_S4x4096x8x128_S4x4096x8x64_0_0_0_0) c)
        (mulf (extractStridedSlice S4x4096x8x64 ![0, 0, 0, 64] z slices_S4x4096x8x128_S4x4096x8x64_0_0_0_64) s)⟩,
    ⟨S4x4096x8x64,
      addf (mulf (extractStridedSlice S4x4096x8x64 ![0, 0, 0, 64] z slices_S4x4096x8x128_S4x4096x8x64_0_0_0_64) c)
        (mulf (extractStridedSlice S4x4096x8x64 ![0, 0, 0, 0] z slices_S4x4096x8x128_S4x4096x8x64_0_0_0_0) s)⟩]
    concatenates_S4x4096x8x64_S4x4096x8x64_S4x4096x8x128_d3

/-- The queries' and the keys' heads. -/
def qA : FVec Ideal S4x4096x8x128 .f32 :=
  turnA (shapeCast _ (extractStridedSlice S4x4096x1024 ![0, 0, 0] (zA x g w) slices_S4x4096x9556_S4x4096x1024_0_0_0) shapeCasts_S4x4096x1024_S4x4096x8x128)
    (spread (Host.cos angA)) (spread (Host.sin angA))
def kA : FVec Ideal S4x4096x8x128 .f32 :=
  turnA (shapeCast _ (extractStridedSlice S4x4096x1024 ![0, 0, 1024] (zA x g w) slices_S4x4096x9556_S4x4096x1024_0_0_1024) shapeCasts_S4x4096x1024_S4x4096x8x128)
    (spread (Host.cos angA)) (spread (Host.sin angA))

/-- Blocks of 512 rows, every one transposed. -/
def slab (a : FVec Ideal S16384x1024 .f32) : FVec Ideal S32x1024x512 .bf16 :=
  truncf .bf16 (transpose S32x1024x512 [0, 2, 1] (shapeCast _ a shapeCasts_S16384x1024_S32x512x1024) transposes_S32x512x1024_S32x1024x512_0_2_1) bitsLt_bf16_f32

def qOut : FVec Ideal S32x1024x512 .bf16 :=
  slab (shapeCast _ (mulf (qA x g w) (broadcastInDim S4x4096x8x128 ![] bcast_S_S4x4096x8x128 (constant S_ .f32 0x3E0293EE#32))) shapeCasts_S4x4096x8x128_S16384x1024)
def kOut : FVec Ideal S16384x1024 .f32 := shapeCast _ (kA x g w) shapeCasts_S4x4096x8x128_S16384x1024
def vOut : FVec Ideal S16384x1024 .f32 :=
  shapeCast _ (extractStridedSlice S4x4096x1024 ![0, 0, 2048] (zA x g w) slices_S4x4096x9556_S4x4096x1024_0_0_2048) shapeCasts_S4x4096x1024_S16384x1024
def siluA (z : FVec Ideal S4x4096x1024 .f32) : FVec Ideal S4x4096x1024 .f32 :=
  mulf z (Host.divf (broadcastInDim S4x4096x1024 ![] bcast_S_S4x4096x1024 (constant S_ .f32 0x3F800000#32))
    (addf (broadcastInDim S4x4096x1024 ![] bcast_S_S4x4096x1024 (constant S_ .f32 0x3F800000#32)) (Host.exp (Host.negf z))))
def sOut : FVec Ideal S16384x1024 .bf16 :=
  truncf .bf16 (shapeCast _ (siluA (extractStridedSlice S4x4096x1024 ![0, 0, 3072] (zA x g w) slices_S4x4096x9556_S4x4096x1024_0_0_3072)) shapeCasts_S4x4096x1024_S16384x1024) bitsLt_bf16_f32

theorem res_k (m : (ℓ : Loc nD τ sig) → Buf (Elt Ideal) ℓ) (c : Dev nD) : Value.res_main_v93 m c
    = kOut (m ((c.tc : Thread nD τ).loc main_arg0)) (m ((c.tc : Thread nD τ).loc main_arg1)) (m ((c.tc : Thread nD τ).loc main_arg2)) := rfl
theorem res_kb (m : (ℓ : Loc nD τ sig) → Buf (Elt Ideal) ℓ) (c : Dev nD) : Value.res_main_v99 m c
    = truncf .bf16 (kOut (m ((c.tc : Thread nD τ).loc main_arg0)) (m ((c.tc : Thread nD τ).loc main_arg1)) (m ((c.tc : Thread nD τ).loc main_arg2))) bitsLt_bf16_f32 := rfl
theorem res_q (m : (ℓ : Loc nD τ sig) → Buf (Elt Ideal) ℓ) (c : Dev nD) : Value.res_main_v98 m c
    = qOut (m ((c.tc : Thread nD τ).loc main_arg0)) (m ((c.tc : Thread nD τ).loc main_arg1)) (m ((c.tc : Thread nD τ).loc main_arg2)) := rfl

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v98) = qOut (m ((c.tc : Thread nD τ).loc main_arg0)) (m ((c.tc : Thread nD τ).loc main_arg1)) (m ((c.tc : Thread nD τ).loc main_arg2))
      ∧ r.2.mem ((c.tc : Thread nD τ).loc main_v93) = kOut (m ((c.tc : Thread nD τ).loc main_arg0)) (m ((c.tc : Thread nD τ).loc main_arg1)) (m ((c.tc : Thread nD τ).loc main_arg2))
      ∧ r.2.mem ((c.tc : Thread nD τ).loc main_v99) = truncf (F := Ideal) .bf16 (kOut (m ((c.tc : Thread nD τ).loc main_arg0)) (m ((c.tc : Thread nD τ).loc main_arg1)) (m ((c.tc : Thread nD τ).loc main_arg2))) bitsLt_bf16_f32
      ∧ r.2.mem ((c.tc : Thread nD τ).loc main_v94) = vOut (m ((c.tc : Thread nD τ).loc main_arg0)) (m ((c.tc : Thread nD τ).loc main_arg1)) (m ((c.tc : Thread nD τ).loc main_arg2))
      ∧ r.2.mem ((c.tc : Thread nD τ).loc main_v102) = slab (vOut (m ((c.tc : Thread nD τ).loc main_arg0)) (m ((c.tc : Thread nD τ).loc main_arg1)) (m ((c.tc : Thread nD τ).loc main_arg2)))
      ∧ r.2.mem ((c.tc : Thread nD τ).loc main_v103) = sOut (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Value.run m ρ

/-! ### Element by element -/

theorem z_at (b : Fin 4) (t : Fin 4096) (e : Fin 9556) : zA x g w (ix3 b t e)
    = Prj (rd3 (B := 4) (T := 4096) (C := 1024) x) (rd (R := 1) (C := 1024) g 0) (rd3 (B := 1) (T := 1024) (C := 9556) w) (4096 * b.val + t.val) e.val := by
  pointwise [zA, hA]
  unfold Prj Rms
  refine Finset.sum_congr rfl fun d _ => ?_
  rw [rd3_at x b t d rfl rfl, rd_at (r := 0) g 0 d rfl rfl, rd3_at w 0 d e (by simp) rfl]
  refine congrArg (fun s => x (ix3 b t d) * Ideal.rsqrt (Ideal.div s _ + _) * g (ix2 0 d) * w (ix3 0 d e)) ?_
  exact Finset.sum_congr rfl fun e _ => by rw [rd3_at x b t e rfl rfl]

theorem ang_at (r : Fin 4096) (j : Fin 64) : angA (ix2 r j) = ang (num r.val) j.val := by
  pointwise [angA]
  rfl

theorem spread_cos (b : Fin 4) (t : Fin 4096) (h : Fin 8) (j : Fin 64) :
    spread (Host.cos angA) (ix4 b t h j) = Ideal.cos (ang (num t.val) j.val) := by
  pointwise [spread]
  rw [ang_at]

theorem spread_sin (b : Fin 4) (t : Fin 4096) (h : Fin 8) (j : Fin 64) :
    spread (Host.sin angA) (ix4 b t h j) = Ideal.sin (ang (num t.val) j.val) := by
  pointwise [spread]
  rw [ang_at]

theorem turn_at (z : FVec Ideal S4x4096x8x128 .f32) (Z : Tab) (b : Fin 4) (t : Fin 4096) (h : Fin 8)
    (hz : ∀ j : Fin 128, z (ix4 b t h j) = Z (4096 * b.val + t.val) (128 * h.val + j.val)) (j : Fin 128) :
    turnA z (spread (Host.cos angA)) (spread (Host.sin angA)) (ix4 b t h j)
      = Turn Z (cosT fun r => num (r % 4096)) (sinT fun r => num (r % 4096)) (4096 * b.val + t.val) (128 * h.val + j.val) := by
  have hj := j.isLt
  have ht := t.isLt
  have e1 : (128 * h.val + j.val) / 128 = h.val := by omega
  have e2 : (128 * h.val + j.val) % 128 = j.val := by omega
  have e3 : (4096 * b.val + t.val) % 4096 = t.val := by omega
  pointwise [turnA]
  unfold Turn cosT sinT
  beta_reduce
  rw [e1, e2, e3]
  have hm : (128 * h.val + j.val + 64) % 128 = (j.val + 64) % 128 := by omega
  rw [hm]
  split_ifs with hlt
  · rw [hz, hz, spread_cos, spread_sin, show j.val % 64 = j.val by omega, show (j.val + 64) % 128 = 64 + j.val by omega, sub_eq_add_neg, mul_neg]
  · have ej : (⟨64 + (j.val - 64), by omega⟩ : Fin 128) = j := Fin.ext (by dsimp only; omega)
    rw [show j.val % 64 = j.val - 64 by omega, show (j.val + 64) % 128 = j.val - 64 by omega]
    refine congrArg₂ (· + ·) ?_ ?_
    · exact congrArg₂ (· * ·) ((congrArg (fun i => z (ix4 b t h i)) ej).trans (hz j)) (spread_cos b t h ⟨j.val - 64, by omega⟩)
    · exact congrArg₂ (· * ·) (hz ⟨j.val - 64, by omega⟩) (spread_sin b t h ⟨j.val - 64, by omega⟩)
  · exact absurd rfl ‹_›

theorem slab_at (a : FVec Ideal S16384x1024 .f32) (n : Fin 32) (e : Fin 1024) (r : Fin 512) :
    slab a (ix3 n e r) = rd (R := 16384) (C := 1024) a (512 * n.val + r.val) e.val := by
  pointwise [slab]
  exact (rd_at a _ _ (by dsimp only; omega) rfl).symm

/-- The argument arrays as tables. -/
abbrev X : Tab := rd3 (B := 4) (T := 4096) (C := 1024) x
abbrev G : ℕ → EReal := rd (R := 1) (C := 1024) g 0
abbrev W : Tab := rd3 (B := 1) (T := 1024) (C := 9556) w

theorem z_row (r : Fin 16384) (e : Fin 9556) (h0 : r.val / 4096 < 4) (h1 : r.val % 4096 < 4096) :
    zA x g w (ix3 ⟨r.val / 4096, h0⟩ ⟨r.val % 4096, h1⟩ e) = Prj (X x) (G g) (W w) r.val e.val := by
  rw [z_at]
  exact congrArg (fun n => Prj (X x) (G g) (W w) n e.val) (Nat.div_add_mod r.val 4096)

theorem q_at (b : Fin 4) (t : Fin 4096) (h : Fin 8) (j : Fin 128) : qA x g w (ix4 b t h j)
    = QK (X x) (G g) (W w) (fun r => num (r % 4096)) 0 (4096 * b.val + t.val) (128 * h.val + j.val) := by
  unfold qA
  refine turn_at _ (fun r e => Prj (X x) (G g) (W w) r (0 + e)) b t h (fun j => ?_) j
  pointwise []
  refine (z_at x g w b t _).trans ?_
  exact congrArg (Prj (X x) (G g) (W w) _) (by dsimp only; omega)

theorem k_at4 (b : Fin 4) (t : Fin 4096) (h : Fin 8) (j : Fin 128) : kA x g w (ix4 b t h j)
    = QK (X x) (G g) (W w) (fun r => num (r % 4096)) 1024 (4096 * b.val + t.val) (128 * h.val + j.val) := by
  unfold kA
  refine turn_at _ (fun r e => Prj (X x) (G g) (W w) r (1024 + e)) b t h (fun j => ?_) j
  pointwise []
  refine (z_at x g w b t _).trans ?_
  exact congrArg (Prj (X x) (G g) (W w) _) (by dsimp only; omega)

theorem k_at (r : Fin 16384) (e : Fin 1024) : kOut x g w (ix2 r e)
    = QK (X x) (G g) (W w) (fun r => num (r % 4096)) 1024 r.val e.val := by
  pointwise [kOut]
  refine (k_at4 x g w _ _ _ _).trans ?_
  exact congrArg₂ (QK (X x) (G g) (W w) _ 1024) (Nat.div_add_mod r.val 4096) (Nat.div_add_mod e.val 128)

theorem q_out (n : Fin 32) (e : Fin 1024) (r : Fin 512) : qOut x g w (ix3 n e r)
    = QK (X x) (G g) (W w) (fun r => num (r % 4096)) 0 (512 * n.val + r.val) e.val * Ideal.ofBits .f32 0x3E0293EE#32 := by
  unfold qOut
  have h0 := n.isLt
  have h1 := r.isLt
  rw [slab_at, rd_at _ ⟨512 * n.val + r.val, by omega⟩ e rfl rfl]
  pointwise []
  refine congrArg (· * _) ((q_at x g w _ _ _ _).trans ?_)
  exact congrArg₂ (QK (X x) (G g) (W w) _ 0) (Nat.div_add_mod (512 * n.val + r.val) 4096) (Nat.div_add_mod e.val 128)

theorem v_at (r : Fin 16384) (e : Fin 1024) : vOut x g w (ix2 r e) = Prj (X x) (G g) (W w) r.val (2048 + e.val) := by
  pointwise [vOut]
  exact z_row x g w r _ _ _

theorem s_at (r : Fin 16384) (e : Fin 1024) : sOut x g w (ix2 r e) = Silu (X x) (G g) (W w) 3072 r.val e.val := by
  pointwise [sOut, siluA]
  exact congrArg (fun z : EReal => z * Ideal.div 1 (1 + Ideal.exp (-z))) (z_row x g w r _ _ _)

end Cert.AttnRef
end
-- ==== Proof.AttnClaims.lean ====
/- The claims of the prompt's attention projection: the reference's frame and the equality of all six results. -/
module

public import proofs.«01_k».proof.Defs
public import proofs.«01_k».proof.Proof.Gen.Kernel2Ideal.Frame
public import proofs.«01_k».proof.Proof.AttnKernel
public import proofs.«01_k».proof.Proof.AttnReference
public import Idealize.ShloMosaic.Adequacy
public import Idealize.ShloMosaic.Init

@[expose] public section

noncomputable section

namespace Cert.AttnClaims

open Idealize.ShloMosaic Idealize.ShloMosaic.TcCoe Idealize.SL.Sem Cert.Attn

theorem frame_reference : Cert.quiescent_Reference2Ideal := fun m ρ _ =>
  (θ_run Cert.Reference2Ideal.defs _ _).mono (fun r h => ⟨fun c => (h c).2.2.2.2.2.2,
      Idealize.ShloMosaic.sem_eq_zero_of_no_sems (by decide) r.2⟩)
    (Cert.AttnRef.run m ρ)

theorem algebraic : Cert.algebraic_Kernel2Ideal_Reference2Ideal := by
  intro m g m' g' _ hag
  refine ⟨fun c => Cert.AttnValue.qArr m c, fun c => Cert.AttnValue.kArr m c, fun c => Cert.AttnValue.kArr m c, fun c => Cert.AttnValue.vArr m c,
    fun c => Cert.AttnValue.vsArr m c, fun c => Cert.AttnValue.sArr m c, ?_, ?_⟩
  · refine (θ_run Cert.Kernel2Ideal.defs _ _).mono (fun r h c => ?_) (Cert.Kernel2Ideal.Value.run_blocks m g)
    obtain ⟨e0, e1, e2, e3, e4, e5, ea⟩ := h c
    exact ⟨e0.trans (Cert.AttnValue.final_q m c), e1.trans (Cert.AttnValue.final_k m c), e2.trans (Cert.AttnValue.final_kb m c),
      e3.trans (Cert.AttnValue.final_v m c), e4.trans (Cert.AttnValue.final_vs m c), e5.trans (Cert.AttnValue.final_s m c), ea⟩
  · refine (θ_run Cert.Reference2Ideal.defs _ _).mono (fun r h c => ?_) (Cert.AttnRef.run m' g')
    obtain ⟨e0, e1, e2, e3, e4, e5, ea⟩ := h c
    obtain ⟨a0, a1, a2⟩ := hag c
    have hk : Cert.AttnRef.kOut (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) = Cert.AttnValue.kArr m c := by
      funext y
      rw [eq_ix2 (n0 := 16384) (n1 := 1024) y]
      refine (Cert.AttnRef.k_at _ _ _ _ _).trans ?_
      rw [a0, a1, a2]
      rfl
    refine ⟨e0.trans ?_, e1.trans hk, e2.trans hk, e3.trans ?_, e4.trans ?_, e5.trans ?_, ea⟩
    · funext y
      rw [eq_ix3 (n0 := 32) (n1 := 1024) (n2 := 512) y]
      refine (Cert.AttnRef.q_out _ _ _ _ _ _).trans ?_
      rw [a0, a1, a2]
      rfl
    · funext y
      rw [eq_ix2 (n0 := 16384) (n1 := 1024) y]
      refine (Cert.AttnRef.v_at _ _ _ _ _).trans ?_
      rw [a0, a1, a2]
      rfl
    · funext y
      rw [eq_ix3 (n0 := 32) (n1 := 1024) (n2 := 512) y]
      have h0 := (y 0).isLt
      have h1 := (y 2).isLt
      refine (Cert.AttnRef.slab_at _ _ _ _).trans ?_
      refine (rd_at _ ⟨512 * (y 0).val + (y 2).val, by simp at h0 h1; omega⟩ _ rfl rfl).trans ?_
      refine (Cert.AttnRef.v_at _ _ _ _ _).trans ?_
      rw [a0, a1, a2]
      rfl
    · funext y
      rw [eq_ix2 (n0 := 16384) (n1 := 1024) y]
      refine (Cert.AttnRef.s_at _ _ _ _ _).trans ?_
      rw [a0, a1, a2]
      rfl

end Cert.AttnClaims

end
-- ==== Proof.AttnSampleBlock.lean ====
module

public import proofs.«01_k».proof.Proof.Gen.Kernel3Ideal.Value
public import proofs.«01_k».proof.Proof.AttnSpec
public import Idealize.ShloMosaic.Lib.Tactic
public import Idealize.ShloMosaic.Lib.Pipeline.Value
public import Idealize.ShloMosaic.Lib.Pipeline.ValueKit
public import Idealize.ShloMosaic.Lib.Pointwise

@[expose] public section

/-!
# The single grid point of the sample's attention projections

What the body leaves in every output block, from the blocks of the inputs: rows, gain, weights, cosines, signed sines.
-/

noncomputable section

open Idealize.ShloMosaic Idealize.ShloMosaic.TcCoe Idealize.SL.Sem
open Cert.Kernel3Ideal Cert.Kernel3Ideal.Gen Cert.Gla Cert.Attn

namespace Cert.AttnSampleBlock

variable (x0 : Vec Ideal S32x1024 .f32) (x1 : Vec Ideal S1x1024 .f32) (x2 : Vec Ideal S1024x4096 .bf16)
  (x3 x4 : Vec Ideal S32x128 .f32)

/-- The block's projection. -/
abbrev P : Tab := Prj (rd (R := 32) (C := 1024) x0) (rd (R := 1) (C := 1024) x1 0) (rd (R := 1024) (C := 4096) x2)

/-- A group of turned heads: the projection's columns from `o` on. -/
abbrev T (o : ℕ) : Tab := Turn (fun r e => P x0 x1 x2 r (o + e)) (rd (R := 32) (C := 128) x3) (rd (R := 32) (C := 128) x4)

theorem pay4_at (r : Fin 32) (e : Fin 1024) : k0_pay4 x0 x1 (View.ld x2 r0_3) (ix2 r e) = P x0 x1 x2 r.val (0 + e.val) := by
  pointwise [k0_pay4, k0_pay1]
  have := e.isLt
  exact prj_of x0 x1 x2 r ⟨e.val, by omega⟩ rfl

theorem pay11_at (r : Fin 32) (e : Fin 1024) : k0_pay11 (k0_pay1 x0 x1) (View.ld x2 r0_4) (ix2 r e) = P x0 x1 x2 r.val (1024 + e.val) := by
  pointwise [k0_pay11, k0_pay1]
  exact prj_of x0 x1 x2 r _ rfl

theorem pay22_eq : k0_pay22 x0 x1 x2 x3 x4 = k0_pay1 x0 x1 := by
  unfold k0_pay22
  rw [View.ld_unit_zero (by decide), View.ld_unit_zero (by decide)]

theorem out_v (r : Fin 32) (e : Fin 1024) : out0_7 x0 x1 x2 x3 x4 (ix2 r e) = P x0 x1 x2 r.val (2048 + e.val) := by
  frame_out
  rw [pay22_eq]
  pointwise [k0_pay19, k0_pay1]
  exact prj_of x0 x1 x2 r _ rfl

theorem out_s (r : Fin 32) (e : Fin 1024) : out0_8 x0 x1 x2 x3 x4 (ix2 r e)
    = P x0 x1 x2 r.val (3072 + e.val) * Ideal.logistic (P x0 x1 x2 r.val (3072 + e.val)) := by
  frame_out
  rw [pay22_eq]
  pointwise [k0_pay20, k0_pay1]
  exact congrArg (fun z : EReal => z * Ideal.logistic z) (prj_of x0 x1 x2 r _ rfl)

theorem out_q (r : Fin 32) (e : Fin 1024) : out0_5 x0 x1 x2 x3 x4 (ix2 r e)
    = T x0 x1 x2 x3 x4 0 r.val e.val * Ideal.ofBits .f32 0x3E0293EE#32 := by
  frame_out
  pointwise [k0_pay21, k0_pay10, k0_pay5, k0_pay6, k0_pay7, k0_pay8, k0_pay9, k0_pay2, k0_pay3, k0_pay23, k0_pay24]
  refine congrArg (· * _) ?_
  have := e.isLt
  split_ifs <;>
  exact turn_of (pay4_at x0 x1 x2 r _) (pay4_at x0 x1 x2 r _) (ix2_rd x3 r _) (ix2_rd x4 r _)
      (by first | (dsimp only; done) | (dsimp only; omega)) (by first | (dsimp only; done) | (dsimp only; omega))
      (by first | (dsimp only; done) | (dsimp only; omega))

theorem out_k (r : Fin 32) (e : Fin 1024) : out0_6 x0 x1 x2 x3 x4 (ix2 r e) = T x0 x1 x2 x3 x4 1024 r.val e.val := by
  frame_out
  rw [pay22_eq]
  pointwise [k0_pay18, k0_pay12, k0_pay13, k0_pay14, k0_pay15, k0_pay16, k0_pay17, k0_pay2, k0_pay3, k0_pay23, k0_pay24]
  have := e.isLt
  split_ifs <;>
  exact turn_of (pay11_at x0 x1 x2 r _) (pay11_at x0 x1 x2 r _) (ix2_rd x3 r _) (ix2_rd x4 r _)
      (by first | (dsimp only; done) | (dsimp only; omega)) (by first | (dsimp only; done) | (dsimp only; omega))
      (by first | (dsimp only; done) | (dsimp only; omega))

end Cert.AttnSampleBlock
end
-- ==== Proof.AttnSampleKernel.lean ====
module

public import proofs.«01_k».proof.Proof.AttnSampleBlock

@[expose] public section

/-!
# The sample's attention projections: the result arrays

One grid point works on all 32 rows; every row has the same position.
-/

noncomputable section

open Idealize.ShloMosaic Idealize.ShloMosaic.TcCoe Idealize.SL.Sem
open Cert.Kernel3Ideal Cert.Kernel3Ideal.Gen Cert.Gla Cert.Attn
open Idealize.ShloMosaic.Pipeline (Dat)

namespace Cert.AttnSampleValue

variable (m : (ℓ : Loc nD τ sig) → Buf (Elt Ideal) ℓ) (c : Dev nD)

/-! ### What the host operations before the call leave -/

/-- The angles of the positions. -/
def angA : FVec Ideal S32x64 .f32 :=
  mulf
    (broadcastInDim S32x64 ![0, 1] bcast_S32x1_S32x64_0_1
      (broadcastInDim S32x1 ![0] bcast_S32_S32x1_0 (sitofp FTy.f32 (broadcastInDim S32 ![] bcast_S_S32 (constantI S_ 32 16384#32)))))
    (broadcastInDim S32x64 ![0, 1] bcast_S1x64_S32x64_0_1
      (broadcastInDim S1x64 ![1] bcast_S64_S1x64_1
        (Host.powf (broadcastInDim S64 ![] bcast_S_S64 (constant S_ FTy.f32 0x461C4000#32))
          (Host.divf (Host.negf (sitofp FTy.f32 (iotaInDim S64 32 0)))
            (broadcastInDim S64 ![] bcast_S_S64 (constant S_ FTy.f32 0x42800000#32))))))

/-- Two tables of 64 columns side by side, as the call takes them. -/
def pairA (a b : FVec Ideal S32x64 .f32) : FVec Ideal S32x128 .f32 :=
  shapeCast S32x128
    (broadcastInDim S1x32x1x128 ![0, 1, 2, 3] bcast_S1x32x1x128_S1x32x1x128_0_1_2_3
      (shapeCast S1x32x1x128
        (concatenate S32x128 1 [⟨S32x64, a⟩, ⟨S32x64, b⟩] concatenates_S32x64_S32x64_S32x128_d1)
        shapeCasts_S32x128_S1x32x1x128))
    shapeCasts_S1x32x1x128_S32x128

theorem V_cos : (V m c main_v23 : S32x128.Idx → EReal) = pairA (Host.cos angA) (Host.cos angA) := by
  unfold_abbrev_sides
  after_results
  rfl

theorem V_sin : (V m c main_v28 : S32x128.Idx → EReal) = pairA (Host.negf (Host.sin angA)) (Host.sin angA) := by
  unfold_abbrev_sides
  after_results
  rfl

theorem V_w : (V m c main_v4 : S1024x4096.Idx → EReal)
    = truncf (F := Ideal) .bf16 (extractStridedSlice S1024x4096 ![0, 0] (shapeCast S1024x9556 (m ((c : Thread nD τ).loc main_arg2)) shapeCasts_S1x1024x9556_S1024x9556)
        slices_S1024x9556_S1024x4096_0_0) bitsLt_bf16_f32 := by
  unfold_abbrev_sides
  after_results
  rfl

theorem V_g : (V m c main_v1 : S1x1024.Idx → EReal)
    = shapeCast S1x1024 (shapeCast S1024 (m ((c : Thread nD τ).loc main_arg1)) shapeCasts_S1x1024_S1024) shapeCasts_S1024_S1x1024 := by
  unfold_abbrev_sides
  after_results
  rfl

theorem V_x : (V m c main_v29 : S32x1024.Idx → EReal)
    = shapeCast S32x1024 (m ((c : Thread nD τ).loc main_arg0)) shapeCasts_S32x1x1024_S32x1024 := by
  unfold_abbrev_sides
  after_results
  rfl

theorem flat_at (a : FVec Ideal S32x1x1024 .f32) (R : Fin 32) (d : Fin 1024) :
    shapeCast S32x1024 a shapeCasts_S32x1x1024_S32x1024 (ix2 R d) = rd3 (B := 32) (T := 1) (C := 1024) a R.val d.val := by
  pointwise []
  exact (rd3_at _ _ _ _ (by simp) rfl).symm

theorem gain_at (a : FVec Ideal S1x1024 .f32) (d : Fin 1024) :
    shapeCast S1x1024 (shapeCast S1024 a shapeCasts_S1x1024_S1024) shapeCasts_S1024_S1x1024 (ix2 0 d) = rd (R := 1) (C := 1024) a 0 d.val := by
  pointwise []
  exact (rd_at (r := 0) a 0 d rfl rfl).symm

theorem weight_at (a : FVec Ideal S1x1024x9556 .f32) (d : Fin 1024) (e : Fin 4096) :
    truncf (F := Ideal) .bf16 (extractStridedSlice S1024x4096 ![0, 0] (shapeCast S1024x9556 a shapeCasts_S1x1024x9556_S1024x9556)
        slices_S1024x9556_S1024x4096_0_0) bitsLt_bf16_f32 (ix2 d e) = rd3 (B := 1) (T := 1024) (C := 9556) a d.val e.val := by
  pointwise []
  exact (rd3_at _ _ _ _ (by simp) rfl).symm

/-- A row's position. -/
abbrev pos : ℕ → EReal := fun _ => num 16384

theorem ang_at (r : Fin 32) (j : Fin 64) : angA (ix2 r j) = ang (num 16384) j.val := by
  pointwise [angA]
  rfl

theorem cos_at (r : Fin 32) (j : Fin 128) : pairA (Host.cos angA) (Host.cos angA) (ix2 r j) = cosT pos r.val j.val := by
  pointwise [pairA]
  have := j.isLt
  unfold cosT
  split_ifs
  · rw [ang_at, Nat.mod_eq_of_lt (by assumption)]
  · rw [ang_at, show j.val % 64 = j.val - 64 by omega]
  · exact absurd rfl ‹_›

theorem sin_at (r : Fin 32) (j : Fin 128) : pairA (Host.negf (Host.sin angA)) (Host.sin angA) (ix2 r j) = sinT pos r.val j.val := by
  pointwise [pairA]
  have := j.isLt
  unfold sinT
  split_ifs
  · rw [ang_at, Nat.mod_eq_of_lt (by assumption)]
  · rw [ang_at, show j.val % 64 = j.val - 64 by omega]
  · exact absurd rfl ‹_›

/-! ### The blocks -/

theorem i0 : ∀ t : Fin cfg0.N, win0_0.index t = ![0, 0] := (by decide +kernel : ∀ t : Fin grid0.N, _)
theorem i1 : ∀ t : Fin cfg0.N, win0_1.index t = ![0, 0] := (by decide +kernel : ∀ t : Fin grid0.N, _)
theorem i2 : ∀ t : Fin cfg0.N, win0_2.index t = ![0, 0] := (by decide +kernel : ∀ t : Fin grid0.N, _)
theorem i3 : ∀ t : Fin cfg0.N, win0_3.index t = ![0, 0] := (by decide +kernel : ∀ t : Fin grid0.N, _)
theorem i4 : ∀ t : Fin cfg0.N, win0_4.index t = ![0, 0] := (by decide +kernel : ∀ t : Fin grid0.N, _)
theorem i5 : ∀ t : Fin cfg0.N, win0_5.index t = ![0, 0] := (by decide +kernel : ∀ t : Fin grid0.N, _)
theorem i6 : ∀ t : Fin cfg0.N, win0_6.index t = ![0, 0] := (by decide +kernel : ∀ t : Fin grid0.N, _)
theorem i7 : ∀ t : Fin cfg0.N, win0_7.index t = ![0, 0] := (by decide +kernel : ∀ t : Fin grid0.N, _)
theorem i8 : ∀ t : Fin cfg0.N, win0_8.index t = ![0, 0] := (by decide +kernel : ∀ t : Fin grid0.N, _)

/-- The argument arrays as tables. -/
abbrev Xm : Tab := rd3 (B := 32) (T := 1) (C := 1024) (m ((c : Thread nD τ).loc main_arg0))
abbrev Gm : ℕ → EReal := rd (R := 1) (C := 1024) (m ((c : Thread nD τ).loc main_arg1)) 0
abbrev Wm : Tab := rd3 (B := 1) (T := 1024) (C := 9556) (m ((c : Thread nD τ).loc main_arg2))

theorem blk0 (t : Fin cfg0.N) (r : Fin 32) : ∀ d < 1024, rd (R := 32) (C := 1024) (iblk m c 0 t) r.val d = Xm m c r.val d := by
  intro d hd
  rw [rd_at _ r ⟨d, hd⟩ rfl rfl]
  have h : iblk m c 0 t (ix2 r ⟨d, hd⟩) = (V m c main_v29 : S32x1024.Idx → EReal) (ix2 r ⟨d, hd⟩) := by
    blk_ext [iblk, i0 t]
  rw [h, V_x]
  exact flat_at _ _ _

theorem blk1 (t : Fin cfg0.N) : ∀ d < 1024, rd (R := 1) (C := 1024) (iblk m c 1 t) 0 d = Gm m c d := by
  intro d hd
  rw [rd_at (r := 0) _ 0 ⟨d, hd⟩ rfl rfl]
  have h : iblk m c 1 t (ix2 0 ⟨d, hd⟩) = (V m c main_v1 : S1x1024.Idx → EReal) (ix2 0 ⟨d, hd⟩) := by
    blk_ext [iblk, i1 t]
  rw [h, V_g]
  exact gain_at _ _

theorem blk2 (t : Fin cfg0.N) {e : ℕ} (he : e < 4096) : ∀ d < 1024, rd (R := 1024) (C := 4096) (iblk m c 2 t) d e = Wm m c d e := by
  intro d hd
  rw [rd_at _ ⟨d, hd⟩ ⟨e, he⟩ rfl rfl]
  have h : iblk m c 2 t (ix2 ⟨d, hd⟩ ⟨e, he⟩) = (V m c main_v4 : S1024x4096.Idx → EReal) (ix2 ⟨d, hd⟩ ⟨e, he⟩) := by
    blk_ext [iblk, i2 t]
  rw [h, V_w]
  exact weight_at _ _ _

theorem blk3 (t : Fin cfg0.N) (r : Fin 32) : ∀ j < 128, rd (R := 32) (C := 128) (iblk m c 3 t) r.val j = cosT pos r.val j := by
  intro d hd
  rw [rd_at _ r ⟨d, hd⟩ rfl rfl]
  have h : iblk m c 3 t (ix2 r ⟨d, hd⟩) = (V m c main_v23 : S32x128.Idx → EReal) (ix2 r ⟨d, hd⟩) := by
    blk_ext [iblk, i3 t]
  rw [h, V_cos, cos_at]

theorem blk4 (t : Fin cfg0.N) (r : Fin 32) : ∀ j < 128, rd (R := 32) (C := 128) (iblk m c 4 t) r.val j = sinT pos r.val j := by
  intro d hd
  rw [rd_at _ r ⟨d, hd⟩ rfl rfl]
  have h : iblk m c 4 t (ix2 r ⟨d, hd⟩) = (V m c main_v28 : S32x128.Idx → EReal) (ix2 r ⟨d, hd⟩) := by
    blk_ext [iblk, i4 t]
  rw [h, V_sin, sin_at]

theorem blkP (t : Fin cfg0.N) (r : Fin 32) {e : ℕ} (he : e < 4096) :
    AttnSampleBlock.P (iblk m c 0 t) (iblk m c 1 t) (iblk m c 2 t) r.val e = Prj (Xm m c) (Gm m c) (Wm m c) r.val e :=
  prj_congr (blk0 m c t r) (blk1 m c t) (blk2 m c t he)

theorem blkT (t : Fin cfg0.N) (r : Fin 32) {o e : ℕ} (ho : o ≤ 3072) (he : e < 1024) :
    AttnSampleBlock.T (iblk m c 0 t) (iblk m c 1 t) (iblk m c 2 t) (iblk m c 3 t) (iblk m c 4 t) o r.val e
      = QK (Xm m c) (Gm m c) (Wm m c) pos o r.val e :=
  turn_congr he (fun e he => blkP m c t r (by omega)) (blk3 m c t r) (blk4 m c t r)

/-! ### The arrays -/

def qArr : S32x1024.Idx → EReal := fun i => QK (Xm m c) (Gm m c) (Wm m c) pos 0 (i 0).val (i 1).val * Ideal.ofBits .f32 0x3E0293EE#32
def kArr : S32x1024.Idx → EReal := fun i => QK (Xm m c) (Gm m c) (Wm m c) pos 1024 (i 0).val (i 1).val
def vArr : S32x1024.Idx → EReal := fun i => Prj (Xm m c) (Gm m c) (Wm m c) (i 0).val (2048 + (i 1).val)
def sArr : S32x1024.Idx → EReal := fun i => Silu (Xm m c) (Gm m c) (Wm m c) 3072 (i 0).val (i 1).val

theorem final_q : (dats m 0 c).arrAt 5 cfg0.N = qArr m c := by
  refine (dats m 0 c).arrAt_eq_of_covers 5 _ (by decide +kernel) fun t hf y => ?_
  blk_simp
  rw [after0_5]
  obtain ⟨r, e, rfl⟩ : ∃ (r : Fin 32) (e : Fin 1024), y = ix2 r e := ⟨y 0, y 1, eq_ix2 (n0 := 32) (n1 := 1024) y⟩
  have := e.isLt
  rw [AttnSampleBlock.out_q, blkT m c t r (Nat.zero_le _) e.isLt]
  unfold qArr
  blk_simp [i5 t]

theorem final_k : (dats m 0 c).arrAt 6 cfg0.N = kArr m c := by
  refine (dats m 0 c).arrAt_eq_of_covers 6 _ (by decide +kernel) fun t hf y => ?_
  blk_simp
  rw [after0_6]
  obtain ⟨r, e, rfl⟩ : ∃ (r : Fin 32) (e : Fin 1024), y = ix2 r e := ⟨y 0, y 1, eq_ix2 (n0 := 32) (n1 := 1024) y⟩
  have := e.isLt
  rw [AttnSampleBlock.out_k, blkT m c t r (by omega) e.isLt]
  unfold kArr
  blk_simp [i6 t]

theorem final_v : (dats m 0 c).arrAt 7 cfg0.N = vArr m c := by
  refine (dats m 0 c).arrAt_eq_of_covers 7 _ (by decide +kernel) fun t hf y => ?_
  blk_simp
  rw [after0_7]
  obtain ⟨r, e, rfl⟩ : ∃ (r : Fin 32) (e : Fin 1024), y = ix2 r e := ⟨y 0, y 1, eq_ix2 (n0 := 32) (n1 := 1024) y⟩
  have := e.isLt
  rw [AttnSampleBlock.out_v, blkP m c t r (by omega)]
  unfold vArr
  blk_simp [i7 t]

theorem final_s : (dats m 0 c).arrAt 8 cfg0.N = sArr m c := by
  refine (dats m 0 c).arrAt_eq_of_covers 8 _ (by decide +kernel) fun t hf y => ?_
  blk_simp
  rw [after0_8]
  obtain ⟨r, e, rfl⟩ : ∃ (r : Fin 32) (e : Fin 1024), y = ix2 r e := ⟨y 0, y 1, eq_ix2 (n0 := 32) (n1 := 1024) y⟩
  have := e.isLt
  rw [AttnSampleBlock.out_s, blkP m c t r (by omega)]
  unfold sArr Silu
  blk_simp [i8 t]

end Cert.AttnSampleValue
end
-- ==== Proof.AttnSampleReference.lean ====
module

public import proofs.«01_k».proof.Proof.Gen.Reference3Ideal.Run
public import proofs.«01_k».proof.Proof.AttnSpec
public import Idealize.ShloMosaic.Lib.Tactic
public import Idealize.ShloMosaic.Lib.Pointwise

@[expose] public section

/-!
# The reference of the sample's attention projections, element by element
-/

noncomputable section

open Idealize.ShloMosaic Idealize.ShloMosaic.TcCoe Idealize.SL.Sem
open Cert.Reference3Ideal Cert.Reference3Ideal.Gen Cert.Gla Cert.Attn

namespace Cert.AttnSampleRef

variable (x : FVec Ideal S32x1x1024 .f32) (g : FVec Ideal S1x1024 .f32) (w : FVec Ideal S1x1024x9556 .f32)

/-- The normalised rows. -/
def hA : FVec Ideal S32x1x1024 .f32 :=
  mulf (mulf x (broadcastInDim S32x1x1024 ![0, 1, 2] bcast_S32x1x1_S32x1x1024_0_1_2 (Host.rsqrt (addf (Host.divf (broadcastInDim S32x1x1 ![0, 1] bcast_S32x1_S32x1x1_0_1 (Host.reduceAdd (mulf x x) (constant S_ .f32 0x00000000#32) reducesTo_S32x1x1024_S32x1_d2 h_S_)) (broadcastInDim S32x1x1 ![] bcast_S_S32x1x1 (constant S_ .f32 0x44800000#32))) (broadcastInDim S32x1x1 ![] bcast_S_S32x1x1 (constant S_ .f32 0x358637BD#32)))))) (broadcastInDim S32x1x1024 ![0, 1, 2] bcast_S1x1x1024_S32x1x1024_0_1_2 (broadcastInDim S1x1x1024 ![2] bcast_S1024_S1x1x1024_2 (shapeCast _ g shapeCasts_S1x1024_S1024)))

/-- All projections. -/
def zA : FVec Ideal S32x1x9556 .f32 :=
  Host.dotGeneral dot_S32x1x1024_S1024x9556_S32x1x9556_2_0_01_1_n_n none (hA x g) (shapeCast _ w shapeCasts_S1x1024x9556_S1024x9556)

/-- The angles of the positions. -/
def angA : FVec Ideal S1x64 .f32 :=
  (mulf (broadcastInDim S1x64 ![0, 1] bcast_S1x1_S1x64_0_1 (broadcastInDim S1x1 ![0] bcast_S1_S1x1_0 (sitofp .f32 (addi (broadcastInDim S1 ![] bcast_S_S1 (constantI S_ 32 16384#32)) (iotaInDim S1 32 0))))) (broadcastInDim S1x64 ![1] bcast_S64_S1x64_1 (Host.powf (broadcastInDim S64 ![] bcast_S_S64 (constant S_ .f32 0x461C4000#32)) (Host.divf (Host.negf (sitofp .f32 (iotaInDim S64 32 0))) (broadcastInDim S64 ![] bcast_S_S64 (constant S_ .f32 0x42800000#32))))))

/-- A table over the positions, for every head of every row. -/
def spread (a : FVec Ideal S1x64 .f32) : FVec Ideal S32x1x8x64 .f32 :=
  (broadcastInDim S32x1x8x64 ![0, 1, 2, 3] bcast_S1x1x1x64_S32x1x8x64_0_1_2_3 (broadcastInDim S1x1x1x64 ![1, 2, 3] bcast_S1x1x64_S1x1x1x64_1_2_3 (broadcastInDim S1x1x64 ![0, 2] bcast_S1x64_S1x1x64_0_2 a)))

/-- Turned heads. -/
def turnA (z : FVec Ideal S32x1x8x128 .f32) (c s : FVec Ideal S32x1x8x64 .f32) : FVec Ideal S32x1x8x128 .f32 :=
  concatenate S32x1x8x128 3 [⟨S32x1x8x64,
      subf (mulf (extractStridedSlice S32x1x8x64 ![0, 0, 0, 0] z slices_S32x1x8x128_S32x1x8x64_0_0_0_0) c)
        (mulf (extractStridedSlice S32x1x8x64 ![0, 0, 0, 64] z slices_S32x1x8x128_S32x1x8x64_0_0_0_64) s)⟩,
    ⟨S32x1x8x64,
      addf (mulf (extractStridedSlice S32x1x8x64 ![0, 0, 0, 64] z slices_S32x1x8x128_S32x1x8x64_0_0_0_64) c)
        (mulf (extractStridedSlice S32x1x8x64 ![0, 0, 0, 0] z slices_S32x1x8x128_S32x1x8x64_0_0_0_0) s)⟩]
    concatenates_S32x1x8x64_S32x1x8x64_S32x1x8x128_d3

/-- The queries' and the keys' heads. -/
def qA : FVec Ideal S32x1x8x128 .f32 :=
  turnA (shapeCast _ (extractStridedSlice S32x1x1024 ![0, 0, 0] (zA x g w) slices_S32x1x9556_S32x1x1024_0_0_0) shapeCasts_S32x1x1024_S32x1x8x128)
    (spread (Host.cos angA)) (spread (Host.sin angA))
def kA : FVec Ideal S32x1x8x128 .f32 :=
  turnA (shapeCast _ (extractStridedSlice S32x1x1024 ![0, 0, 1024] (zA x g w) slices_S32x1x9556_S32x1x1024_0_0_1024) shapeCasts_S32x1x1024_S32x1x8x128)
    (spread (Host.cos angA)) (spread (Host.sin angA))

def qOut : FVec Ideal S32x1024 .bf16 :=
  truncf .bf16 (shapeCast _ (mulf (qA x g w) (broadcastInDim S32x1x8x128 ![] bcast_S_S32x1x8x128 (constant S_ .f32 0x3E0293EE#32))) shapeCasts_S32x1x8x128_S32x1024) bitsLt_bf16_f32
def kOut : FVec Ideal S32x1024 .f32 := shapeCast _ (kA x g w) shapeCasts_S32x1x8x128_S32x1024
def vOut : FVec Ideal S32x1024 .f32 :=
  shapeCast _ (extractStridedSlice S32x1x1024 ![0, 0, 2048] (zA x g w) slices_S32x1x9556_S32x1x1024_0_0_2048) shapeCasts_S32x1x1024_S32x1024
def siluA (z : FVec Ideal S32x1x1024 .f32) : FVec Ideal S32x1x1024 .f32 :=
  mulf z (Host.divf (broadcastInDim S32x1x1024 ![] bcast_S_S32x1x1024 (constant S_ .f32 0x3F800000#32))
    (addf (broadcastInDim S32x1x1024 ![] bcast_S_S32x1x1024 (constant S_ .f32 0x3F800000#32)) (Host.exp (Host.negf z))))
def sOut : FVec Ideal S32x1024 .bf16 :=
  truncf .bf16 (shapeCast _ (siluA (extractStridedSlice S32x1x1024 ![0, 0, 3072] (zA x g w) slices_S32x1x9556_S32x1x1024_0_0_3072)) shapeCasts_S32x1x1024_S32x1024) bitsLt_bf16_f32

theorem res_k (m : (ℓ : Loc nD τ sig) → Buf (Elt Ideal) ℓ) (c : Dev nD) : Value.res_main_v93 m c
    = kOut (m ((c.tc : Thread nD τ).loc main_arg0)) (m ((c.tc : Thread nD τ).loc main_arg1)) (m ((c.tc : Thread nD τ).loc main_arg2)) := rfl
theorem res_q (m : (ℓ : Loc nD τ sig) → Buf (Elt Ideal) ℓ) (c : Dev nD) : Value.res_main_v96 m c
    = qOut (m ((c.tc : Thread nD τ).loc main_arg0)) (m ((c.tc : Thread nD τ).loc main_arg1)) (m ((c.tc : Thread nD τ).loc main_arg2)) := rfl

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v96) = qOut (m ((c.tc : Thread nD τ).loc main_arg0)) (m ((c.tc : Thread nD τ).loc main_arg1)) (m ((c.tc : Thread nD τ).loc main_arg2))
      ∧ r.2.mem ((c.tc : Thread nD τ).loc main_v93) = kOut (m ((c.tc : Thread nD τ).loc main_arg0)) (m ((c.tc : Thread nD τ).loc main_arg1)) (m ((c.tc : Thread nD τ).loc main_arg2))
      ∧ r.2.mem ((c.tc : Thread nD τ).loc main_v94) = vOut (m ((c.tc : Thread nD τ).loc main_arg0)) (m ((c.tc : Thread nD τ).loc main_arg1)) (m ((c.tc : Thread nD τ).loc main_arg2))
      ∧ r.2.mem ((c.tc : Thread nD τ).loc main_v97) = sOut (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Value.run m ρ

/-! ### Element by element -/

theorem z_at (b : Fin 32) (e : Fin 9556) : zA x g w (ix3 b 0 e)
    = Prj (rd3 (B := 32) (T := 1) (C := 1024) x) (rd (R := 1) (C := 1024) g 0) (rd3 (B := 1) (T := 1024) (C := 9556) w) (b.val) e.val := by
  pointwise [zA, hA]
  unfold Prj Rms
  refine Finset.sum_congr rfl fun d _ => ?_
  rw [rd3_at x b 0 d (by simp) rfl, rd_at (r := 0) g 0 d rfl rfl, rd3_at w 0 d e (by simp) rfl]
  refine congrArg (fun s => x (ix3 b 0 d) * Ideal.rsqrt (Ideal.div s _ + _) * g (ix2 0 d) * w (ix3 0 d e)) ?_
  exact Finset.sum_congr rfl fun e _ => by rw [rd3_at x b 0 e (by simp) rfl]

theorem ang_at (r : Fin 1) (j : Fin 64) : angA (ix2 r j) = ang (num 16384) j.val := by
  pointwise [angA]
  rfl

theorem spread_cos (b : Fin 32) (h : Fin 8) (j : Fin 64) :
    spread (Host.cos angA) (ix4 b 0 h j) = Ideal.cos (ang (num 16384) j.val) := by
  pointwise [spread]
  rw [ang_at]

theorem spread_sin (b : Fin 32) (h : Fin 8) (j : Fin 64) :
    spread (Host.sin angA) (ix4 b 0 h j) = Ideal.sin (ang (num 16384) j.val) := by
  pointwise [spread]
  rw [ang_at]

theorem turn_at (z : FVec Ideal S32x1x8x128 .f32) (Z : Tab) (b : Fin 32) (h : Fin 8)
    (hz : ∀ j : Fin 128, z (ix4 b 0 h j) = Z (b.val) (128 * h.val + j.val)) (j : Fin 128) :
    turnA z (spread (Host.cos angA)) (spread (Host.sin angA)) (ix4 b 0 h j)
      = Turn Z (cosT fun _ => num 16384) (sinT fun _ => num 16384) (b.val) (128 * h.val + j.val) := by
  have hj := j.isLt
  have e1 : (128 * h.val + j.val) / 128 = h.val := by omega
  have e2 : (128 * h.val + j.val) % 128 = j.val := by omega
  pointwise [turnA]
  unfold Turn cosT sinT
  beta_reduce
  rw [e1, e2]
  have hm : (128 * h.val + j.val + 64) % 128 = (j.val + 64) % 128 := by omega
  rw [hm]
  split_ifs with hlt
  · rw [hz, hz, spread_cos, spread_sin, show j.val % 64 = j.val by omega, show (j.val + 64) % 128 = 64 + j.val by omega, sub_eq_add_neg, mul_neg]
  · have ej : (⟨64 + (j.val - 64), by omega⟩ : Fin 128) = j := Fin.ext (by dsimp only; omega)
    rw [show j.val % 64 = j.val - 64 by omega, show (j.val + 64) % 128 = j.val - 64 by omega]
    refine congrArg₂ (· + ·) ?_ ?_
    · exact congrArg₂ (· * ·) ((congrArg (fun i => z (ix4 b 0 h i)) ej).trans (hz j)) (spread_cos b h ⟨j.val - 64, by omega⟩)
    · exact congrArg₂ (· * ·) (hz ⟨j.val - 64, by omega⟩) (spread_sin b h ⟨j.val - 64, by omega⟩)
  · exact absurd rfl ‹_›

/-- The argument arrays as tables. -/
abbrev X : Tab := rd3 (B := 32) (T := 1) (C := 1024) x
abbrev G : ℕ → EReal := rd (R := 1) (C := 1024) g 0
abbrev W : Tab := rd3 (B := 1) (T := 1024) (C := 9556) w

theorem q_at (b : Fin 32) (h : Fin 8) (j : Fin 128) : qA x g w (ix4 b 0 h j)
    = QK (X x) (G g) (W w) (fun _ => num 16384) 0 (b.val) (128 * h.val + j.val) := by
  unfold qA
  refine turn_at _ (fun r e => Prj (X x) (G g) (W w) r (0 + e)) b h (fun j => ?_) j
  pointwise []
  refine (z_at x g w b _).trans ?_
  exact congrArg (Prj (X x) (G g) (W w) _) (by dsimp only; omega)

theorem k_at4 (b : Fin 32) (h : Fin 8) (j : Fin 128) : kA x g w (ix4 b 0 h j)
    = QK (X x) (G g) (W w) (fun _ => num 16384) 1024 (b.val) (128 * h.val + j.val) := by
  unfold kA
  refine turn_at _ (fun r e => Prj (X x) (G g) (W w) r (1024 + e)) b h (fun j => ?_) j
  pointwise []
  refine (z_at x g w b _).trans ?_
  exact congrArg (Prj (X x) (G g) (W w) _) (by dsimp only; omega)

theorem k_at (r : Fin 32) (e : Fin 1024) : kOut x g w (ix2 r e)
    = QK (X x) (G g) (W w) (fun _ => num 16384) 1024 r.val e.val := by
  pointwise [kOut]
  refine (k_at4 x g w _ _ _).trans ?_
  exact congrArg (QK (X x) (G g) (W w) _ 1024 r.val) (Nat.div_add_mod e.val 128)

theorem q_out (r : Fin 32) (e : Fin 1024) : qOut x g w (ix2 r e)
    = QK (X x) (G g) (W w) (fun _ => num 16384) 0 r.val e.val * Ideal.ofBits .f32 0x3E0293EE#32 := by
  pointwise [qOut]
  refine congrArg (· * _) ((q_at x g w _ _ _).trans ?_)
  exact congrArg (QK (X x) (G g) (W w) _ 0 r.val) (Nat.div_add_mod e.val 128)

theorem v_at (r : Fin 32) (e : Fin 1024) : vOut x g w (ix2 r e) = Prj (X x) (G g) (W w) r.val (2048 + e.val) := by
  pointwise [vOut]
  exact z_at x g w _ _

theorem s_at (r : Fin 32) (e : Fin 1024) : sOut x g w (ix2 r e) = Silu (X x) (G g) (W w) 3072 r.val e.val := by
  pointwise [sOut, siluA]
  exact congrArg (fun z : EReal => z * Ideal.div 1 (1 + Ideal.exp (-z)))
     (z_at x g w _ _)

end Cert.AttnSampleRef
end
-- ==== Proof.AttnSampleClaims.lean ====
/- The claims of the sample's attention projection: the reference's frame and the equality of all four results. -/
module

public import proofs.«01_k».proof.Defs
public import proofs.«01_k».proof.Proof.Gen.Kernel3Ideal.Frame
public import proofs.«01_k».proof.Proof.AttnSampleKernel
public import proofs.«01_k».proof.Proof.AttnSampleReference
public import Idealize.ShloMosaic.Adequacy
public import Idealize.ShloMosaic.Init

@[expose] public section

noncomputable section

namespace Cert.AttnSampleClaims

open Idealize.ShloMosaic Idealize.ShloMosaic.TcCoe Idealize.SL.Sem Cert.Attn

theorem frame_reference : Cert.quiescent_Reference3Ideal := fun m ρ _ =>
  (θ_run Cert.Reference3Ideal.defs _ _).mono (fun r h => ⟨fun c => (h c).2.2.2.2,
      Idealize.ShloMosaic.sem_eq_zero_of_no_sems (by decide) r.2⟩)
    (Cert.AttnSampleRef.run m ρ)

theorem algebraic : Cert.algebraic_Kernel3Ideal_Reference3Ideal := by
  intro m g m' g' _ hag
  refine ⟨fun c => Cert.AttnSampleValue.qArr m c, fun c => Cert.AttnSampleValue.kArr m c, fun c => Cert.AttnSampleValue.vArr m c,
    fun c => Cert.AttnSampleValue.sArr m c, ?_, ?_⟩
  · refine (θ_run Cert.Kernel3Ideal.defs _ _).mono (fun r h c => ?_) (Cert.Kernel3Ideal.Value.run_blocks m g)
    obtain ⟨e0, e1, e2, e3, ea⟩ := h c
    exact ⟨e0.trans (Cert.AttnSampleValue.final_q m c), e1.trans (Cert.AttnSampleValue.final_k m c),
      e2.trans (Cert.AttnSampleValue.final_v m c), e3.trans (Cert.AttnSampleValue.final_s m c), ea⟩
  · refine (θ_run Cert.Reference3Ideal.defs _ _).mono (fun r h c => ?_) (Cert.AttnSampleRef.run m' g')
    obtain ⟨e0, e1, e2, e3, ea⟩ := h c
    obtain ⟨a0, a1, a2⟩ := hag c
    refine ⟨e0.trans ?_, e1.trans ?_, e2.trans ?_, e3.trans ?_, ea⟩
    · funext y
      rw [eq_ix2 (n0 := 32) (n1 := 1024) y]
      refine (Cert.AttnSampleRef.q_out _ _ _ _ _).trans ?_
      rw [a0, a1, a2]
      rfl
    · funext y
      rw [eq_ix2 (n0 := 32) (n1 := 1024) y]
      refine (Cert.AttnSampleRef.k_at _ _ _ _ _).trans ?_
      rw [a0, a1, a2]
      rfl
    · funext y
      rw [eq_ix2 (n0 := 32) (n1 := 1024) y]
      refine (Cert.AttnSampleRef.v_at _ _ _ _ _).trans ?_
      rw [a0, a1, a2]
      rfl
    · funext y
      rw [eq_ix2 (n0 := 32) (n1 := 1024) y]
      refine (Cert.AttnSampleRef.s_at _ _ _ _ _).trans ?_
      rw [a0, a1, a2]
      rfl

end Cert.AttnSampleClaims

end
-- ==== Proof.MergeSpec.lean ====
module

public import proofs.«01_k».proof.Proof.AttnSpec

@[expose] public section

/-!
# The merge of the branches, in scalars

Each branch's output is gated and multiplied by its output weights, the recurrence's after a norm of every head of 256
columns; the gated sum of both is multiplied by the last weights, normalised and added to the layer's input.
-/

noncomputable section

open Idealize.ShloMosaic

namespace Cert.Merge

open Cert.Gla Cert.Attn

/-- Every head of 256 columns over the root of its mean square, times the gain. -/
def HeadRms (X : Tab) (G : ℕ → EReal) : Tab := fun r e =>
  X r e * Ideal.rsqrt (Ideal.div (∑ j : Fin 256, X r (256 * (e / 256) + j.val) * X r (256 * (e / 256) + j.val)) (Ideal.ofBits .f32 0x43800000#32)
    + Ideal.ofBits .f32 0x358637BD#32) * G e

/-- A product of 1024 columns against weights. -/
def Dot (a w : Tab) : Tab := fun r e => ∑ d : Fin 1024, a r d.val * w d.val e

/-- A table times its gate. -/
def Gated (a s : Tab) : Tab := fun r e => a r e * s r e

/-- The gated sum of both branches. -/
def Mix (oa sa og sb ga gb : Tab) (gn : ℕ → EReal) (wa wg : Tab) : Tab := fun r e =>
  ga r e * Dot (Gated oa sa) wa r e + gb r e * Dot (Gated (HeadRms og gn) sb) wg r e

/-- The layer's result. -/
def Out (x oa sa og sb ga gb : Tab) (gn : ℕ → EReal) (wa wg wo : Tab) (pn : ℕ → EReal) : Tab := fun r e =>
  x r e + Rms (Dot (Mix oa sa og sb ga gb gn wa wg) wo) pn r e

theorem dot_congr {a a' w w' : Tab} {r r' e : ℕ} (ha : ∀ d < 1024, a r d = a' r' d) (hw : ∀ d < 1024, w d e = w' d e) :
    Dot a w r e = Dot a' w' r' e := by
  unfold Dot
  exact Finset.sum_congr rfl fun d _ => by rw [ha d.val d.isLt, hw d.val d.isLt]

theorem gated_congr {a a' s s' : Tab} {r r' : ℕ} (ha : ∀ d < 1024, a r d = a' r' d) (hs : ∀ d < 1024, s r d = s' r' d) :
    ∀ d < 1024, Gated a s r d = Gated a' s' r' d := fun d hd => by
  unfold Gated
  rw [ha d hd, hs d hd]

theorem headRms_congr {X X' : Tab} {G G' : ℕ → EReal} {r r' e : ℕ} (he : e < 1024) (hX : ∀ d < 1024, X r d = X' r' d)
    (hG : ∀ d < 1024, G d = G' d) : HeadRms X G r e = HeadRms X' G' r' e := by
  unfold HeadRms
  rw [hX e he, hG e he, Finset.sum_congr rfl fun j _ => by
    have := j.isLt
    rw [hX (256 * (e / 256) + j.val) (by omega)]]

/-- One element of a head's norm, over arrays. -/
theorem head_of {R : ℕ} (x : (⟨2, ![R, 1024]⟩ : Shape).Idx → EReal) (g : (⟨2, ![1, 1024]⟩ : Shape).Idx → EReal) (r : Fin R) (i : Fin 1024)
    (f : Fin 256 → Fin 1024) {e : ℕ} (hi : i.val = e) (hf : ∀ j, (f j).val = 256 * (e / 256) + j.val) :
    x (ix2 r i) * Ideal.rsqrt (Ideal.div (∑ j : Fin 256, x (ix2 r (f j)) * x (ix2 r (f j))) (Ideal.ofBits .f32 0x43800000#32)
      + Ideal.ofBits .f32 0x358637BD#32) * g (ix2 0 i) = HeadRms (rd x) (rd g 0) r.val e := by
  subst hi
  unfold HeadRms
  rw [rd_at x r i rfl rfl, rd_at (r := 0) g 0 i rfl rfl]
  refine congrArg (fun s => _ * Ideal.rsqrt (Ideal.div s _ + _) * _) ?_
  exact Finset.sum_congr rfl fun j _ => by rw [rd_at x r (f j) rfl (hf j).symm]

theorem out_congr {x oa sa og sb ga gb x' oa' sa' og' sb' ga' gb' : Tab} {gn gn' : ℕ → EReal} {wa wg wo wa' wg' wo' : Tab} {pn pn' : ℕ → EReal}
    {r r' e : ℕ} (he : e < 1024) (hx : ∀ d < 1024, x r d = x' r' d) (hoa : ∀ d < 1024, oa r d = oa' r' d) (hsa : ∀ d < 1024, sa r d = sa' r' d)
    (hog : ∀ d < 1024, og r d = og' r' d) (hsb : ∀ d < 1024, sb r d = sb' r' d) (hga : ∀ d < 1024, ga r d = ga' r' d)
    (hgb : ∀ d < 1024, gb r d = gb' r' d) (hgn : ∀ d < 1024, gn d = gn' d) (hpn : ∀ d < 1024, pn d = pn' d)
    (hwa : ∀ e < 1024, ∀ d < 1024, wa d e = wa' d e) (hwg : ∀ e < 1024, ∀ d < 1024, wg d e = wg' d e) (hwo : ∀ e < 1024, ∀ d < 1024, wo d e = wo' d e) :
    Out x oa sa og sb ga gb gn wa wg wo pn r e = Out x' oa' sa' og' sb' ga' gb' gn' wa' wg' wo' pn' r' e := by
  have hm : ∀ e < 1024, Mix oa sa og sb ga gb gn wa wg r e = Mix oa' sa' og' sb' ga' gb' gn' wa' wg' r' e := fun e he => by
    unfold Mix
    rw [hga e he, hgb e he, dot_congr (gated_congr hoa hsa) (hwa e he),
      dot_congr (gated_congr (fun d hd => headRms_congr hd hog hgn) hsb) (hwg e he)]
  unfold Out
  rw [hx e he, rms_congr (fun d hd => dot_congr hm (hwo d hd)) hpn he]

end Cert.Merge
end
-- ==== Proof.MergeBlock.lean ====
module

public import proofs.«01_k».proof.Proof.Gen.Kernel4Ideal.Value
public import proofs.«01_k».proof.Proof.MergeSpec
public import Idealize.ShloMosaic.Lib.Tactic
public import Idealize.ShloMosaic.Lib.Pipeline.Value
public import Idealize.ShloMosaic.Lib.Pipeline.ValueKit
public import Idealize.ShloMosaic.Lib.Pointwise

@[expose] public section

/-!
# One grid point of the merge
-/

noncomputable section

open Idealize.ShloMosaic Idealize.ShloMosaic.TcCoe Idealize.SL.Sem
open Cert.Kernel4Ideal Cert.Kernel4Ideal.Gen Cert.Gla Cert.Attn Cert.Merge

namespace Cert.MergeBlock

abbrev T (x : S512x1024.Idx → EReal) : Tab := rd (R := 512) (C := 1024) x
abbrev W (x : S1024x1024.Idx → EReal) : Tab := rd (R := 1024) (C := 1024) x
abbrev G (x : S1x1024.Idx → EReal) : ℕ → EReal := rd (R := 1) (C := 1024) x 0

variable (x0 : Vec Ideal S512x1024 .f32) (x1 x2 : Vec Ideal S512x1024 .bf16) (x3 : Vec Ideal S512x1024 .f32) (x4 x5 x6 : Vec Ideal S512x1024 .bf16)
  (x7 : Vec Ideal S1x1024 .f32) (x8 x9 x10 : Vec Ideal S1024x1024 .bf16) (x11 : Vec Ideal S1x1024 .f32)

theorem T_at (x : S512x1024.Idx → EReal) (r : Fin 512) (e : Fin 1024) : T x r.val e.val = x (ix2 r e) := rd_at x r e rfl rfl
theorem W_at (x : S1024x1024.Idx → EReal) (r e : Fin 1024) : W x r.val e.val = x (ix2 r e) := rd_at x r e rfl rfl
theorem G_at (x : S1x1024.Idx → EReal) (e : Fin 1024) : G x e.val = x (ix2 0 e) := rd_at (r := 0) x 0 e rfl rfl

theorem pay2_at (r : Fin 512) (e : Fin 1024) : k0_pay2 x1 x2 x8 (ix2 r e) = Dot (Gated (T x1) (T x2)) (W x8) r.val e.val := by
  pointwise [k0_pay2]
  unfold Dot Gated
  exact Finset.sum_congr rfl fun d _ => by rw [T_at, T_at, W_at]

theorem pay8_at (r : Fin 512) (e : Fin 1024) :
    k0_pay8 (k0_pay2 x1 x2 x8) x3 x7 (k0_pay3 x3 x7) (k0_pay4 x3 x7) (k0_pay5 x3) (k0_pay6 x7) (k0_pay7 x3) x4 x9 x5 x6 x10 (ix2 r e)
      = Dot (Mix (T x1) (T x2) (T x3) (T x4) (T x5) (T x6) (G x7) (W x8) (W x9)) (W x10) r.val e.val := by
  pointwise [k0_pay8, k0_pay3, k0_pay4, k0_pay5, k0_pay6, k0_pay7]
  unfold Dot
  refine Finset.sum_congr rfl fun d _ => ?_
  unfold Mix
  refine congrArg₂ (· * ·) (congrArg₂ (· + ·) (congrArg₂ (· * ·) (T_at ..).symm (pay2_at ..)) (congrArg₂ (· * ·) (T_at ..).symm ?_)) (W_at ..).symm
  unfold Dot Gated
  refine Finset.sum_congr rfl fun k _ => ?_
  refine congrArg₂ (· * ·) (congrArg₂ (· * ·) ?_ (T_at ..).symm) (W_at ..).symm
  have := k.isLt
  split_ifs
  all_goals exact head_of x3 x7 r _ _ (by first | (dsimp only; done) | rfl | (dsimp only; omega)) (fun j => by first | (dsimp only; omega) | omega)

theorem pay1_at (y : FVec Ideal S512x1024 .f32) (r : Fin 512) (e : Fin 1024) :
    k0_pay1 y x0 x11 (ix2 r e) = T x0 r.val e.val + Rms (T y) (G x11) r.val e.val := by
  pointwise [k0_pay1]
  unfold Rms
  rw [T_at, T_at, G_at]
  refine congrArg (fun s => _ + _ * Ideal.rsqrt (Ideal.div s _ + _) * _) ?_
  exact Finset.sum_congr rfl fun d _ => by rw [T_at]

theorem out_y (r : Fin 512) (e : Fin 1024) : out0_12 x0 x1 x2 x3 x4 x5 x6 x7 x8 x9 x10 x11 (ix2 r e)
    = Out (T x0) (T x1) (T x2) (T x3) (T x4) (T x5) (T x6) (G x7) (W x8) (W x9) (W x10) (G x11) r.val e.val := by
  frame_out
  rw [pay1_at]
  unfold Out
  refine congrArg (_ + ·) (rms_congr (fun d hd => ?_) (fun _ _ => rfl) e.isLt)
  exact (T_at _ r ⟨d, hd⟩).trans (pay8_at ..)

end Cert.MergeBlock
end
-- ==== Proof.MergeKernel.lean ====
module

public import proofs.«01_k».proof.Proof.MergeBlock

@[expose] public section

/-!
# The merge: the result array

Grid point `t` works on rows `512 t` on, against whole weights.
-/

noncomputable section

open Idealize.ShloMosaic Idealize.ShloMosaic.TcCoe Idealize.SL.Sem
open Cert.Kernel4Ideal Cert.Kernel4Ideal.Gen Cert.Gla Cert.Attn Cert.Merge
open Idealize.ShloMosaic.Pipeline (Dat)

namespace Cert.MergeValue

variable (m : (ℓ : Loc nD τ sig) → Buf (Elt Ideal) ℓ) (c : Dev nD)

theorem V_wa : (V m c main_v1 : S1024x1024.Idx → EReal)
    = truncf (F := Ideal) .bf16 (shapeCast S1024x1024 (m ((c : Thread nD τ).loc main_arg8)) shapeCasts_S1x1024x1024_S1024x1024) bitsLt_bf16_f32 := by
  unfold_abbrev_sides
  after_results
  rfl

theorem V_wg : (V m c main_v3 : S1024x1024.Idx → EReal)
    = truncf (F := Ideal) .bf16 (shapeCast S1024x1024 (m ((c : Thread nD τ).loc main_arg9)) shapeCasts_S1x1024x1024_S1024x1024) bitsLt_bf16_f32 := by
  unfold_abbrev_sides
  after_results
  rfl

theorem V_wo : (V m c main_v5 : S1024x1024.Idx → EReal)
    = truncf (F := Ideal) .bf16 (shapeCast S1024x1024 (m ((c : Thread nD τ).loc main_arg10)) shapeCasts_S1x1024x1024_S1024x1024) bitsLt_bf16_f32 := by
  unfold_abbrev_sides
  after_results
  rfl

theorem weight_at (a : FVec Ideal S1x1024x1024 .f32) (d e : Fin 1024) :
    truncf (F := Ideal) .bf16 (shapeCast S1024x1024 a shapeCasts_S1x1024x1024_S1024x1024) bitsLt_bf16_f32 (ix2 d e)
      = rd3 (B := 1) (T := 1024) (C := 1024) a d.val e.val := by
  pointwise []
  exact (rd3_at a 0 d e (by simp) rfl).symm

theorem i0 : ∀ t : Fin cfg0.N, win0_0.index t = ![t.val, 0] := (by decide +kernel : ∀ t : Fin grid0.N, _)
theorem i1 : ∀ t : Fin cfg0.N, win0_1.index t = ![t.val, 0] := (by decide +kernel : ∀ t : Fin grid0.N, _)
theorem i2 : ∀ t : Fin cfg0.N, win0_2.index t = ![t.val, 0] := (by decide +kernel : ∀ t : Fin grid0.N, _)
theorem i3 : ∀ t : Fin cfg0.N, win0_3.index t = ![t.val, 0] := (by decide +kernel : ∀ t : Fin grid0.N, _)
theorem i4 : ∀ t : Fin cfg0.N, win0_4.index t = ![t.val, 0] := (by decide +kernel : ∀ t : Fin grid0.N, _)
theorem i5 : ∀ t : Fin cfg0.N, win0_5.index t = ![t.val, 0] := (by decide +kernel : ∀ t : Fin grid0.N, _)
theorem i6 : ∀ t : Fin cfg0.N, win0_6.index t = ![t.val, 0] := (by decide +kernel : ∀ t : Fin grid0.N, _)
theorem i7 : ∀ t : Fin cfg0.N, win0_7.index t = ![0, 0] := (by decide +kernel : ∀ t : Fin grid0.N, _)
theorem i8 : ∀ t : Fin cfg0.N, win0_8.index t = ![0, 0] := (by decide +kernel : ∀ t : Fin grid0.N, _)
theorem i9 : ∀ t : Fin cfg0.N, win0_9.index t = ![0, 0] := (by decide +kernel : ∀ t : Fin grid0.N, _)
theorem i10 : ∀ t : Fin cfg0.N, win0_10.index t = ![0, 0] := (by decide +kernel : ∀ t : Fin grid0.N, _)
theorem i11 : ∀ t : Fin cfg0.N, win0_11.index t = ![0, 0] := (by decide +kernel : ∀ t : Fin grid0.N, _)
theorem i12 : ∀ t : Fin cfg0.N, win0_12.index t = ![t.val, 0] := (by decide +kernel : ∀ t : Fin grid0.N, _)

abbrev T (x : S16384x1024.Idx → EReal) : Tab := rd (R := 16384) (C := 1024) x
abbrev W (w : S1x1024x1024.Idx → EReal) : Tab := rd3 (B := 1) (T := 1024) (C := 1024) w
abbrev G (g : S1x1024.Idx → EReal) : ℕ → EReal := rd (R := 1) (C := 1024) g 0

/-- Rows `512 t` on of an array. -/
theorem rows_of (b : S512x1024.Idx → EReal) (a : S16384x1024.Idx → EReal) (t : ℕ) (ht : t < 32) (r : Fin 512)
    (h : ∀ e : Fin 1024, b (ix2 r e) = a (ix2 ⟨512 * t + r.val, by have := r.isLt; omega⟩ e)) :
    ∀ d < 1024, MergeBlock.T b r.val d = T a (512 * t + r.val) d := fun d hd =>
  (rd_at b r ⟨d, hd⟩ rfl rfl).trans ((h ⟨d, hd⟩).trans (rd_at a ⟨512 * t + r.val, by have := r.isLt; omega⟩ ⟨d, hd⟩ rfl rfl).symm)

theorem blk0 (t : Fin cfg0.N) (r : Fin 512) : ∀ d < 1024, MergeBlock.T (iblk m c 0 t) r.val d = T (m ((c : Thread nD τ).loc main_arg0)) (512 * t.val + r.val) d := by
  have ht : t.val < 32 := lt_of_lt_of_eq t.isLt N_0
  refine rows_of _ _ t.val ht r fun e => ?_
  have := r.isLt
  have h : iblk m c 0 t (ix2 r e) = (V m c main_arg0 : S16384x1024.Idx → EReal) (ix2 ⟨512 * t.val + r.val, by omega⟩ e) := by
    blk_ext [iblk, i0 t]
  exact h

theorem blk1 (t : Fin cfg0.N) (r : Fin 512) : ∀ d < 1024, MergeBlock.T (iblk m c 1 t) r.val d = T (m ((c : Thread nD τ).loc main_arg1)) (512 * t.val + r.val) d := by
  have ht : t.val < 32 := lt_of_lt_of_eq t.isLt N_0
  refine rows_of _ _ t.val ht r fun e => ?_
  have := r.isLt
  have h : iblk m c 1 t (ix2 r e) = (V m c main_arg1 : S16384x1024.Idx → EReal) (ix2 ⟨512 * t.val + r.val, by omega⟩ e) := by
    blk_ext [iblk, i1 t]
  exact h

theorem blk2 (t : Fin cfg0.N) (r : Fin 512) : ∀ d < 1024, MergeBlock.T (iblk m c 2 t) r.val d = T (m ((c : Thread nD τ).loc main_arg2)) (512 * t.val + r.val) d := by
  have ht : t.val < 32 := lt_of_lt_of_eq t.isLt N_0
  refine rows_of _ _ t.val ht r fun e => ?_
  have := r.isLt
  have h : iblk m c 2 t (ix2 r e) = (V m c main_arg2 : S16384x1024.Idx → EReal) (ix2 ⟨512 * t.val + r.val, by omega⟩ e) := by
    blk_ext [iblk, i2 t]
  exact h

theorem blk3 (t : Fin cfg0.N) (r : Fin 512) : ∀ d < 1024, MergeBlock.T (iblk m c 3 t) r.val d = T (m ((c : Thread nD τ).loc main_arg3)) (512 * t.val + r.val) d := by
  have ht : t.val < 32 := lt_of_lt_of_eq t.isLt N_0
  refine rows_of _ _ t.val ht r fun e => ?_
  have := r.isLt
  have h : iblk m c 3 t (ix2 r e) = (V m c main_arg3 : S16384x1024.Idx → EReal) (ix2 ⟨512 * t.val + r.val, by omega⟩ e) := by
    blk_ext [iblk, i3 t]
  exact h

theorem blk4 (t : Fin cfg0.N) (r : Fin 512) : ∀ d < 1024, MergeBlock.T (iblk m c 4 t) r.val d = T (m ((c : Thread nD τ).loc main_arg4)) (512 * t.val + r.val) d := by
  have ht : t.val < 32 := lt_of_lt_of_eq t.isLt N_0
  refine rows_of _ _ t.val ht r fun e => ?_
  have := r.isLt
  have h : iblk m c 4 t (ix2 r e) = (V m c main_arg4 : S16384x1024.Idx → EReal) (ix2 ⟨512 * t.val + r.val, by omega⟩ e) := by
    blk_ext [iblk, i4 t]
  exact h

theorem blk5 (t : Fin cfg0.N) (r : Fin 512) : ∀ d < 1024, MergeBlock.T (iblk m c 5 t) r.val d = T (m ((c : Thread nD τ).loc main_arg5)) (512 * t.val + r.val) d := by
  have ht : t.val < 32 := lt_of_lt_of_eq t.isLt N_0
  refine rows_of _ _ t.val ht r fun e => ?_
  have := r.isLt
  have h : iblk m c 5 t (ix2 r e) = (V m c main_arg5 : S16384x1024.Idx → EReal) (ix2 ⟨512 * t.val + r.val, by omega⟩ e) := by
    blk_ext [iblk, i5 t]
  exact h

theorem blk6 (t : Fin cfg0.N) (r : Fin 512) : ∀ d < 1024, MergeBlock.T (iblk m c 6 t) r.val d = T (m ((c : Thread nD τ).loc main_arg6)) (512 * t.val + r.val) d := by
  have ht : t.val < 32 := lt_of_lt_of_eq t.isLt N_0
  refine rows_of _ _ t.val ht r fun e => ?_
  have := r.isLt
  have h : iblk m c 6 t (ix2 r e) = (V m c main_arg6 : S16384x1024.Idx → EReal) (ix2 ⟨512 * t.val + r.val, by omega⟩ e) := by
    blk_ext [iblk, i6 t]
  exact h

theorem blk7 (t : Fin cfg0.N) : ∀ d < 1024, MergeBlock.G (iblk m c 7 t) d = G (m ((c : Thread nD τ).loc main_arg7)) d := by
  intro d hd
  have h : iblk m c 7 t (ix2 0 ⟨d, hd⟩) = (V m c main_arg7 : S1x1024.Idx → EReal) (ix2 0 ⟨d, hd⟩) := by
    blk_ext [iblk, i7 t]
  exact (rd_at (r := 0) _ 0 ⟨d, hd⟩ rfl rfl).trans (h.trans (rd_at (r := 0) _ 0 ⟨d, hd⟩ rfl rfl).symm)

theorem blk11 (t : Fin cfg0.N) : ∀ d < 1024, MergeBlock.G (iblk m c 11 t) d = G (m ((c : Thread nD τ).loc main_arg11)) d := by
  intro d hd
  have h : iblk m c 11 t (ix2 0 ⟨d, hd⟩) = (V m c main_arg11 : S1x1024.Idx → EReal) (ix2 0 ⟨d, hd⟩) := by
    blk_ext [iblk, i11 t]
  exact (rd_at (r := 0) _ 0 ⟨d, hd⟩ rfl rfl).trans (h.trans (rd_at (r := 0) _ 0 ⟨d, hd⟩ rfl rfl).symm)

theorem blk8 (t : Fin cfg0.N) : ∀ e < 1024, ∀ d < 1024, MergeBlock.W (iblk m c 8 t) d e = W (m ((c : Thread nD τ).loc main_arg8)) d e := by
  intro e he d hd
  have h : iblk m c 8 t (ix2 ⟨d, hd⟩ ⟨e, he⟩) = (V m c main_v1 : S1024x1024.Idx → EReal) (ix2 ⟨d, hd⟩ ⟨e, he⟩) := by
    blk_ext [iblk, i8 t]
  refine (rd_at _ ⟨d, hd⟩ ⟨e, he⟩ rfl rfl).trans (h.trans ?_)
  rw [V_wa]
  exact weight_at _ _ _

theorem blk9 (t : Fin cfg0.N) : ∀ e < 1024, ∀ d < 1024, MergeBlock.W (iblk m c 9 t) d e = W (m ((c : Thread nD τ).loc main_arg9)) d e := by
  intro e he d hd
  have h : iblk m c 9 t (ix2 ⟨d, hd⟩ ⟨e, he⟩) = (V m c main_v3 : S1024x1024.Idx → EReal) (ix2 ⟨d, hd⟩ ⟨e, he⟩) := by
    blk_ext [iblk, i9 t]
  refine (rd_at _ ⟨d, hd⟩ ⟨e, he⟩ rfl rfl).trans (h.trans ?_)
  rw [V_wg]
  exact weight_at _ _ _

theorem blk10 (t : Fin cfg0.N) : ∀ e < 1024, ∀ d < 1024, MergeBlock.W (iblk m c 10 t) d e = W (m ((c : Thread nD τ).loc main_arg10)) d e := by
  intro e he d hd
  have h : iblk m c 10 t (ix2 ⟨d, hd⟩ ⟨e, he⟩) = (V m c main_v5 : S1024x1024.Idx → EReal) (ix2 ⟨d, hd⟩ ⟨e, he⟩) := by
    blk_ext [iblk, i10 t]
  refine (rd_at _ ⟨d, hd⟩ ⟨e, he⟩ rfl rfl).trans (h.trans ?_)
  rw [V_wo]
  exact weight_at _ _ _

/-- The layer's result, from the arguments. -/
def yArr : S16384x1024.Idx → EReal := fun i =>
  Out (T (m ((c : Thread nD τ).loc main_arg0))) (T (m ((c : Thread nD τ).loc main_arg1))) (T (m ((c : Thread nD τ).loc main_arg2))) (T (m ((c : Thread nD τ).loc main_arg3))) (T (m ((c : Thread nD τ).loc main_arg4))) (T (m ((c : Thread nD τ).loc main_arg5))) (T (m ((c : Thread nD τ).loc main_arg6))) (G (m ((c : Thread nD τ).loc main_arg7))) (W (m ((c : Thread nD τ).loc main_arg8))) (W (m ((c : Thread nD τ).loc main_arg9))) (W (m ((c : Thread nD τ).loc main_arg10))) (G (m ((c : Thread nD τ).loc main_arg11))) (i 0).val (i 1).val

theorem final_y : (dats m 0 c).arrAt 12 cfg0.N = yArr m c := by
  refine (dats m 0 c).arrAt_eq_of_covers 12 _ (by decide +kernel) fun t hf y => ?_
  blk_simp
  rw [after0_12]
  obtain ⟨r, e, rfl⟩ : ∃ (r : Fin 512) (e : Fin 1024), y = ix2 r e := ⟨y 0, y 1, eq_ix2 (n0 := 512) (n1 := 1024) y⟩
  rw [MergeBlock.out_y, out_congr e.isLt (blk0 m c t r) (blk1 m c t r) (blk2 m c t r) (blk3 m c t r) (blk4 m c t r) (blk5 m c t r) (blk6 m c t r)
    (blk7 m c t) (blk11 m c t) (blk8 m c t) (blk9 m c t) (blk10 m c t)]
  unfold yArr
  blk_simp [i12 t]
  rw [Nat.mul_comm t.val 512]

end Cert.MergeValue
end
-- ==== Proof.MergeReference.lean ====
module

public import proofs.«01_k».proof.Proof.Gen.Reference4Ideal.Run
public import proofs.«01_k».proof.Proof.MergeSpec

@[expose] public section

/-!
# The reference of the merge, stage by stage
-/

noncomputable section

open Idealize.ShloMosaic Idealize.ShloMosaic.TcCoe Idealize.SL.Sem
open Cert.Reference4Ideal Cert.Reference4Ideal.Gen Cert.Gla Cert.Attn Cert.Merge

namespace Cert.MergeRef

variable (x : FVec Ideal S16384x1024 .f32) (oa sa : FVec Ideal S16384x1024 .bf16) (og : FVec Ideal S16384x1024 .f32)
  (sb ga gb : FVec Ideal S16384x1024 .bf16) (gn : FVec Ideal S1x1024 .f32) (wa wg wo : FVec Ideal S1x1024x1024 .f32) (pn : FVec Ideal S1x1024 .f32)

/-- A product against the last two axes of a weight. -/
def dotA (a : FVec Ideal S16384x1024 .f32) (w : FVec Ideal S1x1024x1024 .f32) : FVec Ideal S16384x1024 .f32 :=
  Host.dotGeneral dot_S16384x1024_S1024x1024_S16384x1024_1_0_0_1_n_n none a (shapeCast _ w shapeCasts_S1x1024x1024_S1024x1024)

/-- The norm of every head of the recurrence. -/
def headA : FVec Ideal S16384x1024 .f32 :=
  shapeCast _ (mulf (mulf (shapeCast _ og shapeCasts_S16384x1024_S16384x4x256) (broadcastInDim S16384x4x256 ![0, 1, 2] bcast_S16384x4x1_S16384x4x256_0_1_2
    (Host.rsqrt (addf (Host.divf (broadcastInDim S16384x4x1 ![0, 1] bcast_S16384x4_S16384x4x1_0_1
      (Host.reduceAdd (mulf (shapeCast _ og shapeCasts_S16384x1024_S16384x4x256) (shapeCast _ og shapeCasts_S16384x1024_S16384x4x256))
        (constant S_ .f32 0x00000000#32) reducesTo_S16384x4x256_S16384x4_d2 h_S_)) (broadcastInDim S16384x4x1 ![] bcast_S_S16384x4x1 (constant S_ .f32 0x43800000#32)))
      (broadcastInDim S16384x4x1 ![] bcast_S_S16384x4x1 (constant S_ .f32 0x358637BD#32))))))
    (broadcastInDim S16384x4x256 ![0, 1, 2] bcast_S1x4x256_S16384x4x256_0_1_2
      (broadcastInDim S1x4x256 ![1, 2] bcast_S4x256_S1x4x256_1_2 (shapeCast _ (shapeCast _ gn shapeCasts_S1x1024_S1024) shapeCasts_S1024_S4x256))))
    shapeCasts_S16384x4x256_S16384x1024

/-- The gated sum of both branches. -/
def mixA : FVec Ideal S16384x1024 .f32 :=
  addf (mulf (extf .f32 ga bitsLt_bf16_f32) (dotA (mulf (extf .f32 oa bitsLt_bf16_f32) (extf .f32 sa bitsLt_bf16_f32)) wa))
    (mulf (extf .f32 gb bitsLt_bf16_f32) (dotA (mulf (headA og gn) (extf .f32 sb bitsLt_bf16_f32)) wg))

/-- The norm of a row, times the gain, added to the layer's input. -/
def addNorm (y : FVec Ideal S16384x1024 .f32) : FVec Ideal S16384x1024 .f32 :=
  addf x (mulf (mulf y (broadcastInDim S16384x1024 ![0, 1] bcast_S16384x1_S16384x1024_0_1
    (Host.rsqrt (addf (Host.divf (broadcastInDim S16384x1 ![0] bcast_S16384_S16384x1_0
      (Host.reduceAdd (mulf y y) (constant S_ .f32 0x00000000#32) reducesTo_S16384x1024_S16384_d1 h_S_))
      (broadcastInDim S16384x1 ![] bcast_S_S16384x1 (constant S_ .f32 0x44800000#32)))
      (broadcastInDim S16384x1 ![] bcast_S_S16384x1 (constant S_ .f32 0x358637BD#32))))))
    (broadcastInDim S16384x1024 ![0, 1] bcast_S1x1024_S16384x1024_0_1 (broadcastInDim S1x1024 ![1] bcast_S1024_S1x1024_1 (shapeCast _ pn shapeCasts_S1x1024_S1024))))

/-- The layer's result. -/
def outA : FVec Ideal S16384x1024 .f32 := addNorm x pn (dotA (mixA oa sa og sb ga gb gn wa wg) wo)

variable (m : (ℓ : Loc nD τ sig) → Buf (Elt Ideal) ℓ) (c : Dev nD)

theorem res_eq : Value.res_main_v47 m c = outA (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := rfl

abbrev T (x : S16384x1024.Idx → EReal) : Tab := rd (R := 16384) (C := 1024) x
abbrev W (w : S1x1024x1024.Idx → EReal) : Tab := rd3 (B := 1) (T := 1024) (C := 1024) w
abbrev G (g : S1x1024.Idx → EReal) : ℕ → EReal := rd (R := 1) (C := 1024) g 0

theorem T_at (x : S16384x1024.Idx → EReal) (r : Fin 16384) (e : Fin 1024) : T x r.val e.val = x (ix2 r e) := rd_at x r e rfl rfl
theorem W_at (w : S1x1024x1024.Idx → EReal) (d e : Fin 1024) : W w d.val e.val = w (ix3 0 d e) := rd3_at w 0 d e (by simp) rfl
theorem G_at (x : S1x1024.Idx → EReal) (e : Fin 1024) : G x e.val = x (ix2 0 e) := rd_at (r := 0) x 0 e rfl rfl

theorem dotA_at (a : FVec Ideal S16384x1024 .f32) (w : FVec Ideal S1x1024x1024 .f32) (r : Fin 16384) (e : Fin 1024) :
    dotA a w (ix2 r e) = Dot (T a) (W w) r.val e.val := by
  pointwise [dotA]
  unfold Dot
  exact Finset.sum_congr rfl fun d _ => by rw [T_at, W_at]

theorem headA_at (r : Fin 16384) (e : Fin 1024) : headA og gn (ix2 r e) = HeadRms (T og) (G gn) r.val e.val := by
  pointwise [headA]
  exact head_of og gn r e _ rfl fun j => by dsimp only; omega

theorem addNorm_at (y : FVec Ideal S16384x1024 .f32) (r : Fin 16384) (e : Fin 1024) :
    addNorm x pn y (ix2 r e) = T x r.val e.val + Rms (T y) (G pn) r.val e.val := by
  pointwise [addNorm]
  unfold Rms
  rw [T_at, T_at, G_at]
  refine congrArg (fun s => _ + _ * Ideal.rsqrt (Ideal.div s _ + _) * _) ?_
  exact Finset.sum_congr rfl fun d _ => by rw [T_at]

theorem mixA_at (r : Fin 16384) (e : Fin 1024) : mixA oa sa og sb ga gb gn wa wg (ix2 r e)
    = Mix (T oa) (T sa) (T og) (T sb) (T ga) (T gb) (G gn) (W wa) (W wg) r.val e.val := by
  pointwise [mixA]
  unfold Mix
  rw [dotA_at, dotA_at, T_at, T_at]
  refine congrArg₂ (fun s t => _ * s + _ * t) (dot_congr (fun d hd => ?_) fun _ _ => rfl) (dot_congr (fun d hd => ?_) fun _ _ => rfl)
  · exact (T_at _ r ⟨d, hd⟩).trans (congrArg₂ (· * ·) (T_at oa r ⟨d, hd⟩).symm (T_at sa r ⟨d, hd⟩).symm)
  · exact (T_at _ r ⟨d, hd⟩).trans (congrArg₂ (· * ·) (headA_at og gn r ⟨d, hd⟩) (T_at sb r ⟨d, hd⟩).symm)

theorem outA_at (r : Fin 16384) (e : Fin 1024) : outA x oa sa og sb ga gb gn wa wg wo pn (ix2 r e)
    = Out (T x) (T oa) (T sa) (T og) (T sb) (T ga) (T gb) (G gn) (W wa) (W wg) (W wo) (G pn) r.val e.val := by
  unfold outA Out
  rw [addNorm_at]
  refine congrArg (_ + ·) (rms_congr (fun d hd => ?_) (fun _ _ => rfl) e.isLt)
  refine (T_at _ r ⟨d, hd⟩).trans ((dotA_at ..).trans ?_)
  exact dot_congr (fun d hd => (T_at _ r ⟨d, hd⟩).trans (mixA_at ..)) fun _ _ => rfl

end Cert.MergeRef
end
-- ==== Proof.MergeClaims.lean ====
/- The claims of the merge: the reference's frame and the equality of the result. -/
module

public import proofs.«01_k».proof.Defs
public import proofs.«01_k».proof.Proof.Gen.Kernel4Ideal.Frame
public import proofs.«01_k».proof.Proof.MergeKernel
public import proofs.«01_k».proof.Proof.MergeReference
public import Idealize.ShloMosaic.Adequacy
public import Idealize.ShloMosaic.Init

@[expose] public section

noncomputable section

namespace Cert.MergeClaims

open Idealize.ShloMosaic Idealize.ShloMosaic.TcCoe Idealize.SL.Sem

theorem frame_reference : Cert.quiescent_Reference4Ideal := fun m ρ _ =>
  (θ_run Cert.Reference4Ideal.defs _ _).mono (fun r h => ⟨fun c => (h c).2, sem_eq_zero_of_no_sems (by decide) r.2⟩)
    (Cert.Reference4Ideal.Value.run m ρ)

theorem algebraic : Cert.algebraic_Kernel4Ideal_Reference4Ideal := by
  intro m g m' g' _ hag
  refine ⟨fun c => Cert.MergeValue.yArr m c, ?_, ?_⟩
  · refine (θ_run Cert.Kernel4Ideal.defs _ _).mono (fun r h c => ?_) (Cert.Kernel4Ideal.Value.run_blocks m g)
    obtain ⟨e0, ea⟩ := h c
    exact ⟨e0.trans (Cert.MergeValue.final_y m c), ea⟩
  · refine (θ_run Cert.Reference4Ideal.defs _ _).mono (fun r h c => ?_) (Cert.Reference4Ideal.Value.run m' g')
    obtain ⟨e0, ea⟩ := h c
    obtain ⟨a0, a1, a2, a3, a4, a5, a6, a7, a8, a9, a10, a11⟩ := hag c
    refine ⟨e0.trans ((Cert.MergeRef.res_eq m' c).trans ?_), ea⟩
    funext y
    rw [eq_ix2 (n0 := 16384) (n1 := 1024) y]
    refine (Cert.MergeRef.outA_at _ _ _ _ _ _ _ _ _ _ _ _ _ _).trans ?_
    rw [a0, a1, a2, a3, a4, a5, a6, a7, a8, a9, a10, a11]
    rfl

end Cert.MergeClaims

end
-- ==== Proof.StepSpec.lean ====
module

public import proofs.«01_k».proof.Proof.AttnSpec

@[expose] public section

/-!
# One step of the gated recurrence, in scalars

The state of a head decays by `exp a`, gains the key times the value, and is read by the query.
All functions are over natural coordinates.
-/

noncomputable section

open Idealize.ShloMosaic

namespace Cert.Step

open Cert.Gla Cert.Attn

/-- An element of the new state. -/
def newS (a s k v : EReal) : EReal := Ideal.exp a * s + k * v

/-- An array of four axes over natural coordinates. -/
def rd4 {A B C D : ℕ} (x : (⟨4, ![A, B, C, D]⟩ : Shape).Idx → EReal) : ℕ → ℕ → ℕ → ℕ → EReal := fun a b c d =>
  if h : a < A ∧ b < B ∧ c < C ∧ d < D then x (ix4 ⟨a, h.1⟩ ⟨b, h.2.1⟩ ⟨c, h.2.2.1⟩ ⟨d, h.2.2.2⟩) else 0

theorem rd4_at {A B C D : ℕ} (x : (⟨4, ![A, B, C, D]⟩ : Shape).Idx → EReal) (i : Fin A) (j : Fin B) (k : Fin C) (l : Fin D)
    {a b c d : ℕ} (ha : a = i.val) (hb : b = j.val) (hc : c = k.val) (hd : d = l.val) : rd4 x a b c d = x (ix4 i j k l) := by
  subst ha hb hc hd
  exact dif_pos ⟨i.isLt, j.isLt, k.isLt, l.isLt⟩

/-- The new state: row `b`, head `h`, key coordinate `d`, value coordinate `e`. -/
def NS (A K V : Tab) (S : ℕ → ℕ → ℕ → ℕ → EReal) (b h d e : ℕ) : EReal :=
  newS (A b (128 * h + d)) (S b h d e) (K b (128 * h + d)) (V b (256 * h + e))

/-- The query's reading of the new state, column `c` of a row. -/
def OS (Q A K V : Tab) (S : ℕ → ℕ → ℕ → ℕ → EReal) (b c : ℕ) : EReal :=
  ∑ d : Fin 128, Q b (128 * (c / 256) + d.val) * NS A K V S b (c / 256) d.val (c % 256)

theorem ns_congr {A K V A' K' V' : Tab} {S S' : ℕ → ℕ → ℕ → ℕ → EReal} {b b' h d e : ℕ} (hh : h < 4) (hd : d < 128) (he : e < 256)
    (hA : ∀ c < 512, A b c = A' b' c) (hK : ∀ c < 512, K b c = K' b' c) (hV : ∀ c < 1024, V b c = V' b' c)
    (hS : ∀ h < 4, ∀ d < 128, ∀ e < 256, S b h d e = S' b' h d e) : NS A K V S b h d e = NS A' K' V' S' b' h d e := by
  unfold NS
  rw [hA _ (by omega), hK _ (by omega), hV _ (by omega), hS h hh d hd e he]

theorem os_congr {Q A K V Q' A' K' V' : Tab} {S S' : ℕ → ℕ → ℕ → ℕ → EReal} {b b' c : ℕ} (hc : c < 1024)
    (hQ : ∀ c < 512, Q b c = Q' b' c)
    (hA : ∀ c < 512, A b c = A' b' c) (hK : ∀ c < 512, K b c = K' b' c) (hV : ∀ c < 1024, V b c = V' b' c)
    (hS : ∀ h < 4, ∀ d < 128, ∀ e < 256, S b h d e = S' b' h d e) : OS Q A K V S b c = OS Q' A' K' V' S' b' c := by
  unfold OS
  refine Finset.sum_congr rfl fun d _ => ?_
  have := d.isLt
  rw [hQ _ (by omega), ns_congr (by omega) d.isLt (Nat.mod_lt _ (by omega)) hA hK hV hS]

theorem newS_congr {a s k v a' s' k' v' : EReal} (ha : a = a') (hs : s = s') (hk : k = k') (hv : v = v') :
    newS a s k v = newS a' s' k' v' := by subst ha hs hk hv; rfl

end Cert.Step
end
-- ==== Proof.StepBlock.lean ====
module

public import proofs.«01_k».proof.Proof.Gen.Kernel5Ideal.Value
public import proofs.«01_k».proof.Proof.StepSpec
public import Idealize.ShloMosaic.Lib.Tactic
public import Idealize.ShloMosaic.Lib.Pipeline.Value
public import Idealize.ShloMosaic.Lib.Pipeline.ValueKit
public import Idealize.ShloMosaic.Lib.Pointwise

@[expose] public section

/-!
# One grid point of the sample's recurrence step

What the body leaves in the output blocks, from the blocks of the inputs: queries, keys, values, log decays, state.
-/

noncomputable section

open Idealize.ShloMosaic Idealize.ShloMosaic.TcCoe Idealize.SL.Sem
open Cert.Kernel5Ideal Cert.Kernel5Ideal.Gen Cert.Gla Cert.Attn Cert.Step

namespace Cert.StepBlock

/-- A row against the unit matrix: the sum picks its diagonal term. -/
theorem diag (f : Fin 128 → EReal) (d : Fin 128) :
    ∑ x : Fin 128, Scalar.select (IntOp.cmpi CmpIPredicate.eq (BitVec.ofNat 32 d.val) (BitVec.ofNat 32 x.val)) (f x) 0 = f d := by
  rw [Finset.sum_eq_single d]
  · simp [Scalar.select, IntOp.cmpi]
  · intro x _ hx
    have h : BitVec.ofNat 32 d.val ≠ BitVec.ofNat 32 x.val := by
      intro e
      have h0 := d.isLt
      have h1 := x.isLt
      have e' := congrArg BitVec.toNat e
      simp only [BitVec.toNat_ofNat] at e'
      exact hx (Fin.ext (by omega))
    simp [Scalar.select, IntOp.cmpi, beq_eq_false_iff_ne.mpr h]
  · intro h; exact absurd (Finset.mem_univ d) h

section
variable (a k q : Vec Ideal S1x1x128 .f32) (s : Vec Ideal S1x1x128x256 .f32) (v : Vec Ideal S1x1x256 .f32)

theorem state0 (d : Fin 128) (e : Fin 256) : k0_pay4 a s k v (ix2 d e)
    = newS (a (ix3 0 0 d)) (s (ix4 0 0 d e)) (k (ix3 0 0 d)) (v (ix3 0 0 e)) := by
  pointwise [k0_pay4]
  rw [diag fun x => a (ix3 0 0 x), diag fun x => k (ix3 0 0 x)]
  rfl

theorem block0 (d : Fin 128) (e : Fin 256) : k0_pay5 a s k v (ix4 0 0 d e)
    = newS (a (ix3 0 0 d)) (s (ix4 0 0 d e)) (k (ix3 0 0 d)) (v (ix3 0 0 e)) := by
  pointwise [k0_pay5]
  exact state0 a k s v d e

theorem read0 (e : Fin 256) : k0_pay6 (k0_pay4 a s k v) q (ix3 0 0 e)
    = ∑ d : Fin 128, q (ix3 0 0 d) * newS (a (ix3 0 0 d)) (s (ix4 0 0 d e)) (k (ix3 0 0 d)) (v (ix3 0 0 e)) := by
  pointwise [k0_pay6]
  refine Finset.sum_congr rfl fun d _ => ?_
  exact congrArg₂ (· * ·) (diag (fun x => q (ix3 0 0 x)) d) (state0 a k s v d e)

theorem state1 (d : Fin 128) (e : Fin 256) : k0_pay10 (k0_pay7 a s) (k0_pay8 k) k0_pay9 v (ix2 d e)
    = newS (a (ix3 0 0 d)) (s (ix4 0 0 d e)) (k (ix3 0 0 d)) (v (ix3 0 0 e)) := by
  pointwise [k0_pay10, k0_pay7, k0_pay8, k0_pay9]
  rw [diag fun x => a (ix3 0 0 x), diag fun x => k (ix3 0 0 x)]
  rfl

theorem block1 (d : Fin 128) (e : Fin 256) : k0_pay11 (k0_pay7 a s) (k0_pay8 k) k0_pay9 v (ix4 0 0 d e)
    = newS (a (ix3 0 0 d)) (s (ix4 0 0 d e)) (k (ix3 0 0 d)) (v (ix3 0 0 e)) := by
  pointwise [k0_pay11]
  exact state1 a k s v d e

theorem read1 (e : Fin 256) : k0_pay12 (k0_pay7 a s) (k0_pay8 k) k0_pay9 v q (ix3 0 0 e)
    = ∑ d : Fin 128, q (ix3 0 0 d) * newS (a (ix3 0 0 d)) (s (ix4 0 0 d e)) (k (ix3 0 0 d)) (v (ix3 0 0 e)) := by
  pointwise [k0_pay12]
  refine Finset.sum_congr rfl fun d _ => ?_
  exact congrArg₂ (· * ·) (diag (fun x => q (ix3 0 0 x)) d) (state1 a k s v d e)

theorem state2 (d : Fin 128) (e : Fin 256) : k0_pay14 (k0_pay13 a) (iota .tc S128x128 32 [0] iota_S128x128_d0_w32) (iota .tc S128x128 32 [1] iota_S128x128_d1_w32) s k v (ix2 d e)
    = newS (a (ix3 0 0 d)) (s (ix4 0 0 d e)) (k (ix3 0 0 d)) (v (ix3 0 0 e)) := by
  pointwise [k0_pay14, k0_pay13]
  rw [diag fun x => a (ix3 0 0 x), diag fun x => k (ix3 0 0 x)]
  rfl

theorem block2 (d : Fin 128) (e : Fin 256) : k0_pay15 (k0_pay13 a) (iota .tc S128x128 32 [0] iota_S128x128_d0_w32) (iota .tc S128x128 32 [1] iota_S128x128_d1_w32) s k v (ix4 0 0 d e)
    = newS (a (ix3 0 0 d)) (s (ix4 0 0 d e)) (k (ix3 0 0 d)) (v (ix3 0 0 e)) := by
  pointwise [k0_pay15]
  exact state2 a k s v d e

theorem read2 (e : Fin 256) : k0_pay18 (k0_pay14 (k0_pay13 a) (iota .tc S128x128 32 [0] iota_S128x128_d0_w32) (iota .tc S128x128 32 [1] iota_S128x128_d1_w32) s k v) (k0_pay16 q) k0_pay17 (Scalar.ofBits .f32 0x00000000#32) (ix3 0 0 e)
    = ∑ d : Fin 128, q (ix3 0 0 d) * newS (a (ix3 0 0 d)) (s (ix4 0 0 d e)) (k (ix3 0 0 d)) (v (ix3 0 0 e)) := by
  pointwise [k0_pay18, k0_pay16, k0_pay17]
  refine Finset.sum_congr rfl fun d _ => ?_
  exact congrArg₂ (· * ·) (diag (fun x => q (ix3 0 0 x)) d) (state2 a k s v d e)

theorem state3 (d : Fin 128) (e : Fin 256) : k0_pay1 (k0_pay19 a s) (k0_pay20 k) v (ix2 d e)
    = newS (a (ix3 0 0 d)) (s (ix4 0 0 d e)) (k (ix3 0 0 d)) (v (ix3 0 0 e)) := by
  pointwise [k0_pay1, k0_pay19, k0_pay20]
  rw [diag fun x => a (ix3 0 0 x), diag fun x => k (ix3 0 0 x)]
  rfl

theorem block3 (d : Fin 128) (e : Fin 256) : k0_pay2 (k0_pay19 a s) (k0_pay20 k) v (ix4 0 0 d e)
    = newS (a (ix3 0 0 d)) (s (ix4 0 0 d e)) (k (ix3 0 0 d)) (v (ix3 0 0 e)) := by
  pointwise [k0_pay2]
  exact state3 a k s v d e

theorem read3 (e : Fin 256) : k0_pay3 (k0_pay19 a s) (k0_pay20 k) v q (ix3 0 0 e)
    = ∑ d : Fin 128, q (ix3 0 0 d) * newS (a (ix3 0 0 d)) (s (ix4 0 0 d e)) (k (ix3 0 0 d)) (v (ix3 0 0 e)) := by
  pointwise [k0_pay3]
  refine Finset.sum_congr rfl fun d _ => ?_
  exact congrArg₂ (· * ·) (diag (fun x => q (ix3 0 0 x)) d) (state3 a k s v d e)

end

variable (x0 x1 : Vec Ideal S1x1x512 .f32) (x2 : Vec Ideal S1x1x1024 .f32) (x3 : Vec Ideal S1x1x512 .f32) (x4 : Vec Ideal S1x4x128x256 .f32)

/-- The blocks as tables. -/
abbrev Q : Tab := rd3 (B := 1) (T := 1) (C := 512) x0
abbrev K : Tab := rd3 (B := 1) (T := 1) (C := 512) x1
abbrev V : Tab := rd3 (B := 1) (T := 1) (C := 1024) x2
abbrev A : Tab := rd3 (B := 1) (T := 1) (C := 512) x3
abbrev S : ℕ → ℕ → ℕ → ℕ → EReal := rd4 (A := 1) (B := 4) (C := 128) (D := 256) x4

theorem row0 (x : Vec Ideal S1x1x512 .f32) (d : Fin 128) : View.ld x r0_0 (ix3 0 0 d) = rd3 (B := 1) (T := 1) (C := 512) x 0 (128 * 0 + d.val) := by
  pointwise []
  exact (rd3_at x 0 0 _ (by simp) (by simp)).symm

theorem val0 (e : Fin 256) : View.ld x2 r0_2 (ix3 0 0 e) = V x2 0 (256 * 0 + e.val) := by
  pointwise []
  exact (rd3_at x2 0 0 _ (by simp) (by simp)).symm

theorem st0 (d : Fin 128) (e : Fin 256) : View.ld x4 r0_1 (ix4 0 0 d e) = S x4 0 0 d.val e.val := by
  pointwise []
  exact (rd4_at x4 0 0 d e rfl rfl rfl rfl).symm

theorem ns0 (d : Fin 128) (e : Fin 256) : newS (View.ld x3 r0_0 (ix3 0 0 d)) (View.ld x4 r0_1 (ix4 0 0 d e)) (View.ld x1 r0_0 (ix3 0 0 d))
    (View.ld x2 r0_2 (ix3 0 0 e)) = NS (A x3) (K x1) (V x2) (S x4) 0 0 d.val e.val :=
  newS_congr (row0 x3 d) (st0 x4 d e) (row0 x1 d) (val0 x2 e)

theorem row1 (x : Vec Ideal S1x1x512 .f32) (d : Fin 128) : View.ld x r0_3 (ix3 0 0 d) = rd3 (B := 1) (T := 1) (C := 512) x 0 (128 * 1 + d.val) := by
  pointwise []
  exact (rd3_at x 0 0 _ (by simp) (by simp)).symm

theorem val1 (e : Fin 256) : View.ld x2 r0_5 (ix3 0 0 e) = V x2 0 (256 * 1 + e.val) := by
  pointwise []
  exact (rd3_at x2 0 0 _ (by simp) (by simp)).symm

theorem st1 (d : Fin 128) (e : Fin 256) : View.ld x4 r0_4 (ix4 0 0 d e) = S x4 0 1 d.val e.val := by
  pointwise []
  exact (rd4_at x4 0 1 d e rfl rfl rfl rfl).symm

theorem ns1 (d : Fin 128) (e : Fin 256) : newS (View.ld x3 r0_3 (ix3 0 0 d)) (View.ld x4 r0_4 (ix4 0 0 d e)) (View.ld x1 r0_3 (ix3 0 0 d))
    (View.ld x2 r0_5 (ix3 0 0 e)) = NS (A x3) (K x1) (V x2) (S x4) 0 1 d.val e.val :=
  newS_congr (row1 x3 d) (st1 x4 d e) (row1 x1 d) (val1 x2 e)

theorem row2 (x : Vec Ideal S1x1x512 .f32) (d : Fin 128) : View.ld x r0_6 (ix3 0 0 d) = rd3 (B := 1) (T := 1) (C := 512) x 0 (128 * 2 + d.val) := by
  pointwise []
  exact (rd3_at x 0 0 _ (by simp) (by simp)).symm

theorem val2 (e : Fin 256) : View.ld x2 r0_8 (ix3 0 0 e) = V x2 0 (256 * 2 + e.val) := by
  pointwise []
  exact (rd3_at x2 0 0 _ (by simp) (by simp)).symm

theorem st2 (d : Fin 128) (e : Fin 256) : View.ld x4 r0_7 (ix4 0 0 d e) = S x4 0 2 d.val e.val := by
  pointwise []
  exact (rd4_at x4 0 2 d e rfl rfl rfl rfl).symm

theorem ns2 (d : Fin 128) (e : Fin 256) : newS (View.ld x3 r0_6 (ix3 0 0 d)) (View.ld x4 r0_7 (ix4 0 0 d e)) (View.ld x1 r0_6 (ix3 0 0 d))
    (View.ld x2 r0_8 (ix3 0 0 e)) = NS (A x3) (K x1) (V x2) (S x4) 0 2 d.val e.val :=
  newS_congr (row2 x3 d) (st2 x4 d e) (row2 x1 d) (val2 x2 e)

theorem row3 (x : Vec Ideal S1x1x512 .f32) (d : Fin 128) : View.ld x r0_9 (ix3 0 0 d) = rd3 (B := 1) (T := 1) (C := 512) x 0 (128 * 3 + d.val) := by
  pointwise []
  exact (rd3_at x 0 0 _ (by simp) (by simp)).symm

theorem val3 (e : Fin 256) : View.ld x2 r0_11 (ix3 0 0 e) = V x2 0 (256 * 3 + e.val) := by
  pointwise []
  exact (rd3_at x2 0 0 _ (by simp) (by simp)).symm

theorem st3 (d : Fin 128) (e : Fin 256) : View.ld x4 r0_10 (ix4 0 0 d e) = S x4 0 3 d.val e.val := by
  pointwise []
  exact (rd4_at x4 0 3 d e rfl rfl rfl rfl).symm

theorem ns3 (d : Fin 128) (e : Fin 256) : newS (View.ld x3 r0_9 (ix3 0 0 d)) (View.ld x4 r0_10 (ix4 0 0 d e)) (View.ld x1 r0_9 (ix3 0 0 d))
    (View.ld x2 r0_11 (ix3 0 0 e)) = NS (A x3) (K x1) (V x2) (S x4) 0 3 d.val e.val :=
  newS_congr (row3 x3 d) (st3 x4 d e) (row3 x1 d) (val3 x2 e)

theorem out_s (y : S1x4x128x256.Idx) : out0_6 x0 x1 x2 x3 x4 y = NS (A x3) (K x1) (V x2) (S x4) 0 (y 1).val (y 2).val (y 3).val := by
  frame_out
  canon_tiles y h
  · rename_i Y
    rw [show (Y 1).val = 3 by omega, h2, h3]
    obtain ⟨z, z', d, e, rfl⟩ : ∃ (z : Fin 1) (z' : Fin 1) (d : Fin 128) (e : Fin 256), y = ix4 z z' d e :=
      ⟨y 0, y 1, y 2, y 3, eq_ix4 (n0 := 1) (n1 := 1) (n2 := 128) (n3 := 256) y⟩
    obtain rfl : z = 0 := Subsingleton.elim _ _
    obtain rfl : z' = 0 := Subsingleton.elim _ _
    exact (block3 (View.ld x3 r0_9) (View.ld x1 r0_9) (View.ld x4 r0_10) (View.ld x2 r0_11) d e).trans (ns3 x1 x2 x3 x4 d e)
  · rename_i Y
    rw [show (Y 1).val = 2 by omega, h2, h3]
    obtain ⟨z, z', d, e, rfl⟩ : ∃ (z : Fin 1) (z' : Fin 1) (d : Fin 128) (e : Fin 256), y = ix4 z z' d e :=
      ⟨y 0, y 1, y 2, y 3, eq_ix4 (n0 := 1) (n1 := 1) (n2 := 128) (n3 := 256) y⟩
    obtain rfl : z = 0 := Subsingleton.elim _ _
    obtain rfl : z' = 0 := Subsingleton.elim _ _
    exact (block2 (View.ld x3 r0_6) (View.ld x1 r0_6) (View.ld x4 r0_7) (View.ld x2 r0_8) d e).trans (ns2 x1 x2 x3 x4 d e)
  · rename_i Y
    rw [show (Y 1).val = 1 by omega, h2, h3]
    obtain ⟨z, z', d, e, rfl⟩ : ∃ (z : Fin 1) (z' : Fin 1) (d : Fin 128) (e : Fin 256), y = ix4 z z' d e :=
      ⟨y 0, y 1, y 2, y 3, eq_ix4 (n0 := 1) (n1 := 1) (n2 := 128) (n3 := 256) y⟩
    obtain rfl : z = 0 := Subsingleton.elim _ _
    obtain rfl : z' = 0 := Subsingleton.elim _ _
    exact (block1 (View.ld x3 r0_3) (View.ld x1 r0_3) (View.ld x4 r0_4) (View.ld x2 r0_5) d e).trans (ns1 x1 x2 x3 x4 d e)
  · rename_i Y
    rw [show (Y 1).val = 0 by omega, h2, h3]
    obtain ⟨z, z', d, e, rfl⟩ : ∃ (z : Fin 1) (z' : Fin 1) (d : Fin 128) (e : Fin 256), y = ix4 z z' d e :=
      ⟨y 0, y 1, y 2, y 3, eq_ix4 (n0 := 1) (n1 := 1) (n2 := 128) (n3 := 256) y⟩
    obtain rfl : z = 0 := Subsingleton.elim _ _
    obtain rfl : z' = 0 := Subsingleton.elim _ _
    exact (block0 (View.ld x3 r0_0) (View.ld x1 r0_0) (View.ld x4 r0_1) (View.ld x2 r0_2) d e).trans (ns0 x1 x2 x3 x4 d e)

theorem out_o (y : S1x1x1024.Idx) : out0_5 x0 x1 x2 x3 x4 y = OS (Q x0) (A x3) (K x1) (V x2) (S x4) 0 (y 2).val := by
  frame_out
  canon_tiles y h
  · rename_i Y
    obtain ⟨z, z', e, rfl⟩ : ∃ (z : Fin 1) (z' : Fin 1) (e : Fin 256), y = ix3 z z' e :=
      ⟨y 0, y 1, y 2, eq_ix3 (n0 := 1) (n1 := 1) (n2 := 256) y⟩
    obtain rfl : z = 0 := Subsingleton.elim _ _
    obtain rfl : z' = 0 := Subsingleton.elim _ _
    refine (read3 (View.ld x3 r0_9) (View.ld x1 r0_9) (View.ld x0 r0_9) (View.ld x4 r0_10) (View.ld x2 r0_11) e).trans ?_
    unfold OS
    rw [show (Y 2).val / 256 = 3 by omega, show (Y 2).val % 256 = e.val from by rw [h2]; exact (by have := e.isLt; omega : (768 + e.val) % 256 = e.val)]
    exact Finset.sum_congr rfl fun d _ => congrArg₂ (· * ·) (row3 x0 d) (ns3 x1 x2 x3 x4 d e)
  · rename_i Y
    obtain ⟨z, z', e, rfl⟩ : ∃ (z : Fin 1) (z' : Fin 1) (e : Fin 256), y = ix3 z z' e :=
      ⟨y 0, y 1, y 2, eq_ix3 (n0 := 1) (n1 := 1) (n2 := 256) y⟩
    obtain rfl : z = 0 := Subsingleton.elim _ _
    obtain rfl : z' = 0 := Subsingleton.elim _ _
    refine (read2 (View.ld x3 r0_6) (View.ld x1 r0_6) (View.ld x0 r0_6) (View.ld x4 r0_7) (View.ld x2 r0_8) e).trans ?_
    unfold OS
    rw [show (Y 2).val / 256 = 2 by omega, show (Y 2).val % 256 = e.val from by rw [h2]; exact (by have := e.isLt; omega : (512 + e.val) % 256 = e.val)]
    exact Finset.sum_congr rfl fun d _ => congrArg₂ (· * ·) (row2 x0 d) (ns2 x1 x2 x3 x4 d e)
  · rename_i Y
    obtain ⟨z, z', e, rfl⟩ : ∃ (z : Fin 1) (z' : Fin 1) (e : Fin 256), y = ix3 z z' e :=
      ⟨y 0, y 1, y 2, eq_ix3 (n0 := 1) (n1 := 1) (n2 := 256) y⟩
    obtain rfl : z = 0 := Subsingleton.elim _ _
    obtain rfl : z' = 0 := Subsingleton.elim _ _
    refine (read1 (View.ld x3 r0_3) (View.ld x1 r0_3) (View.ld x0 r0_3) (View.ld x4 r0_4) (View.ld x2 r0_5) e).trans ?_
    unfold OS
    rw [show (Y 2).val / 256 = 1 by omega, show (Y 2).val % 256 = e.val from by rw [h2]; exact (by have := e.isLt; omega : (256 + e.val) % 256 = e.val)]
    exact Finset.sum_congr rfl fun d _ => congrArg₂ (· * ·) (row1 x0 d) (ns1 x1 x2 x3 x4 d e)
  · rename_i Y
    obtain ⟨z, z', e, rfl⟩ : ∃ (z : Fin 1) (z' : Fin 1) (e : Fin 256), y = ix3 z z' e :=
      ⟨y 0, y 1, y 2, eq_ix3 (n0 := 1) (n1 := 1) (n2 := 256) y⟩
    obtain rfl : z = 0 := Subsingleton.elim _ _
    obtain rfl : z' = 0 := Subsingleton.elim _ _
    refine (read0 (View.ld x3 r0_0) (View.ld x1 r0_0) (View.ld x0 r0_0) (View.ld x4 r0_1) (View.ld x2 r0_2) e).trans ?_
    unfold OS
    rw [show (Y 2).val / 256 = 0 by omega, show (Y 2).val % 256 = e.val from by rw [h2]; exact Nat.mod_eq_of_lt e.isLt]
    exact Finset.sum_congr rfl fun d _ => congrArg₂ (· * ·) (row0 x0 d) (ns0 x1 x2 x3 x4 d e)

end Cert.StepBlock
end
-- ==== Proof.StepKernel.lean ====
module

public import proofs.«01_k».proof.Proof.StepBlock

@[expose] public section

/-!
# The sample's recurrence step: the result arrays

Grid point `t` works on row `t`.
-/

noncomputable section

open Idealize.ShloMosaic Idealize.ShloMosaic.TcCoe Idealize.SL.Sem
open Cert.Kernel5Ideal Cert.Kernel5Ideal.Gen Cert.Gla Cert.Attn Cert.Step
open Idealize.ShloMosaic.Pipeline (Dat)

namespace Cert.StepValue

variable (m : (ℓ : Loc nD τ sig) → Buf (Elt Ideal) ℓ) (c : Dev nD)

theorem V_0 : (V m c main_v0 : S32x1x512.Idx → EReal)
    = shapeCast S32x1x512 (m ((c : Thread nD τ).loc main_arg0)) shapeCasts_S32x512_S32x1x512 := by
  unfold_abbrev_sides
  after_results
  rfl

theorem V_1 : (V m c main_v1 : S32x1x512.Idx → EReal)
    = shapeCast S32x1x512 (m ((c : Thread nD τ).loc main_arg1)) shapeCasts_S32x512_S32x1x512 := by
  unfold_abbrev_sides
  after_results
  rfl

theorem V_2 : (V m c main_v2 : S32x1x1024.Idx → EReal)
    = shapeCast S32x1x1024 (m ((c : Thread nD τ).loc main_arg2)) shapeCasts_S32x1024_S32x1x1024 := by
  unfold_abbrev_sides
  after_results
  rfl

theorem V_3 : (V m c main_v3 : S32x1x512.Idx → EReal)
    = shapeCast S32x1x512 (m ((c : Thread nD τ).loc main_arg3)) shapeCasts_S32x512_S32x1x512 := by
  unfold_abbrev_sides
  after_results
  rfl

theorem keys_at (a : FVec Ideal S32x512 .f32) (b : Fin 32) (d : Fin 512) :
    shapeCast S32x1x512 a shapeCasts_S32x512_S32x1x512 (ix3 b 0 d) = rd (R := 32) (C := 512) a b.val d.val := by
  pointwise []
  exact (rd_at a b d rfl rfl).symm

theorem values_at (a : FVec Ideal S32x1024 .f32) (b : Fin 32) (d : Fin 1024) :
    shapeCast S32x1x1024 a shapeCasts_S32x1024_S32x1x1024 (ix3 b 0 d) = rd (R := 32) (C := 1024) a b.val d.val := by
  pointwise []
  exact (rd_at a b d rfl rfl).symm

theorem i0 : ∀ t : Fin cfg0.N, win0_0.index t = ![t.val, 0, 0] := (by decide +kernel : ∀ t : Fin grid0.N, _)
theorem i1 : ∀ t : Fin cfg0.N, win0_1.index t = ![t.val, 0, 0] := (by decide +kernel : ∀ t : Fin grid0.N, _)
theorem i2 : ∀ t : Fin cfg0.N, win0_2.index t = ![t.val, 0, 0] := (by decide +kernel : ∀ t : Fin grid0.N, _)
theorem i3 : ∀ t : Fin cfg0.N, win0_3.index t = ![t.val, 0, 0] := (by decide +kernel : ∀ t : Fin grid0.N, _)
theorem i4 : ∀ t : Fin cfg0.N, win0_4.index t = ![t.val, 0, 0, 0] := (by decide +kernel : ∀ t : Fin grid0.N, _)
theorem i5 : ∀ t : Fin cfg0.N, win0_5.index t = ![t.val, 0, 0] := (by decide +kernel : ∀ t : Fin grid0.N, _)
theorem i6 : ∀ t : Fin cfg0.N, win0_6.index t = ![t.val, 0, 0, 0] := (by decide +kernel : ∀ t : Fin grid0.N, _)

/-- The argument arrays over natural coordinates. -/
abbrev Qm : Tab := rd (R := 32) (C := 512) (m ((c : Thread nD τ).loc main_arg0))
abbrev Km : Tab := rd (R := 32) (C := 512) (m ((c : Thread nD τ).loc main_arg1))
abbrev Vm : Tab := rd (R := 32) (C := 1024) (m ((c : Thread nD τ).loc main_arg2))
abbrev Am : Tab := rd (R := 32) (C := 512) (m ((c : Thread nD τ).loc main_arg3))
abbrev Sm : ℕ → ℕ → ℕ → ℕ → EReal := rd4 (A := 32) (B := 4) (C := 128) (D := 256) (m ((c : Thread nD τ).loc main_arg4))

theorem blk0 (t : Fin cfg0.N) : ∀ d < 512, rd3 (B := 1) (T := 1) (C := 512) (iblk m c 0 t) 0 d = Qm m c t.val d := by
  intro d hd
  have ht : t.val < 32 := lt_of_lt_of_eq t.isLt N_0
  rw [rd3_at _ 0 0 ⟨d, hd⟩ (by simp) rfl]
  have h : iblk m c 0 t (ix3 0 0 ⟨d, hd⟩) = (V m c main_v0 : S32x1x512.Idx → EReal) (ix3 ⟨t.val, ht⟩ 0 ⟨d, hd⟩) := by
    blk_ext [iblk, i0 t]
  rw [h, V_0]
  exact keys_at _ _ _

theorem blk1 (t : Fin cfg0.N) : ∀ d < 512, rd3 (B := 1) (T := 1) (C := 512) (iblk m c 1 t) 0 d = Km m c t.val d := by
  intro d hd
  have ht : t.val < 32 := lt_of_lt_of_eq t.isLt N_0
  rw [rd3_at _ 0 0 ⟨d, hd⟩ (by simp) rfl]
  have h : iblk m c 1 t (ix3 0 0 ⟨d, hd⟩) = (V m c main_v1 : S32x1x512.Idx → EReal) (ix3 ⟨t.val, ht⟩ 0 ⟨d, hd⟩) := by
    blk_ext [iblk, i1 t]
  rw [h, V_1]
  exact keys_at _ _ _

theorem blk2 (t : Fin cfg0.N) : ∀ d < 1024, rd3 (B := 1) (T := 1) (C := 1024) (iblk m c 2 t) 0 d = Vm m c t.val d := by
  intro d hd
  have ht : t.val < 32 := lt_of_lt_of_eq t.isLt N_0
  rw [rd3_at _ 0 0 ⟨d, hd⟩ (by simp) rfl]
  have h : iblk m c 2 t (ix3 0 0 ⟨d, hd⟩) = (V m c main_v2 : S32x1x1024.Idx → EReal) (ix3 ⟨t.val, ht⟩ 0 ⟨d, hd⟩) := by
    blk_ext [iblk, i2 t]
  rw [h, V_2]
  exact values_at _ _ _

theorem blk3 (t : Fin cfg0.N) : ∀ d < 512, rd3 (B := 1) (T := 1) (C := 512) (iblk m c 3 t) 0 d = Am m c t.val d := by
  intro d hd
  have ht : t.val < 32 := lt_of_lt_of_eq t.isLt N_0
  rw [rd3_at _ 0 0 ⟨d, hd⟩ (by simp) rfl]
  have h : iblk m c 3 t (ix3 0 0 ⟨d, hd⟩) = (V m c main_v3 : S32x1x512.Idx → EReal) (ix3 ⟨t.val, ht⟩ 0 ⟨d, hd⟩) := by
    blk_ext [iblk, i3 t]
  rw [h, V_3]
  exact keys_at _ _ _

theorem blk4 (t : Fin cfg0.N) : ∀ h < 4, ∀ d < 128, ∀ e < 256,
    rd4 (A := 1) (B := 4) (C := 128) (D := 256) (iblk m c 4 t) 0 h d e = Sm m c t.val h d e := by
  intro h hh d hd e he
  have ht : t.val < 32 := lt_of_lt_of_eq t.isLt N_0
  refine (rd4_at _ 0 ⟨h, hh⟩ ⟨d, hd⟩ ⟨e, he⟩ rfl rfl rfl rfl).trans ?_
  have h' : iblk m c 4 t (ix4 0 ⟨h, hh⟩ ⟨d, hd⟩ ⟨e, he⟩)
      = (m ((c : Thread nD τ).loc main_arg4) : S32x4x128x256.Idx → EReal) (ix4 ⟨t.val, ht⟩ ⟨h, hh⟩ ⟨d, hd⟩ ⟨e, he⟩) := by
    blk_ext [iblk, i4 t]
  exact h'.trans (rd4_at _ ⟨t.val, ht⟩ ⟨h, hh⟩ ⟨d, hd⟩ ⟨e, he⟩ rfl rfl rfl rfl).symm

/-! ### The arrays -/

def oArr : S32x1x1024.Idx → EReal := fun i => OS (Qm m c) (Am m c) (Km m c) (Vm m c) (Sm m c) (i 0).val (i 2).val
def sArr : S32x4x128x256.Idx → EReal := fun i => NS (Am m c) (Km m c) (Vm m c) (Sm m c) (i 0).val (i 1).val (i 2).val (i 3).val

theorem final_o : (dats m 0 c).arrAt 5 cfg0.N = oArr m c := by
  refine (dats m 0 c).arrAt_eq_of_covers 5 _ (by decide +kernel) fun t hf y => ?_
  blk_simp
  rw [after0_5]
  obtain ⟨z, z', e, rfl⟩ : ∃ (z : Fin 1) (z' : Fin 1) (e : Fin 1024), y = ix3 z z' e := ⟨y 0, y 1, y 2, eq_ix3 (n0 := 1) (n1 := 1) (n2 := 1024) y⟩
  obtain rfl : z = 0 := Subsingleton.elim _ _
  obtain rfl : z' = 0 := Subsingleton.elim _ _
  rw [StepBlock.out_o]
  refine (os_congr e.isLt (blk0 m c t) (blk3 m c t) (blk1 m c t) (blk2 m c t) (blk4 m c t)).trans ?_
  unfold oArr
  blk_simp [i5 t]
  rfl

theorem final_s : (dats m 0 c).arrAt 6 cfg0.N = sArr m c := by
  refine (dats m 0 c).arrAt_eq_of_covers 6 _ (by decide +kernel) fun t hf y => ?_
  blk_simp
  rw [after0_6]
  obtain ⟨z, h, d, e, rfl⟩ : ∃ (z : Fin 1) (h : Fin 4) (d : Fin 128) (e : Fin 256), y = ix4 z h d e :=
    ⟨y 0, y 1, y 2, y 3, eq_ix4 (n0 := 1) (n1 := 4) (n2 := 128) (n3 := 256) y⟩
  obtain rfl : z = 0 := Subsingleton.elim _ _
  rw [StepBlock.out_s]
  refine (ns_congr h.isLt d.isLt e.isLt (blk3 m c t) (blk1 m c t) (blk2 m c t) (blk4 m c t)).trans ?_
  unfold sArr
  blk_simp [i6 t]
  rfl

end Cert.StepValue
end
-- ==== Proof.StepReference.lean ====
module

public import proofs.«01_k».proof.Proof.Gen.Reference5Ideal.Run
public import proofs.«01_k».proof.Proof.StepSpec
public import Idealize.ShloMosaic.Lib.Tactic
public import Idealize.ShloMosaic.Lib.Pointwise

@[expose] public section

/-!
# The reference of the sample's recurrence step, element by element
-/

noncomputable section

open Idealize.ShloMosaic Idealize.ShloMosaic.TcCoe Idealize.SL.Sem
open Cert.Reference5Ideal Cert.Reference5Ideal.Gen Cert.Gla Cert.Attn Cert.Step

namespace Cert.StepRef

variable (q k : FVec Ideal S32x512 .f32) (v : FVec Ideal S32x1024 .f32) (a : FVec Ideal S32x512 .f32) (s : FVec Ideal S32x4x128x256 .f32)

/-- The new state. -/
def sOut : FVec Ideal S32x4x128x256 .f32 :=
  addf (mulf (broadcastInDim S32x4x128x256 ![0, 1, 2, 3] bcast_S32x4x128x1_S32x4x128x256_0_1_2_3 (broadcastInDim S32x4x128x1 ![0, 1, 2] bcast_S32x4x128_S32x4x128x1_0_1_2 (Host.exp (shapeCast _ a shapeCasts_S32x512_S32x4x128)))) s) (mulf (broadcastInDim S32x4x128x256 ![0, 1, 2, 3] bcast_S32x4x128x1_S32x4x128x256_0_1_2_3 (broadcastInDim S32x4x128x1 ![0, 1, 2] bcast_S32x4x128_S32x4x128x1_0_1_2 (shapeCast _ k shapeCasts_S32x512_S32x4x128))) (broadcastInDim S32x4x128x256 ![0, 1, 2, 3] bcast_S32x4x1x256_S32x4x128x256_0_1_2_3 (broadcastInDim S32x4x1x256 ![0, 1, 3] bcast_S32x4x256_S32x4x1x256_0_1_3 (shapeCast _ v shapeCasts_S32x1024_S32x4x256))))

/-- The queries' readings. -/
def oOut : FVec Ideal S32x1x1024 .f32 :=
  shapeCast _ (Host.dotGeneral dot_S32x4x128_S32x4x128x256_S32x4x256_2_2_n_3_01_01 none (shapeCast _ q shapeCasts_S32x512_S32x4x128) (sOut k v a s)) shapeCasts_S32x4x256_S32x1x1024

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v15) = oOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v13) = sOut (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Value.run m ρ

/-! ### Element by element -/

theorem s_at (b : Fin 32) (h : Fin 4) (d : Fin 128) (e : Fin 256) : sOut k v a s (ix4 b h d e)
    = NS (rd (R := 32) (C := 512) a) (rd (R := 32) (C := 512) k) (rd (R := 32) (C := 1024) v) (rd4 (A := 32) (B := 4) (C := 128) (D := 256) s) b.val h.val d.val e.val := by
  pointwise [sOut]
  unfold NS
  have hh := h.isLt
  have hd := d.isLt
  have he := e.isLt
  exact newS_congr (rd_at a b _ rfl (by dsimp only; omega)).symm (rd4_at s b h d e rfl rfl rfl rfl).symm
    (rd_at k b _ rfl (by dsimp only; omega)).symm (rd_at v b _ rfl (by dsimp only; omega)).symm

theorem o_at (b : Fin 32) (c : Fin 1024) : oOut q k v a s (ix3 b 0 c)
    = OS (rd (R := 32) (C := 512) q) (rd (R := 32) (C := 512) a) (rd (R := 32) (C := 512) k) (rd (R := 32) (C := 1024) v) (rd4 (A := 32) (B := 4) (C := 128) (D := 256) s) b.val c.val := by
  pointwise [oOut]
  unfold OS
  have hc := c.isLt
  refine Finset.sum_congr rfl fun d _ => ?_
  have hd := d.isLt
  exact congrArg₂ (· * ·) (rd_at q b _ rfl (by dsimp only; omega)).symm (s_at k v a s b ⟨c.val / 256, by omega⟩ d ⟨c.val % 256, by omega⟩)

end Cert.StepRef
end
-- ==== Proof.StepClaims.lean ====
/- The claims of the sample's recurrence step: the reference's frame and the equality of both results. -/
module

public import proofs.«01_k».proof.Defs
public import proofs.«01_k».proof.Proof.Gen.Kernel5Ideal.Frame
public import proofs.«01_k».proof.Proof.StepKernel
public import proofs.«01_k».proof.Proof.StepReference
public import Idealize.ShloMosaic.Adequacy
public import Idealize.ShloMosaic.Init

@[expose] public section

noncomputable section

namespace Cert.StepClaims

open Idealize.ShloMosaic Idealize.ShloMosaic.TcCoe Idealize.SL.Sem Cert.Attn

theorem frame_reference : Cert.quiescent_Reference5Ideal := fun m ρ _ =>
  (θ_run Cert.Reference5Ideal.defs _ _).mono (fun r h => ⟨fun c => (h c).2.2,
      Idealize.ShloMosaic.sem_eq_zero_of_no_sems (by decide) r.2⟩)
    (Cert.StepRef.run m ρ)

theorem algebraic : Cert.algebraic_Kernel5Ideal_Reference5Ideal := by
  intro m g m' g' _ hag
  refine ⟨fun c => Cert.StepValue.oArr m c, fun c => Cert.StepValue.sArr m c, ?_, ?_⟩
  · refine (θ_run Cert.Kernel5Ideal.defs _ _).mono (fun r h c => ?_) (Cert.Kernel5Ideal.Value.run_blocks m g)
    obtain ⟨e0, e1, ea⟩ := h c
    exact ⟨e0.trans (Cert.StepValue.final_o m c), e1.trans (Cert.StepValue.final_s m c), ea⟩
  · refine (θ_run Cert.Reference5Ideal.defs _ _).mono (fun r h c => ?_) (Cert.StepRef.run m' g')
    obtain ⟨e0, e1, ea⟩ := h c
    obtain ⟨a0, a1, a2, a3, a4⟩ := hag c
    refine ⟨e0.trans ?_, e1.trans ?_, ea⟩
    · funext y
      obtain ⟨b, z, e, rfl⟩ : ∃ (b : Fin 32) (z : Fin 1) (e : Fin 1024), y = ix3 b z e :=
        ⟨y 0, y 1, y 2, eq_ix3 (n0 := 32) (n1 := 1) (n2 := 1024) y⟩
      obtain rfl : z = 0 := Subsingleton.elim _ _
      refine (Cert.StepRef.o_at _ _ _ _ _ _ _).trans ?_
      rw [a0, a1, a2, a3, a4]
      rfl
    · funext y
      obtain ⟨b, h, d, e, rfl⟩ : ∃ (b : Fin 32) (h : Fin 4) (d : Fin 128) (e : Fin 256), y = ix4 b h d e :=
        ⟨y 0, y 1, y 2, y 3, eq_ix4 (n0 := 32) (n1 := 4) (n2 := 128) (n3 := 256) y⟩
      refine (Cert.StepRef.s_at _ _ _ _ _ _ _ _).trans ?_
      rw [a1, a2, a3, a4]
      rfl

end Cert.StepClaims

end
-- ==== Proof.MixSpec.lean ====
module

public import proofs.«01_k».proof.Proof.AttnSpec
public import Idealize.ShloMosaic.Lib.Pointwise

@[expose] public section

/-!
# The second projections, in scalars

Beside plain column groups of the projection of the normalised rows (`Cert.Attn.Prj`), the call works on a small group of
columns (`Sm`): 64 of the indexer's key, normalised again and turned, 4 weights of the indexer's heads, and 16 columns
that give the log decays.
-/

noncomputable section

open Idealize.ShloMosaic

namespace Cert.Mix

open Cert.Gla Cert.Attn

/-- The small group: the indexer's key and head weights, the columns of the log decays, and nothing beyond. -/
def Sm (P : Tab) : Tab := fun r l => if l < 68 then P r (4352 + l) else if l < 84 then P r (6400 + l) else 0

/-- The key's 64 columns over the root of their mean square, times the gain. -/
def Kn (M : Tab) (K : ℕ → EReal) : Tab := fun r l =>
  M r l * Ideal.rsqrt (Ideal.div (∑ e : Fin 64, M r e.val * M r e.val) (Ideal.ofBits .f32 0x42800000#32)
    + Ideal.ofBits .f32 0x358637BD#32) * K l

/-- A head of 64 columns turned, from tables of cosines and signed sines. -/
def Turn64 (z C S : Tab) : Tab := fun r l => z r l * C r l + z r ((l + 32) % 64) * S r l

/-- The turned key, the scaled head weights, and the rest of the small group as it is. -/
def Misc (M : Tab) (K : ℕ → EReal) (C S : Tab) : Tab := fun r l =>
  if l < 64 then Turn64 (Kn M K) C S r l else if l < 68 then M r l * Ideal.ofBits .f32 0x3D800000#32 else M r l

/-- The log decays before the log sigmoid. -/
def Pre (M A : Tab) (B : ℕ → EReal) : Tab := fun r k => ∑ j : Fin 16, M r (68 + j.val) * A j.val k + B k

/-- The log sigmoid. -/
def LogSig (x : EReal) : EReal :=
  0 - (max (0 - x) 0 + Ideal.log1p (Ideal.exp (0 - (FloatOps.absf (0 - x : Ideal .f32) : Ideal .f32))))

/-- The log decays: a sixteenth of the log sigmoid. -/
def La (M A : Tab) (B : ℕ → EReal) : Tab := fun r k => LogSig (Pre M A B r k) * Ideal.ofBits .f32 0x3D800000#32

/-- A row's position. -/
abbrev pos : ℕ → EReal := fun r => num (r % 4096)

/-- The angle of position `p`, frequency `j` of 32. -/
def ang (p : EReal) (j : ℕ) : EReal :=
  p * Ideal.pow (Ideal.ofBits .f32 0x461C4000#32) (Ideal.div (-num j) (Ideal.ofBits .f32 0x42000000#32))

/-- The table of cosines, from the rows' positions. -/
def cosT (p : ℕ → EReal) : Tab := fun r j => Ideal.cos (ang (p r) (j % 32))

/-- The table of signed sines. -/
def sinT (p : ℕ → EReal) : Tab := fun r j => if j % 64 < 32 then -Ideal.sin (ang (p r) (j % 32)) else Ideal.sin (ang (p r) (j % 32))

/-! ### Products over two parts of each factor -/

/-- The normalised rows and their rest against three weight blocks of 1024 rows, as the call multiplies them. -/
def Prj3 (H W : Tab) : Tab := fun r e =>
  ∑ d : Fin 1024, H r d.val * W d.val e + ∑ d : Fin 1024, H r d.val * W (1024 + d.val) e
    + ∑ d : Fin 1024, (H r d.val - H r d.val) * W (2048 + d.val) e

/-- A value that is no infinity. -/
def Fin' (x : EReal) : Prop := x ≠ ⊥ ∧ x ≠ ⊤

theorem sub_self_of {x : EReal} (h : Fin' x) : x - x = 0 := EReal.sub_self h.2 h.1

theorem prj3_eq {H W V : Tab} {r e : ℕ} (hH : ∀ d < 1024, Fin' (H r d)) (hV : ∀ d < 1024, Fin' (V d e))
    (h0 : ∀ d < 1024, W d e = V d e) (h1 : ∀ d < 1024, W (1024 + d) e = V d e - V d e) :
    Prj3 H W r e = ∑ d : Fin 1024, H r d.val * V d.val e := by
  have e1 : ∑ d : Fin 1024, H r d.val * W (1024 + d.val) e = 0 :=
    Finset.sum_eq_zero fun d _ => by rw [h1 d.val d.isLt, sub_self_of (hV d.val d.isLt), mul_zero]
  have e2 : ∑ d : Fin 1024, (H r d.val - H r d.val) * W (2048 + d.val) e = 0 :=
    Finset.sum_eq_zero fun d _ => by rw [sub_self_of (hH d.val d.isLt), zero_mul]
  unfold Prj3
  rw [e1, e2, add_zero, add_zero]
  exact Finset.sum_congr rfl fun d _ => by rw [h0 d.val d.isLt]

/-- A sum over 3072 terms in three parts of 1024. -/
theorem sum3 (f : Fin 3072 → EReal) : ∑ d : Fin 3072, f d
    = ∑ d : Fin 1024, f ⟨d.val, by omega⟩ + ∑ d : Fin 1024, f ⟨1024 + d.val, by omega⟩ + ∑ d : Fin 1024, f ⟨2048 + d.val, by omega⟩ := by
  rw [show (∑ d : Fin 3072, f d) = ∑ d : Fin (1024 + 1024 + 1024), f ⟨d.val, by omega⟩ from rfl, Fin.sum_univ_add, Fin.sum_univ_add]
  rfl

/-- A sum whose terms are 0 outside of `m` terms from `o` on. -/
theorem sum_window {n m o : ℕ} (h : o + m ≤ n) (f : ℕ → EReal) (hf : ∀ l < n, l < o ∨ o + m ≤ l → f l = 0) :
    ∑ l : Fin n, f l.val = ∑ j : Fin m, f (o + j.val) := by
  rw [Fin.sum_univ_eq_sum_range f n, Fin.sum_univ_eq_sum_range (fun j => f (o + j)) m]
  have hs : Finset.Ico o (o + m) ⊆ Finset.range n := fun l hl => by
    rw [Finset.mem_Ico] at hl
    exact Finset.mem_range.2 (by omega)
  rw [← Finset.sum_subset hs fun l hl hn => hf l (Finset.mem_range.1 hl) (by rw [Finset.mem_Ico] at hn; omega),
    Finset.sum_Ico_eq_sum_range]
  simp

/-! ### Constants -/

theorem eps_eq : ∃ e : ℝ, 0 < e ∧ Ideal.ofBits .f32 0x358637BD#32 = (e : EReal) := by
  refine ⟨8796093 / 8796093022208, by norm_num, ?_⟩
  simp [Ideal.ofBits, Ideal.ieee, -EReal.coe_mul]; norm_num

theorem const_1024 : Ideal.ofBits .f32 0x44800000#32 = ((1024 : ℝ) : EReal) := by
  simp [Ideal.ofBits, Ideal.ieee, -EReal.coe_mul]; norm_num

theorem const_64 : Ideal.ofBits .f32 0x42800000#32 = ((64 : ℝ) : EReal) := by
  simp [Ideal.ofBits, Ideal.ieee, -EReal.coe_mul]; norm_num

theorem const_16 : Ideal.ofBits .f32 0x41800000#32 = ((16 : ℝ) : EReal) := by
  simp [Ideal.ofBits, Ideal.ieee, -EReal.coe_mul]; norm_num

theorem const_64th : Ideal.ofBits .f32 0x3C800000#32 = ((1 / 64 : ℝ) : EReal) := by
  simp [Ideal.ofBits, Ideal.ieee, -EReal.coe_mul]; norm_num

theorem const_16th : Ideal.ofBits .f32 0x3D800000#32 = ((1 / 16 : ℝ) : EReal) := by
  simp [Ideal.ofBits, Ideal.ieee, -EReal.coe_mul]; norm_num

theorem const_top : Ideal.ofBits .f32 0x7F800000#32 = ⊤ := by
  simp [Ideal.ofBits, Ideal.ieee]

theorem mul_64th (x : EReal) : x * Ideal.ofBits .f32 0x3C800000#32 = Ideal.div x (Ideal.ofBits .f32 0x42800000#32) := by
  rw [const_64, const_64th, Ideal.div_coe (by norm_num)]

theorem div_16 (x : EReal) : Ideal.div x (Ideal.ofBits .f32 0x41800000#32) = x * Ideal.ofBits .f32 0x3D800000#32 := by
  rw [const_16, const_16th, Ideal.div_coe (by norm_num)]

/-! ### A normalised row is finite -/

theorem sq_nonneg (x : EReal) : 0 ≤ x * x := by
  rcases le_total 0 x with h | h
  · exact EReal.mul_nonneg_iff.2 (.inl ⟨h, h⟩)
  · exact EReal.mul_nonneg_iff.2 (.inr ⟨h, h⟩)

theorem coe_of_fin {x : EReal} (h : Fin' x) : ∃ a : ℝ, x = a := ⟨x.toReal, (EReal.coe_toReal h.2 h.1).symm⟩

theorem fin_coe (a : ℝ) : Fin' (a : EReal) := ⟨EReal.coe_ne_bot a, EReal.coe_ne_top a⟩

/-- Whatever the row, its normalisation is finite where the gain is: an infinite row has an infinite mean square. -/
theorem rms_fin {X : Tab} {G : ℕ → EReal} (r : ℕ) {d : ℕ} (hd : d < 1024) (hG : Fin' (G d)) : Fin' (Rms X G r d) := by
  obtain ⟨g, hg⟩ := coe_of_fin hG
  obtain ⟨e, he, hee⟩ := eps_eq
  have hs : 0 ≤ ∑ e : Fin 1024, X r e.val * X r e.val := Finset.sum_nonneg fun e _ => sq_nonneg _
  unfold Rms
  rw [hg, hee, const_1024]
  by_cases ht : ∑ e : Fin 1024, X r e.val * X r e.val = ⊤
  · rw [ht, Ideal.div_coe (by norm_num), EReal.top_mul_coe_of_pos (by norm_num), EReal.top_add_coe]
    rw [show Ideal.rsqrt ⊤ = 0 from rfl, mul_zero, zero_mul]
    exact fin_coe 0
  · have hle : X r d * X r d ≤ ∑ e : Fin 1024, X r e.val * X r e.val :=
      Finset.single_le_sum (f := fun e : Fin 1024 => X r e.val * X r e.val) (fun e _ => sq_nonneg _) (Finset.mem_univ ⟨d, hd⟩)
    have hx : Fin' (X r d) := by
      refine ⟨fun h => ht (top_le_iff.1 ?_), fun h => ht (top_le_iff.1 ?_)⟩ <;>
      · refine le_trans (le_of_eq ?_) hle
        rw [h]
        rfl
    obtain ⟨x, hx⟩ := coe_of_fin hx
    obtain ⟨s, hs'⟩ := coe_of_fin (x := ∑ e : Fin 1024, X r e.val * X r e.val) ⟨fun h => by rw [h] at hs; exact absurd hs (by simp), ht⟩
    rw [hs'] at hs ⊢
    have hs0 : 0 ≤ s := EReal.coe_nonneg.1 hs
    rw [hx, Ideal.div_coe (by norm_num), ← EReal.coe_mul, ← EReal.coe_add]
    have hpos : 0 < s * (1 / 1024) + e := by positivity
    rw [show Ideal.rsqrt ((s * (1 / 1024) + e : ℝ) : EReal) = (((Real.sqrt (s * (1 / 1024) + e))⁻¹ : ℝ) : EReal) from by
      unfold Ideal.rsqrt
      show (if s * (1 / 1024) + e < 0 then ⊥ else if s * (1 / 1024) + e = 0 then ⊤ else _) = _
      rw [if_neg (not_lt.2 hpos.le), if_neg hpos.ne'], ← EReal.coe_mul, ← EReal.coe_mul]
    exact fin_coe _

/-! ### Equal tables, equal results -/

theorem kn_congr {M M' : Tab} {K K' : ℕ → EReal} {r r' : ℕ} (hM : ∀ l < 64, M r l = M' r' l) (hK : ∀ l < 64, K l = K' l)
    {l : ℕ} (hl : l < 64) : Kn M K r l = Kn M' K' r' l := by
  unfold Kn
  rw [hM l hl, hK l hl, Finset.sum_congr rfl fun e _ => by rw [hM e.val e.isLt]]

theorem misc_congr {M M' : Tab} {K K' : ℕ → EReal} {C C' S S' : Tab} {r r' : ℕ} (hM : ∀ l < 128, M r l = M' r' l)
    (hK : ∀ l < 64, K l = K' l) (hC : ∀ l < 64, C r l = C' r' l) (hS : ∀ l < 64, S r l = S' r' l) {l : ℕ} (hl : l < 128) :
    Misc M K C S r l = Misc M' K' C' S' r' l := by
  unfold Misc Turn64
  rw [hM l hl]
  split_ifs with h
  · rw [kn_congr (fun l h => hM l (by omega)) hK h, kn_congr (fun l h => hM l (by omega)) hK (Nat.mod_lt (l + 32) (by omega)), hC l h, hS l h]
  · rfl
  · rfl

theorem pre_congr {M M' A A' : Tab} {B B' : ℕ → EReal} {r r' k : ℕ} (hM : ∀ l < 128, M r l = M' r' l)
    (hA : ∀ j < 16, A j k = A' j k) (hB : B k = B' k) : Pre M A B r k = Pre M' A' B' r' k := by
  unfold Pre
  rw [hB, Finset.sum_congr rfl fun j _ => by rw [hM (68 + j.val) (by have := j.isLt; omega), hA j.val j.isLt]]

end Cert.Mix
end
-- ==== Proof.MixBlock.lean ====
module

public import proofs.«01_k».proof.Proof.Gen.Kernel6Ideal.Value
public import proofs.«01_k».proof.Proof.MixSpec
public import Idealize.ShloMosaic.Lib.Tactic
public import Idealize.ShloMosaic.Lib.Pipeline.Value
public import Idealize.ShloMosaic.Lib.Pipeline.ValueKit
public import Idealize.ShloMosaic.Lib.Pointwise

@[expose] public section

/-!
# One grid point of the prompt's second projections

What the body leaves in every output block, from the blocks of the inputs: rows, gain, weights, weights of the small group in
three parts, the key's gain, the log decays' weights and bias, cosines, signed sines.
-/

noncomputable section

open Idealize.ShloMosaic Idealize.ShloMosaic.TcCoe Idealize.SL.Sem
open Cert.Kernel6Ideal Cert.Kernel6Ideal.Gen Cert.Gla Cert.Attn Cert.Mix

namespace Cert.MixBlock

variable (x0 : Vec Ideal S512x1024 .f32) (x1 : Vec Ideal S1x1024 .f32) (x2 : Vec Ideal S1024x5120 .bf16)
  (x3 : Vec Ideal S3072x384 .bf16) (x4 : Vec Ideal S1x128 .f32) (x5 : Vec Ideal S128x512 .f32) (x6 : Vec Ideal S1x512 .f32)
  (x7 x8 : Vec Ideal S512x128 .f32)

/-- The block's projection. -/
abbrev P : Tab := Prj (rd (R := 512) (C := 1024) x0) (rd (R := 1) (C := 1024) x1 0) (rd (R := 1024) (C := 5120) x2)

/-- The block's small group, 128 columns. -/
abbrev M : Tab := fun r l =>
  Prj3 (Rms (rd (R := 512) (C := 1024) x0) (rd (R := 1) (C := 1024) x1 0)) (rd (R := 3072) (C := 384) x3) r (256 + l)

theorem h_at (r : Fin 512) (d : Fin 1024) : k0_pay2 x0 x1 (ix2 r d)
    = Rms (rd (R := 512) (C := 1024) x0) (rd (R := 1) (C := 1024) x1 0) r.val d.val := by
  pointwise [k0_pay2, k0_pay1]
  unfold Rms
  rw [rd_at x0 r d rfl rfl, rd_at (r := 0) x1 0 d rfl rfl]
  simp only [ix2_rd]

theorem rest_at (r : Fin 512) (d : Fin 1024) : k0_pay3 x0 x1 (ix2 r d)
    = Rms (rd (R := 512) (C := 1024) x0) (rd (R := 1) (C := 1024) x1 0) r.val d.val
      - Rms (rd (R := 512) (C := 1024) x0) (rd (R := 1) (C := 1024) x1 0) r.val d.val := by
  rw [← h_at]
  pointwise [k0_pay3, k0_pay2]

theorem pay39_eq : k0_pay39 x0 x1 x2 x3 x4 x5 x6 x7 x8 = k0_pay2 x0 x1 := by
  unfold k0_pay39
  rw [View.ld_unit_zero (by decide), View.ld_unit_zero (by decide)]

theorem three_at (r : Fin 512) (e : Fin 384) : k0_pay10 (k0_pay2 x0 x1) (k0_pay3 x0 x1) x3 (ix2 r e)
    = Prj3 (Rms (rd (R := 512) (C := 1024) x0) (rd (R := 1) (C := 1024) x1 0)) (rd (R := 3072) (C := 384) x3) r.val e.val := by
  pointwise [k0_pay10]
  rw [sum3]
  unfold Prj3
  refine congrArg₂ (· + ·) (congrArg₂ (· + ·) ?_ ?_) ?_ <;> refine Finset.sum_congr rfl fun d _ => ?_ <;> have hd := d.isLt
  · rw [dif_pos (show (⟨d.val, _⟩ : Fin 3072).val < 1024 from hd)]
    exact congrArg₂ (· * ·) (h_at x0 x1 r d) (rd_at x3 _ _ rfl rfl).symm
  · rw [dif_neg (show ¬ 1024 + d.val < 1024 by omega), dif_pos (show 1024 + d.val - 1024 < 1024 by omega)]
    refine congrArg₂ (· * ·) ((congrArg (fun i => k0_pay2 x0 x1 (ix2 r i)) (Fin.ext (by dsimp only; omega))).trans (h_at x0 x1 r d)) (rd_at x3 _ _ rfl rfl).symm
  · rw [dif_neg (show ¬ 2048 + d.val < 1024 by omega), dif_neg (show ¬ 2048 + d.val - 1024 < 1024 by omega)]
    refine congrArg₂ (· * ·) ((congrArg (fun i => k0_pay3 x0 x1 (ix2 r i)) (Fin.ext (by dsimp only; omega))).trans (rest_at x0 x1 r d)) (rd_at x3 _ _ rfl rfl).symm

theorem z_at (r : Fin 512) (e : Fin 384) : k0_pay41 x0 x1 x2 x3 x4 x5 x6 x7 x8 (ix2 r e)
    = Prj3 (Rms (rd (R := 512) (C := 1024) x0) (rd (R := 1) (C := 1024) x1 0)) (rd (R := 3072) (C := 384) x3) r.val e.val := by
  unfold k0_pay41
  rw [pay39_eq]
  rw [View.ld_unit_zero (by decide), View.ld_unit_zero (by decide), View.ld_unit_zero (by decide)]
  exact three_at x0 x1 x3 r e

theorem m_at (r : Fin 512) (l : Fin 128) : k0_pay32 (k0_pay41 x0 x1 x2 x3 x4 x5 x6 x7 x8) (ix2 r l) = M x0 x1 x3 r.val l.val := by
  pointwise [k0_pay32]
  exact z_at x0 x1 x2 x3 x4 x5 x6 x7 x8 r _

/-! ### The lanes' masks -/

theorem half_at (l : Fin 128) : k0_pay44 x0 x1 x2 x3 x4 x5 x6 x7 x8 (ix2 0 l) = if l.val % 64 < 32 then 1#1 else 0#1 := by
  pointwise [k0_pay44, k0_pay13]
  revert l
  decide +kernel

theorem lane_at (l : Fin 128) : k0_pay40 x0 x1 x2 x3 x4 x5 x6 x7 x8 (ix2 0 l) = BitVec.ofNat 32 l.val := by
  pointwise [k0_pay40]

theorem low_at (l : Fin 128) : k0_pay45 x0 x1 x2 x3 x4 x5 x6 x7 x8 (ix2 0 l) = if l.val < 64 then 1#1 else 0#1 := by
  pointwise [k0_pay45, k0_pay14]
  rw [lane_at]
  revert l
  decide +kernel

theorem weights_at : ∀ l : Fin 128, IntOp.andi (IntOp.cmpi CmpIPredicate.sge (BitVec.ofNat 32 l.val) 64#32)
    (IntOp.cmpi CmpIPredicate.slt (BitVec.ofNat 32 l.val) 68#32) = if 64 ≤ l.val ∧ l.val < 68 then 1#1 else 0#1 := by
  decide +kernel

theorem select_ite {α : Type} (p : Prop) [Decidable p] (a b : α) : Scalar.select (if p then 1#1 else 0#1) a b = if p then a else b := by
  split_ifs <;> rfl

/-! ### The small group -/

theorem key_at (v : FVec Ideal S512x384 .f32) (h w : IVec S1x128 1) (N : Tab) (r : Fin 512)
    (hv : ∀ l : Fin 128, k0_pay32 v (ix2 r l) = N r.val l.val) (hh : ∀ l : Fin 128, h (ix2 0 l) = if l.val % 64 < 32 then 1#1 else 0#1)
    (hw : ∀ l : Fin 128, w (ix2 0 l) = if l.val < 64 then 1#1 else 0#1) (l : Fin 128) (hl : l.val < 64) :
    k0_pay33 v x7 x8 h w x4 (ix2 r l)
      = Turn64 (Kn N (rd (R := 1) (C := 128) x4 0)) (rd (R := 512) (C := 128) x7) (rd (R := 512) (C := 128) x8) r.val l.val := by
  have hs : ∑ x : Fin 128, (if x.val < 64 then (if x.val < 64 then N r.val x.val * N r.val x.val else 0) else 0)
      = ∑ e : Fin 64, N r.val e.val * N r.val e.val := by
    rw [sum_window (n := 128) (m := 64) (o := 0) (by omega) (fun x => if x < 64 then (if x < 64 then N r.val x * N r.val x else 0) else 0)
      fun l _ h => if_neg (by omega)]
    exact Finset.sum_congr rfl fun e _ => by simp
  pointwise [k0_pay33]
  simp only [hv, hh, hw, select_ite]
  rw [hs, mul_64th, if_pos hl]
  unfold Turn64 Kn
  rw [rd_at (r := 0) x4 0 l rfl rfl, rd_at x7 r l rfl rfl, rd_at x8 r l rfl rfl]
  refine congrArg₂ (· + ·) rfl (congrArg₂ (· * ·) ?_ rfl)
  have e1 : l.val % 64 = l.val := Nat.mod_eq_of_lt hl
  rw [e1]
  split_ifs with h1 h2 h3
  · have e2 : (l.val + 32) % 64 = (l.val + 128 - 96) % 128 := by omega
    rw [e2, rd_at (r := 0) x4 0 ⟨(l.val + 128 - 96) % 128, by omega⟩ rfl rfl]
  · omega
  · have e2 : (l.val + 32) % 64 = (l.val + 128 - 32) % 128 := by omega
    rw [e2, rd_at (r := 0) x4 0 ⟨(l.val + 128 - 32) % 128, by omega⟩ rfl rfl]
  · omega

theorem out_misc (r : Fin 512) (l : Fin 128) : out0_18 x0 x1 x2 x3 x4 x5 x6 x7 x8 (ix2 r l)
    = Misc (M x0 x1 x3) (rd (R := 1) (C := 128) x4 0) (rd (R := 512) (C := 128) x7) (rd (R := 512) (C := 128) x8) r.val l.val := by
  have hk : ∀ l : Fin 128, l.val < 64 → k0_pay46 x0 x1 x2 x3 x4 x5 x6 x7 x8 (ix2 r l) = Turn64 (Kn (M x0 x1 x3) (rd (R := 1) (C := 128) x4 0))
      (rd (R := 512) (C := 128) x7) (rd (R := 512) (C := 128) x8) r.val l.val := by
    intro l hl
    have e7 : k0_pay42 x0 x1 x2 x3 x4 x5 x6 x7 x8 = x7 := by
      unfold k0_pay42 k0_pay11
      rw [View.ld_unit_zero (by decide)]
      exact shapeCast_self _ _
    have e8 : k0_pay43 x0 x1 x2 x3 x4 x5 x6 x7 x8 = x8 := by
      unfold k0_pay43 k0_pay12
      rw [View.ld_unit_zero (by decide)]
      exact shapeCast_self _ _
    unfold k0_pay46
    rw [e7, e8, View.ld_unit_zero (by decide)]
    exact key_at x4 x7 x8 _ _ _ (M x0 x1 x3) r (m_at x0 x1 x2 x3 x4 x5 x6 x7 x8 r) (half_at x0 x1 x2 x3 x4 x5 x6 x7 x8)
      (low_at x0 x1 x2 x3 x4 x5 x6 x7 x8) l hl
  frame_out
  pointwise [k0_pay36, k0_pay34, k0_pay35]
  rw [lane_at, low_at, weights_at, select_ite, select_ite, m_at]
  unfold Misc
  split_ifs with h1 h2 h3 h4
  · exact hk l h1
  · rfl
  · omega
  · omega
  · rfl

theorem out_la (r : Fin 512) (k : Fin 512) : out0_12 x0 x1 x2 x3 x4 x5 x6 x7 x8 (ix2 r k)
    = LogSig (∑ x : Fin 128, M x0 x1 x3 r.val x.val * rd (R := 128) (C := 512) x5 x.val k.val + rd (R := 1) (C := 512) x6 0 k.val)
      * Ideal.ofBits .f32 0x3D800000#32 := by
  frame_out
  pointwise [k0_pay38]
  simp only [m_at, ne_eq, not_true_eq_false, if_false]
  rw [rd_at (r := 0) x6 0 k rfl rfl, Finset.sum_congr rfl fun (x : Fin 128) _ => congrArg (M x0 x1 x3 r.val x.val * ·) (rd_at x5 x k rfl rfl).symm]
  rfl

/-! ### The wide groups -/

theorem prj_at (r : Fin 512) (e : Fin 5120) {e' : ℕ} (he : e' = e.val) :
    ∑ d : Fin 1024, k0_pay2 x0 x1 (ix2 r d) * x2 (ix2 d e) = P x0 x1 x2 r.val e' := by
  subst he
  unfold P Prj
  exact Finset.sum_congr rfl fun d _ => by rw [h_at, rd_at x2 d e rfl rfl]

theorem out_q (r : Fin 512) (e : Fin 512) : out0_9 x0 x1 x2 x3 x4 x5 x6 x7 x8 (ix2 r e)
    = P x0 x1 x2 r.val (0 + e.val) * Ideal.ofBits .f32 0x3DB504F3#32 := by
  frame_out
  have := e.isLt
  pointwise [k0_pay4]
  exact congrArg (· * _) (prj_at x0 x1 x2 r ⟨e.val, by omega⟩ (by simp))

theorem out_k (r : Fin 512) (e : Fin 512) : out0_10 x0 x1 x2 x3 x4 x5 x6 x7 x8 (ix2 r e) = P x0 x1 x2 r.val (512 + e.val) := by
  frame_out
  pointwise [k0_pay5]
  exact prj_at x0 x1 x2 r _ rfl

theorem out_v (r : Fin 512) (e : Fin 1024) : out0_11 x0 x1 x2 x3 x4 x5 x6 x7 x8 (ix2 r e) = P x0 x1 x2 r.val (1024 + e.val) := by
  frame_out
  pointwise [k0_pay6]
  exact prj_at x0 x1 x2 r _ rfl

theorem out_s (r : Fin 512) (e : Fin 1024) : out0_13 x0 x1 x2 x3 x4 x5 x6 x7 x8 (ix2 r e)
    = P x0 x1 x2 r.val (2048 + e.val) * Ideal.logistic (P x0 x1 x2 r.val (2048 + e.val)) := by
  frame_out
  rw [pay39_eq]
  pointwise [k0_pay7]
  exact congrArg (fun z : EReal => z * Ideal.logistic z) (prj_at x0 x1 x2 r _ rfl)

theorem out_a (r : Fin 512) (e : Fin 1024) : out0_14 x0 x1 x2 x3 x4 x5 x6 x7 x8 (ix2 r e)
    = Ideal.logistic (P x0 x1 x2 r.val (3072 + e.val)) := by
  frame_out
  rw [pay39_eq]
  pointwise [k0_pay8]
  exact congrArg (fun z : EReal => Ideal.logistic z) (prj_at x0 x1 x2 r _ rfl)

theorem out_b (r : Fin 512) (e : Fin 1024) : out0_15 x0 x1 x2 x3 x4 x5 x6 x7 x8 (ix2 r e)
    = Ideal.logistic (P x0 x1 x2 r.val (4096 + e.val)) := by
  frame_out
  rw [pay39_eq]
  pointwise [k0_pay9]
  exact congrArg (fun z : EReal => Ideal.logistic z) (prj_at x0 x1 x2 r _ rfl)

end Cert.MixBlock
end
-- ==== Proof.MixKernel.lean ====
module

public import proofs.«01_k».proof.Proof.MixBlock
public import Idealize.ShloMosaic.Lib.Routing.OpsPair
public import Idealize.ShloMosaic.Lib.Routing.OpsSet

@[expose] public section

/-!
# The prompt's second projections: the result arrays

Grid point `t` works on rows `512 t` on; its positions are those rows modulo 4096. Where the gain and the weights are finite,
the products of the small group's three parts are the one product.
-/

noncomputable section

open Idealize.ShloMosaic Idealize.ShloMosaic.TcCoe Idealize.SL.Sem
open Cert.Kernel6Ideal Cert.Kernel6Ideal.Gen Cert.Gla Cert.Attn Cert.Mix
open Idealize.ShloMosaic.Pipeline (Dat)

namespace Cert.MixValue

variable (m : (ℓ : Loc nD τ sig) → Buf (Elt Ideal) ℓ) (c : Dev nD)

/-! ### What the host operations before the call leave -/

/-- The angles of the positions. -/
def angA : FVec Ideal S4096x32 .f32 :=
  mulf
    (broadcastInDim S4096x32 ![0, 1] bcast_S4096x1_S4096x32_0_1
      (broadcastInDim S4096x1 ![0] bcast_S4096_S4096x1_0 (sitofp FTy.f32 (iotaInDim S4096 32 0))))
    (broadcastInDim S4096x32 ![0, 1] bcast_S1x32_S4096x32_0_1
      (broadcastInDim S1x32 ![1] bcast_S32_S1x32_1
        (Host.powf (broadcastInDim S32 ![] bcast_S_S32 (constant S_ FTy.f32 0x461C4000#32))
          (Host.divf (Host.negf (sitofp FTy.f32 (iotaInDim S32 32 0)))
            (broadcastInDim S32 ![] bcast_S_S32 (constant S_ FTy.f32 0x42000000#32))))))

/-- Two tables of 32 columns side by side, twice over, as the call takes them. -/
def pairA (a b : FVec Ideal S4096x32 .f32) : FVec Ideal S4096x128 .f32 :=
  shapeCast S4096x128
    (broadcastInDim S1x4096x2x64 ![0, 1, 2, 3] bcast_S1x4096x1x64_S1x4096x2x64_0_1_2_3
      (shapeCast S1x4096x1x64
        (concatenate S4096x64 1 [⟨S4096x32, a⟩, ⟨S4096x32, b⟩] concatenates_S4096x32_S4096x32_S4096x64_d1)
        shapeCasts_S4096x64_S1x4096x1x64))
    shapeCasts_S1x4096x2x64_S4096x128

/-- The wide groups' weights. -/
def wideA (a : FVec Ideal S1024x9556 .f32) : FVec Ideal S1024x5120 .bf16 :=
  truncf .bf16 (concatenate S1024x5120 1
    [⟨S1024x2048, extractStridedSlice S1024x2048 ![0, 4420] a slices_S1024x9556_S1024x2048_0_4420⟩,
      ⟨S1024x3072, extractStridedSlice S1024x3072 ![0, 6484] a slices_S1024x9556_S1024x3072_0_6484⟩]
    concatenates_S1024x2048_S1024x3072_S1024x5120_d1) bitsLt_bf16_f32

/-- The weights of the small group. -/
def smallA (a : FVec Ideal S1024x9556 .f32) : FVec Ideal S1024x384 .f32 :=
  concatenate S1024x384 1
    [⟨S1024x324, extractStridedSlice S1024x324 ![0, 4096] a slices_S1024x9556_S1024x324_0_4096⟩,
      ⟨S1024x16, extractStridedSlice S1024x16 ![0, 6468] a slices_S1024x9556_S1024x16_0_6468⟩,
      ⟨S1024x44, broadcastInDim S1024x44 ![] bcast_S_S1024x44 (constant S_ .f32 0x00000000#32)⟩]
    concatenates_S1024x324_S1024x16_S1024x44_S1024x384_d1

/-- Weights, their rest and the weights again, one above the other. -/
def threeA (a : FVec Ideal S1024x384 .f32) : FVec Ideal S3072x384 .bf16 :=
  concatenate S3072x384 0
    [⟨S1024x384, truncf .bf16 a bitsLt_bf16_f32⟩,
      ⟨S1024x384, truncf .bf16 (subf a (extf .f32 (truncf .bf16 a bitsLt_bf16_f32) bitsLt_bf16_f32)) bitsLt_bf16_f32⟩,
      ⟨S1024x384, truncf .bf16 a bitsLt_bf16_f32⟩]
    concatenates_S1024x384_S1024x384_S1024x384_S3072x384_d0

/-- The log decays' weights in the rows of the small group. -/
def lowA (a : FVec Ideal S16x512 .f32) : FVec Ideal S128x512 .f32 :=
  Host.scatter scatter_S128x512_S1_S16x512_01_n_0_0 (fun _ b => b)
    (broadcastInDim S128x512 ![] bcast_S_S128x512 (constant S_ .f32 0x00000000#32)) (broadcastInDim S1 ![] bcast_S_S1 (constantI S_ 32 68#32)) a

/-- The key's gain in the lanes of the small group. -/
def keyA (a : FVec Ideal S64 .f32) : FVec Ideal S1x128 .f32 :=
  Host.scatter scatter_S1x128_S2_S64_0_0_01_0 (fun _ b => b)
    (broadcastInDim S1x128 ![] bcast_S_S1x128 (constant S_ .f32 0x00000000#32))
    (concatenate S2 0 [⟨S1, broadcastInDim S1 ![] bcast_S_S1 (constantI S_ 32 0#32)⟩, ⟨S1, broadcastInDim S1 ![] bcast_S_S1 (constantI S_ 32 0#32)⟩]
      concatenates_S1_S1_S2_d0) a

theorem V_cos : (V m c main_v42 : S4096x128.Idx → EReal) = pairA (Host.cos angA) (Host.cos angA) := by
  unfold_abbrev_sides
  after_results
  rfl

theorem V_sin : (V m c main_v47 : S4096x128.Idx → EReal) = pairA (Host.negf (Host.sin angA)) (Host.sin angA) := by
  unfold_abbrev_sides
  after_results
  rfl

theorem V_wide : (V m c main_v4 : S1024x5120.Idx → EReal)
    = wideA (shapeCast S1024x9556 (m ((c : Thread nD τ).loc main_arg2)) shapeCasts_S1x1024x9556_S1024x9556) := by
  unfold_abbrev_sides
  after_results
  rfl

theorem V_three : (V m c main_v13 : S3072x384.Idx → EReal)
    = threeA (smallA (shapeCast S1024x9556 (m ((c : Thread nD τ).loc main_arg2)) shapeCasts_S1x1024x9556_S1024x9556)) := by
  unfold_abbrev_sides
  after_results
  rfl

theorem V_low : (V m c main_v17 : S128x512.Idx → EReal)
    = lowA (shapeCast S16x512 (m ((c : Thread nD τ).loc main_arg4)) shapeCasts_S1x16x512_S16x512) := by
  unfold_abbrev_sides
  after_results
  rfl

theorem V_key : (V m c main_v23 : S1x128.Idx → EReal)
    = keyA (shapeCast S64 (m ((c : Thread nD τ).loc main_arg3)) shapeCasts_S1x64_S64) := by
  unfold_abbrev_sides
  after_results
  rfl

theorem V_x : (V m c main_v48 : S16384x1024.Idx → EReal)
    = shapeCast S16384x1024 (m ((c : Thread nD τ).loc main_arg0)) shapeCasts_S4x4096x1024_S16384x1024 := by
  unfold_abbrev_sides
  after_results
  rfl

/-! ### Read element by element -/

theorem flat_at (a : FVec Ideal S4x4096x1024 .f32) (R : Fin 16384) (d : Fin 1024) :
    shapeCast S16384x1024 a shapeCasts_S4x4096x1024_S16384x1024 (ix2 R d) = rd3 (B := 4) (T := 4096) (C := 1024) a R.val d.val := by
  pointwise []
  exact (rd3_at _ _ _ _ (by dsimp only; omega) rfl).symm

/-- The wide groups' columns among all columns. -/
def Wide (W : Tab) : Tab := fun d e => if e < 2048 then W d (4420 + e) else W d (4436 + e)

/-- The small group's columns among all columns. -/
def Small (W : Tab) : Tab := fun d e => if e < 324 then W d (4096 + e) else if e < 340 then W d (6144 + e) else 0

theorem wide_at (a : FVec Ideal S1x1024x9556 .f32) (d : Fin 1024) (e : Fin 5120) :
    wideA (shapeCast S1024x9556 a shapeCasts_S1x1024x9556_S1024x9556) (ix2 d e) = Wide (rd3 (B := 1) (T := 1024) (C := 9556) a) d.val e.val := by
  have he := e.isLt
  pointwise [wideA]
  unfold Wide
  split_ifs with h
  · exact (rd3_at a 0 d ⟨4420 + e.val, by omega⟩ (by simp) rfl).symm
  · rw [rd3_at a 0 d ⟨6484 + (e.val - 2048), by omega⟩ (by simp) (by dsimp only; omega)]
  · exact absurd rfl ‹_›

theorem small_at (a : FVec Ideal S1x1024x9556 .f32) (d : Fin 1024) (e : Fin 384) :
    smallA (shapeCast S1024x9556 a shapeCasts_S1x1024x9556_S1024x9556) (ix2 d e) = Small (rd3 (B := 1) (T := 1024) (C := 9556) a) d.val e.val := by
  have he := e.isLt
  pointwise [smallA]
  unfold Small
  split_ifs
  all_goals try rw [if_neg (show ¬ e.val < 340 by omega)]
  all_goals first
    | contradiction
    | omega
    | rfl
    | exact (rd3_at a 0 d ⟨4096 + e.val, by omega⟩ (by simp) rfl).symm
    | rw [if_pos (show e.val < 340 by omega)]; exact (rd3_at a 0 d ⟨6468 + (e.val - 324), by omega⟩ (show d.val = 1024 * (0 : Fin 1).val + d.val by simp) (show 6144 + e.val = 6468 + (e.val - 324) by omega)).symm

theorem first_at (a : FVec Ideal S1024x384 .f32) (d : Fin 1024) (e : Fin 384) :
    threeA a (ix2 ⟨d.val, by omega⟩ e) = a (ix2 d e) := by
  pointwise [threeA]

theorem second_at (a : FVec Ideal S1024x384 .f32) (d : Fin 1024) (e : Fin 384) :
    threeA a (ix2 ⟨1024 + d.val, by omega⟩ e) = a (ix2 d e) - a (ix2 d e) := by
  pointwise [threeA]

theorem low_start (idx : IVec S1 32) (h : ∀ i, idx i = 68#32) (k : S16x512.Idx) :
    scatter_S128x512_S1_S16x512_01_n_0_0.start k idx 0 = 68 := by
  show (idx _).toInt = 68
  rw [h]
  rfl

theorem low_lands (idx : IVec S1 32) (h : ∀ i, idx i = 68#32) (j : Fin 16) (k' : Fin 512) (l : Fin 128) (k : Fin 512) :
    scatter_S128x512_S1_S16x512_01_n_0_0.resultIdx? (ix2 j k') idx = some (ix2 l k) ↔ l.val = 68 + j.val ∧ k' = k := by
  refine (Routing.resultIdx?_ix2 (R := 128) (C := 512) _ _ _ _ _).trans ?_
  rw [low_start idx h]
  show (68 : Int) + (j.val : Int) = (l.val : Int) ∧ (0 : Int) + (k'.val : Int) = (k.val : Int) ↔ _
  rw [Fin.ext_iff]
  omega

theorem low_at (a : FVec Ideal S1x16x512 .f32) (l : Fin 128) (k : Fin 512) :
    lowA (shapeCast S16x512 a shapeCasts_S1x16x512_S16x512) (ix2 l k)
      = if 68 ≤ l.val ∧ l.val < 84 then rd3 (B := 1) (T := 16) (C := 512) a (l.val - 68) k.val else 0 := by
  have hi : ∀ i, (broadcastInDim S1 ![] bcast_S_S1 (constantI S_ 32 68#32)) i = 68#32 := fun _ => rfl
  unfold lowA
  split_ifs with h
  · refine Routing.scatter_set_hit _ _ _ _ _ _ (fun k' hk => ?_) (ix2 ⟨l.val - 68, by omega⟩ k) ((low_lands _ hi _ _ _ _).2 ⟨by dsimp only; omega, rfl⟩)
    obtain ⟨j, e, rfl⟩ : ∃ (j : Fin 16) (e : Fin 512), k' = ix2 j e := ⟨k' 0, k' 1, eq_ix2 (n0 := 16) (n1 := 512) k'⟩
    obtain ⟨h1, rfl⟩ := (low_lands _ hi _ _ _ _).1 hk
    pointwise []
    exact (rd3_at a 0 j e (by simp; omega) rfl).symm
  · rw [Routing.scatter_set_miss]
    · pointwise []
    · intro k' hk
      obtain ⟨j, e, rfl⟩ : ∃ (j : Fin 16) (e : Fin 512), k' = ix2 j e := ⟨k' 0, k' 1, eq_ix2 (n0 := 16) (n1 := 512) k'⟩
      have := (low_lands _ hi _ _ _ _).1 hk
      have := j.isLt
      omega

theorem key_lands (idx : IVec S2 32) (h : ∀ i, idx i = 0#32) (j : Fin 64) (l : Fin 128) :
    scatter_S1x128_S2_S64_0_0_01_0.resultIdx? (ix1 j) idx = some (ix2 0 l) ↔ j.val = l.val := by
  refine (Routing.resultIdx?_ix2 (R := 1) (C := 128) _ _ _ _ _).trans ?_
  have h0 : scatter_S1x128_S2_S64_0_0_01_0.start (ix1 j) idx 0 = 0 := by
    show (idx _).toInt = 0
    rw [h]
    rfl
  have h1 : scatter_S1x128_S2_S64_0_0_01_0.start (ix1 j) idx 1 = 0 := by
    show (idx _).toInt = 0
    rw [h]
    rfl
  rw [h0, h1]
  show (0 : Int) + (0 : Int) = (0 : Int) ∧ (0 : Int) + (j.val : Int) = (l.val : Int) ↔ _
  omega

theorem key_at (a : FVec Ideal S1x64 .f32) (l : Fin 128) (hl : l.val < 64) :
    keyA (shapeCast S64 a shapeCasts_S1x64_S64) (ix2 0 l) = rd (R := 1) (C := 64) a 0 l.val := by
  have hi : ∀ i, (concatenate S2 0 [⟨S1, broadcastInDim S1 ![] bcast_S_S1 (constantI S_ 32 0#32)⟩,
      ⟨S1, broadcastInDim S1 ![] bcast_S_S1 (constantI S_ 32 0#32)⟩] concatenates_S1_S1_S2_d0) i = 0#32 := by
    decide +kernel
  unfold keyA
  refine Routing.scatter_set_hit _ _ _ _ _ _ (fun k' hk => ?_) (ix1 ⟨l.val, hl⟩) ((key_lands _ hi _ _).2 rfl)
  obtain ⟨j, rfl⟩ : ∃ j : Fin 64, k' = ix1 j := ⟨k' 0, eq_ix1 (n0 := 64) k'⟩
  have h1 := (key_lands _ hi _ _).1 hk
  pointwise []
  exact (rd_at (r := 0) a 0 j rfl h1.symm).symm

theorem ang_at (r : Fin 4096) (j : Fin 32) : angA (ix2 r j) = Mix.ang (num r.val) j.val := by
  pointwise [angA]
  rfl

theorem cos_at (r : Fin 4096) (j : Fin 128) : pairA (Host.cos angA) (Host.cos angA) (ix2 r j) = Mix.cosT num r.val j.val := by
  pointwise [pairA]
  have := j.isLt
  unfold Mix.cosT
  split_ifs
  · rw [ang_at]
    exact congrArg (fun i => Ideal.cos (Mix.ang (num r.val) i)) (by dsimp only; omega)
  · rw [ang_at]
    exact congrArg (fun i => Ideal.cos (Mix.ang (num r.val) i)) (by dsimp only; omega)
  · exact absurd rfl ‹_›

theorem sin_at (r : Fin 4096) (j : Fin 128) : pairA (Host.negf (Host.sin angA)) (Host.sin angA) (ix2 r j) = Mix.sinT num r.val j.val := by
  pointwise [pairA]
  have := j.isLt
  unfold Mix.sinT
  split_ifs
  · rw [ang_at]
    exact congrArg (fun i => -Ideal.sin (Mix.ang (num r.val) i)) (by dsimp only; omega)
  all_goals first | omega | skip
  · rw [ang_at]
    exact congrArg (fun i => Ideal.sin (Mix.ang (num r.val) i)) (by dsimp only; omega)
  all_goals exact absurd rfl ‹_›

/-! ### The blocks -/

theorem i0 : ∀ t : Fin cfg0.N, win0_0.index t = ![t.val, 0] := (by decide +kernel : ∀ t : Fin grid0.N, _)
theorem i1 : ∀ t : Fin cfg0.N, win0_1.index t = ![0, 0] := (by decide +kernel : ∀ t : Fin grid0.N, _)
theorem i2 : ∀ t : Fin cfg0.N, win0_2.index t = ![0, 0] := (by decide +kernel : ∀ t : Fin grid0.N, _)
theorem i3 : ∀ t : Fin cfg0.N, win0_3.index t = ![0, 0] := (by decide +kernel : ∀ t : Fin grid0.N, _)
theorem i4 : ∀ t : Fin cfg0.N, win0_4.index t = ![0, 0] := (by decide +kernel : ∀ t : Fin grid0.N, _)
theorem i5 : ∀ t : Fin cfg0.N, win0_5.index t = ![0, 0] := (by decide +kernel : ∀ t : Fin grid0.N, _)
theorem i6 : ∀ t : Fin cfg0.N, win0_6.index t = ![0, 0] := (by decide +kernel : ∀ t : Fin grid0.N, _)
theorem i7 : ∀ t : Fin cfg0.N, win0_7.index t = ![t.val % 8, 0] := (by decide +kernel : ∀ t : Fin grid0.N, _)
theorem i8 : ∀ t : Fin cfg0.N, win0_8.index t = ![t.val % 8, 0] := (by decide +kernel : ∀ t : Fin grid0.N, _)
theorem i9 : ∀ t : Fin cfg0.N, win0_9.index t = ![t.val, 0] := (by decide +kernel : ∀ t : Fin grid0.N, _)
theorem i10 : ∀ t : Fin cfg0.N, win0_10.index t = ![t.val, 0] := (by decide +kernel : ∀ t : Fin grid0.N, _)
theorem i11 : ∀ t : Fin cfg0.N, win0_11.index t = ![t.val, 0] := (by decide +kernel : ∀ t : Fin grid0.N, _)
theorem i12 : ∀ t : Fin cfg0.N, win0_12.index t = ![t.val, 0] := (by decide +kernel : ∀ t : Fin grid0.N, _)
theorem i13 : ∀ t : Fin cfg0.N, win0_13.index t = ![t.val, 0] := (by decide +kernel : ∀ t : Fin grid0.N, _)
theorem i14 : ∀ t : Fin cfg0.N, win0_14.index t = ![t.val, 0] := (by decide +kernel : ∀ t : Fin grid0.N, _)
theorem i15 : ∀ t : Fin cfg0.N, win0_15.index t = ![t.val, 0] := (by decide +kernel : ∀ t : Fin grid0.N, _)
theorem i18 : ∀ t : Fin cfg0.N, win0_18.index t = ![t.val, 0] := (by decide +kernel : ∀ t : Fin grid0.N, _)

/-- The argument arrays as tables. -/
abbrev Xm : Tab := rd3 (B := 4) (T := 4096) (C := 1024) (m ((c : Thread nD τ).loc main_arg0))
abbrev Gm : ℕ → EReal := rd (R := 1) (C := 1024) (m ((c : Thread nD τ).loc main_arg1)) 0
abbrev Wm : Tab := rd3 (B := 1) (T := 1024) (C := 9556) (m ((c : Thread nD τ).loc main_arg2))
abbrev Km : ℕ → EReal := rd (R := 1) (C := 64) (m ((c : Thread nD τ).loc main_arg3)) 0
abbrev Am : Tab := rd3 (B := 1) (T := 16) (C := 512) (m ((c : Thread nD τ).loc main_arg4))
abbrev Bm : ℕ → EReal := rd (R := 1) (C := 512) (m ((c : Thread nD τ).loc main_arg5)) 0
/-- All projections. -/
abbrev Pm : Tab := Prj (Xm m c) (Gm m c) (Wm m c)

theorem blk0 (t : Fin cfg0.N) (r : Fin 512) : ∀ d < 1024, rd (R := 512) (C := 1024) (iblk m c 0 t) r.val d = Xm m c (512 * t.val + r.val) d := by
  intro d hd
  have ht : t.val < 32 := lt_of_lt_of_eq t.isLt N_0
  have hr := r.isLt
  rw [rd_at _ r ⟨d, hd⟩ rfl rfl]
  have h : iblk m c 0 t (ix2 r ⟨d, hd⟩) = (V m c main_v48 : S16384x1024.Idx → EReal) (ix2 ⟨512 * t.val + r.val, by omega⟩ ⟨d, hd⟩) := by
    blk_ext [iblk, i0 t]
  rw [h, V_x]
  exact flat_at _ _ _

theorem blk1 (t : Fin cfg0.N) : ∀ d < 1024, rd (R := 1) (C := 1024) (iblk m c 1 t) 0 d = Gm m c d := by
  intro d hd
  rw [rd_at (r := 0) _ 0 ⟨d, hd⟩ rfl rfl]
  have h : iblk m c 1 t (ix2 0 ⟨d, hd⟩) = (V m c main_arg1 : S1x1024.Idx → EReal) (ix2 0 ⟨d, hd⟩) := by
    blk_ext [iblk, i1 t]
  rw [h, V_main_arg1]
  exact (rd_at (r := 0) _ 0 ⟨d, hd⟩ rfl rfl).symm

theorem blk2 (t : Fin cfg0.N) {e : ℕ} (he : e < 5120) : ∀ d < 1024, rd (R := 1024) (C := 5120) (iblk m c 2 t) d e = Wide (Wm m c) d e := by
  intro d hd
  rw [rd_at _ ⟨d, hd⟩ ⟨e, he⟩ rfl rfl]
  have h : iblk m c 2 t (ix2 ⟨d, hd⟩ ⟨e, he⟩) = (V m c main_v4 : S1024x5120.Idx → EReal) (ix2 ⟨d, hd⟩ ⟨e, he⟩) := by
    blk_ext [iblk, i2 t]
  rw [h, V_wide]
  exact wide_at _ _ _

theorem blk3 (t : Fin cfg0.N) (d : Fin 3072) (e : Fin 384) : rd (R := 3072) (C := 384) (iblk m c 3 t) d.val e.val
    = threeA (smallA (shapeCast S1024x9556 (m ((c : Thread nD τ).loc main_arg2)) shapeCasts_S1x1024x9556_S1024x9556)) (ix2 d e) := by
  rw [rd_at _ d e rfl rfl]
  have h : iblk m c 3 t (ix2 d e) = (V m c main_v13 : S3072x384.Idx → EReal) (ix2 d e) := by
    blk_ext [iblk, i3 t]
  rw [h, V_three]

theorem blk4 (t : Fin cfg0.N) : ∀ l < 64, rd (R := 1) (C := 128) (iblk m c 4 t) 0 l = Km m c l := by
  intro l hl
  rw [rd_at (r := 0) _ 0 ⟨l, by omega⟩ rfl rfl]
  have h : iblk m c 4 t (ix2 0 ⟨l, by omega⟩) = (V m c main_v23 : S1x128.Idx → EReal) (ix2 0 ⟨l, by omega⟩) := by
    blk_ext [iblk, i4 t]
  rw [h, V_key]
  exact key_at _ _ hl

/-- The block of window 5 is its array. -/
theorem whole5 (t : Fin cfg0.N) (A : Buf (Elt Ideal) ((c : Thread nD τ).loc main_v17)) (l : Fin 128) (k : Fin 512) :
    ((cfg0.win 5).blk t).view.read (Elt Ideal) A (ix2 l k) = (A : S128x512.Idx → EReal) (ix2 l k) := by
  blk_ext [i5 t]

theorem blk5 (t : Fin cfg0.N) (l : Fin 128) (k : Fin 512) : rd (R := 128) (C := 512) (iblk m c 5 t) l.val k.val
    = if 68 ≤ l.val ∧ l.val < 84 then Am m c (l.val - 68) k.val else 0 := by
  rw [rd_at _ l k rfl rfl]
  have h : iblk m c 5 t (ix2 l k) = (V m c main_v17 : S128x512.Idx → EReal) (ix2 l k) := whole5 c t (V m c main_v17) l k
  rw [h, V_low]
  exact low_at _ _ _

theorem blk6 (t : Fin cfg0.N) : ∀ k < 512, rd (R := 1) (C := 512) (iblk m c 6 t) 0 k = Bm m c k := by
  intro k hk
  rw [rd_at (r := 0) _ 0 ⟨k, hk⟩ rfl rfl]
  have h : iblk m c 6 t (ix2 0 ⟨k, hk⟩) = (V m c main_arg5 : S1x512.Idx → EReal) (ix2 0 ⟨k, hk⟩) := by
    blk_ext [iblk, i6 t]
  rw [h, V_main_arg5]
  exact (rd_at (r := 0) _ 0 ⟨k, hk⟩ rfl rfl).symm

theorem blk7 (t : Fin cfg0.N) (r : Fin 512) : ∀ j < 128, rd (R := 512) (C := 128) (iblk m c 7 t) r.val j = Mix.cosT pos (512 * t.val + r.val) j := by
  intro d hd
  have ht : t.val < 32 := lt_of_lt_of_eq t.isLt N_0
  have hr := r.isLt
  rw [rd_at _ r ⟨d, hd⟩ rfl rfl]
  have h : iblk m c 7 t (ix2 r ⟨d, hd⟩) = (V m c main_v42 : S4096x128.Idx → EReal) (ix2 ⟨(512 * t.val + r.val) % 4096, by omega⟩ ⟨d, hd⟩) := by
    blk_ext [iblk, i7 t]
  rw [h, V_cos, cos_at]
  rfl

theorem blk8 (t : Fin cfg0.N) (r : Fin 512) : ∀ j < 128, rd (R := 512) (C := 128) (iblk m c 8 t) r.val j = Mix.sinT pos (512 * t.val + r.val) j := by
  intro d hd
  have ht : t.val < 32 := lt_of_lt_of_eq t.isLt N_0
  have hr := r.isLt
  rw [rd_at _ r ⟨d, hd⟩ rfl rfl]
  have h : iblk m c 8 t (ix2 r ⟨d, hd⟩) = (V m c main_v47 : S4096x128.Idx → EReal) (ix2 ⟨(512 * t.val + r.val) % 4096, by omega⟩ ⟨d, hd⟩) := by
    blk_ext [iblk, i8 t]
  rw [h, V_sin, sin_at]
  rfl

theorem blkP (t : Fin cfg0.N) (r : Fin 512) {e e' : ℕ} (he : e < 5120) (h : e' = if e < 2048 then 4420 + e else 4436 + e) :
    MixBlock.P (iblk m c 0 t) (iblk m c 1 t) (iblk m c 2 t) r.val e = Pm m c (512 * t.val + r.val) e' := by
  subst h
  refine (prj_congr (W' := Wide (Wm m c)) (blk0 m c t r) (blk1 m c t) (blk2 m c t he)).trans ?_
  unfold Pm Prj Wide
  exact Finset.sum_congr rfl fun d _ => by split_ifs <;> rfl

/-- The gain and the weights are finite. -/
structure Finite : Prop where
  gain : ∀ d < 1024, Fin' (Gm m c d)
  weight : ∀ d < 1024, ∀ e < 9556, Fin' (Wm m c d e)

theorem small_fin (hf : Finite m c) : ∀ d < 1024, ∀ e < 384, Fin' (Small (Wm m c) d e) := by
  intro d hd e he
  unfold Small
  split_ifs
  · exact hf.weight d hd _ (by omega)
  · exact hf.weight d hd _ (by omega)
  · exact fin_coe 0

theorem blkM (hf : Finite m c) (t : Fin cfg0.N) (r : Fin 512) : ∀ l < 128,
    MixBlock.M (iblk m c 0 t) (iblk m c 1 t) (iblk m c 3 t) r.val l = Sm (Pm m c) (512 * t.val + r.val) l := by
  intro l hl
  have hH : ∀ d < 1024, Rms (rd (R := 512) (C := 1024) (iblk m c 0 t)) (rd (R := 1) (C := 1024) (iblk m c 1 t) 0) r.val d
      = Rms (Xm m c) (Gm m c) (512 * t.val + r.val) d := fun d hd => rms_congr (blk0 m c t r) (blk1 m c t) hd
  refine (prj3_eq (V := Small (Wm m c)) (fun d hd => ?_) (fun d hd => small_fin m c hf d hd _ (by omega)) (fun d hd => ?_) fun d hd => ?_).trans ?_
  · rw [hH d hd]
    exact rms_fin _ hd (hf.gain d hd)
  · exact (blk3 m c t ⟨d, by omega⟩ ⟨256 + l, by omega⟩).trans ((first_at _ ⟨d, hd⟩ _).trans (small_at _ _ _))
  · refine (blk3 m c t ⟨1024 + d, by omega⟩ ⟨256 + l, by omega⟩).trans ((second_at _ ⟨d, hd⟩ _).trans ?_)
    rw [small_at]
  · rw [Finset.sum_congr rfl fun (d : Fin 1024) _ => by rw [hH d.val d.isLt]]
    unfold Sm Small Pm Prj
    split_ifs with h1 h2 h3 h4
    all_goals first
      | omega
      | exact Finset.sum_congr rfl fun d _ => congrArg (fun e => Rms (Xm m c) (Gm m c) (512 * t.val + r.val) d.val * Wm m c d.val e) (by omega)
      | exact Finset.sum_eq_zero fun d _ => mul_zero _

theorem blkL (hf : Finite m c) (t : Fin cfg0.N) (r : Fin 512) (k : Fin 512) :
    LogSig (∑ x : Fin 128, MixBlock.M (iblk m c 0 t) (iblk m c 1 t) (iblk m c 3 t) r.val x.val * rd (R := 128) (C := 512) (iblk m c 5 t) x.val k.val
        + rd (R := 1) (C := 512) (iblk m c 6 t) 0 k.val) * Ideal.ofBits .f32 0x3D800000#32
      = La (Sm (Pm m c)) (Am m c) (Bm m c) (512 * t.val + r.val) k.val := by
  unfold La Pre
  refine congrArg (fun z => LogSig z * _) (congrArg₂ (· + ·) ?_ (blk6 m c t k.val k.isLt))
  rw [Finset.sum_congr rfl fun (x : Fin 128) _ => congrArg₂ (· * ·) (blkM m c hf t r x.val x.isLt) (blk5 m c t x k)]
  rw [sum_window (n := 128) (m := 16) (o := 68) (by omega)
    (fun l => Sm (Pm m c) (512 * t.val + r.val) l * if 68 ≤ l ∧ l < 84 then Am m c (l - 68) k.val else 0)
    fun l _ h => by rw [if_neg (by omega), mul_zero]]
  refine Finset.sum_congr rfl fun j _ => ?_
  have hj := j.isLt
  rw [if_pos (by omega), Nat.add_sub_cancel_left]

/-! ### The arrays -/

def qArr : S16384x512.Idx → EReal := fun i => Pm m c (i 0).val (4420 + (i 1).val) * Ideal.ofBits .f32 0x3DB504F3#32
def kArr : S16384x512.Idx → EReal := fun i => Pm m c (i 0).val (4932 + (i 1).val)
def vArr : S16384x1024.Idx → EReal := fun i => Pm m c (i 0).val (5444 + (i 1).val)
def lArr : S16384x512.Idx → EReal := fun i => La (Sm (Pm m c)) (Am m c) (Bm m c) (i 0).val (i 1).val
def sArr : S16384x1024.Idx → EReal := fun i => Pm m c (i 0).val (6484 + (i 1).val) * Ideal.logistic (Pm m c (i 0).val (6484 + (i 1).val))
def aArr : S16384x1024.Idx → EReal := fun i => Ideal.logistic (Pm m c (i 0).val (7508 + (i 1).val))
def bArr : S16384x1024.Idx → EReal := fun i => Ideal.logistic (Pm m c (i 0).val (8532 + (i 1).val))
def mArr : S16384x128.Idx → EReal := fun i => Misc (Sm (Pm m c)) (Km m c) (Mix.cosT pos) (Mix.sinT pos) (i 0).val (i 1).val

theorem final_q : (dats m 0 c).arrAt 9 cfg0.N = qArr m c := by
  refine (dats m 0 c).arrAt_eq_of_covers 9 _ (by decide +kernel) fun t hf' y => ?_
  blk_simp
  rw [after0_9]
  obtain ⟨r, e, rfl⟩ : ∃ (r : Fin 512) (e : Fin 512), y = ix2 r e := ⟨y 0, y 1, eq_ix2 (n0 := 512) (n1 := 512) y⟩
  have he := e.isLt
  rw [MixBlock.out_q, blkP m c t r (e := 0 + e.val) (e' := 4420 + e.val) (by omega) (by split_ifs <;> omega)]
  unfold qArr
  blk_simp [i9 t]
  rw [Nat.mul_comm t.val 512]

theorem final_k : (dats m 0 c).arrAt 10 cfg0.N = kArr m c := by
  refine (dats m 0 c).arrAt_eq_of_covers 10 _ (by decide +kernel) fun t hf' y => ?_
  blk_simp
  rw [after0_10]
  obtain ⟨r, e, rfl⟩ : ∃ (r : Fin 512) (e : Fin 512), y = ix2 r e := ⟨y 0, y 1, eq_ix2 (n0 := 512) (n1 := 512) y⟩
  have he := e.isLt
  rw [MixBlock.out_k, blkP m c t r (e := 512 + e.val) (e' := 4932 + e.val) (by omega) (by split_ifs <;> omega)]
  unfold kArr
  blk_simp [i10 t]
  rw [Nat.mul_comm t.val 512]

theorem final_v : (dats m 0 c).arrAt 11 cfg0.N = vArr m c := by
  refine (dats m 0 c).arrAt_eq_of_covers 11 _ (by decide +kernel) fun t hf' y => ?_
  blk_simp
  rw [after0_11]
  obtain ⟨r, e, rfl⟩ : ∃ (r : Fin 512) (e : Fin 1024), y = ix2 r e := ⟨y 0, y 1, eq_ix2 (n0 := 512) (n1 := 1024) y⟩
  have he := e.isLt
  rw [MixBlock.out_v, blkP m c t r (e := 1024 + e.val) (e' := 5444 + e.val) (by omega) (by split_ifs <;> omega)]
  unfold vArr
  blk_simp [i11 t]
  rw [Nat.mul_comm t.val 512]

theorem final_s : (dats m 0 c).arrAt 13 cfg0.N = sArr m c := by
  refine (dats m 0 c).arrAt_eq_of_covers 13 _ (by decide +kernel) fun t hf' y => ?_
  blk_simp
  rw [after0_13]
  obtain ⟨r, e, rfl⟩ : ∃ (r : Fin 512) (e : Fin 1024), y = ix2 r e := ⟨y 0, y 1, eq_ix2 (n0 := 512) (n1 := 1024) y⟩
  have he := e.isLt
  rw [MixBlock.out_s, blkP m c t r (e := 2048 + e.val) (e' := 6484 + e.val) (by omega) (by split_ifs <;> omega)]
  unfold sArr
  blk_simp [i13 t]
  rw [Nat.mul_comm t.val 512]

theorem final_a : (dats m 0 c).arrAt 14 cfg0.N = aArr m c := by
  refine (dats m 0 c).arrAt_eq_of_covers 14 _ (by decide +kernel) fun t hf' y => ?_
  blk_simp
  rw [after0_14]
  obtain ⟨r, e, rfl⟩ : ∃ (r : Fin 512) (e : Fin 1024), y = ix2 r e := ⟨y 0, y 1, eq_ix2 (n0 := 512) (n1 := 1024) y⟩
  have he := e.isLt
  rw [MixBlock.out_a, blkP m c t r (e := 3072 + e.val) (e' := 7508 + e.val) (by omega) (by split_ifs <;> omega)]
  unfold aArr
  blk_simp [i14 t]
  rw [Nat.mul_comm t.val 512]

theorem final_b : (dats m 0 c).arrAt 15 cfg0.N = bArr m c := by
  refine (dats m 0 c).arrAt_eq_of_covers 15 _ (by decide +kernel) fun t hf' y => ?_
  blk_simp
  rw [after0_15]
  obtain ⟨r, e, rfl⟩ : ∃ (r : Fin 512) (e : Fin 1024), y = ix2 r e := ⟨y 0, y 1, eq_ix2 (n0 := 512) (n1 := 1024) y⟩
  have he := e.isLt
  rw [MixBlock.out_b, blkP m c t r (e := 4096 + e.val) (e' := 8532 + e.val) (by omega) (by split_ifs <;> omega)]
  unfold bArr
  blk_simp [i15 t]
  rw [Nat.mul_comm t.val 512]

theorem final_l (hf : Finite m c) : (dats m 0 c).arrAt 12 cfg0.N = lArr m c := by
  refine (dats m 0 c).arrAt_eq_of_covers 12 _ (by decide +kernel) fun t hf' y => ?_
  blk_simp
  rw [after0_12]
  obtain ⟨r, e, rfl⟩ : ∃ (r : Fin 512) (e : Fin 512), y = ix2 r e := ⟨y 0, y 1, eq_ix2 (n0 := 512) (n1 := 512) y⟩
  have he := e.isLt
  rw [MixBlock.out_la, blkL m c hf t r e]
  unfold lArr
  blk_simp [i12 t]
  rw [Nat.mul_comm t.val 512]

theorem final_m (hf : Finite m c) : (dats m 0 c).arrAt 18 cfg0.N = mArr m c := by
  refine (dats m 0 c).arrAt_eq_of_covers 18 _ (by decide +kernel) fun t hf' y => ?_
  blk_simp
  rw [after0_18]
  obtain ⟨r, e, rfl⟩ : ∃ (r : Fin 512) (e : Fin 128), y = ix2 r e := ⟨y 0, y 1, eq_ix2 (n0 := 512) (n1 := 128) y⟩
  have he := e.isLt
  rw [MixBlock.out_misc, misc_congr (blkM m c hf t r) (blk4 m c t) (fun l h => blk7 m c t r l (by omega)) (fun l h => blk8 m c t r l (by omega)) he]
  unfold mArr
  blk_simp [i18 t]
  rw [Nat.mul_comm t.val 512]

end Cert.MixValue
end
-- ==== Proof.MixReference.lean ====
module

public import proofs.«01_k».proof.Proof.Gen.Reference6Ideal.Run
public import proofs.«01_k».proof.Proof.MixSpec
public import Idealize.ShloMosaic.Lib.Tactic
public import Idealize.ShloMosaic.Lib.Pointwise

@[expose] public section

/-!
# The reference of the prompt's second projections, element by element
-/

noncomputable section

open Idealize.ShloMosaic Idealize.ShloMosaic.TcCoe Idealize.SL.Sem
open Cert.Reference6Ideal Cert.Reference6Ideal.Gen Cert.Gla Cert.Attn Cert.Mix

namespace Cert.MixRef

variable (x : FVec Ideal S4x4096x1024 .f32) (g : FVec Ideal S1x1024 .f32) (w : FVec Ideal S1x1024x9556 .f32)
  (kg : FVec Ideal S1x64 .f32) (a : FVec Ideal S1x16x512 .f32) (b : FVec Ideal S1x512 .f32)

/-- The normalised rows. -/
def hA : FVec Ideal S4x4096x1024 .f32 :=
  mulf (mulf x (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf x x) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 (shapeCast _ g shapeCasts_S1x1024_S1024)))

/-- All projections. -/
def zA : FVec Ideal S4x4096x9556 .f32 :=
  Host.dotGeneral dot_S4x4096x1024_S1024x9556_S4x4096x9556_2_0_01_1_n_n none (hA x g) (shapeCast _ w shapeCasts_S1x1024x9556_S1024x9556)

/-- The angles of the positions. -/
def angA : FVec Ideal S4096x32 .f32 :=
  mulf (broadcastInDim S4096x32 ![0, 1] bcast_S4096x1_S4096x32_0_1 (broadcastInDim S4096x1 ![0] bcast_S4096_S4096x1_0 (sitofp .f32 (iotaInDim S4096 32 0)))) (broadcastInDim S4096x32 ![0, 1] bcast_S1x32_S4096x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32))))))

/-- A table over the positions, for every row. -/
def spread (t : FVec Ideal S4096x32 .f32) : FVec Ideal S4x4096x1x32 .f32 :=
  broadcastInDim S4x4096x1x32 ![0, 1, 2, 3] bcast_S1x4096x1x32_S4x4096x1x32_0_1_2_3 (broadcastInDim S1x4096x1x32 ![1, 2, 3] bcast_S4096x1x32_S1x4096x1x32_1_2_3 (broadcastInDim S4096x1x32 ![0, 2] bcast_S4096x32_S4096x1x32_0_2 t))

/-- The keys over the root of their mean square, times the gain. -/
def normA (k : FVec Ideal S4x4096x64 .f32) : FVec Ideal S4x4096x64 .f32 :=
  mulf (mulf k (broadcastInDim S4x4096x64 ![0, 1, 2] bcast_S4x4096x1_S4x4096x64_0_1_2 (Host.rsqrt (addf (Host.divf (broadcastInDim S4x4096x1 ![0, 1] bcast_S4x4096_S4x4096x1_0_1 (Host.reduceAdd (mulf k k) (constant S_ .f32 0x00000000#32) reducesTo_S4x4096x64_S4x4096_d2 h_S_)) (broadcastInDim S4x4096x1 ![] bcast_S_S4x4096x1 (constant S_ .f32 0x42800000#32))) (broadcastInDim S4x4096x1 ![] bcast_S_S4x4096x1 (constant S_ .f32 0x358637BD#32)))))) (broadcastInDim S4x4096x64 ![0, 1, 2] bcast_S1x1x64_S4x4096x64_0_1_2 (broadcastInDim S1x1x64 ![2] bcast_S64_S1x1x64_2 (shapeCast _ kg shapeCasts_S1x64_S64)))

/-- One head of keys. -/
def headA (k : FVec Ideal S4x4096x64 .f32) : FVec Ideal S4x4096x1x64 .f32 :=
  broadcastInDim S4x4096x1x64 ![0, 1, 3] bcast_S4x4096x64_S4x4096x1x64_0_1_3 k

/-- Turned keys. -/
def turnA (k : FVec Ideal S4x4096x1x64 .f32) (c s : FVec Ideal S4x4096x1x32 .f32) : FVec Ideal S4x4096x1x64 .f32 :=
  concatenate S4x4096x1x64 3 [⟨S4x4096x1x32,
      subf (mulf (extractStridedSlice S4x4096x1x32 ![0, 0, 0, 0] k slices_S4x4096x1x64_S4x4096x1x32_0_0_0_0) c)
        (mulf (extractStridedSlice S4x4096x1x32 ![0, 0, 0, 32] k slices_S4x4096x1x64_S4x4096x1x32_0_0_0_32) s)⟩,
    ⟨S4x4096x1x32,
      addf (mulf (extractStridedSlice S4x4096x1x32 ![0, 0, 0, 32] k slices_S4x4096x1x64_S4x4096x1x32_0_0_0_32) c)
        (mulf (extractStridedSlice S4x4096x1x32 ![0, 0, 0, 0] k slices_S4x4096x1x64_S4x4096x1x32_0_0_0_0) s)⟩]
    concatenates_S4x4096x1x32_S4x4096x1x32_S4x4096x1x64_d3

/-- The small group's parts side by side. -/
def packA (k : FVec Ideal S4x4096x64 .f32) (u : FVec Ideal S4x4096x4 .f32) (r : FVec Ideal S4x4096x16 .f32) : FVec Ideal S4x4096x128 .f32 :=
  concatenate S4x4096x128 2 [⟨S4x4096x64, k⟩, ⟨S4x4096x4, u⟩, ⟨S4x4096x16, r⟩,
    ⟨S4x4096x44, broadcastInDim S4x4096x44 ![] bcast_S_S4x4096x44 (constant S_ .f32 0x00000000#32)⟩]
    concatenates_S4x4096x64_S4x4096x4_S4x4096x16_S4x4096x44_S4x4096x128_d2

/-- The columns that give the log decays. -/
def lowA : FVec Ideal S4x4096x16 .f32 :=
  extractStridedSlice S4x4096x16 ![0, 0, 6468] (zA x g w) slices_S4x4096x9556_S4x4096x16_0_0_6468

/-- The log decays before the log sigmoid. -/
def preA : FVec Ideal S4x4096x512 .f32 :=
  addf (Host.dotGeneral dot_S4x4096x16_S16x512_S4x4096x512_2_0_01_1_n_n none (lowA x g w) (shapeCast _ a shapeCasts_S1x16x512_S16x512)) (broadcastInDim S4x4096x512 ![0, 1, 2] bcast_S1x1x512_S4x4096x512_0_1_2 (broadcastInDim S1x1x512 ![2] bcast_S512_S1x1x512_2 (shapeCast _ b shapeCasts_S1x512_S512)))

/-- Zeros, as the softplus takes them. -/
def zeroA : FVec Ideal S4x4096x512 .f32 := broadcastInDim S4x4096x512 ![] bcast_S_S4x4096x512 (constant S_ .f32 0x00000000#32)

/-- A sixteenth of the log sigmoid. -/
def logA (p : FVec Ideal S4x4096x512 .f32) : FVec Ideal S4x4096x512 .f32 :=
  Host.divf (Host.negf (select (cmpf .une (subf (Host.negf p) zeroA) (subf (Host.negf p) zeroA)) (addf (Host.negf p) zeroA)
    (addf (maximumf (Host.negf p) zeroA) (Host.log1p (Host.exp (Host.negf (Host.absf (subf (Host.negf p) zeroA))))))))
    (broadcastInDim S4x4096x512 ![] bcast_S_S4x4096x512 (constant S_ .f32 0x41800000#32))

/-- The logistic of a wide group. -/
def gateA (z : FVec Ideal S4x4096x1024 .f32) : FVec Ideal S4x4096x1024 .f32 :=
  Host.divf (broadcastInDim S4x4096x1024 ![] bcast_S_S4x4096x1024 (constant S_ .f32 0x3F800000#32)) (addf (broadcastInDim S4x4096x1024 ![] bcast_S_S4x4096x1024 (constant S_ .f32 0x3F800000#32)) (Host.exp (Host.negf z)))

def qOut : FVec Ideal S16384x512 .f32 :=
  shapeCast _ (mulf (extractStridedSlice S4x4096x512 ![0, 0, 4420] (zA x g w) slices_S4x4096x9556_S4x4096x512_0_0_4420) (broadcastInDim S4x4096x512 ![] bcast_S_S4x4096x512 (constant S_ .f32 0x3DB504F3#32))) shapeCasts_S4x4096x512_S16384x512
def kOut : FVec Ideal S16384x512 .f32 :=
  shapeCast _ (extractStridedSlice S4x4096x512 ![0, 0, 4932] (zA x g w) slices_S4x4096x9556_S4x4096x512_0_0_4932) shapeCasts_S4x4096x512_S16384x512
def vOut : FVec Ideal S16384x1024 .f32 :=
  shapeCast _ (extractStridedSlice S4x4096x1024 ![0, 0, 5444] (zA x g w) slices_S4x4096x9556_S4x4096x1024_0_0_5444) shapeCasts_S4x4096x1024_S16384x1024
def lOut : FVec Ideal S16384x512 .f32 := shapeCast _ (logA (preA x g w a b)) shapeCasts_S4x4096x512_S16384x512
def sOut : FVec Ideal S16384x1024 .bf16 :=
  truncf .bf16 (shapeCast _ (mulf (extractStridedSlice S4x4096x1024 ![0, 0, 6484] (zA x g w) slices_S4x4096x9556_S4x4096x1024_0_0_6484)
    (gateA (extractStridedSlice S4x4096x1024 ![0, 0, 6484] (zA x g w) slices_S4x4096x9556_S4x4096x1024_0_0_6484))) shapeCasts_S4x4096x1024_S16384x1024) bitsLt_bf16_f32
def aOut : FVec Ideal S16384x1024 .bf16 :=
  truncf .bf16 (shapeCast _ (gateA (extractStridedSlice S4x4096x1024 ![0, 0, 7508] (zA x g w) slices_S4x4096x9556_S4x4096x1024_0_0_7508)) shapeCasts_S4x4096x1024_S16384x1024) bitsLt_bf16_f32
def bOut : FVec Ideal S16384x1024 .bf16 :=
  truncf .bf16 (shapeCast _ (gateA (extractStridedSlice S4x4096x1024 ![0, 0, 8532] (zA x g w) slices_S4x4096x9556_S4x4096x1024_0_0_8532)) shapeCasts_S4x4096x1024_S16384x1024) bitsLt_bf16_f32
/-- The turned keys of the rows. -/
def keyA : FVec Ideal S4x4096x64 .f32 :=
  shapeCast _ (turnA (headA (normA kg (extractStridedSlice S4x4096x64 ![0, 0, 4352] (zA x g w) slices_S4x4096x9556_S4x4096x64_0_0_4352)))
    (spread (Host.cos angA)) (spread (Host.sin angA))) shapeCasts_S4x4096x1x64_S4x4096x64
def mOut : FVec Ideal S16384x128 .f32 :=
  shapeCast _ (packA (keyA x g w kg) (mulf (extractStridedSlice S4x4096x4 ![0, 0, 4416] (zA x g w) slices_S4x4096x9556_S4x4096x4_0_0_4416) (broadcastInDim S4x4096x4 ![] bcast_S_S4x4096x4 (constant S_ .f32 0x3D800000#32))) (lowA x g w)) shapeCasts_S4x4096x128_S16384x128

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v125) = qOut (m ((c.tc : Thread nD τ).loc main_arg0)) (m ((c.tc : Thread nD τ).loc main_arg1)) (m ((c.tc : Thread nD τ).loc main_arg2))
      ∧ r.2.mem ((c.tc : Thread nD τ).loc main_v126) = kOut (m ((c.tc : Thread nD τ).loc main_arg0)) (m ((c.tc : Thread nD τ).loc main_arg1)) (m ((c.tc : Thread nD τ).loc main_arg2))
      ∧ r.2.mem ((c.tc : Thread nD τ).loc main_v127) = vOut (m ((c.tc : Thread nD τ).loc main_arg0)) (m ((c.tc : Thread nD τ).loc main_arg1)) (m ((c.tc : Thread nD τ).loc main_arg2))
      ∧ r.2.mem ((c.tc : Thread nD τ).loc main_v128) = lOut (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5))
      ∧ r.2.mem ((c.tc : Thread nD τ).loc main_v131) = sOut (m ((c.tc : Thread nD τ).loc main_arg0)) (m ((c.tc : Thread nD τ).loc main_arg1)) (m ((c.tc : Thread nD τ).loc main_arg2))
      ∧ r.2.mem ((c.tc : Thread nD τ).loc main_v139) = aOut (m ((c.tc : Thread nD τ).loc main_arg0)) (m ((c.tc : Thread nD τ).loc main_arg1)) (m ((c.tc : Thread nD τ).loc main_arg2))
      ∧ r.2.mem ((c.tc : Thread nD τ).loc main_v147) = bOut (m ((c.tc : Thread nD τ).loc main_arg0)) (m ((c.tc : Thread nD τ).loc main_arg1)) (m ((c.tc : Thread nD τ).loc main_arg2))
      ∧ r.2.mem ((c.tc : Thread nD τ).loc main_v149) = mOut (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  Value.run m ρ

/-! ### Element by element -/

/-- The argument arrays as tables. -/
abbrev Pt : Tab := Prj (rd3 (B := 4) (T := 4096) (C := 1024) x) (rd (R := 1) (C := 1024) g 0) (rd3 (B := 1) (T := 1024) (C := 9556) w)
abbrev Kt : ℕ → EReal := rd (R := 1) (C := 64) kg 0
abbrev At : Tab := rd3 (B := 1) (T := 16) (C := 512) a
abbrev Bt : ℕ → EReal := rd (R := 1) (C := 512) b 0

theorem z_at (n : Fin 4) (t : Fin 4096) (e : Fin 9556) : zA x g w (ix3 n t e) = Pt x g w (4096 * n.val + t.val) e.val := by
  pointwise [zA, hA]
  unfold Pt Prj Rms
  refine Finset.sum_congr rfl fun d _ => ?_
  rw [rd3_at x n t d rfl rfl, rd_at (r := 0) g 0 d rfl rfl, rd3_at w 0 d e (by simp) rfl]
  refine congrArg (fun s => x (ix3 n t d) * Ideal.rsqrt (Ideal.div s _ + _) * g (ix2 0 d) * w (ix3 0 d e)) ?_
  exact Finset.sum_congr rfl fun e _ => by rw [rd3_at x n t e rfl rfl]

theorem z_row (r : Fin 16384) (e : Fin 9556) (h0 : r.val / 4096 < 4) (h1 : r.val % 4096 < 4096) :
    zA x g w (ix3 ⟨r.val / 4096, h0⟩ ⟨r.val % 4096, h1⟩ e) = Pt x g w r.val e.val := by
  rw [z_at]
  exact congrArg (fun n => Pt x g w n e.val) (Nat.div_add_mod r.val 4096)

theorem q_at (r : Fin 16384) (e : Fin 512) : qOut x g w (ix2 r e) = Pt x g w r.val (4420 + e.val) * Ideal.ofBits .f32 0x3DB504F3#32 := by
  pointwise [qOut]
  exact congrArg (· * _) (z_row x g w r _ _ _)

theorem k_at (r : Fin 16384) (e : Fin 512) : kOut x g w (ix2 r e) = Pt x g w r.val (4932 + e.val) := by
  pointwise [kOut]
  exact z_row x g w r _ _ _

theorem v_at (r : Fin 16384) (e : Fin 1024) : vOut x g w (ix2 r e) = Pt x g w r.val (5444 + e.val) := by
  pointwise [vOut]
  exact z_row x g w r _ _ _

theorem s_at (r : Fin 16384) (e : Fin 1024) : sOut x g w (ix2 r e)
    = Pt x g w r.val (6484 + e.val) * Ideal.logistic (Pt x g w r.val (6484 + e.val)) := by
  pointwise [sOut, gateA]
  exact congrArg (fun z : EReal => z * Ideal.div 1 (1 + Ideal.exp (-z))) (z_row x g w r _ _ _)

theorem a_at (r : Fin 16384) (e : Fin 1024) : aOut x g w (ix2 r e) = Ideal.logistic (Pt x g w r.val (7508 + e.val)) := by
  pointwise [aOut, gateA]
  exact congrArg (fun z : EReal => Ideal.div 1 (1 + Ideal.exp (-z))) (z_row x g w r _ _ _)

theorem b_at (r : Fin 16384) (e : Fin 1024) : bOut x g w (ix2 r e) = Ideal.logistic (Pt x g w r.val (8532 + e.val)) := by
  pointwise [bOut, gateA]
  exact congrArg (fun z : EReal => Ideal.div 1 (1 + Ideal.exp (-z))) (z_row x g w r _ _ _)

/-! ### The log decays -/

theorem low_at (n : Fin 4) (t : Fin 4096) (j : Fin 16) : lowA x g w (ix3 n t j) = Sm (Pt x g w) (4096 * n.val + t.val) (68 + j.val) := by
  have hj := j.isLt
  pointwise [lowA]
  rw [z_at]
  unfold Sm
  rw [if_neg (by omega), if_pos (by omega)]
  exact congrArg (Pt x g w _) (by dsimp only; omega)

theorem pre_at (n : Fin 4) (t : Fin 4096) (k : Fin 512) :
    preA x g w a b (ix3 n t k) = Pre (Sm (Pt x g w)) (At a) (Bt b) (4096 * n.val + t.val) k.val := by
  pointwise [preA]
  unfold Pre
  refine congrArg₂ (· + ·) (Finset.sum_congr rfl fun j _ => congrArg₂ (· * ·) (low_at x g w n t j) ?_) ?_
  · exact (rd3_at a 0 j k (by simp) rfl).symm
  · exact (rd_at (r := 0) b 0 k rfl rfl).symm

theorem log_at (p : FVec Ideal S4x4096x512 .f32) (n : Fin 4) (t : Fin 4096) (k : Fin 512) :
    logA p (ix3 n t k) = LogSig (p (ix3 n t k)) * Ideal.ofBits .f32 0x3D800000#32 := by
  pointwise [logA, zeroA]
  rw [← div_16]
  refine congrArg (Ideal.div · _) ?_
  unfold LogSig
  simp

theorem l_at (r : Fin 16384) (k : Fin 512) : lOut x g w a b (ix2 r k) = La (Sm (Pt x g w)) (At a) (Bt b) r.val k.val := by
  pointwise [lOut]
  rw [log_at, pre_at]
  exact congrArg (fun n => La (Sm (Pt x g w)) (At a) (Bt b) n k.val) (Nat.div_add_mod r.val 4096)

/-! ### The small group -/

theorem ang_at (r : Fin 4096) (j : Fin 32) : angA (ix2 r j) = Mix.ang (num r.val) j.val := by
  pointwise [angA]
  rfl

theorem spread_cos (n : Fin 4) (t : Fin 4096) (j : Fin 32) :
    spread (Host.cos angA) (ix4 n t 0 j) = Ideal.cos (Mix.ang (num t.val) j.val) := by
  pointwise [spread]
  rw [ang_at]

theorem spread_sin (n : Fin 4) (t : Fin 4096) (j : Fin 32) :
    spread (Host.sin angA) (ix4 n t 0 j) = Ideal.sin (Mix.ang (num t.val) j.val) := by
  pointwise [spread]
  rw [ang_at]

theorem norm_at (k : FVec Ideal S4x4096x64 .f32) (M : Tab) (n : Fin 4) (t : Fin 4096)
    (hk : ∀ j : Fin 64, k (ix3 n t j) = M (4096 * n.val + t.val) j.val) (j : Fin 64) :
    headA (normA kg k) (ix4 n t 0 j) = Kn M (Kt kg) (4096 * n.val + t.val) j.val := by
  pointwise [headA, normA]
  unfold Kn Kt
  rw [rd_at (r := 0) kg 0 j rfl rfl]
  simp only [hk]

theorem turn_at (z : FVec Ideal S4x4096x1x64 .f32) (Z : Tab) (n : Fin 4) (t : Fin 4096)
    (hz : ∀ j : Fin 64, z (ix4 n t 0 j) = Z (4096 * n.val + t.val) j.val) (j : Fin 64) :
    turnA z (spread (Host.cos angA)) (spread (Host.sin angA)) (ix4 n t 0 j)
      = Turn64 Z (Mix.cosT pos) (Mix.sinT pos) (4096 * n.val + t.val) j.val := by
  have hj := j.isLt
  have ht := t.isLt
  have e3 : (4096 * n.val + t.val) % 4096 = t.val := by omega
  have e4 : j.val % 64 = j.val := by omega
  pointwise [turnA]
  unfold Turn64 Mix.cosT Mix.sinT pos
  beta_reduce
  rw [e3, e4]
  split_ifs with hlt
  · rw [hz, hz, spread_cos, spread_sin, show j.val % 32 = j.val by omega, show (j.val + 32) % 64 = 32 + j.val by omega, sub_eq_add_neg, mul_neg]
  · have ej : (⟨32 + (j.val - 32), by omega⟩ : Fin 64) = j := Fin.ext (by dsimp only; omega)
    rw [show j.val % 32 = j.val - 32 by omega, show (j.val + 32) % 64 = j.val - 32 by omega]
    refine congrArg₂ (· + ·) ?_ ?_
    · exact congrArg₂ (· * ·) ((congrArg (fun i => z (ix4 n t 0 i)) ej).trans (hz j)) (spread_cos n t ⟨j.val - 32, by omega⟩)
    · exact congrArg₂ (· * ·) (hz ⟨j.val - 32, by omega⟩) (spread_sin n t ⟨j.val - 32, by omega⟩)
  · exact absurd rfl ‹_›

theorem key_at (n : Fin 4) (t : Fin 4096) (j : Fin 64) : keyA x g w kg (ix3 n t j)
    = Turn64 (Kn (Sm (Pt x g w)) (Kt kg)) (Mix.cosT pos) (Mix.sinT pos) (4096 * n.val + t.val) j.val := by
  pointwise [keyA]
  refine turn_at _ (Kn (Sm (Pt x g w)) (Kt kg)) n t (norm_at kg _ (Sm (Pt x g w)) n t fun i => ?_) j
  have hi := i.isLt
  pointwise []
  rw [z_at]
  unfold Sm
  rw [if_pos (by omega)]

theorem pack_at (k : FVec Ideal S4x4096x64 .f32) (u : FVec Ideal S4x4096x4 .f32) (s : FVec Ideal S4x4096x16 .f32)
    (n : Fin 4) (t : Fin 4096) (l : Fin 128) : packA k u s (ix3 n t l)
      = if h : l.val < 64 then k (ix3 n t ⟨l.val, h⟩) else if h : l.val - 64 < 4 then u (ix3 n t ⟨l.val - 64, h⟩)
        else if h : l.val - 64 - 4 < 16 then s (ix3 n t ⟨l.val - 64 - 4, h⟩) else 0 := by
  pointwise [packA]

theorem m_at (r : Fin 16384) (l : Fin 128) : mOut x g w kg (ix2 r l)
    = Misc (Sm (Pt x g w)) (Kt kg) (Mix.cosT pos) (Mix.sinT pos) r.val l.val := by
  have hl := l.isLt
  pointwise [mOut]
  rw [pack_at]
  have er : 4096 * (r.val / 4096) + r.val % 4096 = r.val := Nat.div_add_mod r.val 4096
  unfold Misc
  split_ifs with h1 h2 h3 h4 h5
  · rw [key_at]
    exact congrArg (fun n => Turn64 (Kn (Sm (Pt x g w)) (Kt kg)) (Mix.cosT pos) (Mix.sinT pos) n l.val) er
  · have hs : Sm (Pt x g w) r.val l.val = Pt x g w r.val (4352 + l.val) := if_pos h3
    rw [hs]
    pointwise []
    refine congrArg (· * _) ((z_row x g w r _ _ _).trans (congrArg (Pt x g w _) ?_))
    dsimp only
    omega
  · omega
  · omega
  · rw [low_at, er]
    exact congrArg (Sm (Pt x g w) r.val) (by dsimp only; omega)
  · omega
  · unfold Sm
    rw [if_neg (by omega), if_neg (by omega)]

end Cert.MixRef
end
-- ==== Proof.MixClaims.lean ====
/- The claims of the prompt's second projections: the reference's frame and the equality of eight results, where the gain and
   the weights are finite. -/
module

public import proofs.«01_k».proof.Defs
public import proofs.«01_k».proof.Proof.Gen.Kernel6Ideal.Frame
public import proofs.«01_k».proof.Proof.GlaClaims
public import proofs.«01_k».proof.Proof.MixKernel
public import proofs.«01_k».proof.Proof.MixReference

@[expose] public section

noncomputable section

namespace Cert.MixClaims

open Idealize.ShloMosaic Idealize.ShloMosaic.TcCoe Idealize.SL.Sem Cert.Gla Cert.Attn Cert.Mix

instance facts_finite : Cert.Pre_finite_weights.Facts where
  bcast_S_S1x1024 := by decide
  reducesTo_S1x1024_S_d0_1 := by decide
  h_S_ := by decide
  bcast_S_S1x1024x9556 := by decide
  reducesTo_S1x1024x9556_S_d0_1_2 := by decide

theorem both {a b : BitVec 1} (h : IntOp.andi a b = 1#1) : a = 1#1 ∧ b = 1#1 := by
  revert a b
  decide

theorem fin_of_cmp {x y : EReal} (h : Ideal.cmp .olt (FloatOps.absf (x : Ideal .f32) : Ideal .f32) y = 1#1) : Fin' x := by
  have h1 : max x (-x) < ⊤ := Cert.GlaClaims.lt_top_of_cmp h
  rw [max_lt_iff] at h1
  refine ⟨fun e => ?_, h1.1.ne⟩
  rw [e] at h1
  simp at h1

/-- The precondition read: the gain and the weights are finite. -/
theorem finite (m : (ℓ : Loc Cert.Kernel6Ideal.nD Cert.Kernel6Ideal.τ Cert.Kernel6Ideal.sig) → Buf (Elt Ideal) ℓ)
    (hp : Cert.Pre_Kernel6Ideal_finite_weights m) (c : Dev Cert.Kernel6Ideal.nD) : Cert.MixValue.Finite m c := by
  have h := hp c
  unfold Cert.Pre_finite_weights.fn at h
  have hs : Subsingleton Cert.Pre_finite_weights.S_.Idx := ⟨fun a b => funext fun k => k.elim0⟩
  obtain ⟨hg, hw⟩ := both (congrFun h (Shape.Idx.first Cert.Pre_finite_weights.Facts.h_S_))
  refine ⟨fun d hd => ?_, fun d hd e he => ?_⟩
  · have h1 := Host.reduce_andi_all _ _ _ _ _ hg (ix2 0 ⟨d, hd⟩)
    rw [Cert.MixValue.Gm, rd_at (r := 0) _ 0 ⟨d, hd⟩ rfl rfl]
    exact fin_of_cmp h1
  · have h1 := Host.reduce_andi_all _ _ _ _ _ hw (ix3 0 ⟨d, hd⟩ ⟨e, he⟩)
    rw [Cert.MixValue.Wm, rd3_at _ 0 ⟨d, hd⟩ ⟨e, he⟩ (by simp) rfl]
    exact fin_of_cmp h1

theorem frame_reference : Cert.quiescent_Reference6Ideal := fun m ρ _ =>
  (θ_run Cert.Reference6Ideal.defs _ _).mono (fun r h => ⟨fun c => (h c).2.2.2.2.2.2.2.2,
      Idealize.ShloMosaic.sem_eq_zero_of_no_sems (by decide) r.2⟩)
    (Cert.MixRef.run m ρ)

theorem algebraic : Cert.algebraic_Kernel6Ideal_Reference6Ideal_pre_finite_weights := by
  intro m g m' g' hp hag
  refine ⟨fun c => Cert.MixValue.qArr m c, fun c => Cert.MixValue.kArr m c, fun c => Cert.MixValue.vArr m c, fun c => Cert.MixValue.lArr m c,
    fun c => Cert.MixValue.sArr m c, fun c => Cert.MixValue.aArr m c, fun c => Cert.MixValue.bArr m c, fun c => Cert.MixValue.mArr m c, ?_, ?_⟩
  · refine (θ_run Cert.Kernel6Ideal.defs _ _).mono (fun r h c => ?_) (Cert.Kernel6Ideal.Value.run_blocks m g)
    have hf := finite m hp c
    obtain ⟨e0, e1, e2, e3, e4, e5, e6, -, -, e7, ea⟩ := h c
    exact ⟨e0.trans (Cert.MixValue.final_q m c), e1.trans (Cert.MixValue.final_k m c), e2.trans (Cert.MixValue.final_v m c),
      e3.trans (Cert.MixValue.final_l m c hf), e4.trans (Cert.MixValue.final_s m c), e5.trans (Cert.MixValue.final_a m c),
      e6.trans (Cert.MixValue.final_b m c), e7.trans (Cert.MixValue.final_m m c hf), ea⟩
  · refine (θ_run Cert.Reference6Ideal.defs _ _).mono (fun r h c => ?_) (Cert.MixRef.run m' g')
    obtain ⟨e0, e1, e2, e3, e4, e5, e6, e7, ea⟩ := h c
    obtain ⟨a0, a1, a2, a3, a4, a5⟩ := hag c
    refine ⟨e0.trans ?_, e1.trans ?_, e2.trans ?_, e3.trans ?_, e4.trans ?_, e5.trans ?_, e6.trans ?_, e7.trans ?_, ea⟩
    · funext y
      rw [eq_ix2 (n0 := 16384) (n1 := 512) y]
      refine (Cert.MixRef.q_at _ _ _ _ _).trans ?_
      rw [a0, a1, a2]
      rfl
    · funext y
      rw [eq_ix2 (n0 := 16384) (n1 := 512) y]
      refine (Cert.MixRef.k_at _ _ _ _ _).trans ?_
      rw [a0, a1, a2]
      rfl
    · funext y
      rw [eq_ix2 (n0 := 16384) (n1 := 1024) y]
      refine (Cert.MixRef.v_at _ _ _ _ _).trans ?_
      rw [a0, a1, a2]
      rfl
    · funext y
      rw [eq_ix2 (n0 := 16384) (n1 := 512) y]
      refine (Cert.MixRef.l_at _ _ _ _ _ _ _).trans ?_
      rw [a0, a1, a2, a4, a5]
      rfl
    · funext y
      rw [eq_ix2 (n0 := 16384) (n1 := 1024) y]
      refine (Cert.MixRef.s_at _ _ _ _ _).trans ?_
      rw [a0, a1, a2]
      rfl
    · funext y
      rw [eq_ix2 (n0 := 16384) (n1 := 1024) y]
      refine (Cert.MixRef.a_at _ _ _ _ _).trans ?_
      rw [a0, a1, a2]
      rfl
    · funext y
      rw [eq_ix2 (n0 := 16384) (n1 := 1024) y]
      refine (Cert.MixRef.b_at _ _ _ _ _).trans ?_
      rw [a0, a1, a2]
      rfl
    · funext y
      rw [eq_ix2 (n0 := 16384) (n1 := 128) y]
      refine (Cert.MixRef.m_at _ _ _ _ _ _).trans ?_
      rw [a0, a1, a2, a3]
      rfl

end Cert.MixClaims

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.KernelIdeal.Value
public import proofs.«01_k».proof.Proof.Gen.Kernel2.Frame
public import proofs.«01_k».proof.Proof.Gen.Kernel2Ideal.Frame
public import proofs.«01_k».proof.Proof.Gen.Kernel3.Frame
public import proofs.«01_k».proof.Proof.Gen.Kernel3Ideal.Frame
public import proofs.«01_k».proof.Proof.Gen.Kernel4.Frame
public import proofs.«01_k».proof.Proof.Gen.Kernel4Ideal.Frame
public import proofs.«01_k».proof.Proof.Gen.Kernel5.Frame
public import proofs.«01_k».proof.Proof.Gen.Kernel5Ideal.Frame
public import proofs.«01_k».proof.Proof.Gen.Kernel6.Frame
public import proofs.«01_k».proof.Proof.Gen.Kernel6Ideal.Frame
public import proofs.«01_k».proof.Proof.GlaClaims
public import proofs.«01_k».proof.Proof.AttnClaims
public import proofs.«01_k».proof.Proof.AttnSampleClaims
public import proofs.«01_k».proof.Proof.MergeClaims
public import proofs.«01_k».proof.Proof.StepClaims
public import proofs.«01_k».proof.Proof.MixClaims

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts,
  Cert.GlaClaims.facts_decays,
  Cert.MixClaims.facts_finite,
  fun m ρ _ => Cert.Kernel.Gen.frame m ρ,
  fun m ρ _ => Cert.KernelIdeal.Gen.frame m ρ,
  fun m ρ _ => Cert.KernelIdeal.Gen.frame m ρ,
  Cert.GlaClaims.frame_reference,
  fun m ρ _ => Cert.GlaClaims.frame_reference m ρ trivial,
  fun m ρ _ => Cert.Kernel2.Gen.frame m ρ,
  fun m ρ _ => Cert.Kernel2Ideal.Gen.frame m ρ,
  Cert.AttnClaims.frame_reference,
  fun m ρ _ => Cert.Kernel3.Gen.frame m ρ,
  fun m ρ _ => Cert.Kernel3Ideal.Gen.frame m ρ,
  Cert.AttnSampleClaims.frame_reference,
  fun m ρ _ => Cert.Kernel4.Gen.frame m ρ,
  fun m ρ _ => Cert.Kernel4Ideal.Gen.frame m ρ,
  Cert.MergeClaims.frame_reference,
  fun m ρ _ => Cert.Kernel5.Gen.frame m ρ,
  fun m ρ _ => Cert.Kernel5Ideal.Gen.frame m ρ,
  Cert.StepClaims.frame_reference,
  fun m ρ _ => Cert.Kernel6.Gen.frame m ρ,
  fun m ρ _ => Cert.Kernel6Ideal.Gen.frame m ρ,
  fun m ρ _ => Cert.Kernel6Ideal.Gen.frame m ρ,
  Cert.MixClaims.frame_reference,
  fun m ρ _ => Cert.MixClaims.frame_reference m ρ trivial,
  trivial,
  Cert.GlaClaims.algebraic,
  trivial,
  Cert.AttnClaims.algebraic,
  trivial,
  Cert.AttnSampleClaims.algebraic,
  trivial,
  Cert.MergeClaims.algebraic,
  trivial,
  Cert.StepClaims.algebraic,
  trivial,
  Cert.MixClaims.algebraic⟩

end Cert.Proof

end
